-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_forget_gates_above_minus_inf [hPre_forget_gates_above_minus_inf : Cert.Pre_forget_gates_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_forget_gates_above_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_forget_gates_above_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_forget_gates_above_minus_inf [hPre_forget_gates_above_minus_inf : Cert.Pre_forget_gates_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_forget_gates_above_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_forget_gates_above_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_forget_gates_above_minus_inf [hKernelIdeal : Cert.KernelIdeal.Facts] [hPre_forget_gates_above_minus_inf : Cert.Pre_forget_gates_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_forget_gates_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_forget_gates_above_minus_inf [hReferenceIdeal : Cert.ReferenceIdeal.Facts] [hPre_forget_gates_above_minus_inf : Cert.Pre_forget_gates_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_forget_gates_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_forget_gates_above_minus_inf [hKernelIdeal : Cert.KernelIdeal.Facts] [hReferenceIdeal : Cert.ReferenceIdeal.Facts] [hPre_forget_gates_above_minus_inf : Cert.Pre_forget_gates_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_forget_gates_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v25)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v25) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v105) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v87) = v0 c
          ∧ r.2.mem ((c.tc : Thread Cert.MixReferenceIdeal.nD Cert.MixReferenceIdeal.τ).loc Cert.MixReferenceIdeal.main_v88) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hPre_forget_gates_above_minus_inf : Cert.Pre_forget_gates_above_minus_inf.Facts),
    quiescent_Kernel (hKernel := hKernel)
    ∧ quiescent_KernelIdeal (hKernelIdeal := hKernelIdeal)
    ∧ quiescent_KernelIdeal_pre_forget_gates_above_minus_inf (hKernelIdeal := hKernelIdeal) (hPre_forget_gates_above_minus_inf := hPre_forget_gates_above_minus_inf)
    ∧ quiescent_ReferenceIdeal (hReferenceIdeal := hReferenceIdeal)
    ∧ quiescent_ReferenceIdeal_pre_forget_gates_above_minus_inf (hReferenceIdeal := hReferenceIdeal) (hPre_forget_gates_above_minus_inf := hPre_forget_gates_above_minus_inf)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_forget_gates_above_minus_inf (hKernelIdeal := hKernelIdeal) (hReferenceIdeal := hReferenceIdeal) (hPre_forget_gates_above_minus_inf := hPre_forget_gates_above_minus_inf)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
-- ==== Pre_forget_gates_above_minus_inf.lean ====
abbrev S32768x512 : Shape := ⟨2, ![32768, 512]⟩
abbrev S8x512x4096 : Shape := ⟨3, ![8, 512, 4096]⟩
abbrev S8x16x4096 : Shape := ⟨3, ![8, 16, 4096]⟩
abbrev S8x512x256 : Shape := ⟨3, ![8, 512, 256]⟩
abbrev S2048x512 : Shape := ⟨2, ![2048, 512]⟩
abbrev S8x16x256 : Shape := ⟨3, ![8, 16, 256]⟩
abbrev S8x4x256 : Shape := ⟨3, ![8, 4, 256]⟩
abbrev S_ : Shape := ⟨0, ![]⟩

class Facts : Prop where
  slices_S8x16x256_S8x4x256_0_4_0 : S8x16x256.Slices ![0, 4, 0] S8x4x256
  bcast_S_S8x4x256 : S_.BroadcastsInDim S8x4x256 (![] : Fin 0 → Fin S8x4x256.rank)
  slices_S8x16x256_S8x4x256_0_12_0 : S8x16x256.Slices ![0, 12, 0] S8x4x256

variable [Facts]

def fn {F : FTy → Type} [FloatOps F] (main_arg0 : FVec F S32768x512 .bf16) (main_arg1 : FVec F S8x512x4096 .bf16) (main_arg2 : FVec F S32768x512 .bf16) (main_arg3 : FVec F S8x16x4096 .f32) (main_arg4 : FVec F S8x512x256 .bf16) (main_arg5 : FVec F S2048x512 .bf16) (main_arg6 : FVec F S8x16x256 .f32) : IVec S8x4x256 1 × IVec S8x4x256 1 :=
  let main_v0 : FVec F S8x4x256 .f32 := (extractStridedSlice S8x4x256 ![0, 4, 0] · slices_S8x16x256_S8x4x256_0_4_0) main_arg6
  let main_cst : FVec F S_ .f32 := constant S_ .f32 0xFF800000#32
  let main_v1 : FVec F S8x4x256 .f32 := broadcastInDim S8x4x256 ![] bcast_S_S8x4x256 main_cst
  let main_v2 : IVec S8x4x256 1 := cmpf .ogt main_v0 main_v1
  let main_v3 : FVec F S8x4x256 .f32 := (extractStridedSlice S8x4x256 ![0, 12, 0] · slices_S8x16x256_S8x4x256_0_12_0) main_arg6
  let main_cst_0 : FVec F S_ .f32 := constant S_ .f32 0xFF800000#32
  let main_v4 : FVec F S8x4x256 .f32 := broadcastInDim S8x4x256 ![] bcast_S_S8x4x256 main_cst_0
  let main_v5 : IVec S8x4x256 1 := cmpf .ogt main_v3 main_v4
  (main_v2, main_v5)
-- ==== Kernel.lean ====
abbrev S32768x512 : Shape := ⟨2, ![32768, 512]⟩
abbrev S8x512x4096 : Shape := ⟨3, ![8, 512, 4096]⟩
abbrev S8x16x4096 : Shape := ⟨3, ![8, 16, 4096]⟩
abbrev S8x512x256 : Shape := ⟨3, ![8, 512, 256]⟩
abbrev S2048x512 : Shape := ⟨2, ![2048, 512]⟩
abbrev S8x16x256 : Shape := ⟨3, ![8, 16, 256]⟩
abbrev S8x4096x512 : Shape := ⟨3, ![8, 4096, 512]⟩
abbrev S8x256x512 : Shape := ⟨3, ![8, 256, 512]⟩
abbrev S8x128x512 : Shape := ⟨3, ![8, 128, 512]⟩
abbrev S8x512x128 : Shape := ⟨3, ![8, 512, 128]⟩
abbrev S8x16x128 : Shape := ⟨3, ![8, 16, 128]⟩
abbrev S64x128x256 : Shape := ⟨3, ![64, 128, 256]⟩
abbrev S64x8x128 : Shape := ⟨3, ![64, 8, 128]⟩
abbrev S128x128 : Shape := ⟨2, ![128, 128]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S1x16x128 : Shape := ⟨3, ![1, 16, 128]⟩
abbrev S16x128 : Shape := ⟨2, ![16, 128]⟩
abbrev S128x256 : Shape := ⟨2, ![128, 256]⟩
abbrev S1x128 : Shape := ⟨2, ![1, 128]⟩
abbrev S1x128x256 : Shape := ⟨3, ![1, 128, 256]⟩
abbrev S1x1x128 : Shape := ⟨3, ![1, 1, 128]⟩
abbrev S1 : Shape := ⟨1, ![1]⟩
abbrev S1x1 : Shape := ⟨2, ![1, 1]⟩
abbrev S256x256 : Shape := ⟨2, ![256, 256]⟩
abbrev S1x256 : Shape := ⟨2, ![1, 256]⟩
abbrev S8x128 : Shape := ⟨2, ![8, 128]⟩
abbrev S1x8x128 : Shape := ⟨3, ![1, 8, 128]⟩
abbrev S128 : Shape := ⟨1, ![128]⟩
abbrev S128x1 : Shape := ⟨2, ![128, 1]⟩
abbrev S128x384 : Shape := ⟨2, ![128, 384]⟩
abbrev S128x768 : Shape := ⟨2, ![128, 768]⟩
abbrev S256x768 : Shape := ⟨2, ![256, 768]⟩
abbrev S512x256 : Shape := ⟨2, ![512, 256]⟩
abbrev S1x128x128 : Shape := ⟨3, ![1, 128, 128]⟩

abbrev nBuf : Space → Nat
  | .hbm => 12
  | .vmem => 25
  | .smem => 0
  | _ => 0

abbrev bufTy : (tb : Table) → Fin (tcTables nBuf tb) → BufTy
  | .hbm, ⟨0, _⟩ => ⟨S32768x512, .bf16⟩
  | .hbm, ⟨1, _⟩ => ⟨S8x512x4096, .bf16⟩
  | .hbm, ⟨2, _⟩ => ⟨S32768x512, .bf16⟩
  | .hbm, ⟨3, _⟩ => ⟨S8x16x4096, .f32⟩
  | .hbm, ⟨4, _⟩ => ⟨S8x512x256, .bf16⟩
  | .hbm, ⟨5, _⟩ => ⟨S2048x512, .bf16⟩
  | .hbm, ⟨6, _⟩ => ⟨S8x16x256, .f32⟩
  | .hbm, ⟨7, _⟩ => ⟨S8x4096x512, .bf16⟩
  | .hbm, ⟨8, _⟩ => ⟨S8x4096x512, .bf16⟩
  | .hbm, ⟨9, _⟩ => ⟨S8x256x512, .bf16⟩
  | .hbm, ⟨10, _⟩ => ⟨S8x4096x512, .bf16⟩
  | .hbm, ⟨11, _⟩ => ⟨S8x4096x512, .bf16⟩
  | .local _ .vmem, ⟨0, _⟩ => ⟨S8x128x512, .bf16⟩
  | .local _ .vmem, ⟨1, _⟩ => ⟨S8x128x512, .bf16⟩
  | .local _ .vmem, ⟨2, _⟩ => ⟨S8x512x128, .bf16⟩
  | .local _ .vmem, ⟨3, _⟩ => ⟨S8x512x128, .bf16⟩
  | .local _ .vmem, ⟨4, _⟩ => ⟨S8x128x512, .bf16⟩
  | .local _ .vmem, ⟨5, _⟩ => ⟨S8x128x512, .bf16⟩
  | .local _ .vmem, ⟨6, _⟩ => ⟨S8x16x128, .f32⟩
  | .local _ .vmem, ⟨7, _⟩ => ⟨S8x16x128, .f32⟩
  | .local _ .vmem, ⟨8, _⟩ => ⟨S8x128x512, .bf16⟩
  | .local _ .vmem, ⟨9, _⟩ => ⟨S8x128x512, .bf16⟩
  | .local _ .vmem, ⟨10, _⟩ => ⟨S8x512x128, .bf16⟩
  | .local _ .vmem, ⟨11, _⟩ => ⟨S8x512x128, .bf16⟩
  | .local _ .vmem, ⟨12, _⟩ => ⟨S8x128x512, .bf16⟩
  | .local _ .vmem, ⟨13, _⟩ => ⟨S8x128x512, .bf16⟩
  | .local _ .vmem, ⟨14, _⟩ => ⟨S8x16x128, .f32⟩
  | .local _ .vmem, ⟨15, _⟩ => ⟨S8x16x128, .f32⟩
  | .local _ .vmem, ⟨16, _⟩ => ⟨S8x512x256, .bf16⟩
  | .local _ .vmem, ⟨17, _⟩ => ⟨S8x256x512, .bf16⟩
  | .local _ .vmem, ⟨18, _⟩ => ⟨S8x16x256, .f32⟩
  | .local _ .vmem, ⟨19, _⟩ => ⟨S8x128x512, .bf16⟩
  | .local _ .vmem, ⟨20, _⟩ => ⟨S8x128x512, .bf16⟩
  | .local _ .vmem, ⟨21, _⟩ => ⟨S8x128x512, .bf16⟩
  | .local _ .vmem, ⟨22, _⟩ => ⟨S8x128x512, .bf16⟩
  | .local _ .vmem, ⟨23, _⟩ => ⟨S64x128x256, .f32⟩
  | .local _ .vmem, ⟨24, _⟩ => ⟨S64x8x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S8x16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S8x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S32768x512 : Shape := ⟨2, ![32768, 512]⟩
abbrev S8x512x4096 : Shape := ⟨3, ![8, 512, 4096]⟩
abbrev S8x16x4096 : Shape := ⟨3, ![8, 16, 4096]⟩
abbrev S8x512x256 : Shape := ⟨3, ![8, 512, 256]⟩
abbrev S2048x512 : Shape := ⟨2, ![2048, 512]⟩
abbrev S8x16x256 : Shape := ⟨3, ![8, 16, 256]⟩
abbrev S8x4096x4x128 : Shape := ⟨4, ![8, 4096, 4, 128]⟩
abbrev S8x4x4096x128 : Shape := ⟨4, ![8, 4, 4096, 128]⟩
abbrev S8x4x128x4096 : Shape := ⟨4, ![8, 4, 128, 4096]⟩
abbrev S8x2x2x4x4096 : Shape := ⟨5, ![8, 2, 2, 4, 4096]⟩
abbrev S8x2x1x4x4096 : Shape := ⟨5, ![8, 2, 1, 4, 4096]⟩
abbrev S8x2x4x4096 : Shape := ⟨4, ![8, 2, 4, 4096]⟩
abbrev S_ : Shape := ⟨0, ![]⟩
abbrev S8x4x128x256 : Shape := ⟨4, ![8, 4, 128, 256]⟩
abbrev S8x4x256x128 : Shape := ⟨4, ![8, 4, 256, 128]⟩
abbrev S8x256x4x128 : Shape := ⟨4, ![8, 256, 4, 128]⟩
abbrev S8x2x2x4x256 : Shape := ⟨5, ![8, 2, 2, 4, 256]⟩
abbrev S8x2x1x4x256 : Shape := ⟨5, ![8, 2, 1, 4, 256]⟩
abbrev S8x2x4x256 : Shape := ⟨4, ![8, 2, 4, 256]⟩
abbrev S8x4x128x128 : Shape := ⟨4, ![8, 4, 128, 128]⟩
abbrev S8x4x128 : Shape := ⟨3, ![8, 4, 128]⟩
abbrev S8x4 : Shape := ⟨2, ![8, 4]⟩
abbrev S8x1x4x256 : Shape := ⟨4, ![8, 1, 4, 256]⟩
abbrev S8x4x256 : Shape := ⟨3, ![8, 4, 256]⟩
abbrev S8x4x1 : Shape := ⟨3, ![8, 4, 1]⟩
abbrev S8x4x1x1 : Shape := ⟨4, ![8, 4, 1, 1]⟩
abbrev S8x4x256x1 : Shape := ⟨4, ![8, 4, 256, 1]⟩
abbrev S8x1x4x4096 : Shape := ⟨4, ![8, 1, 4, 4096]⟩
abbrev S8x4x4096 : Shape := ⟨3, ![8, 4, 4096]⟩
abbrev S8x4x32x128x128 : Shape := ⟨5, ![8, 4, 32, 128, 128]⟩
abbrev S32x8x4x128x128 : Shape := ⟨5, ![32, 8, 4, 128, 128]⟩
abbrev S8x4x32x128 : Shape := ⟨4, ![8, 4, 32, 128]⟩
abbrev S32x8x4x128 : Shape := ⟨4, ![32, 8, 4, 128]⟩
abbrev S1x8x4x128x128 : Shape := ⟨5, ![1, 8, 4, 128, 128]⟩
abbrev S1x8x4x128 : Shape := ⟨4, ![1, 8, 4, 128]⟩
abbrev S128x128 : Shape := ⟨2, ![128, 128]⟩
abbrev S8x4x128x1 : Shape := ⟨4, ![8, 4, 128, 1]⟩
abbrev S8x4x1x128 : Shape := ⟨4, ![8, 4, 1, 128]⟩
abbrev S8x4096x512 : Shape := ⟨3, ![8, 4096, 512]⟩

abbrev nBuf : Space → Nat
  | .hbm => 472
  | .vmem => 0
  | .smem => 0
  | _ => 0

abbrev hbmTy0_0 (i : Nat) : BufTy := match i % 128 with
  | 0 => ⟨S32768x512, .bf16⟩
  | 1 => ⟨S8x512x4096, .bf16⟩
  | 2 => ⟨S32768x512, .bf16⟩
  | 3 => ⟨S8x16x4096, .f32⟩
  | 4 => ⟨S8x512x256, .bf16⟩
  | 5 => ⟨S2048x512, .bf16⟩
  | 6 => ⟨S8x16x256, .f32⟩
  | 7 => ⟨S32768x512, .f32⟩
  | 8 => ⟨S8x4096x4x128, .f32⟩
  | 9 => ⟨S8x4x4096x128, .f32⟩
  | 10 => ⟨S8x512x4096, .f32⟩
  | 11 => ⟨S8x4x128x4096, .f32⟩
  | 12 => ⟨S8x4x4096x128, .f32⟩
  | 13 => ⟨S32768x512, .f32⟩
  | 14 => ⟨S8x4096x4x128, .f32⟩
  | 15 => ⟨S8x4x4096x128, .f32⟩
  | 16 => ⟨S8x2x2x4x4096, .f32⟩
  | 17 => ⟨S8x2x1x4x4096, .f32⟩
  | 18 => ⟨S8x2x4x4096, .f32⟩
  | 19 => ⟨S8x2x1x4x4096, .f32⟩
  | 20 => ⟨S8x2x4x4096, .f32⟩
  | 21 => ⟨S8x2x4x4096, .f32⟩
  | 22 => ⟨S_, .f32⟩
  | 23 => ⟨S8x2x4x4096, .f32⟩
  | 24 => ⟨S8x2x4x4096, .f32⟩
  | 25 => ⟨S8x2x4x4096, .f32⟩
  | 26 => ⟨S8x2x4x4096, .f32⟩
  | 27 => ⟨S8x2x4x4096, .i1⟩
  | 28 => ⟨S8x2x4x4096, .f32⟩
  | 29 => ⟨S8x2x4x4096, .f32⟩
  | 30 => ⟨S8x2x4x4096, .f32⟩
  | 31 => ⟨S8x2x4x4096, .f32⟩
  | 32 => ⟨S8x2x4x4096, .f32⟩
  | 33 => ⟨S8x2x4x4096, .f32⟩
  | 34 => ⟨S8x2x4x4096, .f32⟩
  | 35 => ⟨S8x2x4x4096, .f32⟩
  | 36 => ⟨S8x2x4x4096, .f32⟩
  | 37 => ⟨S8x512x256, .f32⟩
  | 38 => ⟨S8x4x128x256, .f32⟩
  | 39 => ⟨S8x4x256x128, .f32⟩
  | 40 => ⟨S2048x512, .f32⟩
  | 41 => ⟨S8x256x4x128, .f32⟩
  | 42 => ⟨S8x4x256x128, .f32⟩
  | 43 => ⟨S8x2x2x4x256, .f32⟩
  | 44 => ⟨S8x2x1x4x256, .f32⟩
  | 45 => ⟨S8x2x4x256, .f32⟩
  | 46 => ⟨S8x2x1x4x256, .f32⟩
  | 47 => ⟨S8x2x4x256, .f32⟩
  | 48 => ⟨S8x2x4x256, .f32⟩
  | 49 => ⟨S_, .f32⟩
  | 50 => ⟨S8x2x4x256, .f32⟩
  | 51 => ⟨S8x2x4x256, .f32⟩
  | 52 => ⟨S8x2x4x256, .f32⟩
  | 53 => ⟨S8x2x4x256, .f32⟩
  | 54 => ⟨S8x2x4x256, .i1⟩
  | 55 => ⟨S8x2x4x256, .f32⟩
  | 56 => ⟨S8x2x4x256, .f32⟩
  | 57 => ⟨S8x2x4x256, .f32⟩
  | 58 => ⟨S8x2x4x256, .f32⟩
  | 59 => ⟨S8x2x4x256, .f32⟩
  | 60 => ⟨S8x2x4x256, .f32⟩
  | 61 => ⟨S8x2x4x256, .f32⟩
  | 62 => ⟨S8x2x4x256, .f32⟩
  | 63 => ⟨S8x2x4x256, .f32⟩
  | 64 => ⟨S_, .f32⟩
  | 65 => ⟨S8x4x128x128, .f32⟩
  | 66 => ⟨S_, .f32⟩
  | 67 => ⟨S8x4x128, .f32⟩
  | 68 => ⟨S_, .f32⟩
  | 69 => ⟨S8x4, .f32⟩
  | 70 => ⟨S8x1x4x256, .f32⟩
  | 71 => ⟨S8x4x256, .f32⟩
  | 72 => ⟨S8x1x4x256, .f32⟩
  | 73 => ⟨S8x4x256, .f32⟩
  | 74 => ⟨S_, .f32⟩
  | 75 => ⟨S_, .f32⟩
  | 76 => ⟨S8x4x256, .f32⟩
  | 77 => ⟨S8x4x1, .f32⟩
  | 78 => ⟨S8x4, .f32⟩
  | 79 => ⟨S8x4x1, .f32⟩
  | 80 => ⟨S8x4x256, .f32⟩
  | 81 => ⟨S8x4x256, .f32⟩
  | 82 => ⟨S8x4x256, .f32⟩
  | 83 => ⟨S8x4, .f32⟩
  | 84 => ⟨S_, .f32⟩
  | 85 => ⟨S8x4, .f32⟩
  | 86 => ⟨S8x4, .f32⟩
  | 87 => ⟨S8x4, .f32⟩
  | 88 => ⟨S8x4, .f32⟩
  | 89 => ⟨S8x4, .f32⟩
  | 90 => ⟨S8x4x1, .f32⟩
  | 91 => ⟨S8x4x256, .f32⟩
  | 92 => ⟨S8x4x256, .f32⟩
  | 93 => ⟨S8x4x256, .f32⟩
  | 94 => ⟨S8x4x1x1, .f32⟩
  | 95 => ⟨S8x4x128x128, .f32⟩
  | 96 => ⟨S8x4x128x128, .f32⟩
  | 97 => ⟨S8x4x256x1, .f32⟩
  | 98 => ⟨S8x4x256x128, .f32⟩
  | 99 => ⟨S8x4x256x128, .f32⟩
  | 100 => ⟨S8x4x128x128, .f32⟩
  | 101 => ⟨S8x4x128x128, .f32⟩
  | 102 => ⟨S8x4x1, .f32⟩
  | 103 => ⟨S8x4x128, .f32⟩
  | 104 => ⟨S8x4x128, .f32⟩
  | 105 => ⟨S8x4x128, .f32⟩
  | 106 => ⟨S8x4x128, .f32⟩
  | 107 => ⟨S8x4x256x128, .f32⟩
  | 108 => ⟨S8x4x256x128, .f32⟩
  | 109 => ⟨S8x1x4x256, .f32⟩
  | 110 => ⟨S8x4x256, .f32⟩
  | 111 => ⟨S8x4x256, .f32⟩
  | 112 => ⟨S8x1x4x256, .f32⟩
  | 113 => ⟨S8x4x256, .f32⟩
  | 114 => ⟨S8x4x256, .f32⟩
  | 115 => ⟨S_, .f32⟩
  | 116 => ⟨S_, .f32⟩
  | 117 => ⟨S8x4x256, .f32⟩
  | 118 => ⟨S8x4x1, .f32⟩
  | 119 => ⟨S8x4, .f32⟩
  | 120 => ⟨S8x4x1, .f32⟩
  | 121 => ⟨S8x4x256, .f32⟩
  | 122 => ⟨S8x4x256, .f32⟩
  | 123 => ⟨S8x4x256, .f32⟩
  | 124 => ⟨S8x4, .f32⟩
  | 125 => ⟨S_, .f32⟩
  | 126 => ⟨S8x4, .f32⟩
  | 127 => ⟨S8x4, .f32⟩
  | _ => ⟨S32768x512, .bf16⟩

abbrev hbmTy0_1 (i : Nat) : BufTy := match i % 128 with
  | 0 => ⟨S8x4, .f32⟩
  | 1 => ⟨S8x4, .f32⟩
  | 2 => ⟨S8x4, .f32⟩
  | 3 => ⟨S8x4x1, .f32⟩
  | 4 => ⟨S8x4x256, .f32⟩
  | 5 => ⟨S8x4x256, .f32⟩
  | 6 => ⟨S8x4x256, .f32⟩
  | 7 => ⟨S8x4x1x1, .f32⟩
  | 8 => ⟨S8x4x128x128, .f32⟩
  | 9 => ⟨S8x4x128x128, .f32⟩
  | 10 => ⟨S8x4x256x1, .f32⟩
  | 11 => ⟨S8x4x256x128, .f32⟩
  | 12 => ⟨S8x4x256x128, .f32⟩
  | 13 => ⟨S8x4x128x128, .f32⟩
  | 14 => ⟨S8x4x128x128, .f32⟩
  | 15 => ⟨S8x4x1, .f32⟩
  | 16 => ⟨S8x4x128, .f32⟩
  | 17 => ⟨S8x4x128, .f32⟩
  | 18 => ⟨S8x4x128, .f32⟩
  | 19 => ⟨S8x4x128, .f32⟩
  | 20 => ⟨S8x1x4x4096, .f32⟩
  | 21 => ⟨S8x4x4096, .f32⟩
  | 22 => ⟨S8x1x4x4096, .f32⟩
  | 23 => ⟨S8x4x4096, .f32⟩
  | 24 => ⟨S8x4x4096x128, .f32⟩
  | 25 => ⟨S8x4x4096x128, .f32⟩
  | 26 => ⟨S8x4x4096x128, .f32⟩
  | 27 => ⟨S8x1x4x4096, .f32⟩
  | 28 => ⟨S8x4x4096, .f32⟩
  | 29 => ⟨S8x4x4096, .f32⟩
  | 30 => ⟨S8x1x4x4096, .f32⟩
  | 31 => ⟨S8x4x4096, .f32⟩
  | 32 => ⟨S8x4x4096, .f32⟩
  | 33 => ⟨S8x4x32x128x128, .f32⟩
  | 34 => ⟨S32x8x4x128x128, .f32⟩
  | 35 => ⟨S8x4x32x128x128, .f32⟩
  | 36 => ⟨S32x8x4x128x128, .f32⟩
  | 37 => ⟨S8x4x32x128x128, .f32⟩
  | 38 => ⟨S32x8x4x128x128, .f32⟩
  | 39 => ⟨S8x4x32x128, .f32⟩
  | 40 => ⟨S32x8x4x128, .f32⟩
  | 41 => ⟨S8x4x32x128, .f32⟩
  | 42 => ⟨S32x8x4x128, .f32⟩
  | 43 => ⟨S8x4x32x128x128, .f32⟩
  | 44 => ⟨S32x8x4x128x128, .f32⟩
  | 45 => ⟨S8x4x32x128x128, .f32⟩
  | 46 => ⟨S32x8x4x128x128, .f32⟩
  | 47 => ⟨S8x4x32x128x128, .f32⟩
  | 48 => ⟨S32x8x4x128x128, .f32⟩
  | 49 => ⟨S8x4x32x128, .f32⟩
  | 50 => ⟨S32x8x4x128, .f32⟩
  | 51 => ⟨S8x4x32x128, .f32⟩
  | 52 => ⟨S32x8x4x128, .f32⟩
  | 53 => ⟨S_, .f32⟩
  | 54 => ⟨S32x8x4x128x128, .f32⟩
  | 55 => ⟨S_, .f32⟩
  | 56 => ⟨S32x8x4x128x128, .f32⟩
  | 57 => ⟨S_, .i32⟩
  | 58 => ⟨S32x8x4x128x128, .f32⟩
  | 59 => ⟨S32x8x4x128x128, .f32⟩
  | 60 => ⟨S32x8x4x128x128, .f32⟩
  | 61 => ⟨S32x8x4x128, .f32⟩
  | 62 => ⟨S32x8x4x128, .f32⟩
  | 63 => ⟨S32x8x4x128x128, .f32⟩
  | 64 => ⟨S32x8x4x128x128, .f32⟩
  | 65 => ⟨S32x8x4x128x128, .f32⟩
  | 66 => ⟨S32x8x4x128, .f32⟩
  | 67 => ⟨S32x8x4x128, .f32⟩
  | 68 => ⟨S_, .i32⟩
  | 69 => ⟨S8x4x128x128, .f32⟩
  | 70 => ⟨S8x4x128, .f32⟩
  | 71 => ⟨S8x4, .f32⟩
  | 72 => ⟨S8x4x128x128, .f32⟩
  | 73 => ⟨S8x4x128, .f32⟩
  | 74 => ⟨S8x4, .f32⟩
  | 75 => ⟨S32x8x4x128x128, .f32⟩
  | 76 => ⟨S32x8x4x128x128, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x8x4x128x128, .f32⟩
  | 84 => ⟨S8x4x128x128, .f32⟩
  | 85 => ⟨S_, .i32⟩
  | 86 => ⟨S_, .i32⟩
  | 87 => ⟨S_, .i32⟩
  | 88 => ⟨S_, .i32⟩
  | 89 => ⟨S1x8x4x128x128, .f32⟩
  | 90 => ⟨S8x4x128x128, .f32⟩
  | 91 => ⟨S_, .i32⟩
  | 92 => ⟨S_, .i32⟩
  | 93 => ⟨S_, .i32⟩
  | 94 => ⟨S_, .i32⟩
  | 95 => ⟨S1x8x4x128x128, .f32⟩
  | 96 => ⟨S8x4x128x128, .f32⟩
  | 97 => ⟨S_, .i32⟩
  | 98 => ⟨S_, .i32⟩
  | 99 => ⟨S_, .i32⟩
  | 100 => ⟨S1x8x4x128, .f32⟩
  | 101 => ⟨S8x4x128, .f32⟩
  | 102 => ⟨S_, .i32⟩
  | 103 => ⟨S_, .i32⟩
  | 104 => ⟨S_, .i32⟩
  | 105 => ⟨S1x8x4x128, .f32⟩
  | 106 => ⟨S8x4x128, .f32⟩
  | 107 => ⟨S_, .i32⟩
  | 108 => ⟨S_, .i32⟩
  | 109 => ⟨S_, .i32⟩
  | 110 => ⟨S_, .i32⟩
  | 111 => ⟨S1x8x4x128x128, .f32⟩
  | 112 => ⟨S8x4x128x128, .f32⟩
  | 113 => ⟨S_, .i32⟩
  | 114 => ⟨S_, .i32⟩
  | 115 => ⟨S_, .i32⟩
  | 116 => ⟨S_, .i32⟩
  | 117 => ⟨S1x8x4x128x128, .f32⟩
  | 118 => ⟨S8x4x128x128, .f32⟩
  | 119 => ⟨S_, .i32⟩
  | 120 => ⟨S_, .i32⟩
  | 121 => ⟨S_, .i32⟩
  | 122 => ⟨S_, .i32⟩
  | 123 => ⟨S1x8x4x128x128, .f32⟩
  | 124 => ⟨S8x4x128x128, .f32⟩
  | 125 => ⟨S_, .i32⟩
  | 126 => ⟨S_, .i32⟩
  | 127 => ⟨S_, .i32⟩
  | _ => ⟨S32768x512, .bf16⟩

abbrev hbmTy0_2 (i : Nat) : BufTy := match i % 128 with
  | 0 => ⟨S1x8x4x128, .f32⟩
  | 1 => ⟨S8x4x128, .f32⟩
  | 2 => ⟨S_, .i32⟩
  | 3 => ⟨S_, .i32⟩
  | 4 => ⟨S_, .i32⟩
  | 5 => ⟨S1x8x4x128, .f32⟩
  | 6 => ⟨S8x4x128, .f32⟩
  | 7 => ⟨S_, .f32⟩
  | 8 => ⟨S_, .f32⟩
  | 9 => ⟨S8x4x128, .f32⟩
  | 10 => ⟨S_, .i1⟩
  | 11 => ⟨S128x128, .i1⟩
  | 12 => ⟨S128x128, .i32⟩
  | 13 => ⟨S_, .i32⟩
  | 14 => ⟨S128x128, .i32⟩
  | 15 => ⟨S128x128, .i32⟩
  | 16 => ⟨S128x128, .i32⟩
  | 17 => ⟨S128x128, .i1⟩
  | 18 => ⟨S_, .i1⟩
  | 19 => ⟨S128x128, .i1⟩
  | 20 => ⟨S128x128, .i1⟩
  | 21 => ⟨S8x4x128x1, .f32⟩
  | 22 => ⟨S8x4x1x128, .f32⟩
  | 23 => ⟨S8x4x128x128, .f32⟩
  | 24 => ⟨S8x4x128x128, .f32⟩
  | 25 => ⟨S8x4x128x128, .f32⟩
  | 26 => ⟨S8x4x1x128, .f32⟩
  | 27 => ⟨S8x4x128x128, .f32⟩
  | 28 => ⟨S8x4x128x128, .f32⟩
  | 29 => ⟨S_, .f32⟩
  | 30 => ⟨S_, .f32⟩
  | 31 => ⟨S8x4x128x128, .i1⟩
  | 32 => ⟨S8x4x128x128, .f32⟩
  | 33 => ⟨S8x4x128x128, .f32⟩
  | 34 => ⟨S8x4x1, .f32⟩
  | 35 => ⟨S8x4x128, .f32⟩
  | 36 => ⟨S8x4x128, .f32⟩
  | 37 => ⟨S_, .f32⟩
  | 38 => ⟨S8x4x128, .f32⟩
  | 39 => ⟨S8x4x128, .f32⟩
  | 40 => ⟨S8x4x128, .f32⟩
  | 41 => ⟨S8x4x128, .f32⟩
  | 42 => ⟨S8x4x128x128, .f32⟩
  | 43 => ⟨S8x4x128x1, .f32⟩
  | 44 => ⟨S8x4x128x128, .f32⟩
  | 45 => ⟨S8x4x128x128, .f32⟩
  | 46 => ⟨S8x4x128x128, .f32⟩
  | 47 => ⟨S8x4x128x128, .f32⟩
  | 48 => ⟨S8x4x128x1, .f32⟩
  | 49 => ⟨S8x4x128x128, .f32⟩
  | 50 => ⟨S8x4x128x128, .f32⟩
  | 51 => ⟨S8x4x128x128, .f32⟩
  | 52 => ⟨S8x4x128x128, .f32⟩
  | 53 => ⟨S8x4x128x128, .f32⟩
  | 54 => ⟨S8x4x128, .f32⟩
  | 55 => ⟨S8x4x128, .f32⟩
  | 56 => ⟨S_, .f32⟩
  | 57 => ⟨S8x4x128, .f32⟩
  | 58 => ⟨S8x4x128, .f32⟩
  | 59 => ⟨S8x4x128, .f32⟩
  | 60 => ⟨S8x4x128, .f32⟩
  | 61 => ⟨S8x4x128, .f32⟩
  | 62 => ⟨S8x4x128, .f32⟩
  | 63 => ⟨S8x4x128x1, .f32⟩
  | 64 => ⟨S8x4x128x128, .f32⟩
  | 65 => ⟨S8x4x128x128, .f32⟩
  | 66 => ⟨S_, .f32⟩
  | 67 => ⟨S_, .f32⟩
  | 68 => ⟨S8x4x128, .f32⟩
  | 69 => ⟨S8x4x1, .f32⟩
  | 70 => ⟨S8x4, .f32⟩
  | 71 => ⟨S8x4x1, .f32⟩
  | 72 => ⟨S8x4x128, .f32⟩
  | 73 => ⟨S8x4x128, .f32⟩
  | 74 => ⟨S8x4x128, .f32⟩
  | 75 => ⟨S8x4, .f32⟩
  | 76 => ⟨S_, .f32⟩
  | 77 => ⟨S8x4, .f32⟩
  | 78 => ⟨S8x4, .f32⟩
  | 79 => ⟨S8x4, .f32⟩
  | 80 => ⟨S8x4, .f32⟩
  | 81 => ⟨S8x4, .f32⟩
  | 82 => ⟨S8x4x1, .f32⟩
  | 83 => ⟨S8x4x128, .f32⟩
  | 84 => ⟨S8x4x128, .f32⟩
  | 85 => ⟨S8x4x128, .f32⟩
  | 86 => ⟨S8x4x1x1, .f32⟩
  | 87 => ⟨S8x4x128x128, .f32⟩
  | 88 => ⟨S8x4x128x128, .f32⟩
  | 89 => ⟨S8x4x128x1, .f32⟩
  | 90 => ⟨S8x4x128x128, .f32⟩
  | 91 => ⟨S8x4x128x128, .f32⟩
  | 92 => ⟨S8x4x128x128, .f32⟩
  | 93 => ⟨S8x4x128x128, .f32⟩
  | 94 => ⟨S8x4x1, .f32⟩
  | 95 => ⟨S8x4x128, .f32⟩
  | 96 => ⟨S8x4x128, .f32⟩
  | 97 => ⟨S8x4x128, .f32⟩
  | 98 => ⟨S8x4x128, .f32⟩
  | 99 => ⟨S_, .f32⟩
  | 100 => ⟨S_, .f32⟩
  | 101 => ⟨S8x4x128, .f32⟩
  | 102 => ⟨S_, .i1⟩
  | 103 => ⟨S128x128, .i1⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .i1⟩
  | 111 => ⟨S128x128, .i1⟩
  | 112 => ⟨S128x128, .i1⟩
  | 113 => ⟨S8x4x128x1, .f32⟩
  | 114 => ⟨S8x4x1x128, .f32⟩
  | 115 => ⟨S8x4x128x128, .f32⟩
  | 116 => ⟨S8x4x128x128, .f32⟩
  | 117 => ⟨S8x4x128x128, .f32⟩
  | 118 => ⟨S8x4x1x128, .f32⟩
  | 119 => ⟨S8x4x128x128, .f32⟩
  | 120 => ⟨S8x4x128x128, .f32⟩
  | 121 => ⟨S_, .f32⟩
  | 122 => ⟨S_, .f32⟩
  | 123 => ⟨S8x4x128x128, .i1⟩
  | 124 => ⟨S8x4x128x128, .f32⟩
  | 125 => ⟨S8x4x128x128, .f32⟩
  | 126 => ⟨S8x4x1, .f32⟩
  | 127 => ⟨S8x4x128, .f32⟩
  | _ => ⟨S32768x512, .bf16⟩

abbrev hbmTy0_3 (i : Nat) : BufTy := match i % 128 with
  | 0 => ⟨S8x4x128, .f32⟩
  | 1 => ⟨S_, .f32⟩
  | 2 => ⟨S8x4x128, .f32⟩
  | 3 => ⟨S8x4x128, .f32⟩
  | 4 => ⟨S8x4x128, .f32⟩
  | 5 => ⟨S8x4x128, .f32⟩
  | 6 => ⟨S8x4x128x128, .f32⟩
  | 7 => ⟨S8x4x128x1, .f32⟩
  | 8 => ⟨S8x4x128x128, .f32⟩
  | 9 => ⟨S8x4x128x128, .f32⟩
  | 10 => ⟨S8x4x128x128, .f32⟩
  | 11 => ⟨S8x4x128x128, .f32⟩
  | 12 => ⟨S8x4x128x1, .f32⟩
  | 13 => ⟨S8x4x128x128, .f32⟩
  | 14 => ⟨S8x4x128x128, .f32⟩
  | 15 => ⟨S8x4x128x128, .f32⟩
  | 16 => ⟨S8x4x128x128, .f32⟩
  | 17 => ⟨S8x4x128x128, .f32⟩
  | 18 => ⟨S8x4x128, .f32⟩
  | 19 => ⟨S8x4x128, .f32⟩
  | 20 => ⟨S_, .f32⟩
  | 21 => ⟨S8x4x128, .f32⟩
  | 22 => ⟨S8x4x128, .f32⟩
  | 23 => ⟨S8x4x128, .f32⟩
  | 24 => ⟨S8x4x128, .f32⟩
  | 25 => ⟨S8x4x128, .f32⟩
  | 26 => ⟨S8x4x128, .f32⟩
  | 27 => ⟨S8x4x128x1, .f32⟩
  | 28 => ⟨S8x4x128x128, .f32⟩
  | 29 => ⟨S8x4x128x128, .f32⟩
  | 30 => ⟨S_, .f32⟩
  | 31 => ⟨S_, .f32⟩
  | 32 => ⟨S8x4x128, .f32⟩
  | 33 => ⟨S8x4x1, .f32⟩
  | 34 => ⟨S8x4, .f32⟩
  | 35 => ⟨S8x4x1, .f32⟩
  | 36 => ⟨S8x4x128, .f32⟩
  | 37 => ⟨S8x4x128, .f32⟩
  | 38 => ⟨S8x4x128, .f32⟩
  | 39 => ⟨S8x4, .f32⟩
  | 40 => ⟨S_, .f32⟩
  | 41 => ⟨S8x4, .f32⟩
  | 42 => ⟨S8x4, .f32⟩
  | 43 => ⟨S8x4, .f32⟩
  | 44 => ⟨S8x4, .f32⟩
  | 45 => ⟨S8x4, .f32⟩
  | 46 => ⟨S8x4x1, .f32⟩
  | 47 => ⟨S8x4x128, .f32⟩
  | 48 => ⟨S8x4x128, .f32⟩
  | 49 => ⟨S8x4x128, .f32⟩
  | 50 => ⟨S8x4x1x1, .f32⟩
  | 51 => ⟨S8x4x128x128, .f32⟩
  | 52 => ⟨S8x4x128x128, .f32⟩
  | 53 => ⟨S8x4x128x1, .f32⟩
  | 54 => ⟨S8x4x128x128, .f32⟩
  | 55 => ⟨S8x4x128x128, .f32⟩
  | 56 => ⟨S8x4x128x128, .f32⟩
  | 57 => ⟨S8x4x128x128, .f32⟩
  | 58 => ⟨S8x4x1, .f32⟩
  | 59 => ⟨S8x4x128, .f32⟩
  | 60 => ⟨S8x4x128, .f32⟩
  | 61 => ⟨S8x4x128, .f32⟩
  | 62 => ⟨S8x4x128, .f32⟩
  | 63 => ⟨S1x8x4x128x128, .f32⟩
  | 64 => ⟨S_, .i32⟩
  | 65 => ⟨S_, .i32⟩
  | 66 => ⟨S_, .i32⟩
  | 67 => ⟨S_, .i32⟩
  | 68 => ⟨S32x8x4x128x128, .f32⟩
  | 69 => ⟨S1x8x4x128x128, .f32⟩
  | 70 => ⟨S_, .i32⟩
  | 71 => ⟨S_, .i32⟩
  | 72 => ⟨S_, .i32⟩
  | 73 => ⟨S_, .i32⟩
  | 74 => ⟨S32x8x4x128x128, .f32⟩
  | 75 => ⟨S_, .i32⟩
  | 76 => ⟨S_, .i32⟩
  | 77 => ⟨S8x4x32x128x128, .f32⟩
  | 78 => ⟨S8x4x4096x128, .f32⟩
  | 79 => ⟨S8x4096x4x128, .f32⟩
  | 80 => ⟨S8x4096x512, .f32⟩
  | 81 => ⟨S8x4096x512, .bf16⟩
  | 82 => ⟨S8x4x32x128x128, .f32⟩
  | 83 => ⟨S8x4x4096x128, .f32⟩
  | 84 => ⟨S8x4x4096x128, .f32⟩
  | 85 => ⟨S8x4096x4x128, .f32⟩
  | 86 => ⟨S8x4096x512, .f32⟩
  | 87 => ⟨S8x4096x512, .bf16⟩
  | _ => ⟨S32768x512, .bf16⟩

abbrev hbmTy (i : Nat) : BufTy := match i / 128 with
  | 0 => hbmTy0_0 i
  | 1 => hbmTy0_1 i
  | 2 => hbmTy0_2 i
  | 3 => hbmTy0_3 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_0 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_1 : Ref sig .tc := ⟨.hbm, 64, rfl⟩
abbrev main_v55 : Ref sig .tc := ⟨.hbm, 65, rfl⟩
abbrev main_cst_2 : Ref sig .tc := ⟨.hbm, 66, rfl⟩
abbrev main_v56 : Ref sig .tc := ⟨.hbm, 67, rfl⟩
abbrev main_cst_3 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_call0_call0_cst : Ref sig .tc := ⟨.hbm, 74, rfl⟩
abbrev main_call0_call0_v0 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_4 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_call5_call0_cst : Ref sig .tc := ⟨.hbm, 115, rfl⟩
abbrev main_call5_call0_v0 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_5 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_cst_6 : Ref sig .tc := ⟨.hbm, 181, rfl⟩
abbrev main_v163 : Ref sig .tc := ⟨.hbm, 182, rfl⟩
abbrev main_cst_7 : Ref sig .tc := ⟨.hbm, 183, rfl⟩
abbrev main_v164 : Ref sig .tc := ⟨.hbm, 184, rfl⟩
abbrev main_c : Ref sig .tc := ⟨.hbm, 185, rfl⟩
abbrev main_v165_0 : Ref sig .tc := ⟨.hbm, 186, rfl⟩
abbrev main_v165_1 : Ref sig .tc := ⟨.hbm, 187, rfl⟩
abbrev main_v165_2 : Ref sig .tc := ⟨.hbm, 188, rfl⟩
abbrev main_v165_3 : Ref sig .tc := ⟨.hbm, 189, rfl⟩
abbrev main_v165_4 : Ref sig .tc := ⟨.hbm, 190, rfl⟩
abbrev main_v165_5 : Ref sig .tc := ⟨.hbm, 191, rfl⟩
abbrev main_v165_6 : Ref sig .tc := ⟨.hbm, 192, rfl⟩
abbrev main_v165_7 : Ref sig .tc := ⟨.hbm, 193, rfl⟩
abbrev main_v165_8 : Ref sig .tc := ⟨.hbm, 194, rfl⟩
abbrev main_v165_9 : Ref sig .tc := ⟨.hbm, 195, rfl⟩
abbrev main_v165_10 : Ref sig .tc := ⟨.hbm, 196, rfl⟩
abbrev main_v165_11 : Ref sig .tc := ⟨.hbm, 197, rfl⟩
abbrev main_v165_12 : Ref sig .tc := ⟨.hbm, 198, rfl⟩
abbrev main_v165_13 : Ref sig .tc := ⟨.hbm, 199, rfl⟩
abbrev main_v165_14 : Ref sig .tc := ⟨.hbm, 200, rfl⟩
abbrev main_v165_15 : Ref sig .tc := ⟨.hbm, 201, rfl⟩
abbrev main_v165_16 : Ref sig .tc := ⟨.hbm, 202, rfl⟩
abbrev main_v165_17 : Ref sig .tc := ⟨.hbm, 203, rfl⟩
abbrev main_v165_18 : Ref sig .tc := ⟨.hbm, 204, rfl⟩
abbrev main_while0c_c_26 : Ref sig .tc := ⟨.hbm, 205, rfl⟩
abbrev main_while0c_v177 : Ref sig .tc := ⟨.hbm, 206, rfl⟩
abbrev main_while0b_call11_c : Ref sig .tc := ⟨.hbm, 207, rfl⟩
abbrev main_while0b_call11_c_0 : Ref sig .tc := ⟨.hbm, 208, rfl⟩
abbrev main_while0b_call11_c_1 : Ref sig .tc := ⟨.hbm, 209, rfl⟩
abbrev main_while0b_call11_c_2 : Ref sig .tc := ⟨.hbm, 210, rfl⟩
abbrev main_while0b_call11_v0 : Ref sig .tc := ⟨.hbm, 211, rfl⟩
abbrev main_while0b_v177 : Ref sig .tc := ⟨.hbm, 212, rfl⟩
abbrev main_while0b_call12_c : Ref sig .tc := ⟨.hbm, 213, rfl⟩
abbrev main_while0b_call12_c_0 : Ref sig .tc := ⟨.hbm, 214, rfl⟩
abbrev main_while0b_call12_c_1 : Ref sig .tc := ⟨.hbm, 215, rfl⟩
abbrev main_while0b_call12_c_2 : Ref sig .tc := ⟨.hbm, 216, rfl⟩
abbrev main_while0b_call12_v0 : Ref sig .tc := ⟨.hbm, 217, rfl⟩
abbrev main_while0b_v178 : Ref sig .tc := ⟨.hbm, 218, rfl⟩
abbrev main_while0b_call13_c : Ref sig .tc := ⟨.hbm, 219, rfl⟩
abbrev main_while0b_call13_c_0 : Ref sig .tc := ⟨.hbm, 220, rfl⟩
abbrev main_while0b_call13_c_1 : Ref sig .tc := ⟨.hbm, 221, rfl⟩
abbrev main_while0b_call13_c_2 : Ref sig .tc := ⟨.hbm, 222, rfl⟩
abbrev main_while0b_call13_v0 : Ref sig .tc := ⟨.hbm, 223, rfl⟩
abbrev main_while0b_v179 : Ref sig .tc := ⟨.hbm, 224, rfl⟩
abbrev main_while0b_call14_c : Ref sig .tc := ⟨.hbm, 225, rfl⟩
abbrev main_while0b_call14_c_0 : Ref sig .tc := ⟨.hbm, 226, rfl⟩
abbrev main_while0b_call14_c_1 : Ref sig .tc := ⟨.hbm, 227, rfl⟩
abbrev main_while0b_call14_v0 : Ref sig .tc := ⟨.hbm, 228, rfl⟩
abbrev main_while0b_v180 : Ref sig .tc := ⟨.hbm, 229, rfl⟩
abbrev main_while0b_call15_c : Ref sig .tc := ⟨.hbm, 230, rfl⟩
abbrev main_while0b_call15_c_0 : Ref sig .tc := ⟨.hbm, 231, rfl⟩
abbrev main_while0b_call15_c_1 : Ref sig .tc := ⟨.hbm, 232, rfl⟩
abbrev main_while0b_call15_v0 : Ref sig .tc := ⟨.hbm, 233, rfl⟩
abbrev main_while0b_v181 : Ref sig .tc := ⟨.hbm, 234, rfl⟩
abbrev main_while0b_call16_c : Ref sig .tc := ⟨.hbm, 235, rfl⟩
abbrev main_while0b_call16_c_0 : Ref sig .tc := ⟨.hbm, 236, rfl⟩
abbrev main_while0b_call16_c_1 : Ref sig .tc := ⟨.hbm, 237, rfl⟩
abbrev main_while0b_call16_c_2 : Ref sig .tc := ⟨.hbm, 238, rfl⟩
abbrev main_while0b_call16_v0 : Ref sig .tc := ⟨.hbm, 239, rfl⟩
abbrev main_while0b_v182 : Ref sig .tc := ⟨.hbm, 240, rfl⟩
abbrev main_while0b_call17_c : Ref sig .tc := ⟨.hbm, 241, rfl⟩
abbrev main_while0b_call17_c_0 : Ref sig .tc := ⟨.hbm, 242, rfl⟩
abbrev main_while0b_call17_c_1 : Ref sig .tc := ⟨.hbm, 243, rfl⟩
abbrev main_while0b_call17_c_2 : Ref sig .tc := ⟨.hbm, 244, rfl⟩
abbrev main_while0b_call17_v0 : Ref sig .tc := ⟨.hbm, 245, rfl⟩
abbrev main_while0b_v183 : Ref sig .tc := ⟨.hbm, 246, rfl⟩
abbrev main_while0b_call18_c : Ref sig .tc := ⟨.hbm, 247, rfl⟩
abbrev main_while0b_call18_c_0 : Ref sig .tc := ⟨.hbm, 248, rfl⟩
abbrev main_while0b_call18_c_1 : Ref sig .tc := ⟨.hbm, 249, rfl⟩
abbrev main_while0b_call18_c_2 : Ref sig .tc := ⟨.hbm, 250, rfl⟩
abbrev main_while0b_call18_v0 : Ref sig .tc := ⟨.hbm, 251, rfl⟩
abbrev main_while0b_v184 : Ref sig .tc := ⟨.hbm, 252, rfl⟩
abbrev main_while0b_call19_c : Ref sig .tc := ⟨.hbm, 253, rfl⟩
abbrev main_while0b_call19_c_0 : Ref sig .tc := ⟨.hbm, 254, rfl⟩
abbrev main_while0b_call19_c_1 : Ref sig .tc := ⟨.hbm, 255, rfl⟩
abbrev main_while0b_call19_v0 : Ref sig .tc := ⟨.hbm, 256, rfl⟩
abbrev main_while0b_v185 : Ref sig .tc := ⟨.hbm, 257, rfl⟩
abbrev main_while0b_call20_c : Ref sig .tc := ⟨.hbm, 258, rfl⟩
abbrev main_while0b_call20_c_0 : Ref sig .tc := ⟨.hbm, 259, rfl⟩
abbrev main_while0b_call20_c_1 : Ref sig .tc := ⟨.hbm, 260, rfl⟩
abbrev main_while0b_call20_v0 : Ref sig .tc := ⟨.hbm, 261, rfl⟩
abbrev main_while0b_v186 : Ref sig .tc := ⟨.hbm, 262, rfl⟩
abbrev main_while0b_call21_call0_cst : Ref sig .tc := ⟨.hbm, 263, rfl⟩
abbrev main_while0b_call21_call0_v0 : Ref sig .tc := ⟨.hbm, 264, rfl⟩
abbrev main_while0b_v187 : Ref sig .tc := ⟨.hbm, 265, rfl⟩
abbrev main_while0b_c_26 : Ref sig .tc := ⟨.hbm, 266, rfl⟩
abbrev main_while0b_v188 : Ref sig .tc := ⟨.hbm, 267, rfl⟩
abbrev main_while0b_call22_v0 : Ref sig .tc := ⟨.hbm, 268, rfl⟩
abbrev main_while0b_call22_c : Ref sig .tc := ⟨.hbm, 269, rfl⟩
abbrev main_while0b_call22_v1 : Ref sig .tc := ⟨.hbm, 270, rfl⟩
abbrev main_while0b_call22_v2 : Ref sig .tc := ⟨.hbm, 271, rfl⟩
abbrev main_while0b_call22_v3 : Ref sig .tc := ⟨.hbm, 272, rfl⟩
abbrev main_while0b_call22_v4 : Ref sig .tc := ⟨.hbm, 273, rfl⟩
abbrev main_while0b_call22_c_0 : Ref sig .tc := ⟨.hbm, 274, rfl⟩
abbrev main_while0b_call22_v5 : Ref sig .tc := ⟨.hbm, 275, rfl⟩
abbrev main_while0b_v189 : Ref sig .tc := ⟨.hbm, 276, rfl⟩
abbrev main_while0b_v190 : Ref sig .tc := ⟨.hbm, 277, rfl⟩
abbrev main_while0b_v191 : Ref sig .tc := ⟨.hbm, 278, rfl⟩
abbrev main_while0b_v192 : Ref sig .tc := ⟨.hbm, 279, rfl⟩
abbrev main_while0b_v193 : Ref sig .tc := ⟨.hbm, 280, rfl⟩
abbrev main_while0b_v194 : Ref sig .tc := ⟨.hbm, 281, rfl⟩
abbrev main_while0b_v195 : Ref sig .tc := ⟨.hbm, 282, rfl⟩
abbrev main_while0b_v196 : Ref sig .tc := ⟨.hbm, 283, rfl⟩
abbrev main_while0b_v197 : Ref sig .tc := ⟨.hbm, 284, rfl⟩
abbrev main_while0b_cst_27 : Ref sig .tc := ⟨.hbm, 285, rfl⟩
abbrev main_while0b_call23_v0 : Ref sig .tc := ⟨.hbm, 286, rfl⟩
abbrev main_while0b_call23_v1 : Ref sig .tc := ⟨.hbm, 287, rfl⟩
abbrev main_while0b_call23_v2 : Ref sig .tc := ⟨.hbm, 288, rfl⟩
abbrev main_while0b_v198 : Ref sig .tc := ⟨.hbm, 289, rfl⟩
abbrev main_while0b_v199 : Ref sig .tc := ⟨.hbm, 290, rfl⟩
abbrev main_while0b_v200 : Ref sig .tc := ⟨.hbm, 291, rfl⟩
abbrev main_while0b_v201 : Ref sig .tc := ⟨.hbm, 292, rfl⟩
abbrev main_while0b_cst_28 : Ref sig .tc := ⟨.hbm, 293, rfl⟩
abbrev main_while0b_v202 : Ref sig .tc := ⟨.hbm, 294, rfl⟩
abbrev main_while0b_v203 : Ref sig .tc := ⟨.hbm, 295, rfl⟩
abbrev main_while0b_v204 : Ref sig .tc := ⟨.hbm, 296, rfl⟩
abbrev main_while0b_v205 : Ref sig .tc := ⟨.hbm, 297, rfl⟩
abbrev main_while0b_v206 : Ref sig .tc := ⟨.hbm, 298, rfl⟩
abbrev main_while0b_v207 : Ref sig .tc := ⟨.hbm, 299, rfl⟩
abbrev main_while0b_v208 : Ref sig .tc := ⟨.hbm, 300, rfl⟩
abbrev main_while0b_v209 : Ref sig .tc := ⟨.hbm, 301, rfl⟩
abbrev main_while0b_v210 : Ref sig .tc := ⟨.hbm, 302, rfl⟩
abbrev main_while0b_v211 : Ref sig .tc := ⟨.hbm, 303, rfl⟩
abbrev main_while0b_v212 : Ref sig .tc := ⟨.hbm, 304, rfl⟩
abbrev main_while0b_v213 : Ref sig .tc := ⟨.hbm, 305, rfl⟩
abbrev main_while0b_v214 : Ref sig .tc := ⟨.hbm, 306, rfl⟩
abbrev main_while0b_v215 : Ref sig .tc := ⟨.hbm, 307, rfl⟩
abbrev main_while0b_v216 : Ref sig .tc := ⟨.hbm, 308, rfl⟩
abbrev main_while0b_v217 : Ref sig .tc := ⟨.hbm, 309, rfl⟩
abbrev main_while0b_v218 : Ref sig .tc := ⟨.hbm, 310, rfl⟩
abbrev main_while0b_v219 : Ref sig .tc := ⟨.hbm, 311, rfl⟩
abbrev main_while0b_cst_29 : Ref sig .tc := ⟨.hbm, 312, rfl⟩
abbrev main_while0b_v220 : Ref sig .tc := ⟨.hbm, 313, rfl⟩
abbrev main_while0b_v221 : Ref sig .tc := ⟨.hbm, 314, rfl⟩
abbrev main_while0b_v222 : Ref sig .tc := ⟨.hbm, 315, rfl⟩
abbrev main_while0b_v223 : Ref sig .tc := ⟨.hbm, 316, rfl⟩
abbrev main_while0b_v224 : Ref sig .tc := ⟨.hbm, 317, rfl⟩
abbrev main_while0b_v225 : Ref sig .tc := ⟨.hbm, 318, rfl⟩
abbrev main_while0b_v226 : Ref sig .tc := ⟨.hbm, 319, rfl⟩
abbrev main_while0b_v227 : Ref sig .tc := ⟨.hbm, 320, rfl⟩
abbrev main_while0b_v228 : Ref sig .tc := ⟨.hbm, 321, rfl⟩
abbrev main_while0b_call24_call0_cst : Ref sig .tc := ⟨.hbm, 322, rfl⟩
abbrev main_while0b_call24_call0_v0 : Ref sig .tc := ⟨.hbm, 323, rfl⟩
abbrev main_while0b_v229 : Ref sig .tc := ⟨.hbm, 324, rfl⟩
abbrev main_while0b_v230 : Ref sig .tc := ⟨.hbm, 325, rfl⟩
abbrev main_while0b_v231 : Ref sig .tc := ⟨.hbm, 326, rfl⟩
abbrev main_while0b_v232 : Ref sig .tc := ⟨.hbm, 327, rfl⟩
abbrev main_while0b_v233 : Ref sig .tc := ⟨.hbm, 328, rfl⟩
abbrev main_while0b_v234 : Ref sig .tc := ⟨.hbm, 329, rfl⟩
abbrev main_while0b_v235 : Ref sig .tc := ⟨.hbm, 330, rfl⟩
abbrev main_while0b_v236 : Ref sig .tc := ⟨.hbm, 331, rfl⟩
abbrev main_while0b_cst_30 : Ref sig .tc := ⟨.hbm, 332, rfl⟩
abbrev main_while0b_v237 : Ref sig .tc := ⟨.hbm, 333, rfl⟩
abbrev main_while0b_v238 : Ref sig .tc := ⟨.hbm, 334, rfl⟩
abbrev main_while0b_v239 : Ref sig .tc := ⟨.hbm, 335, rfl⟩
abbrev main_while0b_v240 : Ref sig .tc := ⟨.hbm, 336, rfl⟩
abbrev main_while0b_v241 : Ref sig .tc := ⟨.hbm, 337, rfl⟩
abbrev main_while0b_v242 : Ref sig .tc := ⟨.hbm, 338, rfl⟩
abbrev main_while0b_v243 : Ref sig .tc := ⟨.hbm, 339, rfl⟩
abbrev main_while0b_v244 : Ref sig .tc := ⟨.hbm, 340, rfl⟩
abbrev main_while0b_v245 : Ref sig .tc := ⟨.hbm, 341, rfl⟩
abbrev main_while0b_v246 : Ref sig .tc := ⟨.hbm, 342, rfl⟩
abbrev main_while0b_v247 : Ref sig .tc := ⟨.hbm, 343, rfl⟩
abbrev main_while0b_v248 : Ref sig .tc := ⟨.hbm, 344, rfl⟩
abbrev main_while0b_v249 : Ref sig .tc := ⟨.hbm, 345, rfl⟩
abbrev main_while0b_v250 : Ref sig .tc := ⟨.hbm, 346, rfl⟩
abbrev main_while0b_v251 : Ref sig .tc := ⟨.hbm, 347, rfl⟩
abbrev main_while0b_v252 : Ref sig .tc := ⟨.hbm, 348, rfl⟩
abbrev main_while0b_v253 : Ref sig .tc := ⟨.hbm, 349, rfl⟩
abbrev main_while0b_v254 : Ref sig .tc := ⟨.hbm, 350, rfl⟩
abbrev main_while0b_v255 : Ref sig .tc := ⟨.hbm, 351, rfl⟩
abbrev main_while0b_v256 : Ref sig .tc := ⟨.hbm, 352, rfl⟩
abbrev main_while0b_v257 : Ref sig .tc := ⟨.hbm, 353, rfl⟩
abbrev main_while0b_v258 : Ref sig .tc := ⟨.hbm, 354, rfl⟩
abbrev main_while0b_call25_call0_cst : Ref sig .tc := ⟨.hbm, 355, rfl⟩
abbrev main_while0b_call25_call0_v0 : Ref sig .tc := ⟨.hbm, 356, rfl⟩
abbrev main_while0b_v259 : Ref sig .tc := ⟨.hbm, 357, rfl⟩
abbrev main_while0b_c_31 : Ref sig .tc := ⟨.hbm, 358, rfl⟩
abbrev main_while0b_v260 : Ref sig .tc := ⟨.hbm, 359, rfl⟩
abbrev main_while0b_call26_v0 : Ref sig .tc := ⟨.hbm, 360, rfl⟩
abbrev main_while0b_call26_c : Ref sig .tc := ⟨.hbm, 361, rfl⟩
abbrev main_while0b_call26_v1 : Ref sig .tc := ⟨.hbm, 362, rfl⟩
abbrev main_while0b_call26_v2 : Ref sig .tc := ⟨.hbm, 363, rfl⟩
abbrev main_while0b_call26_v3 : Ref sig .tc := ⟨.hbm, 364, rfl⟩
abbrev main_while0b_call26_v4 : Ref sig .tc := ⟨.hbm, 365, rfl⟩
abbrev main_while0b_call26_c_0 : Ref sig .tc := ⟨.hbm, 366, rfl⟩
abbrev main_while0b_call26_v5 : Ref sig .tc := ⟨.hbm, 367, rfl⟩
abbrev main_while0b_v261 : Ref sig .tc := ⟨.hbm, 368, rfl⟩
abbrev main_while0b_v262 : Ref sig .tc := ⟨.hbm, 369, rfl⟩
abbrev main_while0b_v263 : Ref sig .tc := ⟨.hbm, 370, rfl⟩
abbrev main_while0b_v264 : Ref sig .tc := ⟨.hbm, 371, rfl⟩
abbrev main_while0b_v265 : Ref sig .tc := ⟨.hbm, 372, rfl⟩
abbrev main_while0b_v266 : Ref sig .tc := ⟨.hbm, 373, rfl⟩
abbrev main_while0b_v267 : Ref sig .tc := ⟨.hbm, 374, rfl⟩
abbrev main_while0b_v268 : Ref sig .tc := ⟨.hbm, 375, rfl⟩
abbrev main_while0b_v269 : Ref sig .tc := ⟨.hbm, 376, rfl⟩
abbrev main_while0b_cst_32 : Ref sig .tc := ⟨.hbm, 377, rfl⟩
abbrev main_while0b_call27_v0 : Ref sig .tc := ⟨.hbm, 378, rfl⟩
abbrev main_while0b_call27_v1 : Ref sig .tc := ⟨.hbm, 379, rfl⟩
abbrev main_while0b_call27_v2 : Ref sig .tc := ⟨.hbm, 380, rfl⟩
abbrev main_while0b_v270 : Ref sig .tc := ⟨.hbm, 381, rfl⟩
abbrev main_while0b_v271 : Ref sig .tc := ⟨.hbm, 382, rfl⟩
abbrev main_while0b_v272 : Ref sig .tc := ⟨.hbm, 383, rfl⟩
abbrev main_while0b_v273 : Ref sig .tc := ⟨.hbm, 384, rfl⟩
abbrev main_while0b_cst_33 : Ref sig .tc := ⟨.hbm, 385, rfl⟩
abbrev main_while0b_v274 : Ref sig .tc := ⟨.hbm, 386, rfl⟩
abbrev main_while0b_v275 : Ref sig .tc := ⟨.hbm, 387, rfl⟩
abbrev main_while0b_v276 : Ref sig .tc := ⟨.hbm, 388, rfl⟩
abbrev main_while0b_v277 : Ref sig .tc := ⟨.hbm, 389, rfl⟩
abbrev main_while0b_v278 : Ref sig .tc := ⟨.hbm, 390, rfl⟩
abbrev main_while0b_v279 : Ref sig .tc := ⟨.hbm, 391, rfl⟩
abbrev main_while0b_v280 : Ref sig .tc := ⟨.hbm, 392, rfl⟩
abbrev main_while0b_v281 : Ref sig .tc := ⟨.hbm, 393, rfl⟩
abbrev main_while0b_v282 : Ref sig .tc := ⟨.hbm, 394, rfl⟩
abbrev main_while0b_v283 : Ref sig .tc := ⟨.hbm, 395, rfl⟩
abbrev main_while0b_v284 : Ref sig .tc := ⟨.hbm, 396, rfl⟩
abbrev main_while0b_v285 : Ref sig .tc := ⟨.hbm, 397, rfl⟩
abbrev main_while0b_v286 : Ref sig .tc := ⟨.hbm, 398, rfl⟩
abbrev main_while0b_v287 : Ref sig .tc := ⟨.hbm, 399, rfl⟩
abbrev main_while0b_v288 : Ref sig .tc := ⟨.hbm, 400, rfl⟩
abbrev main_while0b_v289 : Ref sig .tc := ⟨.hbm, 401, rfl⟩
abbrev main_while0b_v290 : Ref sig .tc := ⟨.hbm, 402, rfl⟩
abbrev main_while0b_v291 : Ref sig .tc := ⟨.hbm, 403, rfl⟩
abbrev main_while0b_cst_34 : Ref sig .tc := ⟨.hbm, 404, rfl⟩
abbrev main_while0b_v292 : Ref sig .tc := ⟨.hbm, 405, rfl⟩
abbrev main_while0b_v293 : Ref sig .tc := ⟨.hbm, 406, rfl⟩
abbrev main_while0b_v294 : Ref sig .tc := ⟨.hbm, 407, rfl⟩
abbrev main_while0b_v295 : Ref sig .tc := ⟨.hbm, 408, rfl⟩
abbrev main_while0b_v296 : Ref sig .tc := ⟨.hbm, 409, rfl⟩
abbrev main_while0b_v297 : Ref sig .tc := ⟨.hbm, 410, rfl⟩
abbrev main_while0b_v298 : Ref sig .tc := ⟨.hbm, 411, rfl⟩
abbrev main_while0b_v299 : Ref sig .tc := ⟨.hbm, 412, rfl⟩
abbrev main_while0b_v300 : Ref sig .tc := ⟨.hbm, 413, rfl⟩
abbrev main_while0b_call28_call0_cst : Ref sig .tc := ⟨.hbm, 414, rfl⟩
abbrev main_while0b_call28_call0_v0 : Ref sig .tc := ⟨.hbm, 415, rfl⟩
abbrev main_while0b_v301 : Ref sig .tc := ⟨.hbm, 416, rfl⟩
abbrev main_while0b_v302 : Ref sig .tc := ⟨.hbm, 417, rfl⟩
abbrev main_while0b_v303 : Ref sig .tc := ⟨.hbm, 418, rfl⟩
abbrev main_while0b_v304 : Ref sig .tc := ⟨.hbm, 419, rfl⟩
abbrev main_while0b_v305 : Ref sig .tc := ⟨.hbm, 420, rfl⟩
abbrev main_while0b_v306 : Ref sig .tc := ⟨.hbm, 421, rfl⟩
abbrev main_while0b_v307 : Ref sig .tc := ⟨.hbm, 422, rfl⟩
abbrev main_while0b_v308 : Ref sig .tc := ⟨.hbm, 423, rfl⟩
abbrev main_while0b_cst_35 : Ref sig .tc := ⟨.hbm, 424, rfl⟩
abbrev main_while0b_v309 : Ref sig .tc := ⟨.hbm, 425, rfl⟩
abbrev main_while0b_v310 : Ref sig .tc := ⟨.hbm, 426, rfl⟩
abbrev main_while0b_v311 : Ref sig .tc := ⟨.hbm, 427, rfl⟩
abbrev main_while0b_v312 : Ref sig .tc := ⟨.hbm, 428, rfl⟩
abbrev main_while0b_v313 : Ref sig .tc := ⟨.hbm, 429, rfl⟩
abbrev main_while0b_v314 : Ref sig .tc := ⟨.hbm, 430, rfl⟩
abbrev main_while0b_v315 : Ref sig .tc := ⟨.hbm, 431, rfl⟩
abbrev main_while0b_v316 : Ref sig .tc := ⟨.hbm, 432, rfl⟩
abbrev main_while0b_v317 : Ref sig .tc := ⟨.hbm, 433, rfl⟩
abbrev main_while0b_v318 : Ref sig .tc := ⟨.hbm, 434, rfl⟩
abbrev main_while0b_v319 : Ref sig .tc := ⟨.hbm, 435, rfl⟩
abbrev main_while0b_v320 : Ref sig .tc := ⟨.hbm, 436, rfl⟩
abbrev main_while0b_v321 : Ref sig .tc := ⟨.hbm, 437, rfl⟩
abbrev main_while0b_v322 : Ref sig .tc := ⟨.hbm, 438, rfl⟩
abbrev main_while0b_v323 : Ref sig .tc := ⟨.hbm, 439, rfl⟩
abbrev main_while0b_v324 : Ref sig .tc := ⟨.hbm, 440, rfl⟩
abbrev main_while0b_v325 : Ref sig .tc := ⟨.hbm, 441, rfl⟩
abbrev main_while0b_v326 : Ref sig .tc := ⟨.hbm, 442, rfl⟩
abbrev main_while0b_v327 : Ref sig .tc := ⟨.hbm, 443, rfl⟩
abbrev main_while0b_v328 : Ref sig .tc := ⟨.hbm, 444, rfl⟩
abbrev main_while0b_v329 : Ref sig .tc := ⟨.hbm, 445, rfl⟩
abbrev main_while0b_v330 : Ref sig .tc := ⟨.hbm, 446, rfl⟩
abbrev main_while0b_call29_v0 : Ref sig .tc := ⟨.hbm, 447, rfl⟩
abbrev main_while0b_call29_c : Ref sig .tc := ⟨.hbm, 448, rfl⟩
abbrev main_while0b_call29_c_0 : Ref sig .tc := ⟨.hbm, 449, rfl⟩
abbrev main_while0b_call29_c_1 : Ref sig .tc := ⟨.hbm, 450, rfl⟩
abbrev main_while0b_call29_c_2 : Ref sig .tc := ⟨.hbm, 451, rfl⟩
abbrev main_while0b_v331 : Ref sig .tc := ⟨.hbm, 452, rfl⟩
abbrev main_while0b_call30_v0 : Ref sig .tc := ⟨.hbm, 453, rfl⟩
abbrev main_while0b_call30_c : Ref sig .tc := ⟨.hbm, 454, rfl⟩
abbrev main_while0b_call30_c_0 : Ref sig .tc := ⟨.hbm, 455, rfl⟩
abbrev main_while0b_call30_c_1 : Ref sig .tc := ⟨.hbm, 456, rfl⟩
abbrev main_while0b_call30_c_2 : Ref sig .tc := ⟨.hbm, 457, rfl⟩
abbrev main_while0b_v332 : Ref sig .tc := ⟨.hbm, 458, rfl⟩
abbrev main_while0b_c_36 : Ref sig .tc := ⟨.hbm, 459, rfl⟩
abbrev main_while0b_v333 : Ref sig .tc := ⟨.hbm, 460, rfl⟩
abbrev main_v166 : Ref sig .tc := ⟨.hbm, 461, rfl⟩
abbrev main_v167 : Ref sig .tc := ⟨.hbm, 462, rfl⟩
abbrev main_v168 : Ref sig .tc := ⟨.hbm, 463, rfl⟩
abbrev main_v169 : Ref sig .tc := ⟨.hbm, 464, rfl⟩
abbrev main_v170 : Ref sig .tc := ⟨.hbm, 465, rfl⟩
abbrev main_v171 : Ref sig .tc := ⟨.hbm, 466, rfl⟩
abbrev main_v172 : Ref sig .tc := ⟨.hbm, 467, rfl⟩
abbrev main_v173 : Ref sig .tc := ⟨.hbm, 468, rfl⟩
abbrev main_v174 : Ref sig .tc := ⟨.hbm, 469, rfl⟩
abbrev main_v175 : Ref sig .tc := ⟨.hbm, 470, rfl⟩
abbrev main_v176 : Ref sig .tc := ⟨.hbm, 471, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S32768x1024 : Shape := ⟨2, ![32768, 1024]⟩
abbrev S16x6x1024 : Shape := ⟨3, ![16, 6, 1024]⟩
abbrev S1024x5120 : Shape := ⟨2, ![1024, 5120]⟩
abbrev S5120 : Shape := ⟨1, ![5120]⟩
abbrev S3x3x5120 : Shape := ⟨3, ![3, 3, 5120]⟩
abbrev S2560x1024 : Shape := ⟨2, ![2560, 1024]⟩
abbrev S1024 : Shape := ⟨1, ![1024]⟩
abbrev S1024x2x10x256 : Shape := ⟨4, ![1024, 2, 10, 256]⟩
abbrev S10x1024x2x256 : Shape := ⟨4, ![10, 1024, 2, 256]⟩
abbrev S10x1024x512 : Shape := ⟨3, ![10, 1024, 512]⟩
abbrev S1x5120 : Shape := ⟨2, ![1, 5120]⟩
abbrev S1x2x10x256 : Shape := ⟨4, ![1, 2, 10, 256]⟩
abbrev S10x1x2x256 : Shape := ⟨4, ![10, 1, 2, 256]⟩
abbrev S10x1x512 : Shape := ⟨3, ![10, 1, 512]⟩
abbrev S9x5120 : Shape := ⟨2, ![9, 5120]⟩
abbrev S9x2x10x256 : Shape := ⟨4, ![9, 2, 10, 256]⟩
abbrev S10x9x2x256 : Shape := ⟨4, ![10, 9, 2, 256]⟩
abbrev S10x9x512 : Shape := ⟨3, ![10, 9, 512]⟩
abbrev S10x9x1x512 : Shape := ⟨4, ![10, 9, 1, 512]⟩
abbrev S10x9x16x512 : Shape := ⟨4, ![10, 9, 16, 512]⟩
abbrev S10x16x512 : Shape := ⟨3, ![10, 16, 512]⟩
abbrev S10x256x1024 : Shape := ⟨3, ![10, 256, 1024]⟩
abbrev S1x1024 : Shape := ⟨2, ![1, 1024]⟩
abbrev S1024x1024 : Shape := ⟨2, ![1024, 1024]⟩
abbrev S64x1024 : Shape := ⟨2, ![64, 1024]⟩
abbrev S1x6x1024 : Shape := ⟨3, ![1, 6, 1024]⟩
abbrev S1152x1024 : Shape := ⟨2, ![1152, 1024]⟩
abbrev S3x1152x512 : Shape := ⟨3, ![3, 1152, 512]⟩
abbrev S1024x256 : Shape := ⟨2, ![1024, 256]⟩
abbrev S8x1 : Shape := ⟨2, ![8, 1]⟩
abbrev S1x1024x512 : Shape := ⟨3, ![1, 1024, 512]⟩
abbrev S1024x512 : Shape := ⟨2, ![1024, 512]⟩
abbrev S1152x512 : Shape := ⟨2, ![1152, 512]⟩
abbrev S1x1x512 : Shape := ⟨3, ![1, 1, 512]⟩
abbrev S1x512 : Shape := ⟨2, ![1, 512]⟩
abbrev S64x512 : Shape := ⟨2, ![64, 512]⟩
abbrev S8x512 : Shape := ⟨2, ![8, 512]⟩
abbrev S56x512 : Shape := ⟨2, ![56, 512]⟩
abbrev S1x64x512 : Shape := ⟨3, ![1, 64, 512]⟩
abbrev S1x16x512 : Shape := ⟨3, ![1, 16, 512]⟩
abbrev S16x512 : Shape := ⟨2, ![16, 512]⟩
abbrev S1x1x16x512 : Shape := ⟨4, ![1, 1, 16, 512]⟩
abbrev S4x16x512 : Shape := ⟨3, ![4, 16, 512]⟩
abbrev S64x256 : Shape := ⟨2, ![64, 256]⟩
abbrev S1x256x1024 : Shape := ⟨3, ![1, 256, 1024]⟩
abbrev S256x1024 : Shape := ⟨2, ![256, 1024]⟩
abbrev S6x1024 : Shape := ⟨2, ![6, 1024]⟩
abbrev S1024x1 : Shape := ⟨2, ![1024, 1]⟩

abbrev nBuf : Space → Nat
  | .hbm => 36
  | .vmem => 23
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S16x6x1024, .f32⟩
  | .hbm, ⟨3, _⟩ => ⟨S1024x5120, .f32⟩
  | .hbm, ⟨4, _⟩ => ⟨S5120, .f32⟩
  | .hbm, ⟨5, _⟩ => ⟨S3x3x5120, .f32⟩
  | .hbm, ⟨6, _⟩ => ⟨S5120, .f32⟩
  | .hbm, ⟨7, _⟩ => ⟨S2560x1024, .f32⟩
  | .hbm, ⟨8, _⟩ => ⟨S1024, .f32⟩
  | .hbm, ⟨9, _⟩ => ⟨S1024, .f32⟩
  | .hbm, ⟨10, _⟩ => ⟨S1024x5120, .bf16⟩
  | .hbm, ⟨11, _⟩ => ⟨S1024x2x10x256, .bf16⟩
  | .hbm, ⟨12, _⟩ => ⟨S10x1024x2x256, .bf16⟩
  | .hbm, ⟨13, _⟩ => ⟨S10x1024x512, .bf16⟩
  | .hbm, ⟨14, _⟩ => ⟨S1x5120, .f32⟩
  | .hbm, ⟨15, _⟩ => ⟨S1x2x10x256, .f32⟩
  | .hbm, ⟨16, _⟩ => ⟨S10x1x2x256, .f32⟩
  | .hbm, ⟨17, _⟩ => ⟨S10x1x512, .f32⟩
  | .hbm, ⟨18, _⟩ => ⟨S9x5120, .f32⟩
  | .hbm, ⟨19, _⟩ => ⟨S9x2x10x256, .f32⟩
  | .hbm, ⟨20, _⟩ => ⟨S10x9x2x256, .f32⟩
  | .hbm, ⟨21, _⟩ => ⟨S10x9x512, .f32⟩
  | .hbm, ⟨22, _⟩ => ⟨S10x9x512, .bf16⟩
  | .hbm, ⟨23, _⟩ => ⟨S10x9x1x512, .bf16⟩
  | .hbm, ⟨24, _⟩ => ⟨S10x9x16x512, .bf16⟩
  | .hbm, ⟨25, _⟩ => ⟨S1x5120, .f32⟩
  | .hbm, ⟨26, _⟩ => ⟨S1x2x10x256, .f32⟩
  | .hbm, ⟨27, _⟩ => ⟨S10x1x2x256, .f32⟩
  | .hbm, ⟨28, _⟩ => ⟨S10x1x512, .f32⟩
  | .hbm, ⟨29, _⟩ => ⟨S10x1x512, .bf16⟩
  | .hbm, ⟨30, _⟩ => ⟨S10x16x512, .bf16⟩
  | .hbm, ⟨31, _⟩ => ⟨S2560x1024, .bf16⟩
  | .hbm, ⟨32, _⟩ => ⟨S10x256x1024, .bf16⟩
  | .hbm, ⟨33, _⟩ => ⟨S1x1024, .f32⟩
  | .hbm, ⟨34, _⟩ => ⟨S1x1024, .f32⟩
  | .hbm, ⟨35, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S1024x1024, .f32⟩
  | .local _ .vmem, ⟨7, _⟩ => ⟨S1024x1024, .f32⟩
  | .local _ .vmem, ⟨8, _⟩ => ⟨S1x6x1024, .f32⟩
  | .local _ .vmem, ⟨9, _⟩ => ⟨S1x6x1024, .f32⟩
  | .local _ .vmem, ⟨10, _⟩ => ⟨S10x1024x512, .bf16⟩
  | .local _ .vmem, ⟨11, _⟩ => ⟨S10x1x512, .f32⟩
  | .local _ .vmem, ⟨12, _⟩ => ⟨S10x9x16x512, .bf16⟩
  | .local _ .vmem, ⟨13, _⟩ => ⟨S10x16x512, .bf16⟩
  | .local _ .vmem, ⟨14, _⟩ => ⟨S10x256x1024, .bf16⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1152x1024, .bf16⟩
  | .local _ .vmem, ⟨20, _⟩ => ⟨S3x1152x512, .bf16⟩
  | .local _ .vmem, ⟨21, _⟩ => ⟨S3x1152x512, .bf16⟩
  | .local _ .vmem, ⟨22, _⟩ => ⟨S1024x256, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.addi v1 c1_i32
  let c16_i32 : BitVec 32 := 16#32
  let v3 : BitVec 32 := Scalar.muli v2 c16_i32
  let c511_i32 : BitVec 32 := 511#32
  let v4 : BitVec 32 := Scalar.minsi v3 c511_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S10x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S10x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S10x9x16x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S10x16x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S10x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnReferenceIdeal.lean ====
abbrev S32768x1024 : Shape := ⟨2, ![32768, 1024]⟩
abbrev S16x6x1024 : Shape := ⟨3, ![16, 6, 1024]⟩
abbrev S1024x5120 : Shape := ⟨2, ![1024, 5120]⟩
abbrev S5120 : Shape := ⟨1, ![5120]⟩
abbrev S3x3x5120 : Shape := ⟨3, ![3, 3, 5120]⟩
abbrev S2560x1024 : Shape := ⟨2, ![2560, 1024]⟩
abbrev S1024 : Shape := ⟨1, ![1024]⟩
abbrev S8x4096x1024 : Shape := ⟨3, ![8, 4096, 1024]⟩
abbrev S8x4096x5120 : Shape := ⟨3, ![8, 4096, 5120]⟩
abbrev S1x1x5120 : Shape := ⟨3, ![1, 1, 5120]⟩
abbrev S8x64x64x5120 : Shape := ⟨4, ![8, 64, 64, 5120]⟩
abbrev S_ : Shape := ⟨0, ![]⟩
abbrev S8x66x64x5120 : Shape := ⟨4, ![8, 66, 64, 5120]⟩
abbrev S8x66x66x5120 : Shape := ⟨4, ![8, 66, 66, 5120]⟩
abbrev S1x1x1x5120 : Shape := ⟨4, ![1, 1, 1, 5120]⟩
abbrev S8x4096x2560 : Shape := ⟨3, ![8, 4096, 2560]⟩
abbrev S1x1x1024 : Shape := ⟨3, ![1, 1, 1024]⟩
abbrev S8x1x1024 : Shape := ⟨3, ![8, 1, 1024]⟩
abbrev S8x1024 : Shape := ⟨2, ![8, 1024]⟩
abbrev S8x4096 : Shape := ⟨2, ![8, 4096]⟩
abbrev S8x4096x1 : Shape := ⟨3, ![8, 4096, 1]⟩

abbrev nBuf : Space → Nat
  | .hbm => 132
  | .vmem => 0
  | .smem => 0
  | _ => 0

abbrev hbmTy0_0 (i : Nat) : BufTy := match i % 128 with
  | 0 => ⟨S32768x1024, .bf16⟩
  | 1 => ⟨S32768x1024, .f32⟩
  | 2 => ⟨S16x6x1024, .f32⟩
  | 3 => ⟨S1024x5120, .f32⟩
  | 4 => ⟨S5120, .f32⟩
  | 5 => ⟨S3x3x5120, .f32⟩
  | 6 => ⟨S5120, .f32⟩
  | 7 => ⟨S2560x1024, .f32⟩
  | 8 => ⟨S1024, .f32⟩
  | 9 => ⟨S1024, .f32⟩
  | 10 => ⟨S8x4096x1024, .bf16⟩
  | 11 => ⟨S8x4096x1024, .f32⟩
  | 12 => ⟨S8x4096x5120, .f32⟩
  | 13 => ⟨S1x1x5120, .f32⟩
  | 14 => ⟨S8x4096x5120, .f32⟩
  | 15 => ⟨S8x4096x5120, .f32⟩
  | 16 => ⟨S8x64x64x5120, .f32⟩
  | 17 => ⟨S_, .i32⟩
  | 18 => ⟨S_, .f32⟩
  | 19 => ⟨S8x66x64x5120, .f32⟩
  | 20 => ⟨S_, .i32⟩
  | 21 => ⟨S_, .f32⟩
  | 22 => ⟨S8x66x66x5120, .f32⟩
  | 23 => ⟨S8x64x64x5120, .f32⟩
  | 24 => ⟨S1x1x5120, .f32⟩
  | 25 => ⟨S5120, .f32⟩
  | 26 => ⟨S1x1x1x5120, .f32⟩
  | 27 => ⟨S8x64x64x5120, .f32⟩
  | 28 => ⟨S8x64x64x5120, .f32⟩
  | 29 => ⟨S_, .f32⟩
  | 30 => ⟨S8x64x64x5120, .f32⟩
  | 31 => ⟨S8x64x64x5120, .f32⟩
  | 32 => ⟨S8x64x64x5120, .f32⟩
  | 33 => ⟨S1x1x5120, .f32⟩
  | 34 => ⟨S5120, .f32⟩
  | 35 => ⟨S1x1x1x5120, .f32⟩
  | 36 => ⟨S8x64x64x5120, .f32⟩
  | 37 => ⟨S8x64x64x5120, .f32⟩
  | 38 => ⟨S8x64x64x5120, .f32⟩
  | 39 => ⟨S8x64x64x5120, .f32⟩
  | 40 => ⟨S1x1x5120, .f32⟩
  | 41 => ⟨S5120, .f32⟩
  | 42 => ⟨S1x1x1x5120, .f32⟩
  | 43 => ⟨S8x64x64x5120, .f32⟩
  | 44 => ⟨S8x64x64x5120, .f32⟩
  | 45 => ⟨S8x64x64x5120, .f32⟩
  | 46 => ⟨S8x64x64x5120, .f32⟩
  | 47 => ⟨S1x1x5120, .f32⟩
  | 48 => ⟨S5120, .f32⟩
  | 49 => ⟨S1x1x1x5120, .f32⟩
  | 50 => ⟨S8x64x64x5120, .f32⟩
  | 51 => ⟨S8x64x64x5120, .f32⟩
  | 52 => ⟨S8x64x64x5120, .f32⟩
  | 53 => ⟨S8x64x64x5120, .f32⟩
  | 54 => ⟨S1x1x5120, .f32⟩
  | 55 => ⟨S5120, .f32⟩
  | 56 => ⟨S1x1x1x5120, .f32⟩
  | 57 => ⟨S8x64x64x5120, .f32⟩
  | 58 => ⟨S8x64x64x5120, .f32⟩
  | 59 => ⟨S8x64x64x5120, .f32⟩
  | 60 => ⟨S8x64x64x5120, .f32⟩
  | 61 => ⟨S1x1x5120, .f32⟩
  | 62 => ⟨S5120, .f32⟩
  | 63 => ⟨S1x1x1x5120, .f32⟩
  | 64 => ⟨S8x64x64x5120, .f32⟩
  | 65 => ⟨S8x64x64x5120, .f32⟩
  | 66 => ⟨S8x64x64x5120, .f32⟩
  | 67 => ⟨S8x64x64x5120, .f32⟩
  | 68 => ⟨S1x1x5120, .f32⟩
  | 69 => ⟨S5120, .f32⟩
  | 70 => ⟨S1x1x1x5120, .f32⟩
  | 71 => ⟨S8x64x64x5120, .f32⟩
  | 72 => ⟨S8x64x64x5120, .f32⟩
  | 73 => ⟨S8x64x64x5120, .f32⟩
  | 74 => ⟨S8x64x64x5120, .f32⟩
  | 75 => ⟨S1x1x5120, .f32⟩
  | 76 => ⟨S5120, .f32⟩
  | 77 => ⟨S1x1x1x5120, .f32⟩
  | 78 => ⟨S8x64x64x5120, .f32⟩
  | 79 => ⟨S8x64x64x5120, .f32⟩
  | 80 => ⟨S8x64x64x5120, .f32⟩
  | 81 => ⟨S8x64x64x5120, .f32⟩
  | 82 => ⟨S1x1x5120, .f32⟩
  | 83 => ⟨S5120, .f32⟩
  | 84 => ⟨S1x1x1x5120, .f32⟩
  | 85 => ⟨S8x64x64x5120, .f32⟩
  | 86 => ⟨S8x64x64x5120, .f32⟩
  | 87 => ⟨S8x64x64x5120, .f32⟩
  | 88 => ⟨S8x4096x5120, .f32⟩
  | 89 => ⟨S1x1x5120, .f32⟩
  | 90 => ⟨S8x4096x5120, .f32⟩
  | 91 => ⟨S8x4096x5120, .f32⟩
  | 92 => ⟨S8x4096x2560, .f32⟩
  | 93 => ⟨S8x4096x2560, .f32⟩
  | 94 => ⟨S8x4096x2560, .f32⟩
  | 95 => ⟨S8x4096x2560, .f32⟩
  | 96 => ⟨S_, .f32⟩
  | 97 => ⟨S8x4096x2560, .f32⟩
  | 98 => ⟨S8x4096x2560, .f32⟩
  | 99 => ⟨S_, .f32⟩
  | 100 => ⟨S8x4096x2560, .f32⟩
  | 101 => ⟨S8x4096x2560, .f32⟩
  | 102 => ⟨S8x4096x2560, .f32⟩
  | 103 => ⟨S8x4096x2560, .f32⟩
  | 104 => ⟨S8x4096x1024, .f32⟩
  | 105 => ⟨S1x1x1024, .f32⟩
  | 106 => ⟨S8x4096x1024, .f32⟩
  | 107 => ⟨S8x4096x1024, .f32⟩
  | 108 => ⟨S8x4096x1024, .f32⟩
  | 109 => ⟨S8x1x1024, .f32⟩
  | 110 => ⟨S8x1024, .f32⟩
  | 111 => ⟨S8x1x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S_, .f32⟩
  | 117 => ⟨S8x4096, .f32⟩
  | 118 => ⟨S8x4096x1, .f32⟩
  | 119 => ⟨S_, .f32⟩
  | 120 => ⟨S8x4096x1, .f32⟩
  | 121 => ⟨S8x4096x1, .f32⟩
  | 122 => ⟨S_, .f32⟩
  | 123 => ⟨S8x4096x1, .f32⟩
  | 124 => ⟨S8x4096x1, .f32⟩
  | 125 => ⟨S8x4096x1, .f32⟩
  | 126 => ⟨S8x4096x1024, .f32⟩
  | 127 => ⟨S8x4096x1024, .f32⟩
  | _ => ⟨S32768x1024, .bf16⟩

abbrev hbmTy0_1 (i : Nat) : BufTy := match i % 128 with
  | 0 => ⟨S1x1x1024, .f32⟩
  | 1 => ⟨S8x4096x1024, .f32⟩
  | 2 => ⟨S8x4096x1024, .f32⟩
  | 3 => ⟨S32768x1024, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_1 : Ref sig .tc := ⟨.hbm, 116, rfl⟩
abbrev main_v93 : Ref sig .tc := ⟨.hbm, 117, rfl⟩
abbrev main_v94 : Ref sig .tc := ⟨.hbm, 118, rfl⟩
abbrev main_cst_2 : Ref sig .tc := ⟨.hbm, 119, rfl⟩
abbrev main_v95 : Ref sig .tc := ⟨.hbm, 120, rfl⟩
abbrev main_v96 : Ref sig .tc := ⟨.hbm, 121, rfl⟩
abbrev main_cst_3 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== Mix.lean ====
abbrev S32768x1024 : Shape := ⟨2, ![32768, 1024]⟩
abbrev S16x6x1024 : Shape := ⟨3, ![16, 6, 1024]⟩
abbrev S32768x512 : Shape := ⟨2, ![32768, 512]⟩
abbrev S512 : Shape := ⟨1, ![512]⟩
abbrev S2x512x512 : Shape := ⟨3, ![2, 512, 512]⟩
abbrev S1024x1024 : Shape := ⟨2, ![1024, 1024]⟩
abbrev S1024 : Shape := ⟨1, ![1024]⟩
abbrev S1x512 : Shape := ⟨2, ![1, 512]⟩
abbrev S2x512x1024 : Shape := ⟨3, ![2, 512, 1024]⟩
abbrev S1x1024 : Shape := ⟨2, ![1, 1024]⟩
abbrev S1x6x1024 : Shape := ⟨3, ![1, 6, 1024]⟩
abbrev S1024x512 : Shape := ⟨2, ![1024, 512]⟩
abbrev S6x1024 : Shape := ⟨2, ![6, 1024]⟩
abbrev S1x512x512 : Shape := ⟨3, ![1, 512, 512]⟩
abbrev S512x512 : Shape := ⟨2, ![512, 512]⟩
abbrev S1024x128 : Shape := ⟨2, ![1024, 128]⟩
abbrev S1024x1 : Shape := ⟨2, ![1024, 1]⟩
abbrev S1x512x1024 : Shape := ⟨3, ![1, 512, 1024]⟩
abbrev S512x1024 : Shape := ⟨2, ![512, 1024]⟩

abbrev nBuf : Space → Nat
  | .hbm => 20
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S512, .f32⟩
  | .hbm, ⟨9, _⟩ => ⟨S512, .f32⟩
  | .hbm, ⟨10, _⟩ => ⟨S2x512x512, .bf16⟩
  | .hbm, ⟨11, _⟩ => ⟨S1024x1024, .f32⟩
  | .hbm, ⟨12, _⟩ => ⟨S1024, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S2x512x1024, .bf16⟩
  | .hbm, ⟨17, _⟩ => ⟨S1x1024, .f32⟩
  | .hbm, ⟨18, _⟩ => ⟨S32768x1024, .f32⟩
  | .hbm, ⟨19, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1x512, .f32⟩
  | .local _ .vmem, ⟨17, _⟩ => ⟨S1x512, .f32⟩
  | .local _ .vmem, ⟨18, _⟩ => ⟨S2x512x512, .bf16⟩
  | .local _ .vmem, ⟨19, _⟩ => ⟨S2x512x1024, .bf16⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixReferenceIdeal.lean ====
abbrev S32768x1024 : Shape := ⟨2, ![32768, 1024]⟩
abbrev S16x6x1024 : Shape := ⟨3, ![16, 6, 1024]⟩
abbrev S32768x512 : Shape := ⟨2, ![32768, 512]⟩
abbrev S512 : Shape := ⟨1, ![512]⟩
abbrev S2x512x512 : Shape := ⟨3, ![2, 512, 512]⟩
abbrev S1024x1024 : Shape := ⟨2, ![1024, 1024]⟩
abbrev S1024 : Shape := ⟨1, ![1024]⟩
abbrev S8x4096x512 : Shape := ⟨3, ![8, 4096, 512]⟩
abbrev S8x4096x4x128 : Shape := ⟨4, ![8, 4096, 4, 128]⟩
abbrev S_ : Shape := ⟨0, ![]⟩
abbrev S8x4096x4 : Shape := ⟨3, ![8, 4096, 4]⟩
abbrev S8x4096x4x1 : Shape := ⟨4, ![8, 4096, 4, 1]⟩
abbrev S1x1x512 : Shape := ⟨3, ![1, 1, 512]⟩
abbrev S1x512x512 : Shape := ⟨3, ![1, 512, 512]⟩
abbrev S512x512 : Shape := ⟨2, ![512, 512]⟩
abbrev S8x4096x1024 : Shape := ⟨3, ![8, 4096, 1024]⟩
abbrev S8x1x1024 : Shape := ⟨3, ![8, 1, 1024]⟩
abbrev S8x1024 : Shape := ⟨2, ![8, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S512, .f32⟩
  | .hbm, ⟨9, _⟩ => ⟨S512, .f32⟩
  | .hbm, ⟨10, _⟩ => ⟨S2x512x512, .bf16⟩
  | .hbm, ⟨11, _⟩ => ⟨S1024x1024, .f32⟩
  | .hbm, ⟨12, _⟩ => ⟨S1024, .f32⟩
  | .hbm, ⟨13, _⟩ => ⟨S8x4096x512, .bf16⟩
  | .hbm, ⟨14, _⟩ => ⟨S8x4096x512, .f32⟩
  | .hbm, ⟨15, _⟩ => ⟨S8x4096x512, .bf16⟩
  | .hbm, ⟨16, _⟩ => ⟨S8x4096x512, .f32⟩
  | .hbm, ⟨17, _⟩ => ⟨S8x4096x512, .f32⟩
  | .hbm, ⟨18, _⟩ => ⟨S8x4096x4x128, .f32⟩
  | .hbm, ⟨19, _⟩ => ⟨S_, .f32⟩
  | .hbm, ⟨20, _⟩ => ⟨S8x4096x4, .f32⟩
  | .hbm, ⟨21, _⟩ => ⟨S8x4096x4x1, .f32⟩
  | .hbm, ⟨22, _⟩ => ⟨S_, .f32⟩
  | .hbm, ⟨23, _⟩ => ⟨S8x4096x4x1, .f32⟩
  | .hbm, ⟨24, _⟩ => ⟨S8x4096x4x1, .f32⟩
  | .hbm, ⟨25, _⟩ => ⟨S8x4096x4x128, .f32⟩
  | .hbm, ⟨26, _⟩ => ⟨S8x4096x4x128, .f32⟩
  | .hbm, ⟨27, _⟩ => ⟨S8x4096x4x128, .f32⟩
  | .hbm, ⟨28, _⟩ => ⟨S8x4096x4x128, .f32⟩
  | .hbm, ⟨29, _⟩ => ⟨S8x4096x4x128, .f32⟩
  | .hbm, ⟨30, _⟩ => ⟨S_, .f32⟩
  | .hbm, ⟨31, _⟩ => ⟨S8x4096x4, .f32⟩
  | .hbm, ⟨32, _⟩ => ⟨S8x4096x4x1, .f32⟩
  | .hbm, ⟨33, _⟩ => ⟨S_, .f32⟩
  | .hbm, ⟨34, _⟩ => ⟨S8x4096x4x1, .f32⟩
  | .hbm, ⟨35, _⟩ => ⟨S8x4096x4x1, .f32⟩
  | .hbm, ⟨36, _⟩ => ⟨S8x4096x4x128, .f32⟩
  | .hbm, ⟨37, _⟩ => ⟨S8x4096x4x128, .f32⟩
  | .hbm, ⟨38, _⟩ => ⟨S_, .f32⟩
  | .hbm, ⟨39, _⟩ => ⟨S8x4096x4x1, .f32⟩
  | .hbm, ⟨40, _⟩ => ⟨S8x4096x4x1, .f32⟩
  | .hbm, ⟨41, _⟩ => ⟨S8x4096x4x1, .f32⟩
  | .hbm, ⟨42, _⟩ => ⟨S8x4096x4x128, .f32⟩
  | .hbm, ⟨43, _⟩ => ⟨S8x4096x4x128, .f32⟩
  | .hbm, ⟨44, _⟩ => ⟨S8x4096x512, .f32⟩
  | .hbm, ⟨45, _⟩ => ⟨S1x1x512, .f32⟩
  | .hbm, ⟨46, _⟩ => ⟨S8x4096x512, .f32⟩
  | .hbm, ⟨47, _⟩ => ⟨S8x4096x512, .f32⟩
  | .hbm, ⟨48, _⟩ => ⟨S8x4096x512, .bf16⟩
  | .hbm, ⟨49, _⟩ => ⟨S8x4096x512, .f32⟩
  | .hbm, ⟨50, _⟩ => ⟨S1x1x512, .f32⟩
  | .hbm, ⟨51, _⟩ => ⟨S8x4096x512, .f32⟩
  | .hbm, ⟨52, _⟩ => ⟨S8x4096x512, .f32⟩
  | .hbm, ⟨53, _⟩ => ⟨S8x4096x512, .f32⟩
  | .hbm, ⟨54, _⟩ => ⟨S8x4096x512, .bf16⟩
  | .hbm, ⟨55, _⟩ => ⟨S8x4096x512, .f32⟩
  | .hbm, ⟨56, _⟩ => ⟨S8x4096x512, .f32⟩
  | .hbm, ⟨57, _⟩ => ⟨S8x4096x512, .f32⟩
  | .hbm, ⟨58, _⟩ => ⟨S_, .f32⟩
  | .hbm, ⟨59, _⟩ => ⟨S8x4096x512, .f32⟩
  | .hbm, ⟨60, _⟩ => ⟨S8x4096x512, .f32⟩
  | .hbm, ⟨61, _⟩ => ⟨S_, .f32⟩
  | .hbm, ⟨62, _⟩ => ⟨S8x4096x512, .f32⟩
  | .hbm, ⟨63, _⟩ => ⟨S8x4096x512, .f32⟩
  | .hbm, ⟨64, _⟩ => ⟨S8x4096x512, .f32⟩
  | .hbm, ⟨65, _⟩ => ⟨S8x4096x512, .f32⟩
  | .hbm, ⟨66, _⟩ => ⟨S2x512x512, .f32⟩
  | .hbm, ⟨67, _⟩ => ⟨S8x4096x512, .bf16⟩
  | .hbm, ⟨68, _⟩ => ⟨S8x4096x512, .f32⟩
  | .hbm, ⟨69, _⟩ => ⟨S1x512x512, .f32⟩
  | .hbm, ⟨70, _⟩ => ⟨S512x512, .f32⟩
  | .hbm, ⟨71, _⟩ => ⟨S8x4096x512, .f32⟩
  | .hbm, ⟨72, _⟩ => ⟨S8x4096x512, .bf16⟩
  | .hbm, ⟨73, _⟩ => ⟨S8x4096x512, .f32⟩
  | .hbm, ⟨74, _⟩ => ⟨S1x512x512, .f32⟩
  | .hbm, ⟨75, _⟩ => ⟨S512x512, .f32⟩
  | .hbm, ⟨76, _⟩ => ⟨S8x4096x512, .f32⟩
  | .hbm, ⟨77, _⟩ => ⟨S8x4096x512, .f32⟩
  | .hbm, ⟨78, _⟩ => ⟨S8x4096x1024, .f32⟩
  | .hbm, ⟨79, _⟩ => ⟨S8x4096x1024, .f32⟩
  | .hbm, ⟨80, _⟩ => ⟨S8x1x1024, .f32⟩
  | .hbm, ⟨81, _⟩ => ⟨S8x1024, .f32⟩
  | .hbm, ⟨82, _⟩ => ⟨S8x1x1024, .f32⟩
  | .hbm, ⟨83, _⟩ => ⟨S8x1x1024, .f32⟩
  | .hbm, ⟨84, _⟩ => ⟨S8x1024, .f32⟩
  | .hbm, ⟨85, _⟩ => ⟨S8x1x1024, .f32⟩
  | .hbm, ⟨86, _⟩ => ⟨S8x1x1024, .f32⟩
  | .hbm, ⟨87, _⟩ => ⟨S8x1024, .f32⟩
  | .hbm, ⟨88, _⟩ => ⟨S8x1x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S_, .f32⟩
  | .hbm, ⟨95, _⟩ => ⟨S8x4096, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S8x4096x1, .f32⟩
  | .hbm, ⟨104, _⟩ => ⟨S8x4096x1024, .f32⟩
  | .hbm, ⟨105, _⟩ => ⟨S8x4096x1024, .f32⟩
  | .hbm, ⟨106, _⟩ => ⟨S1x1x1024, .f32⟩
  | .hbm, ⟨107, _⟩ => ⟨S8x4096x1024, .f32⟩
  | .hbm, ⟨108, _⟩ => ⟨S8x4096x1024, .f32⟩
  | .hbm, ⟨109, _⟩ => ⟨S_, .f32⟩
  | .hbm, ⟨110, _⟩ => ⟨S8x1x1024, .f32⟩
  | .hbm, ⟨111, _⟩ => ⟨S8x1x1024, .f32⟩
  | .hbm, ⟨112, _⟩ => ⟨S8x4096x1024, .f32⟩
  | .hbm, ⟨113, _⟩ => ⟨S8x4096x1024, .f32⟩
  | .hbm, ⟨114, _⟩ => ⟨S8x4096x1024, .f32⟩
  | .hbm, ⟨115, _⟩ => ⟨S8x4096x1024, .f32⟩
  | .hbm, ⟨116, _⟩ => ⟨S8x4096x1024, .bf16⟩
  | .hbm, ⟨117, _⟩ => ⟨S32768x1024, .f32⟩
  | .hbm, ⟨118, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_7 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Proof.Math.lean ====
module

public import Idealize.ShloMosaic.Lib.Pointwise

@[expose] public section

/-! The chunkwise mLSTM recurrence over the extended reals: the reference's step, the kernel's step, and the
    statement that one is the other, read in another order and in another base of the exponential. -/

noncomputable section

namespace Cert.Scan

open Idealize.ShloMosaic

/-! ## Multiplication by `1 / log 2`, and the exponential of base two -/

/-- The constant `1 / log 2`. -/
def kap : EReal := (((Real.log 2)⁻¹ : ℝ) : EReal)

theorem log_two_pos : (0 : ℝ) < Real.log 2 := Real.log_pos (by norm_num)

theorem kap_pos : 0 < kap := EReal.coe_pos.mpr (inv_pos.mpr log_two_pos)

theorem kap_ne_top : kap ≠ ⊤ := EReal.coe_ne_top _

/-- Multiplication by the constant distributes over every sum of two extended reals. -/
theorem add_kap (x y : EReal) : (x + y) * kap = x * kap + y * kap :=
  EReal.right_distrib_of_nonneg_of_ne_top kap_pos.le kap_ne_top x y

theorem neg_kap (x : EReal) : -x * kap = -(x * kap) := EReal.neg_mul _ _

theorem sub_kap (x y : EReal) : (x - y) * kap = x * kap - y * kap := by
  rw [sub_eq_add_neg, sub_eq_add_neg, add_kap, neg_kap]

theorem bot_kap : ⊥ * kap = ⊥ := EReal.bot_mul_of_pos kap_pos

theorem mono_kap : Monotone fun x : EReal => x * kap :=
  fun _ _ h => mul_le_mul_of_nonneg_right h kap_pos.le

theorem max_kap (x y : EReal) : max x y * kap = max (x * kap) (y * kap) := mono_kap.map_max

theorem sum_kap {ι : Type} (s : Finset ι) (f : ι → EReal) : (∑ i ∈ s, f i) * kap = ∑ i ∈ s, f i * kap := by
  classical
  induction s using Finset.induction_on with
  | empty => simp
  | insert a s h ih => rw [Finset.sum_insert h, Finset.sum_insert h, add_kap, ih]

theorem sup_kap {ι : Type} (s : Finset ι) (f : ι → EReal) : s.sup f * kap = s.sup fun i => f i * kap := by
  classical
  induction s using Finset.induction_on with
  | empty => simpa using bot_kap
  | insert a s h ih => rw [Finset.sup_insert, Finset.sup_insert, ← ih]; exact max_kap _ _

/-- A power of two whose exponent was multiplied by `1 / log 2` is the exponential. -/
theorem exp2_kap (x : EReal) : Ideal.exp2 (x * kap) = Ideal.exp x := by
  induction x with
  | bot => rw [bot_kap]; rfl
  | top => rw [EReal.top_mul_of_pos kap_pos]; rfl
  | coe r =>
    rw [kap, ← EReal.coe_mul, Ideal.exp2_coe, Ideal.exp_coe]
    congr 1
    show (2 : ℝ) ^ (r * (Real.log 2)⁻¹) = Real.exp r
    rw [Real.rpow_def_of_pos (by norm_num)]
    congr 1
    field_simp [log_two_pos.ne']

/-! ## Exponentials and distributivity -/

theorem exp_nonneg (x : EReal) : 0 ≤ Ideal.exp x := by
  induction x with
  | bot => exact le_rfl
  | top => exact le_top
  | coe r => exact EReal.coe_nonneg.mpr (Real.exp_pos r).le

/-- The exponential of a sum, at every pair of extended reals. -/
theorem exp_add (x y : EReal) : Ideal.exp (x + y) = Ideal.exp x * Ideal.exp y := by
  induction x with
  | bot => simp
  | top =>
    induction y with
    | bot => simp
    | top => simp
    | coe s => simp [EReal.top_mul_coe_of_pos (Real.exp_pos s)]
  | coe r =>
    induction y with
    | bot => simp
    | top => simp [EReal.coe_mul_top_of_pos (Real.exp_pos r)]
    | coe s => rw [← EReal.coe_add, Ideal.exp_coe, Ideal.exp_coe, Ideal.exp_coe, Real.exp_add, EReal.coe_mul]

theorem exp_ne_top {x : EReal} (h : x ≠ ⊤) : Ideal.exp x ≠ ⊤ := by
  induction x with
  | bot => simp
  | top => exact absurd rfl h
  | coe r => exact EReal.coe_ne_top _

theorem mul_sum {ι : Type} (s : Finset ι) (f : ι → EReal) {w : EReal} (h0 : 0 ≤ w) (ht : w ≠ ⊤) :
    w * (∑ i ∈ s, f i) = ∑ i ∈ s, w * f i := by
  classical
  induction s using Finset.induction_on with
  | empty => simp
  | insert a s h ih =>
    rw [Finset.sum_insert h, Finset.sum_insert h, EReal.left_distrib_of_nonneg_of_ne_top h0 ht, ih]

/-- A supremum over all indices, taken in another order. -/
theorem sup_perm {T : ℕ} (σ : Equiv.Perm (Fin T)) (f : Fin T → EReal) :
    Finset.univ.sup f = Finset.univ.sup fun c => f (σ c) := by
  conv_lhs => rw [← Finset.map_univ_equiv σ, Finset.sup_map]
  rfl

/-! ## The reference's step -/

variable {T : ℕ}

/-- The running sum of `lf` up to and with `j`. -/
def cum (lf : Fin T → EReal) (j : Fin T) : EReal := ∑ i : Fin T, if i ≤ j then lf i else 0

/-- The logarithm of the weight token `j` has at the end of the chunk. -/
def gain (lf li : Fin T → EReal) (j : Fin T) : EReal := (∑ i, lf i) - cum lf j + li j

/-- The new running maximum. -/
def mNew (m : EReal) (lf li : Fin T → EReal) : EReal :=
  max ((∑ i, lf i) + m) (Finset.univ.sup (gain lf li))

/-- What the old state is multiplied by. -/
def wOld (m : EReal) (lf li : Fin T → EReal) : EReal := Ideal.exp ((∑ i, lf i) + m - mNew m lf li)

/-- What token `j` is multiplied by. -/
def wTok (m : EReal) (lf li : Fin T → EReal) (j : Fin T) : EReal := Ideal.exp (gain lf li j - mNew m lf li)

/-- The new matrix memory, at one element: `c` the old one, `k j` and `v j` the key's and the value's coordinates. -/
def cNew (m c : EReal) (lf li k v : Fin T → EReal) : EReal :=
  wOld m lf li * c + ∑ j, wTok m lf li j * k j * v j

/-- The new normaliser, at one coordinate. -/
def nNew (m n : EReal) (lf li k : Fin T → EReal) : EReal :=
  wOld m lf li * n + ∑ j, wTok m lf li j * k j

/-- The logarithm of the weight of token `j` at token `l`. -/
def dmat (lf li : Fin T → EReal) (l j : Fin T) : EReal := if j ≤ l then cum lf l - cum lf j + li j else ⊥

/-- The stabiliser of token `l`. -/
def mTok (m : EReal) (lf li : Fin T → EReal) (l : Fin T) : EReal :=
  max (cum lf l + m) (Finset.univ.sup (dmat lf li l))

/-- What the memory is multiplied by at token `l`. -/
def wInter (m : EReal) (lf li : Fin T → EReal) (l : Fin T) : EReal := Ideal.exp (cum lf l + m - mTok m lf li l)

/-- The score of token `j` at token `l`. -/
def score {D : ℕ} (m : EReal) (lf li : Fin T → EReal) (q : Fin D → EReal) (k : Fin T → Fin D → EReal) (l j : Fin T) : EReal :=
  (∑ d, q d * k j d) * Ideal.exp (dmat lf li l j - mTok m lf li l)

/-- The output of token `l`, at one coordinate: `c` the memory's column, `n` the normaliser, `v` the values' coordinate. -/
def hOut {D : ℕ} (m : EReal) (c n : Fin D → EReal) (lf li : Fin T → EReal) (q : Fin D → EReal)
    (k : Fin T → Fin D → EReal) (v : Fin T → EReal) (l : Fin T) : EReal :=
  Ideal.div (wInter m lf li l * (∑ d, q d * c d) + ∑ j, score m lf li q k l j * v j)
    (max (FloatOps.absf (F := Ideal) (φ := .f32) (wInter m lf li l * (∑ d, q d * n d) + ∑ j, score m lf li q k l j))
      (Ideal.exp (-mTok m lf li l)))

/-! ## The kernel's step: positions in another order, logarithms of base two -/

/-- The sum of `f` over the positions that count at `p`. -/
def cumS (S : Fin T → Fin T → Prop) [DecidableRel S] (f : Fin T → EReal) (p : Fin T) : EReal :=
  ∑ c, if S p c then f c else 0

section
variable (S : Fin T → Fin T → Prop) [DecidableRel S] (mk : EReal) (lfk lik : Fin T → EReal)

def kGain (c : Fin T) : EReal := (∑ i, lfk i) + (lik c - cumS S lfk c)

def kM : EReal := max ((∑ i, lfk i) + mk) (Finset.univ.sup (kGain S lfk lik))

def kOld : EReal := Ideal.exp2 ((∑ i, lfk i) + mk - kM S mk lfk lik)

def kTok (c : Fin T) : EReal := Ideal.exp2 (kGain S lfk lik c - kM S mk lfk lik)

/-- The kernel's new memory, at one element of the memory with the normaliser's columns beside it. -/
def kC (c : EReal) (k v : Fin T → EReal) : EReal :=
  kOld S mk lfk lik * c + ∑ p, k p * kTok S mk lfk lik p * v p

def kD (p c : Fin T) : EReal := if S p c then cumS S lfk p + (lik c - cumS S lfk c) else ⊥

def kMt (p : Fin T) : EReal := max (cumS S lfk p + mk) (Finset.univ.sup (kD S lfk lik p))

def kInter (p : Fin T) : EReal := Ideal.exp2 (cumS S lfk p + mk - kMt S mk lfk lik p)

def kScore {D : ℕ} (q : Fin D → EReal) (k : Fin D → Fin T → EReal) (p c : Fin T) : EReal :=
  (∑ d, q d * k d c) * Ideal.exp2 (kD S lfk lik p c - kMt S mk lfk lik p)

/-- The kernel's numerator (`v` the values) or denominator (`v` ones). -/
def kNd {D : ℕ} (cs : Fin D → EReal) (q : Fin D → EReal) (k : Fin D → Fin T → EReal) (v : Fin T → EReal) (p : Fin T) : EReal :=
  kInter S mk lfk lik p * (∑ d, q d * cs d) + ∑ c, kScore S mk lfk lik q k p c * v c

def kH {D : ℕ} (cs ns : Fin D → EReal) (q : Fin D → EReal) (k : Fin D → Fin T → EReal) (v : Fin T → EReal) (p : Fin T) : EReal :=
  Ideal.div (kNd S mk lfk lik cs q k v p)
    (max (FloatOps.absf (F := Ideal) (φ := .f32) (kNd S mk lfk lik ns q k (fun _ => 1) p)) (Ideal.exp2 (-kMt S mk lfk lik p)))
end

section
variable (S : Fin T → Fin T → Prop) [DecidableRel S] (σ : Equiv.Perm (Fin T)) (hS : ∀ p c, S p c ↔ σ c ≤ σ p)
  (m : EReal) (lf li : Fin T → EReal) (lfk lik : Fin T → EReal) (hlf : ∀ c, lfk c = lf (σ c) * kap)
  (hli : ∀ c, lik c = li (σ c) * kap)
include hS hlf

theorem cumS_eq (p : Fin T) : cumS S lfk p = cum lf (σ p) * kap := by
  unfold cumS cum
  rw [sum_kap, ← Equiv.sum_comp σ fun i => (if i ≤ σ p then lf i else 0) * kap]
  refine Finset.sum_congr rfl fun c _ => ?_
  by_cases h : S p c
  · rw [if_pos h, if_pos ((hS p c).mp h), hlf]
  · rw [if_neg h, if_neg fun h' => h ((hS p c).mpr h'), zero_mul]

omit hS in
theorem sumk_eq : ∑ c, lfk c = (∑ i, lf i) * kap := by
  rw [sum_kap, ← Equiv.sum_comp σ fun i => lf i * kap]
  exact Finset.sum_congr rfl fun c _ => hlf c

include hli

theorem kGain_eq (c : Fin T) : kGain S lfk lik c = gain lf li (σ c) * kap := by
  unfold kGain gain
  rw [sumk_eq σ lf lfk hlf, cumS_eq S σ hS lf lfk hlf, hli, add_kap, sub_kap, sub_eq_add_neg, sub_eq_add_neg, add_comm (li _ * kap),
    add_assoc]

theorem kM_eq : kM S (m * kap) lfk lik = mNew m lf li * kap := by
  unfold kM mNew
  rw [sumk_eq σ lf lfk hlf, max_kap, add_kap, sup_kap]
  congr 1
  rw [sup_perm σ fun i => gain lf li i * kap]
  exact Finset.sup_congr rfl fun c _ => kGain_eq S σ hS lf li lfk lik hlf hli c

theorem kOld_eq : kOld S (m * kap) lfk lik = wOld m lf li := by
  unfold kOld wOld
  rw [sumk_eq σ lf lfk hlf, kM_eq S σ hS m lf li lfk lik hlf hli, ← add_kap, ← sub_kap, exp2_kap]

theorem kTok_eq (c : Fin T) : kTok S (m * kap) lfk lik c = wTok m lf li (σ c) := by
  unfold kTok wTok
  rw [kGain_eq S σ hS lf li lfk lik hlf hli, kM_eq S σ hS m lf li lfk lik hlf hli, ← sub_kap, exp2_kap]

/-- The kernel's new memory is the reference's. -/
theorem kC_eq (c : EReal) (k v kk vk : Fin T → EReal) (hk : ∀ p, kk p = k (σ p)) (hv : ∀ p, vk p = v (σ p)) :
    kC S (m * kap) lfk lik c kk vk = cNew m c lf li k v := by
  unfold kC cNew
  rw [kOld_eq S σ hS m lf li lfk lik hlf hli, ← Equiv.sum_comp σ fun j => wTok m lf li j * k j * v j]
  congr 1
  refine Finset.sum_congr rfl fun p _ => ?_
  rw [kTok_eq S σ hS m lf li lfk lik hlf hli, hk, hv, mul_comm (k _)]

/-- The kernel's new normaliser — the memory's column over values that are all one — is the reference's. -/
theorem kN_eq (n : EReal) (k kk : Fin T → EReal) (hk : ∀ p, kk p = k (σ p)) :
    kC S (m * kap) lfk lik n kk (fun _ => 1) = nNew m n lf li k := by
  rw [kC_eq S σ hS m lf li lfk lik hlf hli n k (fun _ => 1) kk (fun _ => 1) hk (fun _ => rfl)]
  unfold cNew nNew
  simp only [mul_one]

theorem kD_eq (p c : Fin T) : kD S lfk lik p c = dmat lf li (σ p) (σ c) * kap := by
  unfold kD dmat
  by_cases h : S p c
  · rw [if_pos h, if_pos ((hS p c).mp h), cumS_eq S σ hS lf lfk hlf, cumS_eq S σ hS lf lfk hlf, hli, add_kap, sub_kap,
      sub_eq_add_neg, sub_eq_add_neg, add_comm (li _ * kap), add_assoc]
  · rw [if_neg h, if_neg fun h' => h ((hS p c).mpr h'), bot_kap]

theorem kMt_eq (p : Fin T) : kMt S (m * kap) lfk lik p = mTok m lf li (σ p) * kap := by
  unfold kMt mTok
  rw [cumS_eq S σ hS lf lfk hlf, max_kap, add_kap, sup_kap]
  congr 1
  rw [sup_perm σ fun i => dmat lf li (σ p) i * kap]
  exact Finset.sup_congr rfl fun c _ => kD_eq S σ hS lf li lfk lik hlf hli p c

theorem kInter_eq (p : Fin T) : kInter S (m * kap) lfk lik p = wInter m lf li (σ p) := by
  unfold kInter wInter
  rw [cumS_eq S σ hS lf lfk hlf, kMt_eq S σ hS m lf li lfk lik hlf hli, ← add_kap, ← sub_kap, exp2_kap]

theorem kScore_eq {D : ℕ} (q : Fin D → EReal) (k : Fin T → Fin D → EReal) (kk : Fin D → Fin T → EReal)
    (hk : ∀ d p, kk d p = k (σ p) d) (p c : Fin T) :
    kScore S (m * kap) lfk lik q kk p c = score m lf li q k (σ p) (σ c) := by
  unfold kScore score
  rw [kD_eq S σ hS lf li lfk lik hlf hli, kMt_eq S σ hS m lf li lfk lik hlf hli, ← sub_kap, exp2_kap]
  simp only [hk]

theorem kNd_eq {D : ℕ} (cs q : Fin D → EReal) (k : Fin T → Fin D → EReal) (kk : Fin D → Fin T → EReal)
    (hk : ∀ d p, kk d p = k (σ p) d) (v vk : Fin T → EReal) (hv : ∀ p, vk p = v (σ p)) (p : Fin T) :
    kNd S (m * kap) lfk lik cs q kk vk p
      = wInter m lf li (σ p) * (∑ d, q d * cs d) + ∑ j, score m lf li q k (σ p) j * v j := by
  unfold kNd
  rw [kInter_eq S σ hS m lf li lfk lik hlf hli]
  congr 1
  rw [← Equiv.sum_comp σ fun j => score m lf li q k (σ p) j * v j]
  refine Finset.sum_congr rfl fun c _ => ?_
  rw [kScore_eq S σ hS m lf li lfk lik hlf hli q k kk hk, hv]

/-- The kernel's output at position `p` is the reference's at token `σ p`. -/
theorem kH_eq {D : ℕ} (cs ns q : Fin D → EReal) (k : Fin T → Fin D → EReal) (kk : Fin D → Fin T → EReal)
    (hk : ∀ d p, kk d p = k (σ p) d) (v vk : Fin T → EReal) (hv : ∀ p, vk p = v (σ p)) (p : Fin T) :
    kH S (m * kap) lfk lik cs ns q kk vk p = hOut m cs ns lf li q k v (σ p) := by
  unfold kH hOut
  rw [kNd_eq S σ hS m lf li lfk lik hlf hli cs q k kk hk v vk hv,
    kNd_eq S σ hS m lf li lfk lik hlf hli ns q k kk hk (fun _ => 1) (fun _ => 1) (fun _ => rfl),
    kMt_eq S σ hS m lf li lfk lik hlf hli, ← neg_kap, exp2_kap]
  simp only [mul_one]
end

end Cert.Scan

end
-- ==== Proof.PairOps.lean ====
module

public import proofs.«01_k».proof.Proof.Gen.KernelIdeal
public import proofs.«01_k».proof.Proof.Math

@[expose] public section

set_option maxRecDepth 16384

/-! One chunk of one pair of heads, as the kernel's vector operations: what is computed for each head from its gates, the
    products the two heads share, and the new memories, running maxima and outputs. -/

noncomputable section

namespace Cert.KernelIdeal.Pair

open Idealize.ShloMosaic Idealize.SL.Sem Cert.KernelIdeal Cert.KernelIdeal.Gen

/-- The mask of the positions that count, forwards. -/
def maskF : IVec S128x128 1 :=
  cmpi .sle (iota .tc S128x128 32 [1] iota_S128x128_d1_w32) (iota .tc S128x128 32 [0] iota_S128x128_d0_w32)

/-- The mask of the positions that count, backwards. -/
def maskB : IVec S128x128 1 :=
  cmpi .sge (iota .tc S128x128 32 [1] iota_S128x128_d1_w32) (iota .tc S128x128 32 [0] iota_S128x128_d0_w32)

/-- A mask as a matrix of zeros and ones. -/
def ofMask (ca : IVec S128x128 1) : FVec Ideal S128x128 .bf16 :=
  truncf .bf16 (sitofp (F := Ideal) .f32 (extui 32 ca natLt_1_32)) bitsLt_bf16_f32

/-- The logarithms of the gates' sigmoids, to base two. -/
def lfAll (g : FVec Ideal S16x128 .f32) : FVec Ideal S16x128 .f32 :=
  mulf (subf (minimumf g (broadcast S16x128 (Scalar.ofBits .f32 0x00000000#32)))
    (log1p (exp (subf (broadcast S16x128 (Scalar.ofBits .f32 0x00000000#32)) (absf g)))))
    (broadcast S16x128 (Named.named κ "log2_e" 0x3FB8AA3B#32))

/-- The running sums of the rows, each value taken as the sum of three. -/
def browAll (tri : FVec Ideal S128x128 .bf16) (lf : FVec Ideal S16x128 .f32) : FVec Ideal S16x128 .f32 :=
  addf (addf
    (matmul dot_S16x128_S128x128_S16x128_1_0_0_1_n_n none (truncf .bf16 lf bitsLt_bf16_f32) tri (constant S16x128 .f32 0x00000000#32))
    (matmul dot_S16x128_S128x128_S16x128_1_0_0_1_n_n none
      (truncf .bf16 (subf lf (extf .f32 (truncf .bf16 lf bitsLt_bf16_f32) bitsLt_bf16_f32)) bitsLt_bf16_f32) tri
      (constant S16x128 .f32 0x00000000#32)))
    (matmul dot_S16x128_S128x128_S16x128_1_0_0_1_n_n none
      (truncf .bf16 (subf (subf lf (extf .f32 (truncf .bf16 lf bitsLt_bf16_f32) bitsLt_bf16_f32))
        (extf .f32 (truncf .bf16 (subf lf (extf .f32 (truncf .bf16 lf bitsLt_bf16_f32) bitsLt_bf16_f32)) bitsLt_bf16_f32)
          bitsLt_bf16_f32)) bitsLt_bf16_f32) tri
      (constant S16x128 .f32 0x00000000#32))

section head
variable (ca : IVec S128x128 1) (lf rt m : FVec Ideal S1x128 .f32) (kt : FVec Ideal S128x128 .bf16)

/-- The chunk's sum of logarithms. -/
def bend : FVec Ideal S1x1 .f32 :=
  shapeCast S1x1 (multiReduction .add [1] S1 lf 0x00000000#32 reduces_S1x128_S1 (.inl rfl) rfl) shapeCasts_S1_S1x1

/-- The logarithms of the tokens' weights at the chunk's end. -/
def gRow : FVec Ideal S1x128 .f32 := addf (broadcastTo S1x128 (bend lf) broadcasts_S1x1_S1x128) rt

/-- The new running maximum. -/
def mRow : FVec Ideal S1x128 .f32 :=
  maximumf (addf (broadcastTo S1x128 (bend lf) broadcasts_S1x1_S1x128) m)
    (broadcastTo S1x128 (shapeCast S1x1 (multiReduction .maximumf [1] S1 (gRow lf rt) 0xFF800000#32 reduces_S1x128_S1
      (.inl rfl) rfl) shapeCasts_S1_S1x1) broadcasts_S1x1_S1x128)

/-- What the old memory is multiplied by. -/
def oldRow : FVec Ideal S1x128 .f32 :=
  exp2 (subf (addf (broadcastTo S1x128 (bend lf) broadcasts_S1x1_S1x128) m) (mRow lf rt m))

/-- The weighted keys. -/
def kw : FVec Ideal S128x128 .bf16 :=
  truncf .bf16 (mulf (extf .f32 kt bitsLt_bf16_f32)
    (broadcastTo S128x128 (exp2 (subf (gRow lf rt) (mRow lf rt m))) broadcasts_S1x128_S128x128)) bitsLt_bf16_f32

/-- The running sums down the chunk. -/
def bcol : FVec Ideal S128x1 .f32 :=
  shapeCast S128x1 (multiReduction .add [1] S128
    (select ca (broadcastTo S128x128 (shapeCast S1x128 lf shapeCasts_S1x128_S1x128) broadcasts_S1x128_S128x128)
      (broadcast S128x128 (Scalar.ofBits .f32 0x00000000#32))) 0x00000000#32 reduces_S128x128_S128 (.inl rfl) rfl)
    shapeCasts_S128_S128x1

/-- The logarithms of the weights of the tokens at each other. -/
def dm : FVec Ideal S128x128 .f32 :=
  select ca (addf (broadcastTo S128x128 (bcol ca lf) broadcasts_S128x1_S128x128)
    (broadcastTo S128x128 rt broadcasts_S1x128_S128x128)) (broadcast S128x128 (Scalar.ofBits .f32 0xFF800000#32))

/-- The logarithms of the memory's weights. -/
def inter : FVec Ideal S128x128 .f32 :=
  addf (broadcastTo S128x128 (bcol ca lf) broadcasts_S128x1_S128x128) (broadcastTo S128x128 m broadcasts_S1x128_S128x128)

/-- The stabilisers. -/
def mt : FVec Ideal S128x128 .f32 :=
  maximumf (inter ca lf m) (broadcastTo S128x128 (shapeCast S128x1 (multiReduction .maximumf [1] S128 (dm ca lf rt)
    0xFF800000#32 reduces_S128x128_S128 (.inl rfl) rfl) shapeCasts_S128_S128x1) broadcasts_S128x1_S128x128)

/-- The memory's weights. -/
def wInt : FVec Ideal S128x128 .f32 := exp2 (subf (inter ca lf m) (mt ca lf rt m))

/-- The tokens' weights at each other. -/
def scale : FVec Ideal S128x128 .f32 := exp2 (subf (dm ca lf rt) (mt ca lf rt m))

/-- The output, from the numerator with the denominator beside it. -/
def hFrom (nd : FVec Ideal S128x256 .f32) : FVec Ideal S128x128 .f32 :=
  divf (extractStridedSlice S128x128 ![0, 0] nd slices_S128x256_o0_0_S128x128)
    (maximumf (absf (extractStridedSlice S128x128 ![0, 128] nd slices_S128x256_o0_128_S128x128))
      (exp2 (subf (broadcast S128x128 (Scalar.ofBits .f32 0x00000000#32)) (mt ca lf rt m))))

/-- The new memory: the old one weighted, and what the chunk adds. -/
def cFrom (c : FVec Ideal S128x256 .f32) (add : FVec Ideal S128x256 .f32) : FVec Ideal S128x256 .f32 :=
  addf (mulf (broadcastTo S128x256 (concatenate S1x256 1 [⟨S1x128, oldRow lf rt m⟩, ⟨S1x128, oldRow lf rt m⟩]
    concatenates_S1x128_S1x128_S1x256_d1) broadcasts_S1x256_S128x256) c) add

/-- Numerator and denominator: the memory's part weighted, and the chunk's. -/
def ndFrom (mem : FVec Ideal S128x256 .f32) (add : FVec Ideal S128x256 .f32) : FVec Ideal S128x256 .f32 :=
  addf (mulf (concatenate S128x256 1 [⟨S128x128, wInt ca lf rt m⟩, ⟨S128x128, wInt ca lf rt m⟩]
    concatenates_S128x128_S128x128_S128x256_d1) mem) add
end head

/-- Zeros beside a block. -/
def zk : FVec Ideal S128x128 .bf16 := broadcast S128x128 (Scalar.ofBits .bf16 0x0000#16)

/-- The values with the ones beside them. -/
def aug (ones v : FVec Ideal S128x128 .bf16) : FVec Ideal S128x256 .bf16 :=
  concatenate S128x256 1 [⟨S128x128, v⟩, ⟨S128x128, ones⟩] concatenates_S128x128_S128x128_S128x256_d1

section pair
variable (q2 : FVec Ideal S128x256 .bf16) (kt0 kt1 : FVec Ideal S128x128 .bf16) (va0 va1 : FVec Ideal S128x256 .bf16)
  (c0 c1 : FVec Ideal S128x256 .f32) (kw0 kw1 : FVec Ideal S128x128 .bf16) (s0 s1 : FVec Ideal S128x128 .f32)

/-- The queries against the keys and the memories of both heads. -/
def qkc : FVec Ideal S128x768 .f32 :=
  matmul dot_S128x256_S256x768_S128x768_1_0_0_1_n_n none q2
    (concatenate S256x768 0
      [⟨S128x768, concatenate S128x768 1 [⟨S128x128, kt0⟩, ⟨S128x256, truncf .bf16 c0 bitsLt_bf16_f32⟩,
          ⟨S128x384, broadcast S128x384 (Scalar.ofBits .bf16 0x0000#16)⟩] concatenates_S128x128_S128x256_S128x384_S128x768_d1⟩,
       ⟨S128x768, concatenate S128x768 1 [⟨S128x384, broadcast S128x384 (Scalar.ofBits .bf16 0x0000#16)⟩, ⟨S128x128, kt1⟩,
          ⟨S128x256, truncf .bf16 c1 bitsLt_bf16_f32⟩] concatenates_S128x384_S128x128_S128x256_S128x768_d1⟩]
      concatenates_S128x768_S128x768_S256x768_d0) (constant S128x768 .f32 0x00000000#32)

/-- The first head's scores. -/
def sc0 (x : FVec Ideal S128x768 .f32) : FVec Ideal S128x128 .bf16 :=
  truncf .bf16 (mulf (extractStridedSlice S128x128 ![0, 0] x slices_S128x768_o0_0_S128x128) s0) bitsLt_bf16_f32

/-- The second head's scores. -/
def sc1 (x : FVec Ideal S128x768 .f32) : FVec Ideal S128x128 .bf16 :=
  truncf .bf16 (mulf (extractStridedSlice S128x128 ![0, 384] x slices_S128x768_o0_384_S128x128) s1) bitsLt_bf16_f32

/-- Scores and weighted keys of both heads against the values. -/
def sv (x : FVec Ideal S128x768 .f32) : FVec Ideal S512x256 .f32 :=
  matmul dot_S512x256_S256x256_S512x256_1_0_0_1_n_n none
    (concatenate S512x256 0
      [⟨S128x256, concatenate S128x256 1 [⟨S128x128, sc0 s0 x⟩, ⟨S128x128, zk⟩] concatenates_S128x128_S128x128_S128x256_d1⟩,
       ⟨S128x256, concatenate S128x256 1 [⟨S128x128, kw0⟩, ⟨S128x128, zk⟩] concatenates_S128x128_S128x128_S128x256_d1⟩,
       ⟨S128x256, concatenate S128x256 1 [⟨S128x128, zk⟩, ⟨S128x128, sc1 s1 x⟩] concatenates_S128x128_S128x128_S128x256_d1⟩,
       ⟨S128x256, concatenate S128x256 1 [⟨S128x128, zk⟩, ⟨S128x128, kw1⟩] concatenates_S128x128_S128x128_S128x256_d1⟩]
      concatenates_S128x256_S128x256_S128x256_S128x256_S512x256_d0)
    (concatenate S256x256 0 [⟨S128x256, va0⟩, ⟨S128x256, va1⟩] concatenates_S128x256_S128x256_S256x256_d0)
    (constant S512x256 .f32 0x00000000#32)

/-- The weighted keys of both heads against the values, where no output is asked for. -/
def svCtx : FVec Ideal S256x256 .f32 :=
  matmul dot_S256x256_S256x256_S256x256_1_0_0_1_n_n none
    (concatenate S256x256 0
      [⟨S128x256, concatenate S128x256 1 [⟨S128x128, kw0⟩, ⟨S128x128, zk⟩] concatenates_S128x128_S128x128_S128x256_d1⟩,
       ⟨S128x256, concatenate S128x256 1 [⟨S128x128, zk⟩, ⟨S128x128, kw1⟩] concatenates_S128x128_S128x128_S128x256_d1⟩]
      concatenates_S128x256_S128x256_S256x256_d0)
    (concatenate S256x256 0 [⟨S128x256, va0⟩, ⟨S128x256, va1⟩] concatenates_S128x256_S128x256_S256x256_d0)
    (constant S256x256 .f32 0x00000000#32)
end pair

section whole
variable (ca : IVec S128x128 1) (q2 : FVec Ideal S128x256 .bf16) (kt0 kt1 : FVec Ideal S128x128 .bf16)
  (va0 va1 : FVec Ideal S128x256 .bf16) (lf0 lf1 rt0 rt1 m0 m1 : FVec Ideal S1x128 .f32) (c0 c1 : FVec Ideal S128x256 .f32)

/-- The products against the values, of one chunk of the pair. -/
def svAll : FVec Ideal S512x256 .f32 :=
  sv va0 va1 (kw lf0 rt0 m0 kt0) (kw lf1 rt1 m1 kt1) (scale ca lf0 rt0 m0) (scale ca lf1 rt1 m1) (qkc q2 kt0 kt1 c0 c1)

/-- The first head's output. -/
def hOut0 : FVec Ideal S128x128 .f32 :=
  hFrom ca lf0 rt0 m0 (ndFrom ca lf0 rt0 m0
    (extractStridedSlice S128x256 ![0, 128] (qkc q2 kt0 kt1 c0 c1) slices_S128x768_o0_128_S128x256)
    (extractStridedSlice S128x256 ![0, 0] (svAll ca q2 kt0 kt1 va0 va1 lf0 lf1 rt0 rt1 m0 m1 c0 c1) slices_S512x256_o0_0_S128x256))

/-- The second head's output. -/
def hOut1 : FVec Ideal S128x128 .f32 :=
  hFrom ca lf1 rt1 m1 (ndFrom ca lf1 rt1 m1
    (extractStridedSlice S128x256 ![0, 512] (qkc q2 kt0 kt1 c0 c1) slices_S128x768_o0_512_S128x256)
    (extractStridedSlice S128x256 ![256, 0] (svAll ca q2 kt0 kt1 va0 va1 lf0 lf1 rt0 rt1 m0 m1 c0 c1) slices_S512x256_o256_0_S128x256))

/-- The first head's new memory. -/
def cNew0 : FVec Ideal S128x256 .f32 :=
  cFrom lf0 rt0 m0 c0
    (extractStridedSlice S128x256 ![128, 0] (svAll ca q2 kt0 kt1 va0 va1 lf0 lf1 rt0 rt1 m0 m1 c0 c1) slices_S512x256_o128_0_S128x256)

/-- The second head's new memory. -/
def cNew1 : FVec Ideal S128x256 .f32 :=
  cFrom lf1 rt1 m1 c1
    (extractStridedSlice S128x256 ![384, 0] (svAll ca q2 kt0 kt1 va0 va1 lf0 lf1 rt0 rt1 m0 m1 c0 c1) slices_S512x256_o384_0_S128x256)

/-- The first head's new memory, where no output is asked for. -/
def cCtx0 : FVec Ideal S128x256 .f32 :=
  cFrom lf0 rt0 m0 c0
    (extractStridedSlice S128x256 ![0, 0] (svCtx va0 va1 (kw lf0 rt0 m0 kt0) (kw lf1 rt1 m1 kt1)) slices_S256x256_o0_0_S128x256)

/-- The second head's new memory, where no output is asked for. -/
def cCtx1 : FVec Ideal S128x256 .f32 :=
  cFrom lf1 rt1 m1 c1
    (extractStridedSlice S128x256 ![128, 0] (svCtx va0 va1 (kw lf0 rt0 m0 kt0) (kw lf1 rt1 m1 kt1)) slices_S256x256_o128_0_S128x256)
end whole

end Cert.KernelIdeal.Pair

end
-- ==== Proof.Chunk.lean ====
module

public import proofs.«01_k».proof.Proof.PairOps

@[expose] public section

set_option maxRecDepth 16384

/-! One chunk of one pair of heads, from the blocks a point loads: which rows and columns of them the pair takes. -/

noncomputable section

namespace Cert.KernelIdeal.Pair

open Idealize.ShloMosaic Idealize.SL.Sem Cert.KernelIdeal Cert.KernelIdeal.Gen

theorem slR (r : ℕ) (h : r < 16) : S16x128.Slices ![r, 0] S1x128 :=
  ⟨rfl, fun a => by
    match a with
    | ⟨0, _⟩ => show r + 1 ≤ 16; omega
    | ⟨1, _⟩ => show 0 + 128 ≤ 128; omega⟩

theorem slQ (o : ℕ) (h : o ≤ 256) : S128x512.Slices ![0, o] S128x256 :=
  ⟨rfl, fun a => by
    match a with
    | ⟨0, _⟩ => show 0 + 128 ≤ 128; omega
    | ⟨1, _⟩ => show o + 256 ≤ 512; omega⟩

theorem slV (o : ℕ) (h : o ≤ 384) : S128x512.Slices ![0, o] S128x128 :=
  ⟨rfl, fun a => by
    match a with
    | ⟨0, _⟩ => show 0 + 128 ≤ 128; omega
    | ⟨1, _⟩ => show o + 128 ≤ 512; omega⟩

theorem slK (o : ℕ) (h : o ≤ 384) : S512x128.Slices ![o, 0] S128x128 :=
  ⟨rfl, fun a => by
    match a with
    | ⟨0, _⟩ => show o + 128 ≤ 512; omega
    | ⟨1, _⟩ => show 0 + 128 ≤ 128; omega⟩

/-- The logarithms of a head's forget gates. -/
def lfRow (g : FVec Ideal S16x128 .f32) (r : ℕ) (h : r < 16) : FVec Ideal S1x128 .f32 :=
  extractStridedSlice S1x128 ![r, 0] (lfAll g) (slR r h)

/-- A head's input gates less the running sums of its forget gates. -/
def rtRow (tri : IVec S128x128 1) (g : FVec Ideal S16x128 .f32) (ri rf : ℕ) (hi : ri < 16) (hf : rf < 16) :
    FVec Ideal S1x128 .f32 :=
  subf (mulf (extractStridedSlice S1x128 ![ri, 0] g (slR ri hi)) (broadcast S1x128 (Named.named κ "log2_e" 0x3FB8AA3B#32)))
    (extractStridedSlice S1x128 ![rf, 0] (browAll (ofMask tri) (lfAll g)) (slR rf hf))

/-- The values of a head, with the ones beside them. -/
def vaCols (v : FVec Ideal S128x512 .bf16) (o : ℕ) (h : o ≤ 384) : FVec Ideal S128x256 .bf16 :=
  aug (broadcast S128x128 (Scalar.ofBits .bf16 0x3F80#16)) (extractStridedSlice S128x128 ![0, o] v (slV o h))

/-- The first head's new running maximum. -/
def pM0 (tri : IVec S128x128 1) (w : ℕ) (hw : w ≤ 10) (g : FVec Ideal S16x128 .f32) (m0 : FVec Ideal S1x128 .f32) :
    FVec Ideal S1x128 .f32 := mRow (lfRow g (w + 4) (by omega)) (rtRow tri g w (w + 4) (by omega) (by omega)) m0

/-- The second head's new running maximum. -/
def pM1 (tri : IVec S128x128 1) (w : ℕ) (hw : w ≤ 10) (g : FVec Ideal S16x128 .f32) (m1 : FVec Ideal S1x128 .f32) :
    FVec Ideal S1x128 .f32 :=
  mRow (lfRow g (w + 5) (by omega)) (rtRow tri g (w + 1) (w + 5) (by omega) (by omega)) m1

section
variable (ca tri : IVec S128x128 1) (o w : ℕ) (ho : o ≤ 256) (hw : w ≤ 10)
  (q : FVec Ideal S128x512 .bf16) (kt : FVec Ideal S512x128 .bf16) (v : FVec Ideal S128x512 .bf16)
  (g : FVec Ideal S16x128 .f32) (c0 c1 : FVec Ideal S128x256 .f32) (m0 m1 : FVec Ideal S1x128 .f32)

/-- The first head's new memory. -/
def pC0 : FVec Ideal S128x256 .f32 :=
  cNew0 ca (extractStridedSlice S128x256 ![0, o] q (slQ o ho)) (extractStridedSlice S128x128 ![o, 0] kt (slK o (by omega)))
    (extractStridedSlice S128x128 ![o + 128, 0] kt (slK (o + 128) (by omega))) (vaCols v o (by omega)) (vaCols v (o + 128) (by omega))
    (lfRow g (w + 4) (by omega)) (lfRow g (w + 5) (by omega)) (rtRow tri g w (w + 4) (by omega) (by omega))
    (rtRow tri g (w + 1) (w + 5) (by omega) (by omega)) m0 m1 c0 c1

/-- The second head's new memory. -/
def pC1 : FVec Ideal S128x256 .f32 :=
  cNew1 ca (extractStridedSlice S128x256 ![0, o] q (slQ o ho)) (extractStridedSlice S128x128 ![o, 0] kt (slK o (by omega)))
    (extractStridedSlice S128x128 ![o + 128, 0] kt (slK (o + 128) (by omega))) (vaCols v o (by omega)) (vaCols v (o + 128) (by omega))
    (lfRow g (w + 4) (by omega)) (lfRow g (w + 5) (by omega)) (rtRow tri g w (w + 4) (by omega) (by omega))
    (rtRow tri g (w + 1) (w + 5) (by omega) (by omega)) m0 m1 c0 c1

/-- The first head's output. -/
def pH0 : FVec Ideal S128x128 .f32 :=
  hOut0 ca (extractStridedSlice S128x256 ![0, o] q (slQ o ho)) (extractStridedSlice S128x128 ![o, 0] kt (slK o (by omega)))
    (extractStridedSlice S128x128 ![o + 128, 0] kt (slK (o + 128) (by omega))) (vaCols v o (by omega)) (vaCols v (o + 128) (by omega))
    (lfRow g (w + 4) (by omega)) (lfRow g (w + 5) (by omega)) (rtRow tri g w (w + 4) (by omega) (by omega))
    (rtRow tri g (w + 1) (w + 5) (by omega) (by omega)) m0 m1 c0 c1

/-- The second head's output. -/
def pH1 : FVec Ideal S128x128 .f32 :=
  hOut1 ca (extractStridedSlice S128x256 ![0, o] q (slQ o ho)) (extractStridedSlice S128x128 ![o, 0] kt (slK o (by omega)))
    (extractStridedSlice S128x128 ![o + 128, 0] kt (slK (o + 128) (by omega))) (vaCols v o (by omega)) (vaCols v (o + 128) (by omega))
    (lfRow g (w + 4) (by omega)) (lfRow g (w + 5) (by omega)) (rtRow tri g w (w + 4) (by omega) (by omega))
    (rtRow tri g (w + 1) (w + 5) (by omega) (by omega)) m0 m1 c0 c1

/-- The first head's new memory, where no output is asked for. -/
def xC0 : FVec Ideal S128x256 .f32 :=
  cCtx0 (extractStridedSlice S128x128 ![o, 0] kt (slK o (by omega)))
    (extractStridedSlice S128x128 ![o + 128, 0] kt (slK (o + 128) (by omega))) (vaCols v o (by omega)) (vaCols v (o + 128) (by omega))
    (lfRow g (w + 4) (by omega)) (lfRow g (w + 5) (by omega)) (rtRow tri g w (w + 4) (by omega) (by omega))
    (rtRow tri g (w + 1) (w + 5) (by omega) (by omega)) m0 m1 c0

/-- The second head's new memory, where no output is asked for. -/
def xC1 : FVec Ideal S128x256 .f32 :=
  cCtx1 (extractStridedSlice S128x128 ![o, 0] kt (slK o (by omega)))
    (extractStridedSlice S128x128 ![o + 128, 0] kt (slK (o + 128) (by omega))) (vaCols v o (by omega)) (vaCols v (o + 128) (by omega))
    (lfRow g (w + 4) (by omega)) (lfRow g (w + 5) (by omega)) (rtRow tri g w (w + 4) (by omega) (by omega))
    (rtRow tri g (w + 1) (w + 5) (by omega) (by omega)) m0 m1 c1
end

/-! ## The pieces a point stores -/

theorem inbC (r : ℕ) (h : r < 64) : ∀ a, (![r, 0, 0] : Fin 3 → ℕ) a + S1x128x256.size a ≤ S64x128x256.size a := fun a => by
  match a with
  | ⟨0, _⟩ => show r + 1 ≤ 64; omega
  | ⟨1, _⟩ => show 0 + 128 ≤ 128; omega
  | ⟨2, _⟩ => show 0 + 256 ≤ 256; omega

theorem inbM (r : ℕ) (h : r < 64) : ∀ a, (![r, 0, 0] : Fin 3 → ℕ) a + S1x8x128.size a ≤ S64x8x128.size a := fun a => by
  match a with
  | ⟨0, _⟩ => show r + 1 ≤ 64; omega
  | ⟨1, _⟩ => show 0 + 8 ≤ 8; omega
  | ⟨2, _⟩ => show 0 + 128 ≤ 128; omega

theorem inbN (r : ℕ) (h : r < 64) : ∀ a, (![r, 0, 0] : Fin 3 → ℕ) a + S1x1x128.size a ≤ S64x8x128.size a := fun a => by
  match a with
  | ⟨0, _⟩ => show r + 1 ≤ 64; omega
  | ⟨1, _⟩ => show 0 + 1 ≤ 8; omega
  | ⟨2, _⟩ => show 0 + 128 ≤ 128; omega

theorem inbO (b o : ℕ) (h : b < 8) (ho : o ≤ 384) :
    ∀ a, (![b, 0, o] : Fin 3 → ℕ) a + S1x128x128.size a ≤ S8x128x512.size a := fun a => by
  match a with
  | ⟨0, _⟩ => show b + 1 ≤ 8; omega
  | ⟨1, _⟩ => show 0 + 128 ≤ 128; omega
  | ⟨2, _⟩ => show o + 128 ≤ 512; omega

/-- A slot of the memories. -/
abbrev rowC (r : ℕ) (h : r < 64) : Rect S64x128x256 := Rect.unit (s := S64x128x256) ![r, 0, 0] S1x128x256.size (inbC r h)

/-- A slot of the running maxima. -/
abbrev rowM (r : ℕ) (h : r < 64) : Rect S64x8x128 := Rect.unit (s := S64x8x128) ![r, 0, 0] S1x8x128.size (inbM r h)

/-- The row of a slot of the running maxima that is read. -/
abbrev rowN (r : ℕ) (h : r < 64) : Rect S64x8x128 := Rect.unit (s := S64x8x128) ![r, 0, 0] S1x1x128.size (inbN r h)

/-- The block of one head's output. -/
abbrev blkO (b o : ℕ) (h : b < 8) (ho : o ≤ 384) : Rect S8x128x512 :=
  Rect.unit (s := S8x128x512) ![b, 0, o] S1x128x128.size (inbO b o h ho)

abbrev LC := List (View.Piece (Elt Ideal) S64x128x256 .f32)
abbrev LM := List (View.Piece (Elt Ideal) S64x8x128 .f32)
abbrev LO := List (View.Piece (Elt Ideal) S8x128x512 .bf16)

/-- The blocks a point loads, for each element of the batch. -/
structure Inp where
  qf : (b : ℕ) → b < 8 → FVec Ideal S128x512 .bf16
  kf : (b : ℕ) → b < 8 → FVec Ideal S512x128 .bf16
  vf : (b : ℕ) → b < 8 → FVec Ideal S128x512 .bf16
  gf : (b : ℕ) → b < 8 → FVec Ideal S16x128 .f32
  qb : (b : ℕ) → b < 8 → FVec Ideal S128x512 .bf16
  kb : (b : ℕ) → b < 8 → FVec Ideal S512x128 .bf16
  vb : (b : ℕ) → b < 8 → FVec Ideal S128x512 .bf16
  gb : (b : ℕ) → b < 8 → FVec Ideal S16x128 .f32

/-- How the memories and the running maxima are read, given what has been stored. -/
structure Rd where
  c : LC → (r : ℕ) → r < 64 → FVec Ideal S128x256 .f32
  m : LM → (r : ℕ) → r < 64 → FVec Ideal S1x128 .f32

/-- A memory as it is stored. -/
def asC (x : FVec Ideal S128x256 .f32) : FVec Ideal S1x128x256 .f32 := shapeCast S1x128x256 x shapeCasts_S128x256_S1x128x256

/-- A running maximum as it is stored. -/
def asM (x : FVec Ideal S1x128 .f32) : FVec Ideal S1x8x128 .f32 :=
  shapeCast S1x8x128 (broadcastTo S8x128 (shapeCast S1x128 x shapeCasts_S1x128_S1x128) broadcasts_S1x128_S8x128)
    shapeCasts_S8x128_S1x8x128

/-- An output as it is stored. -/
def asO (x : FVec Ideal S128x128 .f32) : FVec Ideal S1x128x128 .bf16 :=
  shapeCast S1x128x128 (truncf .bf16 x bitsLt_bf16_f32) shapeCasts_S128x128_S1x128x128

section
variable (R : Rd) (ca tri : IVec S128x128 1) (o w : ℕ) (ho : o ≤ 256) (hw : w ≤ 10)
  (q : FVec Ideal S128x512 .bf16) (kt : FVec Ideal S512x128 .bf16) (v : FVec Ideal S128x512 .bf16)
  (g : FVec Ideal S16x128 .f32) (r : ℕ) (hr : r ≤ 62) (X : LC × LM)

/-- One pair of heads moves on by a chunk: its slots are stored. -/
def pst : LC × LM :=
  (⟨rowC (r + 1) (by omega), asC (pC1 ca tri o w ho hw q kt v g (R.c X.1 r (by omega)) (R.c X.1 (r + 1) (by omega))
      (R.m X.2 r (by omega)) (R.m X.2 (r + 1) (by omega)))⟩ ::
    ⟨rowC r (by omega), asC (pC0 ca tri o w ho hw q kt v g (R.c X.1 r (by omega)) (R.c X.1 (r + 1) (by omega))
      (R.m X.2 r (by omega)) (R.m X.2 (r + 1) (by omega)))⟩ :: X.1,
   ⟨rowM (r + 1) (by omega), asM (pM1 tri w hw g (R.m X.2 (r + 1) (by omega)))⟩ ::
    ⟨rowM r (by omega), asM (pM0 tri w hw g (R.m X.2 r (by omega)))⟩ :: X.2)

/-- The same where no output is asked for. -/
def xst : LC × LM :=
  (⟨rowC (r + 1) (by omega), asC (xC1 tri o w ho hw kt v g (R.c X.1 (r + 1) (by omega))
      (R.m X.2 r (by omega)) (R.m X.2 (r + 1) (by omega)))⟩ ::
    ⟨rowC r (by omega), asC (xC0 tri o w ho hw kt v g (R.c X.1 r (by omega))
      (R.m X.2 r (by omega)) (R.m X.2 (r + 1) (by omega)))⟩ :: X.1,
   ⟨rowM (r + 1) (by omega), asM (pM1 tri w hw g (R.m X.2 (r + 1) (by omega)))⟩ ::
    ⟨rowM r (by omega), asM (pM0 tri w hw g (R.m X.2 r (by omega)))⟩ :: X.2)

/-- The pair's outputs. -/
def pho (b : ℕ) (hb : b < 8) (L : LO) : LO :=
  ⟨blkO b (o + 128) hb (by omega), asO (pH1 ca tri o w ho hw q kt v g (R.c X.1 r (by omega)) (R.c X.1 (r + 1) (by omega))
      (R.m X.2 r (by omega)) (R.m X.2 (r + 1) (by omega)))⟩ ::
    ⟨blkO b o hb (by omega), asO (pH0 ca tri o w ho hw q kt v g (R.c X.1 r (by omega)) (R.c X.1 (r + 1) (by omega))
      (R.m X.2 r (by omega)) (R.m X.2 (r + 1) (by omega)))⟩ :: L
end

section
variable (R : Rd) (I : Inp) (b : ℕ) (hb : b < 8) (X : LC × LM)

/-- The states within one element of the batch: before each pair, forwards then backwards. -/
def st1 : LC × LM :=
  pst R maskF maskB 0 0 (by omega) (by omega) (I.qf b hb) (I.kf b hb) (I.vf b hb) (I.gf b hb) (8 * b) (by omega) X
def st2 : LC × LM :=
  pst R maskF maskB 256 2 (by omega) (by omega) (I.qf b hb) (I.kf b hb) (I.vf b hb) (I.gf b hb) (8 * b + 2) (by omega)
    (st1 R I b hb X)
def st3 : LC × LM :=
  pst R maskB maskF 0 8 (by omega) (by omega) (I.qb b hb) (I.kb b hb) (I.vb b hb) (I.gb b hb) (8 * b + 4) (by omega)
    (st2 R I b hb X)
def st4 : LC × LM :=
  pst R maskB maskF 256 10 (by omega) (by omega) (I.qb b hb) (I.kb b hb) (I.vb b hb) (I.gb b hb) (8 * b + 6) (by omega)
    (st3 R I b hb X)

/-- The element's outputs forwards. -/
def outF (L : LO) : LO :=
  pho R maskF maskB 256 2 (by omega) (by omega) (I.qf b hb) (I.kf b hb) (I.vf b hb) (I.gf b hb) (8 * b + 2) (by omega)
    (st1 R I b hb X) b hb
    (pho R maskF maskB 0 0 (by omega) (by omega) (I.qf b hb) (I.kf b hb) (I.vf b hb) (I.gf b hb) (8 * b) (by omega) X b hb L)

/-- The element's outputs backwards. -/
def outB (L : LO) : LO :=
  pho R maskB maskF 256 10 (by omega) (by omega) (I.qb b hb) (I.kb b hb) (I.vb b hb) (I.gb b hb) (8 * b + 6) (by omega)
    (st3 R I b hb X) b hb
    (pho R maskB maskF 0 8 (by omega) (by omega) (I.qb b hb) (I.kb b hb) (I.vb b hb) (I.gb b hb) (8 * b + 4) (by omega)
      (st2 R I b hb X) b hb L)
end

section
variable (R : Rd) (I : Inp) (X : LC × LM)

/-- What is stored after the first elements of the batch. -/
def stN : (n : ℕ) → n ≤ 8 → LC × LM
  | 0, _ => X
  | n + 1, h => st4 R I n h (stN n (Nat.le_of_succ_le h))

/-- The outputs stored forwards. -/
def ofN : (n : ℕ) → n ≤ 8 → LO
  | 0, _ => []
  | n + 1, h => outF R I n h (stN R I X n (Nat.le_of_succ_le h)) (ofN n (Nat.le_of_succ_le h))

/-- The outputs stored backwards. -/
def obN : (n : ℕ) → n ≤ 8 → LO
  | 0, _ => []
  | n + 1, h => outB R I n h (stN R I X n (Nat.le_of_succ_le h)) (obN n (Nat.le_of_succ_le h))
end

/-- The context's blocks, for each element of the batch, a chunk at a time. -/
structure Ctx where
  k : (b : ℕ) → b < 8 → (o : ℕ) → o ≤ 128 → FVec Ideal S512x128 .bf16
  v : (b : ℕ) → b < 8 → (o : ℕ) → o ≤ 128 → FVec Ideal S128x512 .bf16
  g : (b : ℕ) → b < 8 → (o : ℕ) → o ≤ 128 → FVec Ideal S16x128 .f32

section
variable (R : Rd) (I : Ctx) (b : ℕ) (hb : b < 8) (X : LC × LM)

/-- Both pairs move on by one chunk of the context, forwards. -/
def xF (o : ℕ) (ho : o ≤ 128) : LC × LM :=
  xst R maskB 256 2 (by omega) (by omega) (I.k b hb o ho) (I.v b hb o ho) (I.g b hb o ho) (8 * b + 2) (by omega)
    (xst R maskB 0 0 (by omega) (by omega) (I.k b hb o ho) (I.v b hb o ho) (I.g b hb o ho) (8 * b) (by omega) X)

/-- Both pairs move on by one chunk of the context, backwards. -/
def xB (o : ℕ) (ho : o ≤ 128) : LC × LM :=
  xst R maskF 256 10 (by omega) (by omega) (I.k b hb o ho) (I.v b hb o ho) (I.g b hb o ho) (8 * b + 6) (by omega)
    (xst R maskF 0 8 (by omega) (by omega) (I.k b hb o ho) (I.v b hb o ho) (I.g b hb o ho) (8 * b + 4) (by omega) X)

/-- The element's context, both ways. -/
def xAll : LC × LM :=
  xB R I b hb (xB R I b hb (xF R I b hb (xF R I b hb X 0 (by omega)) 128 (by omega)) 128 (by omega)) 0 (by omega)
end

/-- What is stored after the contexts of the first elements of the batch. -/
def cxN (R : Rd) (I : Ctx) (X : LC × LM) : (n : ℕ) → n ≤ 8 → LC × LM
  | 0, _ => X
  | n + 1, h => xAll R I n h (cxN R I X n (Nat.le_of_succ_le h))

/-- Zeros everywhere. -/
def init0 : LC × LM :=
  ([⟨Rect.unit (s := S64x128x256) ![0, 0, 0] S64x128x256.size (fun a => by fin_cases a <;> decide),
     broadcast S64x128x256 (Scalar.ofBits (F := Ideal) .f32 0x00000000#32)⟩],
   [⟨Rect.unit (s := S64x8x128) ![0, 0, 0] S64x8x128.size (fun a => by fin_cases a <;> decide),
     broadcast S64x8x128 (Scalar.ofBits (F := Ideal) .f32 0x00000000#32)⟩])

end Cert.KernelIdeal.Pair

end
-- ==== Proof.Loads.lean ====
module

public import proofs.«01_k».proof.Proof.Chunk

@[expose] public section

set_option maxRecDepth 16384

/-! The blocks a point loads. -/

noncomputable section

namespace Cert.KernelIdeal.Pair

open Idealize.ShloMosaic Idealize.SL.Sem Cert.KernelIdeal Cert.KernelIdeal.Gen

theorem inbX (b : ℕ) (h : b < 8) : ∀ a, (![b, 0, 0] : Fin 3 → ℕ) a + S1x128x512.size a ≤ S8x128x512.size a := fun a => by
  match a with
  | ⟨0, _⟩ => show b + 1 ≤ 8; omega
  | ⟨1, _⟩ => show 0 + 128 ≤ 128; omega
  | ⟨2, _⟩ => show 0 + 512 ≤ 512; omega

theorem inbK (b : ℕ) (h : b < 8) : ∀ a, (![b, 0, 0] : Fin 3 → ℕ) a + S1x512x128.size a ≤ S8x512x128.size a := fun a => by
  match a with
  | ⟨0, _⟩ => show b + 1 ≤ 8; omega
  | ⟨1, _⟩ => show 0 + 512 ≤ 512; omega
  | ⟨2, _⟩ => show 0 + 128 ≤ 128; omega

theorem inbG (b : ℕ) (h : b < 8) : ∀ a, (![b, 0, 0] : Fin 3 → ℕ) a + S1x16x128.size a ≤ S8x16x128.size a := fun a => by
  match a with
  | ⟨0, _⟩ => show b + 1 ≤ 8; omega
  | ⟨1, _⟩ => show 0 + 16 ≤ 16; omega
  | ⟨2, _⟩ => show 0 + 128 ≤ 128; omega

/-- An element's tokens, of a loaded block. -/
def ldX (a : Memref sig .tc .vmem S8x128x512 .bf16) (ha : a.IsWhole) (x : Vec Ideal S8x128x512 .bf16) (b : ℕ) (h : b < 8) :
    FVec Ideal S128x512 .bf16 :=
  shapeCast S128x512 (View.readAt (Elt Ideal) a.view (Rect.unit (s := S8x128x512) ![b, 0, 0] S1x128x512.size (inbX b h)).toLoadRect
    (ha.unread x)) shapeCasts_S1x128x512_S128x512

/-- An element's keys, of a loaded block. -/
def ldK (a : Memref sig .tc .vmem S8x512x128 .bf16) (ha : a.IsWhole) (x : Vec Ideal S8x512x128 .bf16) (b : ℕ) (h : b < 8) :
    FVec Ideal S512x128 .bf16 :=
  shapeCast S512x128 (View.readAt (Elt Ideal) a.view (Rect.unit (s := S8x512x128) ![b, 0, 0] S1x512x128.size (inbK b h)).toLoadRect
    (ha.unread x)) shapeCasts_S1x512x128_S512x128

/-- An element's gates, of a loaded block. -/
def ldG (a : Memref sig .tc .vmem S8x16x128 .f32) (ha : a.IsWhole) (x : Vec Ideal S8x16x128 .f32) (b : ℕ) (h : b < 8) :
    FVec Ideal S16x128 .f32 :=
  shapeCast S16x128 (View.readAt (Elt Ideal) a.view (Rect.unit (s := S8x16x128) ![b, 0, 0] S1x16x128.size (inbG b h)).toLoadRect
    (ha.unread x)) shapeCasts_S1x16x128_S16x128

/-- A memory as a later point reads it: what the point before left. -/
def rdB (arg15 : Memref sig .tc .vmem S64x128x256 .f32) (harg15 : arg15.IsWhole) (arg16 : Memref sig .tc .vmem S64x8x128 .f32)
    (harg16 : arg16.IsWhole) (xs0 : Vec Ideal S64x128x256 .f32) (xs1 : Vec Ideal S64x8x128 .f32) : Rd where
  c := fun _ r h => shapeCast S128x256 (View.readAt (Elt Ideal) arg15.view (rowC r h).toLoadRect (harg15.unread xs0))
    shapeCasts_S1x128x256_S128x256
  m := fun _ r h => shapeCast S1x128 (View.readAt (Elt Ideal) arg16.view (rowN r h).toLoadRect (harg16.unread xs1))
    shapeCasts_S1x1x128_S1x128

/-- The blocks of a point. -/
def inpOf (arg2 : Memref sig .tc .vmem S8x128x512 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x16x128 .f32) (harg5 : arg5.IsWhole) (arg6 : Memref sig .tc .vmem S8x128x512 .bf16) (harg6 : arg6.IsWhole) (arg7 : Memref sig .tc .vmem S8x512x128 .bf16) (harg7 : arg7.IsWhole) (arg8 : Memref sig .tc .vmem S8x128x512 .bf16) (harg8 : arg8.IsWhole) (arg9 : Memref sig .tc .vmem S8x16x128 .f32) (harg9 : arg9.IsWhole)
    (x0 : Vec Ideal S8x128x512 .bf16) (x1 : Vec Ideal S8x512x128 .bf16) (x2 : Vec Ideal S8x128x512 .bf16) (x3 : Vec Ideal S8x16x128 .f32) (x4 : Vec Ideal S8x128x512 .bf16) (x5 : Vec Ideal S8x512x128 .bf16) (x6 : Vec Ideal S8x128x512 .bf16) (x7 : Vec Ideal S8x16x128 .f32) : Inp where
  qf := ldX arg2 harg2 x0
  kf := ldK arg3 harg3 x1
  vf := ldX arg4 harg4 x2
  gf := ldG arg5 harg5 x3
  qb := ldX arg6 harg6 x4
  kb := ldK arg7 harg7 x5
  vb := ldX arg8 harg8 x6
  gb := ldG arg9 harg9 x7

theorem inbKc (b o : ℕ) (h : b < 8) (ho : o ≤ 128) :
    ∀ a, (![b, 0, o] : Fin 3 → ℕ) a + S1x512x128.size a ≤ S8x512x256.size a := fun a => by
  match a with
  | ⟨0, _⟩ => show b + 1 ≤ 8; omega
  | ⟨1, _⟩ => show 0 + 512 ≤ 512; omega
  | ⟨2, _⟩ => show o + 128 ≤ 256; omega

theorem inbVc (b o : ℕ) (h : b < 8) (ho : o ≤ 128) :
    ∀ a, (![b, o, 0] : Fin 3 → ℕ) a + S1x128x512.size a ≤ S8x256x512.size a := fun a => by
  match a with
  | ⟨0, _⟩ => show b + 1 ≤ 8; omega
  | ⟨1, _⟩ => show o + 128 ≤ 256; omega
  | ⟨2, _⟩ => show 0 + 512 ≤ 512; omega

theorem inbGc (b o : ℕ) (h : b < 8) (ho : o ≤ 128) :
    ∀ a, (![b, 0, o] : Fin 3 → ℕ) a + S1x16x128.size a ≤ S8x16x256.size a := fun a => by
  match a with
  | ⟨0, _⟩ => show b + 1 ≤ 8; omega
  | ⟨1, _⟩ => show 0 + 16 ≤ 16; omega
  | ⟨2, _⟩ => show o + 128 ≤ 256; omega

/-- The context a first point loads, for each element of the batch, a chunk at a time. -/
def ctxOf (arg10 : Memref sig .tc .vmem S8x512x256 .bf16) (harg10 : arg10.IsWhole) (arg11 : Memref sig .tc .vmem S8x256x512 .bf16)
    (harg11 : arg11.IsWhole) (arg12 : Memref sig .tc .vmem S8x16x256 .f32) (harg12 : arg12.IsWhole)
    (x8 : Vec Ideal S8x512x256 .bf16) (x9 : Vec Ideal S8x256x512 .bf16) (x10 : Vec Ideal S8x16x256 .f32) : Ctx where
  k := fun b h o ho => shapeCast S512x128 (View.readAt (Elt Ideal) arg10.view
    (Rect.unit (s := S8x512x256) ![b, 0, o] S1x512x128.size (inbKc b o h ho)).toLoadRect (harg10.unread x8)) shapeCasts_S1x512x128_S512x128
  v := fun b h o ho => shapeCast S128x512 (View.readAt (Elt Ideal) arg11.view
    (Rect.unit (s := S8x256x512) ![b, o, 0] S1x128x512.size (inbVc b o h ho)).toLoadRect (harg11.unread x9)) shapeCasts_S1x128x512_S128x512
  g := fun b h o ho => shapeCast S16x128 (View.readAt (Elt Ideal) arg12.view
    (Rect.unit (s := S8x16x256) ![b, 0, o] S1x16x128.size (inbGc b o h ho)).toLoadRect (harg12.unread x10)) shapeCasts_S1x16x128_S16x128

/-- A memory as the first point reads it: what it has stored. -/
def rdA (arg15 : Memref sig .tc .vmem S64x128x256 .f32) (arg16 : Memref sig .tc .vmem S64x8x128 .f32) : Rd where
  c := fun L r h => shapeCast S128x256 (arg15.view.readCov L (rowC r h).toLoadRect) shapeCasts_S1x128x256_S128x256
  m := fun L r h => shapeCast S1x128 (arg16.view.readCov L (rowN r h).toLoadRect) shapeCasts_S1x1x128_S1x128

end Cert.KernelIdeal.Pair

end
-- ==== Proof.RunA.lean ====
module

public import proofs.«01_k».proof.Proof.Loads
public import proofs.«01_k».proof.Proof.Gen.KernelIdeal.Frame.RunA

@[expose] public section

set_option maxRecDepth 16384

/-! What the first point stores, as lists of pieces. -/

noncomputable section

namespace Cert.KernelIdeal.Pair

open Idealize.ShloMosaic Idealize.SL.Sem Cert.KernelIdeal Cert.KernelIdeal.Gen

section
variable (c : Dev nD) (i : grid0.Coords) (arg2 : Memref sig .tc .vmem S8x128x512 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x16x128 .f32) (harg5 : arg5.IsWhole) (arg6 : Memref sig .tc .vmem S8x128x512 .bf16) (harg6 : arg6.IsWhole) (arg7 : Memref sig .tc .vmem S8x512x128 .bf16) (harg7 : arg7.IsWhole) (arg8 : Memref sig .tc .vmem S8x128x512 .bf16) (harg8 : arg8.IsWhole) (arg9 : Memref sig .tc .vmem S8x16x128 .f32) (harg9 : arg9.IsWhole) (arg10 : Memref sig .tc .vmem S8x512x256 .bf16) (harg10 : arg10.IsWhole) (arg11 : Memref sig .tc .vmem S8x256x512 .bf16) (harg11 : arg11.IsWhole) (arg12 : Memref sig .tc .vmem S8x16x256 .f32) (harg12 : arg12.IsWhole) (arg13 : Memref sig .tc .vmem S8x128x512 .bf16) (harg13 : arg13.IsWhole) (arg14 : Memref sig .tc .vmem S8x128x512 .bf16) (harg14 : arg14.IsWhole) (arg15 : Memref sig .tc .vmem S64x128x256 .f32) (harg15 : arg15.IsWhole) (arg16 : Memref sig .tc .vmem S64x8x128 .f32) (harg16 : arg16.IsWhole) (hc0 : cond0_0 i)
    (x0 : Vec Ideal S8x128x512 .bf16) (x1 : Vec Ideal S8x512x128 .bf16) (x2 : Vec Ideal S8x128x512 .bf16) (x3 : Vec Ideal S8x16x128 .f32) (x4 : Vec Ideal S8x128x512 .bf16) (x5 : Vec Ideal S8x512x128 .bf16) (x6 : Vec Ideal S8x128x512 .bf16) (x7 : Vec Ideal S8x16x128 .f32) (x8 : Vec Ideal S8x512x256 .bf16) (x9 : Vec Ideal S8x256x512 .bf16) (x10 : Vec Ideal S8x16x256 .f32)

/-- The memories the first point stores. -/
theorem runA_c : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.1 = (stN (rdA arg15 arg16) (inpOf arg2 harg2 arg3 harg3 arg4 harg4 arg5 harg5 arg6 harg6 arg7 harg7 arg8 harg8 arg9 harg9 x0 x1 x2 x3 x4 x5 x6 x7) (cxN (rdA arg15 arg16) (ctxOf arg10 harg10 arg11 harg11 arg12 harg12 x8 x9 x10) init0 8 le_rfl) 8 le_rfl).1 := by
  sl_kernel_rfl

/-- The running maxima the first point stores. -/
theorem runA_m : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.2.1 = (stN (rdA arg15 arg16) (inpOf arg2 harg2 arg3 harg3 arg4 harg4 arg5 harg5 arg6 harg6 arg7 harg7 arg8 harg8 arg9 harg9 x0 x1 x2 x3 x4 x5 x6 x7) (cxN (rdA arg15 arg16) (ctxOf arg10 harg10 arg11 harg11 arg12 harg12 x8 x9 x10) init0 8 le_rfl) 8 le_rfl).2 := by
  sl_kernel_rfl

/-- The outputs the first point stores forwards. -/
theorem runA_f : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1 = ofN (rdA arg15 arg16) (inpOf arg2 harg2 arg3 harg3 arg4 harg4 arg5 harg5 arg6 harg6 arg7 harg7 arg8 harg8 arg9 harg9 x0 x1 x2 x3 x4 x5 x6 x7) (cxN (rdA arg15 arg16) (ctxOf arg10 harg10 arg11 harg11 arg12 harg12 x8 x9 x10) init0 8 le_rfl) 8 le_rfl := by
  sl_kernel_rfl

/-- The outputs the first point stores backwards. -/
theorem runA_b : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1 = obN (rdA arg15 arg16) (inpOf arg2 harg2 arg3 harg3 arg4 harg4 arg5 harg5 arg6 harg6 arg7 harg7 arg8 harg8 arg9 harg9 x0 x1 x2 x3 x4 x5 x6 x7) (cxN (rdA arg15 arg16) (ctxOf arg10 harg10 arg11 harg11 arg12 harg12 x8 x9 x10) init0 8 le_rfl) 8 le_rfl := by
  sl_kernel_rfl
end

end Cert.KernelIdeal.Pair

end
-- ==== Proof.RunB.lean ====
module

public import proofs.«01_k».proof.Proof.Loads
public import proofs.«01_k».proof.Proof.Gen.KernelIdeal.Frame.RunB

@[expose] public section

set_option maxRecDepth 16384

/-! What a later point stores, as lists of pieces. -/

noncomputable section

namespace Cert.KernelIdeal.Pair

open Idealize.ShloMosaic Idealize.SL.Sem Cert.KernelIdeal Cert.KernelIdeal.Gen

section
variable (c : Dev nD) (i : grid0.Coords) (arg2 : Memref sig .tc .vmem S8x128x512 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x16x128 .f32) (harg5 : arg5.IsWhole) (arg6 : Memref sig .tc .vmem S8x128x512 .bf16) (harg6 : arg6.IsWhole) (arg7 : Memref sig .tc .vmem S8x512x128 .bf16) (harg7 : arg7.IsWhole) (arg8 : Memref sig .tc .vmem S8x128x512 .bf16) (harg8 : arg8.IsWhole) (arg9 : Memref sig .tc .vmem S8x16x128 .f32) (harg9 : arg9.IsWhole) (arg10 : Memref sig .tc .vmem S8x512x256 .bf16) (harg10 : arg10.IsWhole) (arg11 : Memref sig .tc .vmem S8x256x512 .bf16) (harg11 : arg11.IsWhole) (arg12 : Memref sig .tc .vmem S8x16x256 .f32) (harg12 : arg12.IsWhole) (arg13 : Memref sig .tc .vmem S8x128x512 .bf16) (harg13 : arg13.IsWhole) (arg14 : Memref sig .tc .vmem S8x128x512 .bf16) (harg14 : arg14.IsWhole) (arg15 : Memref sig .tc .vmem S64x128x256 .f32) (harg15 : arg15.IsWhole) (arg16 : Memref sig .tc .vmem S64x8x128 .f32) (harg16 : arg16.IsWhole) (hc0 : ¬cond0_0 i)
    (x0 : Vec Ideal S8x128x512 .bf16) (x1 : Vec Ideal S8x512x128 .bf16) (x2 : Vec Ideal S8x128x512 .bf16) (x3 : Vec Ideal S8x16x128 .f32) (x4 : Vec Ideal S8x128x512 .bf16) (x5 : Vec Ideal S8x512x128 .bf16) (x6 : Vec Ideal S8x128x512 .bf16) (x7 : Vec Ideal S8x16x128 .f32) (x8 : Vec Ideal S8x512x256 .bf16) (x9 : Vec Ideal S8x256x512 .bf16) (x10 : Vec Ideal S8x16x256 .f32) (xs0 : Vec Ideal S64x128x256 .f32) (xs1 : Vec Ideal S64x8x128 .f32)

/-- The memories a later point stores. -/
theorem runB_c : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).2.2.1 = (stN (rdB arg15 harg15 arg16 harg16 xs0 xs1) (inpOf arg2 harg2 arg3 harg3 arg4 harg4 arg5 harg5 arg6 harg6 arg7 harg7 arg8 harg8 arg9 harg9 x0 x1 x2 x3 x4 x5 x6 x7) ([], []) 8 le_rfl).1 := by
  sl_kernel_rfl

/-- The running maxima a later point stores. -/
theorem runB_m : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).2.2.2.1 = (stN (rdB arg15 harg15 arg16 harg16 xs0 xs1) (inpOf arg2 harg2 arg3 harg3 arg4 harg4 arg5 harg5 arg6 harg6 arg7 harg7 arg8 harg8 arg9 harg9 x0 x1 x2 x3 x4 x5 x6 x7) ([], []) 8 le_rfl).2 := by
  sl_kernel_rfl

/-- The outputs a later point stores forwards. -/
theorem runB_f : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).1 = ofN (rdB arg15 harg15 arg16 harg16 xs0 xs1) (inpOf arg2 harg2 arg3 harg3 arg4 harg4 arg5 harg5 arg6 harg6 arg7 harg7 arg8 harg8 arg9 harg9 x0 x1 x2 x3 x4 x5 x6 x7) ([], []) 8 le_rfl := by
  sl_kernel_rfl

/-- The outputs a later point stores backwards. -/
theorem runB_b : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1).2.1 = obN (rdB arg15 harg15 arg16 harg16 xs0 xs1) (inpOf arg2 harg2 arg3 harg3 arg4 harg4 arg5 harg5 arg6 harg6 arg7 harg7 arg8 harg8 arg9 harg9 x0 x1 x2 x3 x4 x5 x6 x7) ([], []) 8 le_rfl := by
  sl_kernel_rfl
end

end Cert.KernelIdeal.Pair

end
-- ==== Proof.PairAt.lean ====
module

public import proofs.«01_k».proof.Proof.PairOps

@[expose] public section

set_option maxRecDepth 16384

/-! The vector operations of a pair's chunk, read at an index: each is the kernel's step of `Cert.Scan`. -/

noncomputable section

namespace Cert.KernelIdeal.Pair

open Idealize.ShloMosaic Idealize.SL.Sem Cert.KernelIdeal Cert.KernelIdeal.Gen Cert.Scan

/-- The pattern of minus infinity. -/
theorem ofBits_bot : Ideal.ofBits FTy.f32 4286578688#32 = ⊥ := by
  simp [Ideal.ofBits, Ideal.ieee]

section head
variable (S : Fin 128 → Fin 128 → Prop) [DecidableRel S] (mk : EReal) (lfk lik : Fin 128 → EReal)
variable (ca : IVec S128x128 1) (lf rt m : FVec Ideal S1x128 .f32) (kt : FVec Ideal S128x128 .bf16)
  (hca : ∀ p c : Fin 128, ca (ix2 p c) = if S p c then 1#1 else 0#1)
  (hlf : ∀ c : Fin 128, lf (ix2 0 c) = lfk c) (hm : ∀ c : Fin 128, m (ix2 0 c) = mk)
  (hrt : ∀ c : Fin 128, rt (ix2 0 c) = lik c - cumS S lfk c)

include hlf hrt in
theorem gRow_at (c : Fin 128) : gRow lf rt (ix2 0 c) = kGain S lfk lik c := by
  pointwise [gRow, bend]
  simp only [hlf, hrt]
  rfl

include hlf hrt hm in
theorem mRow_at (c : Fin 128) : mRow lf rt m (ix2 0 c) = kM S mk lfk lik := by
  pointwise [mRow, gRow, bend]
  simp only [hlf, hrt, hm, ofBits_bot]
  rfl

include hlf hrt hm in
theorem oldRow_at (c : Fin 128) : oldRow lf rt m (ix2 0 c) = kOld S mk lfk lik := by
  have h := mRow_at S mk lfk lik lf rt m hlf hm hrt c
  pointwise [oldRow, bend]
  rw [h]
  simp only [hlf, hm]
  rfl

include hlf hrt hm in
theorem kw_at (d p : Fin 128) : kw lf rt m kt (ix2 d p) = kt (ix2 d p) * kTok S mk lfk lik p := by
  have h := mRow_at S mk lfk lik lf rt m hlf hm hrt p
  have h' := gRow_at S lfk lik lf rt hlf hrt p
  pointwise [kw]
  rw [h, h']
  rfl

/-- A choice by a mask's bit is a choice by what the bit says. -/
theorem select_ite (q : Prop) [Decidable q] (x y : EReal) :
    Scalar.select (if q then 1#1 else 0#1) x y = if q then x else y := by
  by_cases h : q <;> simp [h, Scalar.select]

include hca hlf hrt in
theorem dm_at (p c : Fin 128) : dm ca lf rt (ix2 p c) = kD S lfk lik p c := by
  pointwise [dm, bcol]
  simp only [hca, hlf, hrt, ofBits_bot, select_ite]
  rfl

include hca hlf hm in
theorem inter_at (p c : Fin 128) : inter ca lf m (ix2 p c) = cumS S lfk p + mk := by
  pointwise [inter, bcol]
  simp only [hca, hlf, hm, select_ite]
  rfl

include hca hlf hrt hm in
theorem mt_at (p c : Fin 128) : mt ca lf rt m (ix2 p c) = kMt S mk lfk lik p := by
  have h := inter_at S mk lfk ca lf m hca hlf hm p c
  have h' := fun x => dm_at S lfk lik ca lf rt hca hlf hrt p x
  pointwise [mt]
  simp only [h, h', ofBits_bot]
  rfl

include hca hlf hrt hm in
theorem wInt_at (p c : Fin 128) : wInt ca lf rt m (ix2 p c) = kInter S mk lfk lik p := by
  have h := inter_at S mk lfk ca lf m hca hlf hm p c
  have h' := mt_at S mk lfk lik ca lf rt m hca hlf hm hrt p c
  pointwise [wInt]
  rw [h, h']
  rfl

include hca hlf hrt hm in
theorem scale_at (p c : Fin 128) :
    scale ca lf rt m (ix2 p c) = Ideal.exp2 (kD S lfk lik p c - kMt S mk lfk lik p) := by
  have h := dm_at S lfk lik ca lf rt hca hlf hrt p c
  have h' := mt_at S mk lfk lik ca lf rt m hca hlf hm hrt p c
  pointwise [scale]
  rw [h, h']
  rfl

include hca hlf hrt hm in
theorem hFrom_at (nd : FVec Ideal S128x256 .f32) (p e : Fin 128) :
    hFrom ca lf rt m nd (ix2 p e)
      = Ideal.div (nd (ix2 p ⟨e, by omega⟩))
          (max (FloatOps.absf (F := Ideal) (φ := .f32) (nd (ix2 p ⟨128 + e, by omega⟩))) (Ideal.exp2 (-kMt S mk lfk lik p))) := by
  have h' := mt_at S mk lfk lik ca lf rt m hca hlf hm hrt p e
  pointwise [hFrom]
  rw [h', zero_sub]
  rfl

include hca hlf hrt hm in
theorem ndFrom_at (mem add : FVec Ideal S128x256 .f32) (p : Fin 128) (e : Fin 256) :
    ndFrom ca lf rt m mem add (ix2 p e) = kInter S mk lfk lik p * mem (ix2 p e) + add (ix2 p e) := by
  have h := fun c => wInt_at S mk lfk lik ca lf rt m hca hlf hm hrt p c
  pointwise [ndFrom]
  split <;> rw [h]

include hlf hrt hm in
theorem cFrom_at (c add : FVec Ideal S128x256 .f32) (d : Fin 128) (e : Fin 256) :
    cFrom lf rt m c add (ix2 d e) = kOld S mk lfk lik * c (ix2 d e) + add (ix2 d e) := by
  have h := fun c => oldRow_at S mk lfk lik lf rt m hlf hm hrt c
  pointwise [cFrom]
  split <;> rw [h]
end head

section pair
variable (q2 : FVec Ideal S128x256 .bf16) (kt0 kt1 : FVec Ideal S128x128 .bf16) (va0 va1 : FVec Ideal S128x256 .bf16)
  (c0 c1 : FVec Ideal S128x256 .f32) (kw0 kw1 : FVec Ideal S128x128 .bf16) (s0 s1 : FVec Ideal S128x128 .f32)

theorem qkc_k0 (p j : Fin 128) : qkc q2 kt0 kt1 c0 c1 (ix2 p ⟨j, by omega⟩) = ∑ x : Fin 128, q2 (ix2 p ⟨x, by omega⟩) * kt0 (ix2 x j) := by
  pointwise [qkc]
  simp only [dif_pos (show (j : ℕ) < 384 by omega), mul_zero, Finset.sum_const_zero, add_zero]

theorem qkc_c0 (p : Fin 128) (j : Fin 256) :
    qkc q2 kt0 kt1 c0 c1 (ix2 p ⟨128 + j, by omega⟩) = ∑ x : Fin 128, q2 (ix2 p ⟨x, by omega⟩) * c0 (ix2 x j) := by
  pointwise [qkc]
  simp only [dif_pos (show 128 + (j : ℕ) < 384 by omega), mul_zero, Finset.sum_const_zero, add_zero]

theorem qkc_k1 (p j : Fin 128) :
    qkc q2 kt0 kt1 c0 c1 (ix2 p ⟨384 + j, by omega⟩) = ∑ x : Fin 128, q2 (ix2 p ⟨128 + x, by omega⟩) * kt1 (ix2 x j) := by
  pointwise [qkc]
  simp only [dif_neg (show ¬ 384 + (j : ℕ) < 128 by omega), dif_neg (show ¬ 384 + (j : ℕ) - 128 < 256 by omega), mul_zero,
    Finset.sum_const_zero, zero_add]

theorem qkc_c1 (p : Fin 128) (j : Fin 256) :
    qkc q2 kt0 kt1 c0 c1 (ix2 p ⟨512 + j, by omega⟩) = ∑ x : Fin 128, q2 (ix2 p ⟨128 + x, by omega⟩) * c1 (ix2 x j) := by
  pointwise [qkc]
  simp only [dif_neg (show ¬ 512 + (j : ℕ) < 128 by omega), dif_neg (show ¬ 512 + (j : ℕ) - 128 < 256 by omega),
    dif_neg (show ¬ 512 + (j : ℕ) < 384 by omega), dif_neg (show ¬ 512 + (j : ℕ) - 384 < 128 by omega), mul_zero,
    Finset.sum_const_zero, zero_add, show 512 + (j : ℕ) - 384 - 128 = j by omega, Fin.eta]

variable (X : FVec Ideal S128x768 .f32)

theorem sv_s0 (p : Fin 128) (j : Fin 256) : sv va0 va1 kw0 kw1 s0 s1 X (ix2 ⟨p, by omega⟩ j)
    = ∑ x : Fin 128, X (ix2 p ⟨x, by omega⟩) * s0 (ix2 p x) * va0 (ix2 x j) := by
  pointwise [sv, zk, sc0, sc1]
  simp only [zero_mul, Finset.sum_const_zero, add_zero]

theorem sv_k0 (p : Fin 128) (j : Fin 256) : sv va0 va1 kw0 kw1 s0 s1 X (ix2 ⟨128 + p, by omega⟩ j)
    = ∑ x : Fin 128, kw0 (ix2 p x) * va0 (ix2 x j) := by
  pointwise [sv, zk, sc0, sc1]
  simp only [zero_mul, Finset.sum_const_zero, add_zero]

theorem sv_s1 (p : Fin 128) (j : Fin 256) : sv va0 va1 kw0 kw1 s0 s1 X (ix2 ⟨256 + p, by omega⟩ j)
    = ∑ x : Fin 128, X (ix2 p ⟨384 + x, by omega⟩) * s1 (ix2 p x) * va1 (ix2 x j) := by
  pointwise [sv, zk, sc0, sc1]
  simp only [dif_neg (show ¬ 256 + (p : ℕ) < 128 by omega), dif_neg (show ¬ 256 + (p : ℕ) - 128 < 128 by omega),
    dif_pos (show 256 + (p : ℕ) - 128 - 128 < 128 by omega), show 256 + (p : ℕ) - 128 - 128 = p by omega, Fin.eta, dif_pos p.isLt, dite_eq_ite, ite_self,
    zero_mul, Finset.sum_const_zero, zero_add]

theorem sv_k1 (p : Fin 128) (j : Fin 256) : sv va0 va1 kw0 kw1 s0 s1 X (ix2 ⟨384 + p, by omega⟩ j)
    = ∑ x : Fin 128, kw1 (ix2 p x) * va1 (ix2 x j) := by
  pointwise [sv, zk, sc0, sc1]
  simp only [dif_neg (show ¬ 384 + (p : ℕ) < 128 by omega), dif_neg (show ¬ 384 + (p : ℕ) - 128 < 128 by omega),
    dif_neg (show ¬ 384 + (p : ℕ) - 128 - 128 < 128 by omega), show 384 + (p : ℕ) - 128 - 128 - 128 = p by omega, Fin.eta,
    zero_mul, Finset.sum_const_zero, zero_add]

theorem svCtx_k0 (p : Fin 128) (j : Fin 256) : svCtx va0 va1 kw0 kw1 (ix2 ⟨p, by omega⟩ j)
    = ∑ x : Fin 128, kw0 (ix2 p x) * va0 (ix2 x j) := by
  pointwise [svCtx, zk]
  simp only [zero_mul, Finset.sum_const_zero, add_zero]

theorem svCtx_k1 (p : Fin 128) (j : Fin 256) : svCtx va0 va1 kw0 kw1 (ix2 ⟨128 + p, by omega⟩ j)
    = ∑ x : Fin 128, kw1 (ix2 p x) * va1 (ix2 x j) := by
  pointwise [svCtx, zk]

  simp only [zero_mul, Finset.sum_const_zero, zero_add]
end pair

/-! ## The pair's new memories and outputs -/

section whole
variable (S : Fin 128 → Fin 128 → Prop) [DecidableRel S] (mk0 mk1 : EReal) (lfk0 lik0 lfk1 lik1 : Fin 128 → EReal)
variable (ca : IVec S128x128 1) (q2 : FVec Ideal S128x256 .bf16) (kt0 kt1 : FVec Ideal S128x128 .bf16)
  (va0 va1 : FVec Ideal S128x256 .bf16) (lf0 lf1 rt0 rt1 m0 m1 : FVec Ideal S1x128 .f32) (c0 c1 : FVec Ideal S128x256 .f32)
  (hca : ∀ p c : Fin 128, ca (ix2 p c) = if S p c then 1#1 else 0#1)
  (hlf0 : ∀ c : Fin 128, lf0 (ix2 0 c) = lfk0 c) (hm0 : ∀ c : Fin 128, m0 (ix2 0 c) = mk0)
  (hrt0 : ∀ c : Fin 128, rt0 (ix2 0 c) = lik0 c - cumS S lfk0 c)
  (hlf1 : ∀ c : Fin 128, lf1 (ix2 0 c) = lfk1 c) (hm1 : ∀ c : Fin 128, m1 (ix2 0 c) = mk1)
  (hrt1 : ∀ c : Fin 128, rt1 (ix2 0 c) = lik1 c - cumS S lfk1 c)

include hlf0 hrt0 hm0 in
theorem cCtx0_at (d : Fin 128) (j : Fin 256) : cCtx0 kt0 kt1 va0 va1 lf0 lf1 rt0 rt1 m0 m1 c0 (ix2 d j)
    = kC S mk0 lfk0 lik0 (c0 (ix2 d j)) (fun p => kt0 (ix2 d p)) (fun p => va0 (ix2 p j)) := by
  unfold cCtx0 kC
  rw [cFrom_at S mk0 lfk0 lik0 lf0 rt0 m0 hlf0 hm0 hrt0]
  have h := svCtx_k0 va0 va1 (kw lf0 rt0 m0 kt0) (kw lf1 rt1 m1 kt1) d j
  simp only [kw_at S mk0 lfk0 lik0 lf0 rt0 m0 kt0 hlf0 hm0 hrt0] at h
  rw [← h]
  pointwise []

include hlf1 hrt1 hm1 in
theorem cCtx1_at (d : Fin 128) (j : Fin 256) : cCtx1 kt0 kt1 va0 va1 lf0 lf1 rt0 rt1 m0 m1 c1 (ix2 d j)
    = kC S mk1 lfk1 lik1 (c1 (ix2 d j)) (fun p => kt1 (ix2 d p)) (fun p => va1 (ix2 p j)) := by
  unfold cCtx1 kC
  rw [cFrom_at S mk1 lfk1 lik1 lf1 rt1 m1 hlf1 hm1 hrt1]
  have h := svCtx_k1 va0 va1 (kw lf0 rt0 m0 kt0) (kw lf1 rt1 m1 kt1) d j
  simp only [kw_at S mk1 lfk1 lik1 lf1 rt1 m1 kt1 hlf1 hm1 hrt1] at h
  rw [← h]
  pointwise []

include hlf0 hrt0 hm0 in
theorem cNew0_at (d : Fin 128) (j : Fin 256) : cNew0 ca q2 kt0 kt1 va0 va1 lf0 lf1 rt0 rt1 m0 m1 c0 c1 (ix2 d j)
    = kC S mk0 lfk0 lik0 (c0 (ix2 d j)) (fun p => kt0 (ix2 d p)) (fun p => va0 (ix2 p j)) := by
  unfold cNew0 kC
  rw [cFrom_at S mk0 lfk0 lik0 lf0 rt0 m0 hlf0 hm0 hrt0]
  have h := sv_k0 va0 va1 (kw lf0 rt0 m0 kt0) (kw lf1 rt1 m1 kt1) (scale ca lf0 rt0 m0) (scale ca lf1 rt1 m1)
    (qkc q2 kt0 kt1 c0 c1) d j
  simp only [kw_at S mk0 lfk0 lik0 lf0 rt0 m0 kt0 hlf0 hm0 hrt0] at h
  rw [← h]
  pointwise [svAll]

include hlf1 hrt1 hm1 in
theorem cNew1_at (d : Fin 128) (j : Fin 256) : cNew1 ca q2 kt0 kt1 va0 va1 lf0 lf1 rt0 rt1 m0 m1 c0 c1 (ix2 d j)
    = kC S mk1 lfk1 lik1 (c1 (ix2 d j)) (fun p => kt1 (ix2 d p)) (fun p => va1 (ix2 p j)) := by
  unfold cNew1 kC
  rw [cFrom_at S mk1 lfk1 lik1 lf1 rt1 m1 hlf1 hm1 hrt1]
  have h := sv_k1 va0 va1 (kw lf0 rt0 m0 kt0) (kw lf1 rt1 m1 kt1) (scale ca lf0 rt0 m0) (scale ca lf1 rt1 m1)
    (qkc q2 kt0 kt1 c0 c1) d j
  simp only [kw_at S mk1 lfk1 lik1 lf1 rt1 m1 kt1 hlf1 hm1 hrt1] at h
  rw [← h]
  pointwise [svAll]

include hca hlf0 hrt0 hm0 in
theorem nd0_at (p : Fin 128) (j : Fin 256) :
    ndFrom ca lf0 rt0 m0
      (extractStridedSlice S128x256 ![0, 128] (qkc q2 kt0 kt1 c0 c1) slices_S128x768_o0_128_S128x256)
      (extractStridedSlice S128x256 ![0, 0] (svAll ca q2 kt0 kt1 va0 va1 lf0 lf1 rt0 rt1 m0 m1 c0 c1)
        slices_S512x256_o0_0_S128x256) (ix2 p j)
    = kNd S mk0 lfk0 lik0 (fun d => c0 (ix2 d j)) (fun d : Fin 128 => q2 (ix2 p ⟨d, by omega⟩)) (fun d c => kt0 (ix2 d c))
      (fun c => va0 (ix2 c j)) p := by
  rw [ndFrom_at S mk0 lfk0 lik0 ca lf0 rt0 m0 hca hlf0 hm0 hrt0]
  have h := sv_s0 va0 va1 (kw lf0 rt0 m0 kt0) (kw lf1 rt1 m1 kt1) (scale ca lf0 rt0 m0) (scale ca lf1 rt1 m1)
    (qkc q2 kt0 kt1 c0 c1) p j
  simp only [scale_at S mk0 lfk0 lik0 ca lf0 rt0 m0 hca hlf0 hm0 hrt0, qkc_k0] at h
  have h' := qkc_c0 q2 kt0 kt1 c0 c1 p j
  unfold kNd kScore
  rw [← h, ← h']
  pointwise [svAll]

include hca hlf1 hrt1 hm1 in
theorem nd1_at (p : Fin 128) (j : Fin 256) :
    ndFrom ca lf1 rt1 m1
      (extractStridedSlice S128x256 ![0, 512] (qkc q2 kt0 kt1 c0 c1) slices_S128x768_o0_512_S128x256)
      (extractStridedSlice S128x256 ![256, 0] (svAll ca q2 kt0 kt1 va0 va1 lf0 lf1 rt0 rt1 m0 m1 c0 c1)
        slices_S512x256_o256_0_S128x256) (ix2 p j)
    = kNd S mk1 lfk1 lik1 (fun d => c1 (ix2 d j)) (fun d : Fin 128 => q2 (ix2 p ⟨128 + d, by omega⟩)) (fun d c => kt1 (ix2 d c))
      (fun c => va1 (ix2 c j)) p := by
  rw [ndFrom_at S mk1 lfk1 lik1 ca lf1 rt1 m1 hca hlf1 hm1 hrt1]
  have h := sv_s1 va0 va1 (kw lf0 rt0 m0 kt0) (kw lf1 rt1 m1 kt1) (scale ca lf0 rt0 m0) (scale ca lf1 rt1 m1)
    (qkc q2 kt0 kt1 c0 c1) p j
  simp only [scale_at S mk1 lfk1 lik1 ca lf1 rt1 m1 hca hlf1 hm1 hrt1, qkc_k1] at h
  have h' := qkc_c1 q2 kt0 kt1 c0 c1 p j
  unfold kNd kScore
  rw [← h, ← h']
  pointwise [svAll]

include hca hlf0 hrt0 hm0 in
theorem hOut0_at (hva : ∀ c e : Fin 128, va0 (ix2 c ⟨128 + e, by omega⟩) = 1) (p e : Fin 128) :
    hOut0 ca q2 kt0 kt1 va0 va1 lf0 lf1 rt0 rt1 m0 m1 c0 c1 (ix2 p e)
    = kH S mk0 lfk0 lik0 (fun d => c0 (ix2 d ⟨e, by omega⟩)) (fun d => c0 (ix2 d ⟨128 + e, by omega⟩))
      (fun d : Fin 128 => q2 (ix2 p ⟨d, by omega⟩)) (fun d c => kt0 (ix2 d c)) (fun c => va0 (ix2 c ⟨e, by omega⟩)) p := by
  unfold hOut0 kH
  rw [hFrom_at S mk0 lfk0 lik0 ca lf0 rt0 m0 hca hlf0 hm0 hrt0,
    nd0_at S mk0 lfk0 lik0 ca q2 kt0 kt1 va0 va1 lf0 lf1 rt0 rt1 m0 m1 c0 c1 hca hlf0 hm0 hrt0,
    nd0_at S mk0 lfk0 lik0 ca q2 kt0 kt1 va0 va1 lf0 lf1 rt0 rt1 m0 m1 c0 c1 hca hlf0 hm0 hrt0]
  simp only [hva]

include hca hlf1 hrt1 hm1 in
theorem hOut1_at (hva : ∀ c e : Fin 128, va1 (ix2 c ⟨128 + e, by omega⟩) = 1) (p e : Fin 128) :
    hOut1 ca q2 kt0 kt1 va0 va1 lf0 lf1 rt0 rt1 m0 m1 c0 c1 (ix2 p e)
    = kH S mk1 lfk1 lik1 (fun d => c1 (ix2 d ⟨e, by omega⟩)) (fun d => c1 (ix2 d ⟨128 + e, by omega⟩))
      (fun d : Fin 128 => q2 (ix2 p ⟨128 + d, by omega⟩)) (fun d c => kt1 (ix2 d c)) (fun c => va1 (ix2 c ⟨e, by omega⟩)) p := by
  unfold hOut1 kH
  rw [hFrom_at S mk1 lfk1 lik1 ca lf1 rt1 m1 hca hlf1 hm1 hrt1,
    nd1_at S mk1 lfk1 lik1 ca q2 kt0 kt1 va0 va1 lf0 lf1 rt0 rt1 m0 m1 c0 c1 hca hlf1 hm1 hrt1,
    nd1_at S mk1 lfk1 lik1 ca q2 kt0 kt1 va0 va1 lf0 lf1 rt0 rt1 m0 m1 c0 c1 hca hlf1 hm1 hrt1]
  simp only [hva]
end whole

end Cert.KernelIdeal.Pair

end
-- ==== Proof.Scalars.lean ====
module

public import proofs.«01_k».proof.Proof.Math

@[expose] public section

/-! The logarithm of the sigmoid, as the kernel and as the reference compute it, and a sum of sums of remainders. -/

noncomputable section

namespace Cert.Scan

open Idealize.ShloMosaic

/-- The logarithm of the sigmoid, as the kernel computes it. -/
def lsig (x : EReal) : EReal := min x 0 - Ideal.log1p (Ideal.exp (0 - max x (-x)))

/-- The correction term is a real number that is not negative. -/
theorem corr_real (x : EReal) : ∃ r : ℝ, 0 ≤ r ∧ Ideal.log1p (Ideal.exp (0 - max x (-x))) = r := by
  have hc : ∀ s : ℝ, ∃ r : ℝ, 0 ≤ r ∧ Ideal.log1p (Ideal.exp (s : EReal)) = r := fun s => by
    refine ⟨Real.log (1 + Real.exp s), Real.log_nonneg (by linarith [Real.exp_pos s]), ?_⟩
    rw [Ideal.exp_coe, Ideal.log1p, show (1 : EReal) + (Real.exp s : EReal) = ((1 + Real.exp s : ℝ) : EReal) by push_cast; rfl]
    rw [Ideal.log_coe, if_neg (by linarith [Real.exp_pos s])]
  have h0 : ∃ r : ℝ, 0 ≤ r ∧ Ideal.log1p (Ideal.exp ⊥) = r := by
    refine ⟨0, le_rfl, ?_⟩
    rw [Ideal.exp_bot, Ideal.log1p, add_zero, show (1 : EReal) = ((1 : ℝ) : EReal) from rfl, Ideal.log_coe,
      if_neg (by norm_num), Real.log_one]
  induction x with
  | bot => simpa using h0
  | top => simpa using h0
  | coe r =>
    rcases le_total (r : EReal) (-(r : EReal)) with h | h
    · rw [max_eq_right h]; simpa using hc r
    · rw [max_eq_left h, zero_sub]; simpa using hc (-r)

theorem lsig_bot : lsig ⊥ = ⊥ := by
  obtain ⟨r, -, h⟩ := corr_real ⊥
  unfold lsig
  rw [h]; simp

/-- Off minus infinity the logarithm of the sigmoid is a real number. -/
theorem lsig_real (x : EReal) (hx : x ≠ ⊥) : ∃ r : ℝ, lsig x = r := by
  obtain ⟨r, -, h⟩ := corr_real x
  unfold lsig
  rw [h]
  induction x with
  | bot => exact absurd rfl hx
  | top => exact ⟨-r, by simp⟩
  | coe s =>
    refine ⟨min s 0 - r, ?_⟩
    rw [EReal.coe_sub, EReal.coe_strictMono.monotone.map_min]; rfl

/-- The logarithm of the sigmoid as the reference computes it is the kernel's. -/
theorem lsig_eq (x : EReal) :
    -(max (-x) 0 + Ideal.log1p (Ideal.exp (-max (-x - 0) (-(-x - 0))))) = lsig x := by
  unfold lsig
  rw [sub_zero, neg_neg, max_comm (-x) x, zero_sub]
  obtain ⟨r, -, h⟩ := corr_real x
  rw [zero_sub] at h
  rw [h, EReal.neg_add (.inr (EReal.coe_ne_top _)) (.inr (EReal.coe_ne_bot _))]
  congr 1
  rcases le_total x 0 with h | h
  · rw [max_eq_left (by simpa using EReal.neg_le_neg_iff.mpr h), neg_neg, min_eq_left h]
  · rw [max_eq_right (by simpa using EReal.neg_le_neg_iff.mpr h), neg_zero, min_eq_right h]

/-- The same to base two: minus infinity, or a real number. -/
theorem lsig_kap (x : EReal) : lsig x * kap = ⊥ ∨ ∃ r : ℝ, lsig x * kap = r := by
  by_cases hx : x = ⊥
  · subst hx; rw [lsig_bot, bot_kap]; exact .inl rfl
  · obtain ⟨r, h⟩ := lsig_real x hx
    exact .inr ⟨r * (Real.log 2)⁻¹, by rw [h, kap, EReal.coe_mul]⟩

/-- What is left of values that are minus infinity or real after they are taken off themselves adds nothing. -/
theorem sum_three {ι : Type} [Fintype ι] (f t : ι → EReal) (hf : ∀ i, f i = ⊥ ∨ ∃ r : ℝ, f i = r) (ht : ∀ i, t i = 0 ∨ t i = 1) :
    (∑ i, f i * t i) + (∑ i, (f i - f i) * t i) + (∑ i, (f i - f i - (f i - f i)) * t i) = ∑ i, f i * t i := by
  classical
  by_cases h : ∃ i, f i = ⊥ ∧ t i = 1
  · obtain ⟨i, h1, h2⟩ := h
    have : ∑ i, f i * t i = ⊥ := by
      rw [Fintype.sum_eq_add_sum_compl i, h1, h2, mul_one, EReal.bot_add]
    rw [this, EReal.bot_add, EReal.bot_add]
  · have h1 : ∀ i, (f i - f i) * t i = 0 := fun i => by
      rcases ht i with h2 | h2
      · rw [h2, mul_zero]
      · rcases hf i with h3 | ⟨r, h3⟩
        · exact absurd ⟨i, h3, h2⟩ h
        · rw [h3, ← EReal.coe_sub, sub_self, EReal.coe_zero, zero_mul]
    have h2 : ∀ i, (f i - f i - (f i - f i)) * t i = 0 := fun i => by
      rcases ht i with h2 | h2
      · rw [h2, mul_zero]
      · have := h1 i
        rw [h2, mul_one] at this
        rw [this, sub_zero, zero_mul]
    simp only [h1, h2, Finset.sum_const_zero, add_zero]

end Cert.Scan

end
-- ==== Proof.ChunkAt.lean ====
module

public import proofs.«01_k».proof.Proof.Chunk
public import proofs.«01_k».proof.Proof.PairAt
public import proofs.«01_k».proof.Proof.Scalars
public import Idealize.ShloMosaic.Lib.WordCmp

@[expose] public section

set_option maxRecDepth 16384

/-! One chunk of one pair of heads, from the blocks a point loads, read at an index. -/

noncomputable section

namespace Cert.KernelIdeal.Pair

open Idealize.ShloMosaic Idealize.SL.Sem Cert.KernelIdeal Cert.KernelIdeal.Gen Cert.Scan

/-- The logarithms of a head's forget gates, to base two. -/
def lfOf (g : FVec Ideal S16x128 .f32) (r : ℕ) (h : r < 16) (p : Fin 128) : EReal := lsig (g (ix2 ⟨r, h⟩ p)) * kap

/-- A head's input gates, to base two. -/
def liOf (g : FVec Ideal S16x128 .f32) (r : ℕ) (h : r < 16) (p : Fin 128) : EReal := g (ix2 ⟨r, h⟩ p) * kap

/-- A head's keys. -/
def kOf (kt : FVec Ideal S512x128 .bf16) (o : ℕ) (h : o ≤ 384) (d p : Fin 128) : EReal := kt (ix2 ⟨o + d, by omega⟩ p)

/-- A head's values. -/
def vOf (v : FVec Ideal S128x512 .bf16) (o : ℕ) (h : o ≤ 384) (p e : Fin 128) : EReal := v (ix2 p ⟨o + e, by omega⟩)

/-- A head's queries. -/
def qOf (q : FVec Ideal S128x512 .bf16) (o : ℕ) (h : o ≤ 384) (p d : Fin 128) : EReal := q (ix2 p ⟨o + d, by omega⟩)

theorem kap_named : Named.named (F := Ideal) (φ := .f32) κ "log2_e" 1069066811#32 = kap := rfl

theorem lfAll_at (g : FVec Ideal S16x128 .f32) (r : Fin 16) (c : Fin 128) : lfAll g (ix2 r c) = lsig (g (ix2 r c)) * kap := by
  pointwise [lfAll]
  rw [kap_named]
  rfl

theorem lfRow_at (g : FVec Ideal S16x128 .f32) (r : ℕ) (h : r < 16) (c : Fin 128) : lfRow g r h (ix2 0 c) = lfOf g r h c := by
  have h1 := lfAll_at g ⟨r, h⟩ c
  pointwise [lfRow]
  exact h1

section mask
variable (S : Fin 128 → Fin 128 → Prop) [DecidableRel S] (tri : IVec S128x128 1)
  (htri : ∀ x c : Fin 128, tri (ix2 x c) = if S c x then 1#1 else 0#1)
include htri

theorem ofMask_at (x c : Fin 128) : ofMask tri (ix2 x c) = if S c x then 1 else 0 := by
  pointwise [ofMask]
  rw [htri]
  show ((((if S c x then 1#1 else 0#1 : BitVec 1).setWidth 32).toInt : ℝ) : EReal) = _
  by_cases h : S c x <;> simp [h]

/-- The sum of the three sums is the sum over the positions that count. -/
theorem browAll_at (g : FVec Ideal S16x128 .f32) (r : Fin 16) (c : Fin 128) :
    browAll (ofMask tri) (lfAll g) (ix2 r c) = cumS S (fun x => lsig (g (ix2 r x)) * kap) c := by
  have h := fun x => lfAll_at g r x
  have h' := fun x => ofMask_at S tri htri x c
  pointwise [browAll]
  simp only [h, h']
  rw [sum_three (fun x => lsig (g (ix2 r x)) * kap) (fun x => if S c x then 1 else 0) (fun x => lsig_kap _)
    (fun x => by by_cases hx : S c x <;> simp [hx])]
  unfold cumS
  refine Finset.sum_congr rfl fun x _ => ?_
  by_cases hx : S c x <;> simp [hx]

theorem rtRow_at (g : FVec Ideal S16x128 .f32) (ri rf : ℕ) (hi : ri < 16) (hf : rf < 16) (c : Fin 128) :
    rtRow tri g ri rf hi hf (ix2 0 c) = liOf g ri hi c - cumS S (lfOf g rf hf) c := by
  have h := browAll_at S tri htri g ⟨rf, hf⟩ c
  pointwise [rtRow]
  rw [h, kap_named]
  rfl
end mask

theorem maskF_at (p c : Fin 128) : maskF (ix2 p c) = if c ≤ p then 1#1 else 0#1 := by
  pointwise [maskF]
  rw [WordCmp.cmpi_sle_ofNat (by omega) (by omega)]
  by_cases h : c ≤ p
  · rw [if_pos h, decide_eq_true (Fin.le_def.mp h)]; rfl
  · rw [if_neg h, decide_eq_false (fun h' => h (Fin.le_def.mpr h'))]; rfl

theorem maskB_at (p c : Fin 128) : maskB (ix2 p c) = if p ≤ c then 1#1 else 0#1 := by
  pointwise [maskB]
  rw [WordCmp.cmpi_sge_ofNat (by omega) (by omega)]
  by_cases h : p ≤ c
  · rw [if_pos h, decide_eq_true (Fin.le_def.mp h)]; rfl
  · rw [if_neg h, decide_eq_false (fun h' => h (Fin.le_def.mpr h'))]; rfl

theorem va_v (v : FVec Ideal S128x512 .bf16) (o : ℕ) (h : o ≤ 384) (p e : Fin 128) :
    vaCols v o h (ix2 p ⟨e, by omega⟩) = vOf v o h p e := by
  pointwise [vaCols, aug]
  rfl

theorem va_one (v : FVec Ideal S128x512 .bf16) (o : ℕ) (h : o ≤ 384) (p e : Fin 128) :
    vaCols v o h (ix2 p ⟨128 + e, by omega⟩) = 1 := by
  pointwise [vaCols, aug]

/-! ## The slots -/

/-- What a slot holds: the memory, the normaliser and the running maximum. -/
structure Slot where
  c : Fin 128 → Fin 128 → EReal
  n : Fin 128 → EReal
  m : EReal

/-- The memory with the normaliser beside it, and a row of the running maximum, hold a slot. -/
structure IsSlot (c : FVec Ideal S128x256 .f32) (m : FVec Ideal S1x128 .f32) (z : Slot) : Prop where
  hc : ∀ d e : Fin 128, c (ix2 d ⟨e, by omega⟩) = z.c d e
  hn : ∀ d e : Fin 128, c (ix2 d ⟨128 + e, by omega⟩) = z.n d
  hm : ∀ l : Fin 128, m (ix2 0 l) = z.m

/-- The kernel's step of a slot. -/
def kstep (S : Fin 128 → Fin 128 → Prop) [DecidableRel S] (lf li : Fin 128 → EReal) (k v : Fin 128 → Fin 128 → EReal)
    (z : Slot) : Slot where
  c := fun d e => kC S z.m lf li (z.c d e) (k d) (fun p => v p e)
  n := fun d => kC S z.m lf li (z.n d) (k d) (fun _ => 1)
  m := kM S z.m lf li

theorem w0 {w : ℕ} (hw : w ≤ 10) : w < 16 := by omega
theorem w1 {w : ℕ} (hw : w ≤ 10) : w + 1 < 16 := by omega
theorem w4 {w : ℕ} (hw : w ≤ 10) : w + 4 < 16 := by omega
theorem w5 {w : ℕ} (hw : w ≤ 10) : w + 5 < 16 := by omega
theorem o0 {o : ℕ} (ho : o ≤ 256) : o ≤ 384 := by omega
theorem o1 {o : ℕ} (ho : o ≤ 256) : o + 128 ≤ 384 := by omega

theorem kt_at (kt : FVec Ideal S512x128 .bf16) (o' : ℕ) (h : o' ≤ 384) (d p : Fin 128) :
    extractStridedSlice S128x128 ![o', 0] kt (slK o' h) (ix2 d p) = kOf kt o' h d p := by
  pointwise []
  rfl

theorem q0_at (q : FVec Ideal S128x512 .bf16) (o : ℕ) (ho : o ≤ 256) (p d : Fin 128) :
    extractStridedSlice S128x256 ![0, o] q (slQ o ho) (ix2 p ⟨d, by omega⟩) = qOf q o (o0 ho) p d := by
  pointwise []
  rfl

theorem q1_at (q : FVec Ideal S128x512 .bf16) (o : ℕ) (ho : o ≤ 256) (p d : Fin 128) :
    extractStridedSlice S128x256 ![0, o] q (slQ o ho) (ix2 p ⟨128 + d, by omega⟩) = qOf q (o + 128) (o1 ho) p d := by
  pointwise []
  unfold qOf
  congr 3
  omega

theorem kH_congr (S : Fin 128 → Fin 128 → Prop) [DecidableRel S] (m : EReal) (lf li : Fin 128 → EReal)
    {cs cs' ns ns' q q' : Fin 128 → EReal} {k k' : Fin 128 → Fin 128 → EReal} {v v' : Fin 128 → EReal} (hc : cs = cs')
    (hn : ns = ns') (hq : q = q') (hk : k = k') (hv : v = v') (p : Fin 128) :
    kH S m lf li cs ns q k v p = kH S m lf li cs' ns' q' k' v' p := by
  subst hc hn hq hk hv
  rfl

section step
variable (S : Fin 128 → Fin 128 → Prop) [DecidableRel S] (ca tri : IVec S128x128 1)
  (hca : ∀ p c : Fin 128, ca (ix2 p c) = if S p c then 1#1 else 0#1)
  (htri : ∀ x c : Fin 128, tri (ix2 x c) = if S c x then 1#1 else 0#1) (o w : ℕ) (ho : o ≤ 256) (hw : w ≤ 10)
  (q : FVec Ideal S128x512 .bf16) (kt : FVec Ideal S512x128 .bf16) (v : FVec Ideal S128x512 .bf16)
  (g : FVec Ideal S16x128 .f32) (c0 c1 : FVec Ideal S128x256 .f32) (m0 m1 : FVec Ideal S1x128 .f32)
  (z0 z1 : Slot) (h0 : IsSlot c0 m0 z0) (h1 : IsSlot c1 m1 z1)

include htri h0 in
theorem pM0_at (l : Fin 128) : pM0 tri w hw g m0 (ix2 0 l) = kM S z0.m (lfOf g (w + 4) (w4 hw)) (liOf g w (w0 hw)) :=
  mRow_at S z0.m _ _ _ _ m0 (lfRow_at g _ _) h0.hm (rtRow_at S tri htri g _ _ _ _) l

include htri h1 in
theorem pM1_at (l : Fin 128) : pM1 tri w hw g m1 (ix2 0 l) = kM S z1.m (lfOf g (w + 5) (w5 hw)) (liOf g (w + 1) (w1 hw)) :=
  mRow_at S z1.m _ _ _ _ m1 (lfRow_at g _ _) h1.hm (rtRow_at S tri htri g _ _ _ _) l

include htri h0 in
/-- The first head's slot moves on by the kernel's step, -/
theorem pC0_slot : IsSlot (pC0 ca tri o w ho hw q kt v g c0 c1 m0 m1) (pM0 tri w hw g m0)
    (kstep S (lfOf g (w + 4) (w4 hw)) (liOf g w (w0 hw)) (kOf kt o (o0 ho)) (vOf v o (o0 ho)) z0) where
  hc d e := by
    unfold pC0
    rw [cNew0_at S z0.m _ _ ca _ _ _ _ _ _ _ _ _ m0 m1 c0 c1 (lfRow_at g _ _) h0.hm (rtRow_at S tri htri g _ _ _ _), h0.hc]
    exact congr_arg₂ (kC S z0.m _ _ (z0.c d e)) (funext fun p => kt_at kt _ _ d p) (funext fun p => va_v v _ _ p e)
  hn d e := by
    unfold pC0
    rw [cNew0_at S z0.m _ _ ca _ _ _ _ _ _ _ _ _ m0 m1 c0 c1 (lfRow_at g _ _) h0.hm (rtRow_at S tri htri g _ _ _ _), h0.hn]
    exact congr_arg₂ (kC S z0.m _ _ (z0.n d)) (funext fun p => kt_at kt _ _ d p) (funext fun p => va_one v _ _ p e)
  hm l := pM0_at S tri htri w hw g c0 m0 z0 h0 l

include htri h1 in
/-- and the second's. -/
theorem pC1_slot : IsSlot (pC1 ca tri o w ho hw q kt v g c0 c1 m0 m1) (pM1 tri w hw g m1)
    (kstep S (lfOf g (w + 5) (w5 hw)) (liOf g (w + 1) (w1 hw)) (kOf kt (o + 128) (o1 ho)) (vOf v (o + 128) (o1 ho))
      z1) where
  hc d e := by
    unfold pC1
    rw [cNew1_at S z1.m _ _ ca _ _ _ _ _ _ _ _ _ m0 m1 c0 c1 (lfRow_at g _ _) h1.hm (rtRow_at S tri htri g _ _ _ _), h1.hc]
    exact congr_arg₂ (kC S z1.m _ _ (z1.c d e)) (funext fun p => kt_at kt _ _ d p) (funext fun p => va_v v _ _ p e)
  hn d e := by
    unfold pC1
    rw [cNew1_at S z1.m _ _ ca _ _ _ _ _ _ _ _ _ m0 m1 c0 c1 (lfRow_at g _ _) h1.hm (rtRow_at S tri htri g _ _ _ _), h1.hn]
    exact congr_arg₂ (kC S z1.m _ _ (z1.n d)) (funext fun p => kt_at kt _ _ d p) (funext fun p => va_one v _ _ p e)
  hm l := pM1_at S tri htri w hw g c1 m1 z1 h1 l

include htri h0 in
/-- The same where no output is asked for: the first head's slot, -/
theorem xC0_slot : IsSlot (xC0 tri o w ho hw kt v g c0 m0 m1) (pM0 tri w hw g m0)
    (kstep S (lfOf g (w + 4) (w4 hw)) (liOf g w (w0 hw)) (kOf kt o (o0 ho)) (vOf v o (o0 ho)) z0) where
  hc d e := by
    unfold xC0
    rw [cCtx0_at S z0.m _ _ _ _ _ _ _ _ _ _ m0 m1 c0 (lfRow_at g _ _) h0.hm (rtRow_at S tri htri g _ _ _ _), h0.hc]
    exact congr_arg₂ (kC S z0.m _ _ (z0.c d e)) (funext fun p => kt_at kt _ _ d p) (funext fun p => va_v v _ _ p e)
  hn d e := by
    unfold xC0
    rw [cCtx0_at S z0.m _ _ _ _ _ _ _ _ _ _ m0 m1 c0 (lfRow_at g _ _) h0.hm (rtRow_at S tri htri g _ _ _ _), h0.hn]
    exact congr_arg₂ (kC S z0.m _ _ (z0.n d)) (funext fun p => kt_at kt _ _ d p) (funext fun p => va_one v _ _ p e)
  hm l := pM0_at S tri htri w hw g c0 m0 z0 h0 l

include htri h1 in
/-- and the second's. -/
theorem xC1_slot : IsSlot (xC1 tri o w ho hw kt v g c1 m0 m1) (pM1 tri w hw g m1)
    (kstep S (lfOf g (w + 5) (w5 hw)) (liOf g (w + 1) (w1 hw)) (kOf kt (o + 128) (o1 ho)) (vOf v (o + 128) (o1 ho))
      z1) where
  hc d e := by
    unfold xC1
    rw [cCtx1_at S z1.m _ _ _ _ _ _ _ _ _ _ m0 m1 c1 (lfRow_at g _ _) h1.hm (rtRow_at S tri htri g _ _ _ _), h1.hc]
    exact congr_arg₂ (kC S z1.m _ _ (z1.c d e)) (funext fun p => kt_at kt _ _ d p) (funext fun p => va_v v _ _ p e)
  hn d e := by
    unfold xC1
    rw [cCtx1_at S z1.m _ _ _ _ _ _ _ _ _ _ m0 m1 c1 (lfRow_at g _ _) h1.hm (rtRow_at S tri htri g _ _ _ _), h1.hn]
    exact congr_arg₂ (kC S z1.m _ _ (z1.n d)) (funext fun p => kt_at kt _ _ d p) (funext fun p => va_one v _ _ p e)
  hm l := pM1_at S tri htri w hw g c1 m1 z1 h1 l

include hca htri h0 in
/-- The first head's output. -/
theorem pH0_at (p e : Fin 128) : pH0 ca tri o w ho hw q kt v g c0 c1 m0 m1 (ix2 p e)
    = kH S z0.m (lfOf g (w + 4) (w4 hw)) (liOf g w (w0 hw)) (fun d => z0.c d e) z0.n (qOf q o (o0 ho) p)
        (kOf kt o (o0 ho)) (fun c => vOf v o (o0 ho) c e) p := by
  unfold pH0
  rw [hOut0_at S z0.m _ _ ca _ _ _ _ _ _ _ _ _ m0 m1 c0 c1 hca (lfRow_at g _ _) h0.hm (rtRow_at S tri htri g _ _ _ _)
    (va_one v o _)]
  exact kH_congr _ _ _ _ (funext fun d => h0.hc d e) (funext fun d => h0.hn d e) (funext fun d => q0_at q o ho p d)
    (funext fun d => funext fun c => kt_at kt _ _ d c) (funext fun c => va_v v _ _ c e) p

include hca htri h1 in
/-- The second head's output. -/
theorem pH1_at (p e : Fin 128) : pH1 ca tri o w ho hw q kt v g c0 c1 m0 m1 (ix2 p e)
    = kH S z1.m (lfOf g (w + 5) (w5 hw)) (liOf g (w + 1) (w1 hw)) (fun d => z1.c d e) z1.n (qOf q (o + 128) (o1 ho) p)
        (kOf kt (o + 128) (o1 ho)) (fun c => vOf v (o + 128) (o1 ho) c e) p := by
  unfold pH1
  rw [hOut1_at S z1.m _ _ ca _ _ _ _ _ _ _ _ _ m0 m1 c0 c1 hca (lfRow_at g _ _) h1.hm (rtRow_at S tri htri g _ _ _ _)
    (va_one v (o + 128) _)]
  exact kH_congr _ _ _ _ (funext fun d => h1.hc d e) (funext fun d => h1.hn d e) (funext fun d => q1_at q o ho p d)
    (funext fun d => funext fun c => kt_at kt _ _ d c) (funext fun c => va_v v _ _ c e) p
end step

end Cert.KernelIdeal.Pair

end
-- ==== Proof.Canon.lean ====
module

public import proofs.«01_k».proof.Proof.ChunkAt
public import proofs.«01_k».proof.Proof.Loads

@[expose] public section

set_option maxRecDepth 16384

/-! What the pieces that a point stores leave in the two scratch buffers and in the outputs, read at an index. -/

noncomputable section

namespace Cert.KernelIdeal.Pair

open Idealize.ShloMosaic Idealize.SL.Sem Cert.KernelIdeal Cert.KernelIdeal.Gen Cert.Scan

/-! ## Where the pieces lie -/

theorem rowC_emb (r : ℕ) (h : r < 64) (d : Fin 128) (e : Fin 256) :
    ix3 ⟨r, h⟩ d e = (rowC r h).emb (ix3 (0 : Fin 1) d e) := by
  funext a
  apply Fin.ext
  match a with
  | ⟨0, _⟩ => show r = r + 1 * 0; omega
  | ⟨1, _⟩ => show d.val = 0 + 1 * d.val; omega
  | ⟨2, _⟩ => show e.val = 0 + 1 * e.val; omega

theorem rowM_emb (r : ℕ) (h : r < 64) (x : Fin 8) (l : Fin 128) :
    ix3 ⟨r, h⟩ x l = (rowM r h).emb (ix3 (0 : Fin 1) x l) := by
  funext a
  apply Fin.ext
  match a with
  | ⟨0, _⟩ => show r = r + 1 * 0; omega
  | ⟨1, _⟩ => show x.val = 0 + 1 * x.val; omega
  | ⟨2, _⟩ => show l.val = 0 + 1 * l.val; omega

theorem blkO_emb (b o : ℕ) (h : b < 8) (ho : o ≤ 384) (p e : Fin 128) :
    ix3 ⟨b, h⟩ p ⟨o + e, by omega⟩ = (blkO b o h ho).emb (ix3 (0 : Fin 1) p e) := by
  funext a
  apply Fin.ext
  match a with
  | ⟨0, _⟩ => show b = b + 1 * 0; omega
  | ⟨1, _⟩ => show p.val = 0 + 1 * p.val; omega
  | ⟨2, _⟩ => show o + e.val = o + 1 * e.val; omega

theorem asC_at (x : FVec Ideal S128x256 .f32) (d : Fin 128) (e : Fin 256) : asC x (ix3 0 d e) = x (ix2 d e) := by
  pointwise [asC]

theorem asM_at (x : FVec Ideal S1x128 .f32) (a : Fin 8) (l : Fin 128) : asM x (ix3 0 a l) = x (ix2 0 l) := by
  pointwise [asM]

theorem asO_at (x : FVec Ideal S128x128 .f32) (p e : Fin 128) : asO x (ix3 0 p e) = x (ix2 p e) := by
  pointwise [asO]

/-! ## What a piece leaves -/

theorem canonC_hit (r : ℕ) (h : r < 64) (x : FVec Ideal S128x256 .f32) (L : LC) (d : Fin 128) (e : Fin 256) :
    View.canon (⟨rowC r h, asC x⟩ :: L) (ix3 ⟨r, h⟩ d e) = x (ix2 d e) := by
  rw [rowC_emb, View.canon_cons_emb (rowC r h) (asC x) L (ix3 0 d e)]
  exact asC_at x d e

theorem canonC_miss (r s : ℕ) (h : r < 64) (hs : s < 64) (hne : s ≠ r) (x : FVec Ideal S128x256 .f32) (L : LC) (d : Fin 128)
    (e : Fin 256) : View.canon (⟨rowC r h, asC x⟩ :: L) (ix3 ⟨s, hs⟩ d e) = View.canon L (ix3 ⟨s, hs⟩ d e) := by
  refine View.canon_cons_of_not_mem _ _ fun hm => ?_
  have h1 : r ≤ s ∧ s < r + 1 := (Rect.mem_set_unit (inb := inbC r h)).mp hm 0
  omega

theorem canonM_hit (r : ℕ) (h : r < 64) (x : FVec Ideal S1x128 .f32) (L : LM) (a : Fin 8) (l : Fin 128) :
    View.canon (⟨rowM r h, asM x⟩ :: L) (ix3 ⟨r, h⟩ a l) = x (ix2 0 l) := by
  rw [rowM_emb, View.canon_cons_emb (rowM r h) (asM x) L (ix3 0 a l)]
  exact asM_at x a l

theorem canonM_miss (r s : ℕ) (h : r < 64) (hs : s < 64) (hne : s ≠ r) (x : FVec Ideal S1x128 .f32) (L : LM) (a : Fin 8)
    (l : Fin 128) : View.canon (⟨rowM r h, asM x⟩ :: L) (ix3 ⟨s, hs⟩ a l) = View.canon L (ix3 ⟨s, hs⟩ a l) := by
  refine View.canon_cons_of_not_mem _ _ fun hm => ?_
  have h1 : r ≤ s ∧ s < r + 1 := (Rect.mem_set_unit (inb := inbM r h)).mp hm 0
  omega

theorem canonO_hit (b o : ℕ) (h : b < 8) (ho : o ≤ 384) (x : FVec Ideal S128x128 .f32) (L : LO) (p e : Fin 128) :
    View.canon (⟨blkO b o h ho, asO x⟩ :: L) (ix3 ⟨b, h⟩ p ⟨o + e, by omega⟩) = x (ix2 p e) := by
  rw [blkO_emb b o h ho, View.canon_cons_emb (blkO b o h ho) (asO x) L (ix3 0 p e)]
  exact asO_at x p e

theorem canonO_miss (b c o : ℕ) (h : b < 8) (hc : c < 8) (ho : o ≤ 384) (p : Fin 128) (e : Fin 512)
    (hne : c ≠ b ∨ e.val < o ∨ o + 128 ≤ e.val) (x : FVec Ideal S128x128 .f32) (L : LO) :
    View.canon (⟨blkO b o h ho, asO x⟩ :: L) (ix3 ⟨c, hc⟩ p e) = View.canon L (ix3 ⟨c, hc⟩ p e) := by
  refine View.canon_cons_of_not_mem _ _ fun hm => ?_
  have h0 : b ≤ c ∧ c < b + 1 := (Rect.mem_set_unit (inb := inbO b o h ho)).mp hm 0
  have h2 : o ≤ e.val ∧ e.val < o + 128 := (Rect.mem_set_unit (inb := inbO b o h ho)).mp hm 2
  omega

/-- Nothing but zeros at first. -/
theorem init0_c (i : S64x128x256.Idx) : View.canon init0.1 i = 0 := by
  have hi : i = (Rect.unit (s := S64x128x256) ![0, 0, 0] S64x128x256.size (fun a => by fin_cases a <;> decide)).emb i := by
    funext a
    apply Fin.ext
    match a with
    | ⟨0, _⟩ => show (i 0).val = 0 + 1 * (i 0).val; omega
    | ⟨1, _⟩ => show (i 1).val = 0 + 1 * (i 1).val; omega
    | ⟨2, _⟩ => show (i 2).val = 0 + 1 * (i 2).val; omega
  unfold init0
  rw [hi, View.canon_cons_emb]
  pointwise []

theorem init0_m (i : S64x8x128.Idx) : View.canon init0.2 i = 0 := by
  have hi : i = (Rect.unit (s := S64x8x128) ![0, 0, 0] S64x8x128.size (fun a => by fin_cases a <;> decide)).emb i := by
    funext a
    apply Fin.ext
    match a with
    | ⟨0, _⟩ => show (i 0).val = 0 + 1 * (i 0).val; omega
    | ⟨1, _⟩ => show (i 1).val = 0 + 1 * (i 1).val; omega
    | ⟨2, _⟩ => show (i 2).val = 0 + 1 * (i 2).val; omega
  unfold init0
  rw [hi, View.canon_cons_emb]
  pointwise []

/-! ## What the two buffers hold -/

/-- The two buffers hold a slot at a row. -/
structure Holds (A : FVec Ideal S64x128x256 .f32) (B : FVec Ideal S64x8x128 .f32) (r : ℕ) (h : r < 64) (z : Slot) : Prop where
  hc : ∀ d e : Fin 128, A (ix3 ⟨r, h⟩ d ⟨e, by omega⟩) = z.c d e
  hn : ∀ d e : Fin 128, A (ix3 ⟨r, h⟩ d ⟨128 + e, by omega⟩) = z.n d
  hm : ∀ (a : Fin 8) (l : Fin 128), B (ix3 ⟨r, h⟩ a l) = z.m

/-- What has been stored holds a slot at a row. -/
abbrev Stored (X : LC × LM) (r : ℕ) (h : r < 64) (z : Slot) : Prop := Holds (View.canon X.1) (View.canon X.2) r h z

theorem asRowC_at (f : FVec Ideal S1x128x256 .f32) (d : Fin 128) (e : Fin 256) :
    shapeCast S128x256 f shapeCasts_S1x128x256_S128x256 (ix2 d e) = f (ix3 0 d e) := by
  pointwise []

theorem asRowN_at (f : FVec Ideal S1x1x128 .f32) (l : Fin 128) :
    shapeCast S1x128 f shapeCasts_S1x1x128_S1x128 (ix2 0 l) = f (ix3 0 0 l) := by
  pointwise []

/-- A row of the first scratch buffer, read. -/
theorem rowC_read (A : FVec Ideal S64x128x256 .f32) (r : ℕ) (h : r < 64) (d : Fin 128) (e : Fin 256) :
    shapeCast S128x256 (fun j => A ((rowC r h).idx j)) shapeCasts_S1x128x256_S128x256 (ix2 d e) = A (ix3 ⟨r, h⟩ d e) :=
  (asRowC_at _ d e).trans (congrArg A (rowC_emb r h d e).symm)

theorem rowN_emb (r : ℕ) (h : r < 64) (l : Fin 128) : ix3 ⟨r, h⟩ 0 l = (rowN r h).emb (ix3 (0 : Fin 1) (0 : Fin 1) l) := by
  funext a
  apply Fin.ext
  match a with
  | ⟨0, _⟩ => show r = r + 1 * 0; omega
  | ⟨1, _⟩ => show 0 = 0 + 1 * 0; omega
  | ⟨2, _⟩ => show l.val = 0 + 1 * l.val; omega

/-- A row of the second scratch buffer, read. -/
theorem rowN_read (B : FVec Ideal S64x8x128 .f32) (r : ℕ) (h : r < 64) (l : Fin 128) :
    shapeCast S1x128 (fun j => B ((rowN r h).idx j)) shapeCasts_S1x1x128_S1x128 (ix2 0 l) = B (ix3 ⟨r, h⟩ 0 l) :=
  (asRowN_at _ l).trans (congrArg B (rowN_emb r h l).symm)

section
variable (arg15 : Memref sig .tc .vmem S64x128x256 .f32) (harg15 : arg15.IsWhole) (arg16 : Memref sig .tc .vmem S64x8x128 .f32)
  (harg16 : arg16.IsWhole) (xs0 : Vec Ideal S64x128x256 .f32) (xs1 : Vec Ideal S64x8x128 .f32)

theorem rdA_c (L : LC) (r : ℕ) (h : r < 64) (d : Fin 128) (e : Fin 256) :
    (rdA arg15 arg16).c L r h (ix2 d e) = View.canon L (ix3 ⟨r, h⟩ d e) := by
  unfold rdA
  simp only [View.readCov_eq_canon']
  exact rowC_read (View.canon L) r h d e

theorem rdA_m (L : LM) (r : ℕ) (h : r < 64) (l : Fin 128) :
    (rdA arg15 arg16).m L r h (ix2 0 l) = View.canon L (ix3 ⟨r, h⟩ 0 l) := by
  unfold rdA
  simp only [View.readCov_eq_canon']
  exact rowN_read (View.canon L) r h l

theorem rdB_c (L : LC) (r : ℕ) (h : r < 64) (d : Fin 128) (e : Fin 256) :
    (rdB arg15 harg15 arg16 harg16 xs0 xs1).c L r h (ix2 d e) = xs0 (ix3 ⟨r, h⟩ d e) := by
  unfold rdB
  simp only [View.readAt_eq_ld, Memref.IsWhole.read_unread]
  exact rowC_read xs0 r h d e

theorem rdB_m (L : LM) (r : ℕ) (h : r < 64) (l : Fin 128) :
    (rdB arg15 harg15 arg16 harg16 xs0 xs1).m L r h (ix2 0 l) = xs1 (ix3 ⟨r, h⟩ 0 l) := by
  unfold rdB
  simp only [View.readAt_eq_ld, Memref.IsWhole.read_unread]
  exact rowN_read xs1 r h l
end

end Cert.KernelIdeal.Pair

end
-- ==== Proof.States.lean ====
module

public import proofs.«01_k».proof.Proof.Canon

@[expose] public section

set_option maxRecDepth 16384

/-! One point of the kernel on the slots: what the two scratch buffers and the outputs hold after it. -/

noncomputable section

namespace Cert.KernelIdeal.Pair

open Idealize.ShloMosaic Idealize.SL.Sem Cert.KernelIdeal Cert.KernelIdeal.Gen Cert.Scan

/-- The positions that a position sees forwards, -/
abbrev SF : Fin 128 → Fin 128 → Prop := fun p c => c ≤ p

/-- and backwards. -/
abbrev SB : Fin 128 → Fin 128 → Prop := fun p c => p ≤ c

/-- A store at one row does not change what is read at another. -/
structure Apart (R : Rd) : Prop where
  hc : ∀ (r s : ℕ) (h : r < 64) (hs : s < 64), s ≠ r → ∀ (x : FVec Ideal S128x256 .f32) (L : LC) (d : Fin 128) (e : Fin 256),
    R.c (⟨rowC r h, asC x⟩ :: L) s hs (ix2 d e) = R.c L s hs (ix2 d e)
  hm : ∀ (r s : ℕ) (h : r < 64) (hs : s < 64), s ≠ r → ∀ (x : FVec Ideal S1x128 .f32) (L : LM) (l : Fin 128),
    R.m (⟨rowM r h, asM x⟩ :: L) s hs (ix2 0 l) = R.m L s hs (ix2 0 l)

theorem apartA (arg15 : Memref sig .tc .vmem S64x128x256 .f32) (arg16 : Memref sig .tc .vmem S64x8x128 .f32) :
    Apart (rdA arg15 arg16) where
  hc r s h hs hne x L d e := by rw [rdA_c, rdA_c, canonC_miss r s h hs hne]
  hm r s h hs hne x L l := by rw [rdA_m, rdA_m, canonM_miss r s h hs hne]

theorem apartB (arg15 : Memref sig .tc .vmem S64x128x256 .f32) (harg15 : arg15.IsWhole)
    (arg16 : Memref sig .tc .vmem S64x8x128 .f32) (harg16 : arg16.IsWhole) (xs0 : Vec Ideal S64x128x256 .f32)
    (xs1 : Vec Ideal S64x8x128 .f32) : Apart (rdB arg15 harg15 arg16 harg16 xs0 xs1) where
  hc r s h hs hne x L d e := by rw [rdB_c, rdB_c]
  hm r s h hs hne x L l := by rw [rdB_m, rdB_m]

/-- What is read at the rows from `k` on holds the slots `Z`; what is stored at the rows before holds the slots `Z'`. -/
structure Mid (R : Rd) (X : LC × LM) (Z Z' : ℕ → Slot) (k : ℕ) : Prop where
  todo : ∀ (r : ℕ) (h : r < 64), k ≤ r → IsSlot (R.c X.1 r h) (R.m X.2 r h) (Z r)
  done : ∀ (r : ℕ) (h : r < 64), r < k → Stored X r h (Z' r)

theorem holds_of_slot {X : LC × LM} (r : ℕ) (h : r < 64) {c : FVec Ideal S128x256 .f32} {m : FVec Ideal S1x128 .f32} {z : Slot}
    (hz : IsSlot c m z) : Stored (⟨rowC r h, asC c⟩ :: X.1, ⟨rowM r h, asM m⟩ :: X.2) r h z where
  hc d e := (canonC_hit r h c X.1 d _).trans (hz.hc d e)
  hn d e := (canonC_hit r h c X.1 d _).trans (hz.hn d e)
  hm a l := (canonM_hit r h m X.2 a l).trans (hz.hm l)

theorem holds_of_ne {X : LC × LM} (r s : ℕ) (h : r < 64) (hs : s < 64) (hne : s ≠ r) {c : FVec Ideal S128x256 .f32}
    {m : FVec Ideal S1x128 .f32} {z : Slot} (hz : Stored X s hs z) :
    Stored (⟨rowC r h, asC c⟩ :: X.1, ⟨rowM r h, asM m⟩ :: X.2) s hs z where
  hc d e := (canonC_miss r s h hs hne c X.1 d _).trans (hz.hc d e)
  hn d e := (canonC_miss r s h hs hne c X.1 d _).trans (hz.hn d e)
  hm a l := (canonM_miss r s h hs hne m X.2 a l).trans (hz.hm a l)

section pair
variable (S : Fin 128 → Fin 128 → Prop) [DecidableRel S] (R : Rd) (ca tri : IVec S128x128 1)
  (hca : ∀ p c : Fin 128, ca (ix2 p c) = if S p c then 1#1 else 0#1)
  (htri : ∀ x c : Fin 128, tri (ix2 x c) = if S c x then 1#1 else 0#1) (o w : ℕ) (ho : o ≤ 256) (hw : w ≤ 10)
  (q : FVec Ideal S128x512 .bf16) (kt : FVec Ideal S512x128 .bf16) (v : FVec Ideal S128x512 .bf16)
  (g : FVec Ideal S16x128 .f32) (X : LC × LM) (Z Z' : ℕ → Slot) (r : ℕ) (hr : r ≤ 62)
  (h0 : Z' r = kstep S (lfOf g (w + 4) (w4 hw)) (liOf g w (w0 hw)) (kOf kt o (o0 ho)) (vOf v o (o0 ho)) (Z r))
  (h1 : Z' (r + 1) = kstep S (lfOf g (w + 5) (w5 hw)) (liOf g (w + 1) (w1 hw)) (kOf kt (o + 128) (o1 ho))
    (vOf v (o + 128) (o1 ho)) (Z (r + 1)))

include htri h0 h1 in
/-- A pair moves on. -/
theorem pst_mid (hR : Apart R) (H : Mid R X Z Z' r) : Mid R (pst R ca tri o w ho hw q kt v g r hr X) Z Z' (r + 2) where
  todo s hs hk := by
    have H' := H.todo s hs (by omega)
    have hc : ∀ d e, R.c (pst R ca tri o w ho hw q kt v g r hr X).1 s hs (ix2 d e) = R.c X.1 s hs (ix2 d e) := fun d e =>
      (hR.hc _ s _ hs (by omega) _ _ d e).trans (hR.hc _ s _ hs (by omega) _ _ d e)
    have hm : ∀ l, R.m (pst R ca tri o w ho hw q kt v g r hr X).2 s hs (ix2 0 l) = R.m X.2 s hs (ix2 0 l) := fun l =>
      (hR.hm _ s _ hs (by omega) _ _ l).trans (hR.hm _ s _ hs (by omega) _ _ l)
    exact ⟨fun d e => (hc d _).trans (H'.hc d e), fun d e => (hc d _).trans (H'.hn d e), fun l => (hm l).trans (H'.hm l)⟩
  done s hs hk := by
    have s0 := H.todo r (by omega) le_rfl
    have s1 := H.todo (r + 1) (by omega) (by omega)
    by_cases e1 : s = r + 1
    · subst e1
      rw [h1]
      exact holds_of_slot (X := (_, _)) (r + 1) hs (pC1_slot S ca tri htri o w ho hw q kt v g _ _ _ _ _ s1)
    · refine holds_of_ne (X := (_, _)) (r + 1) s (by omega) hs e1 ?_
      by_cases e0 : s = r
      · subst e0
        rw [h0]
        exact holds_of_slot s hs (pC0_slot S ca tri htri o w ho hw q kt v g _ _ _ _ _ s0)
      · exact holds_of_ne r s (by omega) hs e0 (H.done s hs (by omega))

include hca htri in
/-- The pair's first output, -/
theorem pho_hit0 (H : Mid R X Z Z' r) (b : ℕ) (hb : b < 8) (L : LO) (p e : Fin 128) :
    View.canon (pho R ca tri o w ho hw q kt v g r hr X b hb L) (ix3 ⟨b, hb⟩ p ⟨o + e, by omega⟩)
      = kH S (Z r).m (lfOf g (w + 4) (w4 hw)) (liOf g w (w0 hw)) (fun d => (Z r).c d e) (Z r).n (qOf q o (o0 ho) p)
          (kOf kt o (o0 ho)) (fun c => vOf v o (o0 ho) c e) p :=
  (canonO_miss b b (o + 128) hb hb (o1 ho) p ⟨o + e, by omega⟩ (Or.inr (Or.inl (by show o + e.val < o + 128; omega))) _ _).trans
    ((canonO_hit b o hb (o0 ho) _ L p e).trans
      (pH0_at S ca tri hca htri o w ho hw q kt v g _ _ _ _ (Z r) (H.todo r (by omega) le_rfl) p e))

include hca htri in
/-- its second, -/
theorem pho_hit1 (H : Mid R X Z Z' r) (b : ℕ) (hb : b < 8) (L : LO) (p e : Fin 128) :
    View.canon (pho R ca tri o w ho hw q kt v g r hr X b hb L) (ix3 ⟨b, hb⟩ p ⟨o + 128 + e, by omega⟩)
      = kH S (Z (r + 1)).m (lfOf g (w + 5) (w5 hw)) (liOf g (w + 1) (w1 hw)) (fun d => (Z (r + 1)).c d e) (Z (r + 1)).n
          (qOf q (o + 128) (o1 ho) p) (kOf kt (o + 128) (o1 ho)) (fun c => vOf v (o + 128) (o1 ho) c e) p :=
  (canonO_hit b (o + 128) hb (o1 ho) _ _ p e).trans
    (pH1_at S ca tri hca htri o w ho hw q kt v g _ _ _ _ (Z (r + 1)) (H.todo (r + 1) (by omega) (by omega)) p e)

/-- and everything else as before. -/
theorem pho_miss (b c : ℕ) (hb : b < 8) (hc : c < 8) (L : LO) (p : Fin 128) (e : Fin 512)
    (hne : c ≠ b ∨ e.val < o ∨ o + 256 ≤ e.val) :
    View.canon (pho R ca tri o w ho hw q kt v g r hr X b hb L) (ix3 ⟨c, hc⟩ p e) = View.canon L (ix3 ⟨c, hc⟩ p e) :=
  (canonO_miss b c (o + 128) hb hc (o1 ho) p e (by omega) _ _).trans (canonO_miss b c o hb hc (o0 ho) p e (by omega) _ _)
end pair

/-! ## A whole point -/

theorem h4 {h : ℕ} (hh : h < 4) : h < 16 := by omega
theorem h8 {h : ℕ} (hh : h < 4) : 4 + h < 16 := by omega
theorem h12 {h : ℕ} (hh : h < 4) : 8 + h < 16 := by omega
theorem h16 {h : ℕ} (hh : h < 4) : 12 + h < 16 := by omega
theorem hd {h : ℕ} (hh : h < 4) : 128 * h ≤ 384 := by omega

/-- The slots `Z'` are the slots `Z` moved on by the blocks of a point. -/
structure Moved (I : Inp) (Z Z' : ℕ → Slot) : Prop where
  f : ∀ (b : ℕ) (hb : b < 8) (h : ℕ) (hh : h < 4), Z' (8 * b + h)
    = kstep SF (lfOf (I.gf b hb) (4 + h) (h8 hh)) (liOf (I.gf b hb) h (h4 hh)) (kOf (I.kf b hb) (128 * h) (hd hh))
        (vOf (I.vf b hb) (128 * h) (hd hh)) (Z (8 * b + h))
  b : ∀ (b : ℕ) (hb : b < 8) (h : ℕ) (hh : h < 4), Z' (8 * b + 4 + h)
    = kstep SB (lfOf (I.gb b hb) (12 + h) (h16 hh)) (liOf (I.gb b hb) (8 + h) (h12 hh)) (kOf (I.kb b hb) (128 * h) (hd hh))
        (vOf (I.vb b hb) (128 * h) (hd hh)) (Z (8 * b + 4 + h))

/-- The output forwards of a head, from its slot. -/
def fOut (I : Inp) (Z : ℕ → Slot) (b : ℕ) (hb : b < 8) (h : ℕ) (hh : h < 4) (p e : Fin 128) : EReal :=
  kH SF (Z (8 * b + h)).m (lfOf (I.gf b hb) (4 + h) (h8 hh)) (liOf (I.gf b hb) h (h4 hh)) (fun d => (Z (8 * b + h)).c d e)
    (Z (8 * b + h)).n (qOf (I.qf b hb) (128 * h) (hd hh) p) (kOf (I.kf b hb) (128 * h) (hd hh))
    (fun c => vOf (I.vf b hb) (128 * h) (hd hh) c e) p

/-- The output backwards of a head, from its slot. -/
def bOut (I : Inp) (Z : ℕ → Slot) (b : ℕ) (hb : b < 8) (h : ℕ) (hh : h < 4) (p e : Fin 128) : EReal :=
  kH SB (Z (8 * b + 4 + h)).m (lfOf (I.gb b hb) (12 + h) (h16 hh)) (liOf (I.gb b hb) (8 + h) (h12 hh))
    (fun d => (Z (8 * b + 4 + h)).c d e) (Z (8 * b + 4 + h)).n (qOf (I.qb b hb) (128 * h) (hd hh) p)
    (kOf (I.kb b hb) (128 * h) (hd hh)) (fun c => vOf (I.vb b hb) (128 * h) (hd hh) c e) p

section point
variable (R : Rd) (hR : Apart R) (I : Inp) (Z Z' : ℕ → Slot) (hZ : Moved I Z Z')
include hR hZ

section elem
variable (b : ℕ) (hb : b < 8) (X : LC × LM) (H : Mid R X Z Z' (8 * b))
include H

theorem st1_mid : Mid R (st1 R I b hb X) Z Z' (8 * b + 2) :=
  pst_mid SF R maskF maskB (fun x c => maskB_at x c) 0 0 (by omega) (by omega) _ _ _ _ X Z Z' (8 * b) (by omega)
    (hZ.f b hb 0 (by omega)) (hZ.f b hb 1 (by omega)) hR H

theorem st2_mid : Mid R (st2 R I b hb X) Z Z' (8 * b + 4) :=
  pst_mid SF R maskF maskB (fun x c => maskB_at x c) 256 2 (by omega) (by omega) _ _ _ _ _ Z Z' (8 * b + 2) (by omega)
    (hZ.f b hb 2 (by omega)) (hZ.f b hb 3 (by omega)) hR (st1_mid R hR I Z Z' hZ b hb X H)

theorem st3_mid : Mid R (st3 R I b hb X) Z Z' (8 * b + 6) :=
  pst_mid SB R maskB maskF (fun x c => maskF_at x c) 0 8 (by omega) (by omega) _ _ _ _ _ Z Z' (8 * b + 4) (by omega)
    (hZ.b b hb 0 (by omega)) (hZ.b b hb 1 (by omega)) hR (st2_mid R hR I Z Z' hZ b hb X H)

theorem st4_mid : Mid R (st4 R I b hb X) Z Z' (8 * (b + 1)) :=
  pst_mid SB R maskB maskF (fun x c => maskF_at x c) 256 10 (by omega) (by omega) _ _ _ _ _ Z Z' (8 * b + 6) (by omega)
    (hZ.b b hb 2 (by omega)) (hZ.b b hb 3 (by omega)) hR (st3_mid R hR I Z Z' hZ b hb X H)

/-- The element's outputs forwards, -/
theorem outF_hit (L : LO) (h : ℕ) (hh : h < 4) (p e : Fin 128) :
    View.canon (outF R I b hb X L) (ix3 ⟨b, hb⟩ p ⟨128 * h + e, by omega⟩) = fOut I Z b hb h hh p e := by
  have s1 := st1_mid R hR I Z Z' hZ b hb X H
  match h, hh with
  | 0, _ =>
    exact (pho_miss R maskF maskB 256 2 _ _ _ _ _ _ _ _ _ b b hb hb _ p ⟨128 * 0 + e, by omega⟩
      (Or.inr (Or.inl (by show 128 * 0 + e.val < 256; omega)))).trans
      (pho_hit0 SF R maskF maskB (fun x c => maskF_at x c) (fun x c => maskB_at x c) 0 0 _ _ _ _ _ _ X Z Z' (8 * b) _ H b hb L p e)
  | 1, _ =>
    exact (pho_miss R maskF maskB 256 2 _ _ _ _ _ _ _ _ _ b b hb hb _ p ⟨128 * 1 + e, by omega⟩
      (Or.inr (Or.inl (by show 128 * 1 + e.val < 256; omega)))).trans
      (pho_hit1 SF R maskF maskB (fun x c => maskF_at x c) (fun x c => maskB_at x c) 0 0 _ _ _ _ _ _ X Z Z' (8 * b) _ H b hb L p e)
  | 2, _ =>
    exact pho_hit0 SF R maskF maskB (fun x c => maskF_at x c) (fun x c => maskB_at x c) 256 2 _ _ _ _ _ _ _ Z Z' (8 * b + 2) _ s1
      b hb _ p e
  | 3, _ =>
    exact pho_hit1 SF R maskF maskB (fun x c => maskF_at x c) (fun x c => maskB_at x c) 256 2 _ _ _ _ _ _ _ Z Z' (8 * b + 2) _ s1
      b hb _ p e

/-- and backwards. -/
theorem outB_hit (L : LO) (h : ℕ) (hh : h < 4) (p e : Fin 128) :
    View.canon (outB R I b hb X L) (ix3 ⟨b, hb⟩ p ⟨128 * h + e, by omega⟩) = bOut I Z b hb h hh p e := by
  have s2 := st2_mid R hR I Z Z' hZ b hb X H
  have s3 := st3_mid R hR I Z Z' hZ b hb X H
  match h, hh with
  | 0, _ =>
    exact (pho_miss R maskB maskF 256 10 _ _ _ _ _ _ _ _ _ b b hb hb _ p ⟨128 * 0 + e, by omega⟩
      (Or.inr (Or.inl (by show 128 * 0 + e.val < 256; omega)))).trans
      (pho_hit0 SB R maskB maskF (fun x c => maskB_at x c) (fun x c => maskF_at x c) 0 8 _ _ _ _ _ _ _ Z Z' (8 * b + 4) _ s2 b hb
        L p e)
  | 1, _ =>
    exact (pho_miss R maskB maskF 256 10 _ _ _ _ _ _ _ _ _ b b hb hb _ p ⟨128 * 1 + e, by omega⟩
      (Or.inr (Or.inl (by show 128 * 1 + e.val < 256; omega)))).trans
      (pho_hit1 SB R maskB maskF (fun x c => maskB_at x c) (fun x c => maskF_at x c) 0 8 _ _ _ _ _ _ _ Z Z' (8 * b + 4) _ s2 b hb
        L p e)
  | 2, _ =>
    exact pho_hit0 SB R maskB maskF (fun x c => maskB_at x c) (fun x c => maskF_at x c) 256 10 _ _ _ _ _ _ _ Z Z' (8 * b + 6) _ s3
      b hb _ p e
  | 3, _ =>
    exact pho_hit1 SB R maskB maskF (fun x c => maskB_at x c) (fun x c => maskF_at x c) 256 10 _ _ _ _ _ _ _ Z Z' (8 * b + 6) _ s3
      b hb _ p e
end elem

variable (X : LC × LM) (H : Mid R X Z Z' 0)
include H

/-- After the first elements of the batch. -/
theorem stN_mid : (n : ℕ) → (h : n ≤ 8) → Mid R (stN R I X n h) Z Z' (8 * n)
  | 0, _ => H
  | n + 1, h => st4_mid R hR I Z Z' hZ n h _ (stN_mid n (Nat.le_of_succ_le h))

/-- After a point the slots have moved on. -/
theorem stN_stored (r : ℕ) (h : r < 64) : Stored (stN R I X 8 le_rfl) r h (Z' r) :=
  (stN_mid R hR I Z Z' hZ X H 8 le_rfl).done r h h

theorem ofN_at : (n : ℕ) → (hn : n ≤ 8) → ∀ (b : ℕ) (hb : b < 8), b < n → ∀ (h : ℕ) (hh : h < 4) (p e : Fin 128),
    View.canon (ofN R I X n hn) (ix3 ⟨b, hb⟩ p ⟨128 * h + e, by omega⟩) = fOut I Z b hb h hh p e
  | 0, _ => fun _ _ hlt => absurd hlt (Nat.not_lt_zero _)
  | n + 1, hn => fun b hb hlt h hh p e => by
    by_cases e1 : b = n
    · subst e1
      exact outF_hit R hR I Z Z' hZ b hb _ (stN_mid R hR I Z Z' hZ X H b (Nat.le_of_succ_le hn)) _ h hh p e
    · exact (pho_miss R maskF maskB 256 2 _ _ _ _ _ _ _ _ (by omega) n b hn hb _ p _ (Or.inl e1)).trans
        ((pho_miss R maskF maskB 0 0 _ _ _ _ _ _ _ _ _ n b hn hb _ p _ (Or.inl e1)).trans
          (ofN_at n (Nat.le_of_succ_le hn) b hb (by omega) h hh p e))

theorem obN_at : (n : ℕ) → (hn : n ≤ 8) → ∀ (b : ℕ) (hb : b < 8), b < n → ∀ (h : ℕ) (hh : h < 4) (p e : Fin 128),
    View.canon (obN R I X n hn) (ix3 ⟨b, hb⟩ p ⟨128 * h + e, by omega⟩) = bOut I Z b hb h hh p e
  | 0, _ => fun _ _ hlt => absurd hlt (Nat.not_lt_zero _)
  | n + 1, hn => fun b hb hlt h hh p e => by
    by_cases e1 : b = n
    · subst e1
      exact outB_hit R hR I Z Z' hZ b hb _ (stN_mid R hR I Z Z' hZ X H b (Nat.le_of_succ_le hn)) _ h hh p e
    · exact (pho_miss R maskB maskF 256 10 _ _ _ _ _ _ _ _ (by omega) n b hn hb _ p _ (Or.inl e1)).trans
        ((pho_miss R maskB maskF 0 8 _ _ _ _ _ _ _ _ _ n b hn hb _ p _ (Or.inl e1)).trans
          (obN_at n (Nat.le_of_succ_le hn) b hb (by omega) h hh p e))
end point

/-! ## The context -/

/-- Every row holds its slot. -/
def All (X : LC × LM) (Z : ℕ → Slot) : Prop := ∀ (r : ℕ) (h : r < 64), Stored X r h (Z r)

/-- Two slots are replaced. -/
def put2 (Z : ℕ → Slot) (r : ℕ) (z0 z1 : Slot) (s : ℕ) : Slot := if s = r + 1 then z1 else if s = r then z0 else Z s

section ctx
variable (S : Fin 128 → Fin 128 → Prop) [DecidableRel S]
  (arg15 : Memref sig .tc .vmem S64x128x256 .f32) (arg16 : Memref sig .tc .vmem S64x8x128 .f32) (tri : IVec S128x128 1)
  (htri : ∀ x c : Fin 128, tri (ix2 x c) = if S c x then 1#1 else 0#1) (o w : ℕ) (ho : o ≤ 256) (hw : w ≤ 10)
  (kt : FVec Ideal S512x128 .bf16) (v : FVec Ideal S128x512 .bf16)
  (g : FVec Ideal S16x128 .f32) (X : LC × LM) (Z : ℕ → Slot) (r : ℕ) (hr : r ≤ 62)

theorem slot_of_all (H : All X Z) (s : ℕ) (hs : s < 64) :
    IsSlot ((rdA arg15 arg16).c X.1 s hs) ((rdA arg15 arg16).m X.2 s hs) (Z s) where
  hc d e := (rdA_c _ _ _ _ _ d _).trans ((H s hs).hc d e)
  hn d e := (rdA_c _ _ _ _ _ d _).trans ((H s hs).hn d e)
  hm l := (rdA_m _ _ _ _ _ l).trans ((H s hs).hm 0 l)

include htri in
/-- A pair moves on by a chunk of the context. -/
theorem xst_all (H : All X Z) (z0 z1 : Slot)
    (h0 : kstep S (lfOf g (w + 4) (w4 hw)) (liOf g w (w0 hw)) (kOf kt o (o0 ho)) (vOf v o (o0 ho)) (Z r) = z0)
    (h1 : kstep S (lfOf g (w + 5) (w5 hw)) (liOf g (w + 1) (w1 hw)) (kOf kt (o + 128) (o1 ho)) (vOf v (o + 128) (o1 ho))
      (Z (r + 1)) = z1) : All (xst (rdA arg15 arg16) tri o w ho hw kt v g r hr X) (put2 Z r z0 z1) := by
  subst h0 h1
  intro s hs
  unfold put2
  by_cases e1 : s = r + 1
  · subst e1
    rw [if_pos rfl]
    exact holds_of_slot (X := (_, _)) (r + 1) hs
      (xC1_slot S tri htri o w ho hw kt v g _ _ _ _ (slot_of_all arg15 arg16 X Z H (r + 1) hs))
  · rw [if_neg e1]
    refine holds_of_ne (X := (_, _)) (r + 1) s (by omega) hs e1 ?_
    by_cases e0 : s = r
    · subst e0
      rw [if_pos rfl]
      exact holds_of_slot s hs (xC0_slot S tri htri o w ho hw kt v g _ _ _ _ (slot_of_all arg15 arg16 X Z H s hs))
    · rw [if_neg e0]
      exact holds_of_ne r s (by omega) hs e0 (H s hs)
end ctx

/-- A head's slot moved on forwards by a chunk of the context, -/
def fCtx (I : Ctx) (b : ℕ) (hb : b < 8) (o : ℕ) (ho : o ≤ 128) (h : ℕ) (hh : h < 4) (z : Slot) : Slot :=
  kstep SF (lfOf (I.g b hb o ho) (4 + h) (h8 hh)) (liOf (I.g b hb o ho) h (h4 hh)) (kOf (I.k b hb o ho) (128 * h) (hd hh))
    (vOf (I.v b hb o ho) (128 * h) (hd hh)) z

/-- and backwards. -/
def bCtx (I : Ctx) (b : ℕ) (hb : b < 8) (o : ℕ) (ho : o ≤ 128) (h : ℕ) (hh : h < 4) (z : Slot) : Slot :=
  kstep SB (lfOf (I.g b hb o ho) (12 + h) (h16 hh)) (liOf (I.g b hb o ho) (8 + h) (h12 hh)) (kOf (I.k b hb o ho) (128 * h) (hd hh))
    (vOf (I.v b hb o ho) (128 * h) (hd hh)) z

/-- Four slots are replaced. -/
def put4 (Z : ℕ → Slot) (r : ℕ) (z : (h : ℕ) → h < 4 → Slot) (s : ℕ) : Slot :=
  if h : r ≤ s ∧ s - r < 4 then z (s - r) h.2 else Z s

theorem put4_eq (Z : ℕ → Slot) (r : ℕ) (z : (h : ℕ) → h < 4 → Slot) :
    put2 (put2 Z r (z 0 (by omega)) (z 1 (by omega))) (r + 2) (z 2 (by omega)) (z 3 (by omega)) = put4 Z r z := by
  funext s
  unfold put2 put4
  by_cases h : r ≤ s ∧ s - r < 4
  · rw [dif_pos h]
    obtain ⟨d, rfl⟩ : ∃ d, s = r + d := ⟨s - r, by omega⟩
    have hd : d < 4 := by omega
    have key : ∀ d', d' = d → ∀ h' : d' < 4, z d' h' = z d hd := by rintro _ rfl _; rfl
    rw [key (r + d - r) (by omega)]
    rcases (by omega : d = 0 ∨ d = 1 ∨ d = 2 ∨ d = 3) with rfl | rfl | rfl | rfl
    · rw [if_neg (by omega), if_neg (by omega), if_neg (by omega), if_pos (by omega)]
    · rw [if_neg (by omega), if_neg (by omega), if_pos (by omega)]
    · rw [if_neg (by omega), if_pos (by omega)]
    · rw [if_pos (by omega)]
  · rw [dif_neg h, if_neg (by omega), if_neg (by omega), if_neg (by omega), if_neg (by omega)]

section cx
variable (arg15 : Memref sig .tc .vmem S64x128x256 .f32) (arg16 : Memref sig .tc .vmem S64x8x128 .f32) (I : Ctx) (b : ℕ) (hb : b < 8)
  (X : LC × LM) (Z : ℕ → Slot)

theorem put2_up (r : ℕ) (z0 z1 : Slot) (s : ℕ) (hs : r + 1 < s) : put2 Z r z0 z1 s = Z s := by
  unfold put2
  rw [if_neg (by omega), if_neg (by omega)]

theorem xF_all (H : All X Z) (o : ℕ) (ho : o ≤ 128) : All (xF (rdA arg15 arg16) I b hb X o ho)
    (put4 Z (8 * b) fun h hh => fCtx I b hb o ho h hh (Z (8 * b + h))) := by
  refine (congrArg (All _) (put4_eq Z (8 * b) fun h hh => fCtx I b hb o ho h hh (Z (8 * b + h)))).mp ?_
  exact xst_all SF arg15 arg16 maskB (fun x c => maskB_at x c) 256 2 (by omega) (by omega) _ _ _ _ _ (8 * b + 2) (by omega)
    (xst_all SF arg15 arg16 maskB (fun x c => maskB_at x c) 0 0 (by omega) (by omega) _ _ _ _ _ (8 * b) (by omega) H _ _ rfl rfl)
    _ _ (congrArg (kstep SF _ _ _ _) (put2_up Z (8 * b) _ _ (8 * b + 2) (by omega)))
    (congrArg (kstep SF _ _ _ _) (put2_up Z (8 * b) _ _ (8 * b + 3) (by omega)))

theorem xB_all (H : All X Z) (o : ℕ) (ho : o ≤ 128) : All (xB (rdA arg15 arg16) I b hb X o ho)
    (put4 Z (8 * b + 4) fun h hh => bCtx I b hb o ho h hh (Z (8 * b + 4 + h))) := by
  refine (congrArg (All _) (put4_eq Z (8 * b + 4) fun h hh => bCtx I b hb o ho h hh (Z (8 * b + 4 + h)))).mp ?_
  exact xst_all SB arg15 arg16 maskF (fun x c => maskF_at x c) 256 10 (by omega) (by omega) _ _ _ _ _ (8 * b + 6) (by omega)
    (xst_all SB arg15 arg16 maskF (fun x c => maskF_at x c) 0 8 (by omega) (by omega) _ _ _ _ _ (8 * b + 4) (by omega) H _ _ rfl rfl)
    _ _ (congrArg (kstep SB _ _ _ _) (put2_up Z (8 * b + 4) _ _ (8 * b + 6) (by omega)))
    (congrArg (kstep SB _ _ _ _) (put2_up Z (8 * b + 4) _ _ (8 * b + 7) (by omega)))
end cx

/-- Nothing held. -/
def zero : Slot := ⟨fun _ _ => 0, fun _ => 0, 0⟩

theorem init0_all : All init0 (fun _ => zero) := fun _ _ =>
  ⟨fun _ _ => init0_c _, fun _ _ => init0_c _, fun _ _ => init0_m _⟩

/-- The slots after the whole context. -/
structure FromCtx (I : Ctx) (Z : ℕ → Slot) : Prop where
  f : ∀ (b : ℕ) (hb : b < 8) (h : ℕ) (hh : h < 4), Z (8 * b + h)
    = fCtx I b hb 128 (by omega) h hh (fCtx I b hb 0 (by omega) h hh zero)
  b : ∀ (b : ℕ) (hb : b < 8) (h : ℕ) (hh : h < 4), Z (8 * b + 4 + h)
    = bCtx I b hb 0 (by omega) h hh (bCtx I b hb 128 (by omega) h hh zero)

/-- The slots after the contexts of the first elements. -/
structure CtxN (I : Ctx) (n : ℕ) (Z : ℕ → Slot) : Prop where
  f : ∀ (b : ℕ) (hb : b < 8), b < n → ∀ (h : ℕ) (hh : h < 4), Z (8 * b + h)
    = fCtx I b hb 128 (by omega) h hh (fCtx I b hb 0 (by omega) h hh zero)
  b : ∀ (b : ℕ) (hb : b < 8), b < n → ∀ (h : ℕ) (hh : h < 4), Z (8 * b + 4 + h)
    = bCtx I b hb 0 (by omega) h hh (bCtx I b hb 128 (by omega) h hh zero)
  z : ∀ r, 8 * n ≤ r → Z r = zero

theorem put4_in (Z : ℕ → Slot) (r : ℕ) (z : (h : ℕ) → h < 4 → Slot) (h : ℕ) (hh : h < 4) : put4 Z r z (r + h) = z h hh := by
  unfold put4
  rw [dif_pos ⟨by omega, by omega⟩]
  have key : ∀ d (h' : d < 4), d = h → z d h' = z h hh := by rintro d h' rfl; rfl
  exact key _ _ (by omega)

theorem put4_out (Z : ℕ → Slot) (r : ℕ) (z : (h : ℕ) → h < 4 → Slot) (s : ℕ) (hs : s < r ∨ r + 4 ≤ s) : put4 Z r z s = Z s := by
  unfold put4
  rw [dif_neg (by omega)]

section
variable (arg15 : Memref sig .tc .vmem S64x128x256 .f32) (arg16 : Memref sig .tc .vmem S64x8x128 .f32) (I : Ctx)

theorem xAll_all (n : ℕ) (hn : n < 8) (X : LC × LM) (Z : ℕ → Slot) (H : All X Z) (HZ : CtxN I n Z) :
    ∃ Z', All (xAll (rdA arg15 arg16) I n hn X) Z' ∧ CtxN I (n + 1) Z' := by
  refine ⟨_, xB_all arg15 arg16 I n hn _ _ (xB_all arg15 arg16 I n hn _ _ (xF_all arg15 arg16 I n hn _ _
    (xF_all arg15 arg16 I n hn X Z H 0 (by omega)) 128 (by omega)) 128 (by omega)) 0 (by omega), ?_, ?_, ?_⟩
  · intro b hb hlt h hh
    rw [put4_out _ _ _ _ (by omega), put4_out _ _ _ _ (by omega)]
    by_cases e : b = n
    · subst e
      rw [put4_in _ _ _ h hh, put4_in _ _ _ h hh, HZ.z _ (by omega)]
    · rw [put4_out _ _ _ _ (by omega), put4_out _ _ _ _ (by omega), HZ.f b hb (by omega)]
  · intro b hb hlt h hh
    by_cases e : b = n
    · subst e
      rw [put4_in _ _ _ h hh, put4_in _ _ _ h hh, put4_out _ _ _ _ (by omega), put4_out _ _ _ _ (by omega), HZ.z _ (by omega)]
    · rw [put4_out _ _ _ _ (by omega), put4_out _ _ _ _ (by omega), put4_out _ _ _ _ (by omega), put4_out _ _ _ _ (by omega),
        HZ.b b hb (by omega)]
  · intro r hr
    rw [put4_out _ _ _ _ (by omega), put4_out _ _ _ _ (by omega), put4_out _ _ _ _ (by omega), put4_out _ _ _ _ (by omega),
      HZ.z _ (by omega)]

theorem cxN_all : (n : ℕ) → (h : n ≤ 8) → ∃ Z, All (cxN (rdA arg15 arg16) I init0 n h) Z ∧ CtxN I n Z
  | 0, _ => ⟨_, init0_all, fun _ _ hlt => absurd hlt (Nat.not_lt_zero _), fun _ _ hlt => absurd hlt (Nat.not_lt_zero _),
      fun _ _ => rfl⟩
  | n + 1, h => by
    obtain ⟨Z, H, HZ⟩ := cxN_all n (Nat.le_of_succ_le h)
    exact xAll_all arg15 arg16 I n h _ Z H HZ

/-- After the context every row holds the slot that the context gives. -/
theorem ctx_all : ∃ Z, All (cxN (rdA arg15 arg16) I init0 8 le_rfl) Z ∧ FromCtx I Z := by
  obtain ⟨Z, H, HZ⟩ := cxN_all arg15 arg16 I 8 le_rfl
  exact ⟨Z, H, fun b hb => HZ.f b hb hb, fun b hb => HZ.b b hb hb⟩

/-- So the first point's reads are of these slots, -/
theorem midA (X : LC × LM) (Z Z' : ℕ → Slot) (H : All X Z) : Mid (rdA arg15 arg16) X Z Z' 0 where
  todo r h _ := slot_of_all arg15 arg16 X Z H r h
  done r h hlt := absurd hlt (Nat.not_lt_zero _)

/-- and a later point's of the slots that the buffers hold. -/
theorem midB (harg15 : arg15.IsWhole) (harg16 : arg16.IsWhole) (xs0 : Vec Ideal S64x128x256 .f32) (xs1 : Vec Ideal S64x8x128 .f32)
    (X : LC × LM) (Z Z' : ℕ → Slot) (H : ∀ (r : ℕ) (h : r < 64), Holds xs0 xs1 r h (Z r)) :
    Mid (rdB arg15 harg15 arg16 harg16 xs0 xs1) X Z Z' 0 where
  todo r h _ :=
    ⟨fun d e => (rdB_c _ _ _ _ _ _ _ _ _ d _).trans ((H r h).hc d e), fun d e => (rdB_c _ _ _ _ _ _ _ _ _ d _).trans ((H r h).hn d e),
      fun l => (rdB_m _ _ _ _ _ _ _ _ _ l).trans ((H r h).hm 0 l)⟩
  done r h hlt := absurd hlt (Nat.not_lt_zero _)
end

end Cert.KernelIdeal.Pair

end
-- ==== Proof.PointRun.lean ====
module

public import proofs.«01_k».proof.Proof.RunA
public import proofs.«01_k».proof.Proof.RunB
public import proofs.«01_k».proof.Proof.States
public import proofs.«01_k».proof.Proof.Gen.KernelIdeal.Frame

@[expose] public section

set_option maxRecDepth 16384

/-! What a point leaves: the outputs it stores and the slots it holds, from the slots it found. -/

noncomputable section

namespace Cert.KernelIdeal.Pair

open Idealize.ShloMosaic Idealize.SL.Sem Cert.KernelIdeal Cert.KernelIdeal.Gen Cert.Scan

/-- The outputs and the memories after a point, of the point's blocks and the slots before and after. -/
structure After (I : Inp) (Z Z' : ℕ → Slot)
    (r : Vec Ideal S8x128x512 .bf16 × Vec Ideal S8x128x512 .bf16 × Vec Ideal S64x128x256 .f32 × Vec Ideal S64x8x128 .f32) : Prop where
  s : ∀ (k : ℕ) (h : k < 64), Holds r.2.2.1 r.2.2.2 k h (Z' k)
  f : ∀ (b : ℕ) (hb : b < 8) (h : ℕ) (hh : h < 4) (p e : Fin 128), r.1 (ix3 ⟨b, hb⟩ p ⟨128 * h + e, by omega⟩) = fOut I Z b hb h hh p e
  b : ∀ (b : ℕ) (hb : b < 8) (h : ℕ) (hh : h < 4) (p e : Fin 128), r.2.1 (ix3 ⟨b, hb⟩ p ⟨128 * h + e, by omega⟩) = bOut I Z b hb h hh p e

section
variable (c : Dev nD) (i : grid0.Coords) (arg2 : Memref sig .tc .vmem S8x128x512 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x16x128 .f32) (harg5 : arg5.IsWhole) (arg6 : Memref sig .tc .vmem S8x128x512 .bf16) (harg6 : arg6.IsWhole) (arg7 : Memref sig .tc .vmem S8x512x128 .bf16) (harg7 : arg7.IsWhole) (arg8 : Memref sig .tc .vmem S8x128x512 .bf16) (harg8 : arg8.IsWhole) (arg9 : Memref sig .tc .vmem S8x16x128 .f32) (harg9 : arg9.IsWhole) (arg10 : Memref sig .tc .vmem S8x512x256 .bf16) (harg10 : arg10.IsWhole) (arg11 : Memref sig .tc .vmem S8x256x512 .bf16) (harg11 : arg11.IsWhole) (arg12 : Memref sig .tc .vmem S8x16x256 .f32) (harg12 : arg12.IsWhole) (arg13 : Memref sig .tc .vmem S8x128x512 .bf16) (harg13 : arg13.IsWhole) (arg14 : Memref sig .tc .vmem S8x128x512 .bf16) (harg14 : arg14.IsWhole) (arg15 : Memref sig .tc .vmem S64x128x256 .f32) (harg15 : arg15.IsWhole) (arg16 : Memref sig .tc .vmem S64x8x128 .f32) (harg16 : arg16.IsWhole) (hc0 : cond0_0 i)
    (x0 : Vec Ideal S8x128x512 .bf16) (x1 : Vec Ideal S8x512x128 .bf16) (x2 : Vec Ideal S8x128x512 .bf16) (x3 : Vec Ideal S8x16x128 .f32) (x4 : Vec Ideal S8x128x512 .bf16) (x5 : Vec Ideal S8x512x128 .bf16) (x6 : Vec Ideal S8x128x512 .bf16) (x7 : Vec Ideal S8x16x128 .f32) (x8 : Vec Ideal S8x512x256 .bf16) (x9 : Vec Ideal S8x256x512 .bf16) (x10 : Vec Ideal S8x16x256 .f32)

/-- The first point's context gives slots; from them it moves on. -/
theorem afterA : ∃ Z, FromCtx (ctxOf arg10 harg10 arg11 harg11 arg12 harg12 x8 x9 x10) Z ∧ ∀ Z', Moved (inpOf arg2 harg2 arg3 harg3 arg4 harg4 arg5 harg5 arg6 harg6 arg7 harg7 arg8 harg8 arg9 harg9 x0 x1 x2 x3 x4 x5 x6 x7) Z Z' →
    After (inpOf arg2 harg2 arg3 harg3 arg4 harg4 arg5 harg5 arg6 harg6 arg7 harg7 arg8 harg8 arg9 harg9 x0 x1 x2 x3 x4 x5 x6 x7) Z Z'
      (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10, out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10, sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10, sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10) := by
  obtain ⟨Z, H, HZ⟩ := ctx_all arg15 arg16 (ctxOf arg10 harg10 arg11 harg11 arg12 harg12 x8 x9 x10)
  refine ⟨Z, HZ, fun Z' hZ => ?_⟩
  have M := midA arg15 arg16 _ Z Z' H
  refine ⟨fun k h => ?_, fun b hb h hh p e => ?_, fun b hb h hh p e => ?_⟩
  · have e0 : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = View.canon _ := View.read_writes_junk_eq_canon _ _
    have e1 : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = View.canon _ := View.read_writes_junk_eq_canon _ _
    rw [runA_c] at e0
    rw [runA_m] at e1
    dsimp only
    rw [e0, e1]
    exact stN_stored _ (apartA arg15 arg16) _ Z Z' hZ _ M k h
  · have e0 : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = View.canon _ := View.read_writes_junk_eq_canon _ _
    rw [runA_f] at e0
    dsimp only
    rw [e0]
    exact ofN_at _ (apartA arg15 arg16) _ Z Z' hZ _ M 8 le_rfl b hb hb h hh p e
  · have e0 : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = View.canon _ := View.read_writes_junk_eq_canon _ _
    rw [runA_b] at e0
    dsimp only
    rw [e0]
    exact obN_at _ (apartA arg15 arg16) _ Z Z' hZ _ M 8 le_rfl b hb hb h hh p e
end

section
variable (c : Dev nD) (i : grid0.Coords) (arg2 : Memref sig .tc .vmem S8x128x512 .bf16) (harg2 : arg2.IsWhole) (arg3 : Memref sig .tc .vmem S8x512x128 .bf16) (harg3 : arg3.IsWhole) (arg4 : Memref sig .tc .vmem S8x128x512 .bf16) (harg4 : arg4.IsWhole) (arg5 : Memref sig .tc .vmem S8x16x128 .f32) (harg5 : arg5.IsWhole) (arg6 : Memref sig .tc .vmem S8x128x512 .bf16) (harg6 : arg6.IsWhole) (arg7 : Memref sig .tc .vmem S8x512x128 .bf16) (harg7 : arg7.IsWhole) (arg8 : Memref sig .tc .vmem S8x128x512 .bf16) (harg8 : arg8.IsWhole) (arg9 : Memref sig .tc .vmem S8x16x128 .f32) (harg9 : arg9.IsWhole) (arg10 : Memref sig .tc .vmem S8x512x256 .bf16) (harg10 : arg10.IsWhole) (arg11 : Memref sig .tc .vmem S8x256x512 .bf16) (harg11 : arg11.IsWhole) (arg12 : Memref sig .tc .vmem S8x16x256 .f32) (harg12 : arg12.IsWhole) (arg13 : Memref sig .tc .vmem S8x128x512 .bf16) (harg13 : arg13.IsWhole) (arg14 : Memref sig .tc .vmem S8x128x512 .bf16) (harg14 : arg14.IsWhole) (arg15 : Memref sig .tc .vmem S64x128x256 .f32) (harg15 : arg15.IsWhole) (arg16 : Memref sig .tc .vmem S64x8x128 .f32) (harg16 : arg16.IsWhole) (hc0 : ¬cond0_0 i)
    (x0 : Vec Ideal S8x128x512 .bf16) (x1 : Vec Ideal S8x512x128 .bf16) (x2 : Vec Ideal S8x128x512 .bf16) (x3 : Vec Ideal S8x16x128 .f32) (x4 : Vec Ideal S8x128x512 .bf16) (x5 : Vec Ideal S8x512x128 .bf16) (x6 : Vec Ideal S8x128x512 .bf16) (x7 : Vec Ideal S8x16x128 .f32) (x8 : Vec Ideal S8x512x256 .bf16) (x9 : Vec Ideal S8x256x512 .bf16) (x10 : Vec Ideal S8x16x256 .f32) (xs0 : Vec Ideal S64x128x256 .f32) (xs1 : Vec Ideal S64x8x128 .f32)

/-- A later point moves on the slots it finds. -/
theorem afterB (Z Z' : ℕ → Slot) (hs : ∀ (k : ℕ) (h : k < 64), Holds xs0 xs1 k h (Z k)) (hZ : Moved (inpOf arg2 harg2 arg3 harg3 arg4 harg4 arg5 harg5 arg6 harg6 arg7 harg7 arg8 harg8 arg9 harg9 x0 x1 x2 x3 x4 x5 x6 x7) Z Z') :
    After (inpOf arg2 harg2 arg3 harg3 arg4 harg4 arg5 harg5 arg6 harg6 arg7 harg7 arg8 harg8 arg9 harg9 x0 x1 x2 x3 x4 x5 x6 x7) Z Z'
      (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1, out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1, sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1, sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1) := by
  have M := midB arg15 arg16 harg15 harg16 xs0 xs1 ([], []) Z Z' hs
  refine ⟨fun k h => ?_, fun b hb h hh p e => ?_, fun b hb h hh p e => ?_⟩
  · have e0 : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 = View.canon _ := View.read_writes_junk_eq_canon _ _
    have e1 : sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 = View.canon _ := View.read_writes_junk_eq_canon _ _
    rw [runB_c] at e0
    rw [runB_m] at e1
    dsimp only
    rw [e0, e1]
    exact stN_stored _ (apartB arg15 harg15 arg16 harg16 xs0 xs1) _ Z Z' hZ _ M k h
  · have e0 : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 = View.canon _ := View.read_writes_junk_eq_canon _ _
    rw [runB_f] at e0
    dsimp only
    rw [e0]
    exact ofN_at _ (apartB arg15 harg15 arg16 harg16 xs0 xs1) _ Z Z' hZ _ M 8 le_rfl b hb hb h hh p e
  · have e0 : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs0 xs1 = View.canon _ := View.read_writes_junk_eq_canon _ _
    rw [runB_b] at e0
    dsimp only
    rw [e0]
    exact obN_at _ (apartB arg15 harg15 arg16 harg16 xs0 xs1) _ Z Z' hZ _ M 8 le_rfl b hb hb h hh p e
end

end Cert.KernelIdeal.Pair
end
-- ==== Proof.Context.lean ====
module

public import proofs.«01_k».proof.Proof.Math

@[expose] public section

/-! Two updates from the zero state, over the two halves of a sequence, are one update over the whole of it. -/

noncomputable section

namespace Cert.Scan

open Idealize.ShloMosaic

theorem sum_real {ι : Type} (s : Finset ι) (f : ι → EReal) (h : ∀ i, ∃ r : ℝ, f i = r) : ∃ r : ℝ, ∑ i ∈ s, f i = r := by
  choose g hg using h
  refine ⟨∑ i ∈ s, g i, ?_⟩
  simp only [hg]
  classical
  induction s using Finset.induction_on with
  | empty => simp
  | insert a s h ih => rw [Finset.sum_insert h, Finset.sum_insert h, ih, EReal.coe_add]

theorem cum_real {T : ℕ} (f : Fin T → EReal) (h : ∀ i, ∃ r : ℝ, f i = r) (j : Fin T) : ∃ r : ℝ, cum f j = r :=
  sum_real _ _ fun i => by
    by_cases hij : i ≤ j
    · simpa [hij] using h i
    · exact ⟨0, by simp [hij]⟩

/-- Adding a number is monotone. -/
theorem mono_add (r : ℝ) : Monotone fun x : EReal => (r : EReal) + x := fun _ _ h => add_le_add le_rfl h

/-- A finite number may be added inside a supremum over a nonempty index. -/
theorem add_sup {ι : Type} (s : Finset ι) (f : ι → EReal) (r : ℝ) :
    (r : EReal) + s.sup f = s.sup fun i => (r : EReal) + f i := by
  classical
  induction s using Finset.induction_on with
  | empty => simp
  | insert a s h ih =>
    rw [Finset.sup_insert, Finset.sup_insert, ← ih]
    exact (mono_add r).map_max

theorem real_add_max (r : ℝ) (x y : EReal) : (r : EReal) + max x y = max ((r : EReal) + x) ((r : EReal) + y) :=
  (mono_add r).map_max

section
variable {A B : ℕ} (lf li : Fin (A + B) → EReal)

/-- The first half. -/
def fstH {α : Type} (f : Fin (A + B) → α) (i : Fin A) : α := f (Fin.castAdd B i)
/-- The second half. -/
def sndH {α : Type} (f : Fin (A + B) → α) (i : Fin B) : α := f (Fin.natAdd A i)

theorem cum_fst (j : Fin A) : cum lf (Fin.castAdd B j) = cum (fstH lf) j := by
  unfold cum
  rw [Fin.sum_univ_add]
  have h : ∀ i : Fin B, ¬ Fin.natAdd A i ≤ Fin.castAdd B j := fun i => by
    rw [Fin.le_def]; simp only [Fin.val_natAdd, Fin.val_castAdd]; omega
  simp only [h, if_false, Finset.sum_const_zero, add_zero]
  rfl

theorem cum_snd (j : Fin B) : cum lf (Fin.natAdd A j) = (∑ i, fstH lf i) + cum (sndH lf) j := by
  unfold cum
  rw [Fin.sum_univ_add]
  have h : ∀ i : Fin A, Fin.castAdd B i ≤ Fin.natAdd A j := fun i => by
    rw [Fin.le_def]; simp only [Fin.val_natAdd, Fin.val_castAdd]; omega
  have h' : ∀ i : Fin B, Fin.natAdd A i ≤ Fin.natAdd A j ↔ i ≤ j := fun i => by
    rw [Fin.le_def, Fin.le_def]; simp only [Fin.val_natAdd]; omega
  simp only [h, h', if_true]
  rfl

theorem sum_halves : ∑ i, lf i = (∑ i, fstH lf i) + ∑ i, sndH lf i := Fin.sum_univ_add _

variable (hlf : ∀ i, ∃ r : ℝ, lf i = r)
include hlf

theorem gain_fst (j : Fin A) : gain lf li (Fin.castAdd B j) = (∑ i, sndH lf i) + gain (fstH lf) (fstH li) j := by
  unfold gain
  rw [cum_fst, sum_halves]
  obtain ⟨a, ha⟩ := sum_real Finset.univ (fstH (B := B) lf) fun i => hlf _
  obtain ⟨b, hb⟩ := sum_real Finset.univ (sndH (A := A) lf) fun i => hlf _
  obtain ⟨c, hc⟩ := cum_real (fstH (B := B) lf) (fun i => hlf _) j
  rw [ha, hb, hc, ← add_assoc]
  congr 1
  rw [← EReal.coe_add, ← EReal.coe_sub, ← EReal.coe_sub, ← EReal.coe_add]
  congr 1; ring

theorem gain_snd (j : Fin B) : gain lf li (Fin.natAdd A j) = gain (sndH lf) (sndH li) j := by
  unfold gain
  rw [cum_snd, sum_halves]
  obtain ⟨a, ha⟩ := sum_real Finset.univ (fstH (B := B) lf) fun i => hlf _
  obtain ⟨b, hb⟩ := sum_real Finset.univ (sndH (A := A) lf) fun i => hlf _
  obtain ⟨c, hc⟩ := cum_real (sndH (A := A) lf) (fun i => hlf _) j
  rw [ha, hb, hc]
  congr 1
  rw [← EReal.coe_add, ← EReal.coe_add, ← EReal.coe_sub, ← EReal.coe_sub]
  congr 1; ring

theorem sup_halves (f : Fin (A + B) → EReal) :
    Finset.univ.sup f = max (Finset.univ.sup (fstH f)) (Finset.univ.sup (sndH f)) := by
  apply le_antisymm
  · refine Finset.sup_le fun i _ => ?_
    induction i using Fin.addCases with
    | left i => exact le_max_of_le_left (Finset.le_sup (f := fstH f) (Finset.mem_univ i))
    | right i => exact le_max_of_le_right (Finset.le_sup (f := sndH f) (Finset.mem_univ i))
  · refine max_le (Finset.sup_le fun i _ => ?_) (Finset.sup_le fun i _ => ?_)
    · exact Finset.le_sup (f := f) (Finset.mem_univ _)
    · exact Finset.le_sup (f := f) (Finset.mem_univ _)

/-- The running maximum after both halves. -/
theorem m_halves (m : EReal) :
    mNew (mNew m (fstH lf) (fstH li)) (sndH lf) (sndH li) = mNew m lf li := by
  conv_rhs => unfold mNew
  rw [sup_halves lf hlf]
  have h1 : fstH (gain lf li) = fun j => (∑ i, sndH lf i) + gain (fstH lf) (fstH li) j := funext fun j => gain_fst lf li hlf j
  have h2 : sndH (gain lf li) = gain (sndH lf) (sndH li) := funext fun j => gain_snd lf li hlf j
  rw [h1, h2, sum_halves]
  obtain ⟨b, hb⟩ := sum_real Finset.univ (sndH (A := A) lf) fun i => hlf _
  unfold mNew
  rw [hb, real_add_max, add_sup, ← max_assoc, ← add_assoc, add_comm (∑ i, fstH lf i)]

/-- The running maximum after the first half, from zero, is not minus infinity. -/
theorem m_fst_ne_bot : mNew 0 (fstH (B := B) lf) (fstH li) ≠ ⊥ := by
  obtain ⟨a, ha⟩ := sum_real Finset.univ (fstH (B := B) lf) fun i => hlf _
  unfold mNew
  rw [ha, add_zero]
  intro h
  exact absurd ((le_max_left _ _).trans h.le) (not_le.mpr (EReal.bot_lt_coe a))

/-- The weight a token of the first half has after the second: the second update multiplies it by what the old state is
    multiplied by. -/
theorem wTok_fst (j : Fin A) :
    wOld (mNew 0 (fstH lf) (fstH li)) (sndH lf) (sndH li) * wTok 0 (fstH lf) (fstH li) j
      = wTok 0 lf li (Fin.castAdd B j) := by
  unfold wOld wTok
  rw [← exp_add, m_halves lf li hlf, gain_fst lf li hlf]
  congr 1
  have hm := m_halves lf li hlf 0
  have hb := m_fst_ne_bot lf li hlf
  obtain ⟨b, hB⟩ := sum_real Finset.univ (sndH (A := A) lf) fun i => hlf _
  have hM : mNew (mNew 0 (fstH (B := B) lf) (fstH li)) (sndH (A := A) lf) (sndH li) = max ((b : EReal) + mNew 0 (fstH lf) (fstH li))
      (Finset.univ.sup (gain (sndH lf) (sndH li))) := by
    conv_lhs => unfold mNew
    rw [hB]; rfl
  rw [hm] at hM
  rw [hB]
  generalize mNew 0 (fstH (B := B) lf) (fstH li) = M at *
  generalize gain (fstH (B := B) lf) (fstH li) j = g
  generalize mNew 0 lf li = N at *
  induction M with
  | bot => exact absurd rfl hb
  | top =>
    have : N = ⊤ := by rw [hM]; simp
    rw [this]; simp
  | coe r =>
    rw [sub_eq_add_neg, sub_eq_add_neg, sub_eq_add_neg]
    have : (b : EReal) + r + -N + (g + -(r : EReal)) = (b + g + -N) + (r + -(r : EReal)) := by ac_rfl
    rw [this, ← sub_eq_add_neg (r : EReal), ← EReal.coe_sub, sub_self, EReal.coe_zero, add_zero]

theorem wOld_snd_ne_top : wOld (mNew 0 (fstH (B := B) lf) (fstH li)) (sndH lf) (sndH li) ≠ ⊤ := by
  apply exp_ne_top
  obtain ⟨b, hB⟩ := sum_real Finset.univ (sndH (A := A) lf) fun i => hlf _
  have hb := m_fst_ne_bot lf li hlf
  have hM : (∑ i, sndH lf i) + mNew 0 (fstH (B := B) lf) (fstH li)
      ≤ mNew (mNew 0 (fstH (B := B) lf) (fstH li)) (sndH (A := A) lf) (sndH li) := le_max_left _ _
  rw [hB] at *
  generalize mNew 0 (fstH (B := B) lf) (fstH li) = M at *
  generalize mNew M (sndH (A := A) lf) (sndH li) = N at *
  intro h
  induction N with
  | top => simp [sub_eq_add_neg] at h
  | bot =>
    induction M with
    | bot => exact hb rfl
    | top => simp at hM
    | coe r => rw [← EReal.coe_add] at hM; exact absurd hM (not_le.mpr (EReal.bot_lt_coe _))
  | coe s =>
    induction M with
    | bot => exact hb rfl
    | top => simp at hM
    | coe r => rw [← EReal.coe_add, ← EReal.coe_sub] at h; exact EReal.coe_ne_top _ h

/-- The memory after both halves, from zero. -/
theorem c_halves (k v : Fin (A + B) → EReal) :
    cNew (mNew 0 (fstH lf) (fstH li)) (cNew 0 0 (fstH lf) (fstH li) (fstH k) (fstH v)) (sndH lf) (sndH li) (sndH k) (sndH v)
      = cNew 0 0 lf li k v := by
  have h0 : 0 ≤ wOld (mNew 0 (fstH lf) (fstH li)) (sndH lf) (sndH li) := exp_nonneg _
  unfold cNew
  rw [mul_zero, zero_add, mul_zero, zero_add, mul_sum _ _ h0 (wOld_snd_ne_top lf li hlf), Fin.sum_univ_add]
  congr 1
  · refine Finset.sum_congr rfl fun j _ => ?_
    rw [← mul_assoc, ← mul_assoc, wTok_fst lf li hlf]
    rfl
  · refine Finset.sum_congr rfl fun j _ => ?_
    unfold wTok
    rw [m_halves lf li hlf, gain_snd lf li hlf]
    rfl

/-- The normaliser after both halves, from zero. -/
theorem n_halves (k : Fin (A + B) → EReal) :
    nNew (mNew 0 (fstH lf) (fstH li)) (nNew 0 0 (fstH lf) (fstH li) (fstH k)) (sndH lf) (sndH li) (sndH k)
      = nNew 0 0 lf li k := by
  have h := c_halves lf li hlf k (fun _ => 1)
  unfold cNew fstH sndH at h
  unfold nNew fstH sndH
  simpa only [mul_one] using h
end

end Cert.Scan

end
-- ==== Proof.Spec.lean ====
module

public import proofs.«01_k».proof.Proof.Math
public import proofs.«01_k».proof.Proof.Scalars
public import proofs.«01_k».proof.Proof.Context

@[expose] public section

/-! What both programs compute: the scan of each batch element and head, of the arrays both are given. -/

noncomputable section

namespace Cert.Scan

open Idealize.ShloMosaic

/-! ## The arrays -/

/-- The arrays both programs are given, by batch element. -/
structure Args where
  q : Fin 8 → Fin 4096 → Fin 512 → EReal
  k : Fin 8 → Fin 512 → Fin 4096 → EReal
  v : Fin 8 → Fin 4096 → Fin 512 → EReal
  g : Fin 8 → Fin 16 → Fin 4096 → EReal
  kc : Fin 8 → Fin 512 → Fin 256 → EReal
  vc : Fin 8 → Fin 256 → Fin 512 → EReal
  gc : Fin 8 → Fin 16 → Fin 256 → EReal

/-- The batch element's token among all. -/
def row (b : Fin 8) (t : Fin 4096) : Fin 32768 := ⟨b * 4096 + t, by omega⟩

/-- The batch element's context token among all. -/
def rowc (b : Fin 8) (t : Fin 256) : Fin 2048 := ⟨b * 256 + t, by omega⟩

/-- A head's coordinate among all. -/
def col (h : Fin 4) (d : Fin 128) : Fin 512 := ⟨h * 128 + d, by omega⟩

/-- A gate among the sixteen: the direction, which of the two kinds, the head. -/
def gate (s i : Fin 2) (h : Fin 4) : Fin 16 := ⟨s * 8 + i * 4 + h, by omega⟩

/-- The chunk's token among the element's. -/
def pos (j : Fin 32) (l : Fin 128) : Fin 4096 := ⟨j * 128 + l, by omega⟩

theorem rev_pos (j : Fin 32) (l : Fin 128) : (pos j l).rev = pos j.rev l.rev := Fin.ext (by
  simp only [Fin.val_rev, pos]; omega)

/-! ## The scan -/

/-- What a direction of a head holds: the memory, the normaliser and the running maximum. -/
structure Mem where
  c : Fin 128 → Fin 128 → EReal
  n : Fin 128 → EReal
  m : EReal

/-- A stretch of tokens of a direction of a head, in its order. -/
structure Toks (T : ℕ) where
  lf : Fin T → EReal
  li : Fin T → EReal
  k : Fin T → Fin 128 → EReal
  v : Fin T → Fin 128 → EReal

/-- The state after a stretch of tokens. -/
def rstep {T : ℕ} (D : Toks T) (z : Mem) : Mem where
  c := fun d e => cNew z.m (z.c d e) D.lf D.li (fun i => D.k i d) (fun i => D.v i e)
  n := fun d => nNew z.m (z.n d) D.lf D.li (fun i => D.k i d)
  m := mNew z.m D.lf D.li

/-- The empty state. -/
def mem0 : Mem := ⟨fun _ _ => 0, fun _ => 0, 0⟩

/-- The state before a chunk. -/
def iter (D : Fin 32 → Toks 128) (z : Mem) : (n : ℕ) → n ≤ 32 → Mem
  | 0, _ => z
  | n + 1, h => rstep (D ⟨n, h⟩) (iter D z n (Nat.le_of_succ_le h))

/-- A token's output in its chunk. -/
def tok (D : Toks 128) (z : Mem) (q : Fin 128 → EReal) (l e : Fin 128) : EReal :=
  hOut z.m (fun d => z.c d e) z.n D.lf D.li q D.k (fun i => D.v i e) l

variable (A : Args) (b : Fin 8) (h : Fin 4)

/-- A head's queries. -/
def Args.qs (t : Fin 4096) (d : Fin 128) : EReal := A.q b t (col h d)

/-- A chunk of a head, forwards. -/
def Args.fwd (j : Fin 32) : Toks 128 where
  lf := fun l => lsig (A.g b (gate 0 1 h) (pos j l))
  li := fun l => A.g b (gate 0 0 h) (pos j l)
  k := fun l d => A.k b (col h d) (pos j l)
  v := fun l d => A.v b (pos j l) (col h d)

/-- A chunk of a head, backwards. -/
def Args.bwd (j : Fin 32) : Toks 128 where
  lf := fun l => lsig (A.g b (gate 1 1 h) (pos j l).rev)
  li := fun l => A.g b (gate 1 0 h) (pos j l).rev
  k := fun l d => A.k b (col h d) (pos j l).rev
  v := fun l d => A.v b (pos j l).rev (col h d)

/-- The context of a head, forwards. -/
def Args.fctx : Toks 256 where
  lf := fun i => lsig (A.gc b (gate 0 1 h) i)
  li := fun i => A.gc b (gate 0 0 h) i
  k := fun i d => A.kc b (col h d) i
  v := fun i d => A.vc b i (col h d)

/-- The context of a head, backwards. -/
def Args.bctx : Toks 256 where
  lf := fun i => lsig (A.gc b (gate 1 1 h) i.rev)
  li := fun i => A.gc b (gate 1 0 h) i.rev
  k := fun i d => A.kc b (col h d) i.rev
  v := fun i d => A.vc b i.rev (col h d)

/-- The state before a chunk forwards, from the context's. -/
def Args.fmem (n : ℕ) (hn : n ≤ 32) : Mem := iter (A.fwd b h) (rstep (A.fctx b h) mem0) n hn

/-- The state before a chunk backwards, from the context's. -/
def Args.bmem (n : ℕ) (hn : n ≤ 32) : Mem := iter (A.bwd b h) (rstep (A.bctx b h) mem0) n hn

/-- The output forwards of a chunk's token. -/
def Args.fout (j : Fin 32) (l e : Fin 128) : EReal :=
  tok (A.fwd b h j) (A.fmem b h j j.isLt.le) (fun d => A.qs b h (pos j l) d) l e

/-- The output backwards of a chunk's token. -/
def Args.bout (j : Fin 32) (l e : Fin 128) : EReal :=
  tok (A.bwd b h j) (A.bmem b h j j.isLt.le) (fun d => A.qs b h (pos j l).rev d) l e

end Cert.Scan
end
-- ==== Proof.KerMath.lean ====
module

public import proofs.«01_k».proof.Proof.PointRun
public import proofs.«01_k».proof.Proof.Spec
public import proofs.«01_k».proof.Proof.Context

@[expose] public section

set_option maxRecDepth 16384

/-! The kernel's slots are the scan's states, with the maximum taken to base two. -/

noncomputable section

namespace Cert.KernelIdeal.Pair

open Idealize.ShloMosaic Idealize.SL.Sem Cert.KernelIdeal Cert.KernelIdeal.Gen Cert.Scan

/-- The slot that holds a state. -/
def ofMem (z : Mem) : Slot := ⟨z.c, z.n, z.m * kap⟩

theorem zero_eq : zero = ofMem mem0 := by
  unfold zero ofMem mem0
  rw [zero_mul]

/-- Positions in the tokens' order, -/
theorem sf_iff (p c : Fin 128) : SF p c ↔ Equiv.refl (Fin 128) c ≤ Equiv.refl (Fin 128) p := Iff.rfl

/-- and against it. -/
theorem sb_iff (p c : Fin 128) : SB p c ↔ Fin.revPerm c ≤ Fin.revPerm p := Fin.rev_le_rev.symm

section
variable (S : Fin 128 → Fin 128 → Prop) [DecidableRel S] (σ : Equiv.Perm (Fin 128)) (hS : ∀ p c, S p c ↔ σ c ≤ σ p)
variable (D : Toks 128) (z : Mem) (lf li : Fin 128 → EReal) (hlf : ∀ c, lf c = D.lf (σ c) * kap) (hli : ∀ c, li c = D.li (σ c) * kap)
variable (k v : Fin 128 → Fin 128 → EReal) (hk : ∀ d p, k d p = D.k (σ p) d) (hv : ∀ p e, v p e = D.v (σ p) e)
include hS hlf hli hk hv

/-- The kernel's step of a slot is the scan's of the state. -/
theorem kstep_eq : kstep S lf li k v (ofMem z) = ofMem (rstep D z) := by
  unfold kstep ofMem rstep
  refine congr (congr (congrArg Slot.mk (funext fun d => funext fun e => ?_)) (funext fun d => ?_)) ?_
  · exact kC_eq S σ hS z.m D.lf D.li lf li hlf hli _ _ _ _ _ (hk d) fun p => hv p e
  · exact kN_eq S σ hS z.m D.lf D.li lf li hlf hli _ _ _ (hk d)
  · exact kM_eq S σ hS z.m D.lf D.li lf li hlf hli

/-- The kernel's output of a position is the scan's of its token. -/
theorem kH_tok (q q' : Fin 128 → EReal) (hq : ∀ d, q d = q' d) (p e : Fin 128) :
    kH S (ofMem z).m lf li (fun d => (ofMem z).c d e) (ofMem z).n q k (fun c => v c e) p = tok D z q' (σ p) e := by
  rw [funext hq]
  exact kH_eq S σ hS z.m D.lf D.li lf li hlf hli _ _ _ _ _ hk _ _ (fun p => hv p e) p
end

/-- The first half of a context, -/
def fstT (D : Toks 256) : Toks 128 :=
  ⟨fstH (A := 128) (B := 128) D.lf, fstH (A := 128) (B := 128) D.li, fstH (A := 128) (B := 128) D.k, fstH (A := 128) (B := 128) D.v⟩

/-- and the second. -/
def sndT (D : Toks 256) : Toks 128 :=
  ⟨sndH (A := 128) (B := 128) D.lf, sndH (A := 128) (B := 128) D.li, sndH (A := 128) (B := 128) D.k, sndH (A := 128) (B := 128) D.v⟩

/-- From the empty state, the halves one after the other are the whole. -/
theorem rstep_halves (D : Toks 256) (hlf : ∀ i, ∃ r : ℝ, D.lf i = r) :
    rstep (sndT D) (rstep (fstT D) mem0) = rstep D mem0 := by
  unfold rstep
  refine congr (congr (congrArg Mem.mk (funext fun d => funext fun e => ?_)) (funext fun d => ?_)) ?_
  · exact c_halves (A := 128) (B := 128) D.lf D.li hlf (fun i => D.k i d) (fun i => D.v i e)
  · exact n_halves (A := 128) (B := 128) D.lf D.li hlf (fun i => D.k i d)
  · exact m_halves (A := 128) (B := 128) D.lf D.li hlf 0

/-! ## The blocks of a point -/

/-- The blocks are the chunks of the arrays: forwards the point's own, backwards its mirror. -/
structure Reads (A : Args) (t : Fin 32) (I : Inp) : Prop where
  qf : ∀ (b : ℕ) (hb : b < 8) (p : Fin 128) (x : Fin 512), I.qf b hb (ix2 p x) = A.q ⟨b, hb⟩ (pos t p) x
  kf : ∀ (b : ℕ) (hb : b < 8) (x : Fin 512) (p : Fin 128), I.kf b hb (ix2 x p) = A.k ⟨b, hb⟩ x (pos t p)
  vf : ∀ (b : ℕ) (hb : b < 8) (p : Fin 128) (x : Fin 512), I.vf b hb (ix2 p x) = A.v ⟨b, hb⟩ (pos t p) x
  gf : ∀ (b : ℕ) (hb : b < 8) (r : Fin 16) (p : Fin 128), I.gf b hb (ix2 r p) = A.g ⟨b, hb⟩ r (pos t p)
  qb : ∀ (b : ℕ) (hb : b < 8) (p : Fin 128) (x : Fin 512), I.qb b hb (ix2 p x) = A.q ⟨b, hb⟩ (pos t.rev p) x
  kb : ∀ (b : ℕ) (hb : b < 8) (x : Fin 512) (p : Fin 128), I.kb b hb (ix2 x p) = A.k ⟨b, hb⟩ x (pos t.rev p)
  vb : ∀ (b : ℕ) (hb : b < 8) (p : Fin 128) (x : Fin 512), I.vb b hb (ix2 p x) = A.v ⟨b, hb⟩ (pos t.rev p) x
  gb : ∀ (b : ℕ) (hb : b < 8) (r : Fin 16) (p : Fin 128), I.gb b hb (ix2 r p) = A.g ⟨b, hb⟩ r (pos t.rev p)

/-- A stretch's token among the context's. -/
def cpos (o : ℕ) (ho : o ≤ 128) (p : Fin 128) : Fin 256 := ⟨o + p, by omega⟩

/-- The context's blocks are the arrays' halves. -/
structure CtxReads (A : Args) (I : Ctx) : Prop where
  k : ∀ (b : ℕ) (hb : b < 8) (o : ℕ) (ho : o ≤ 128) (x : Fin 512) (p : Fin 128), I.k b hb o ho (ix2 x p) = A.kc ⟨b, hb⟩ x (cpos o ho p)
  v : ∀ (b : ℕ) (hb : b < 8) (o : ℕ) (ho : o ≤ 128) (p : Fin 128) (x : Fin 512), I.v b hb o ho (ix2 p x) = A.vc ⟨b, hb⟩ (cpos o ho p) x
  g : ∀ (b : ℕ) (hb : b < 8) (o : ℕ) (ho : o ≤ 128) (r : Fin 16) (p : Fin 128), I.g b hb o ho (ix2 r p) = A.gc ⟨b, hb⟩ r (cpos o ho p)

theorem colK (h : ℕ) (hh : h < 4) (d : Fin 128) (H : 128 * h + d < 512) : (⟨128 * h + d, H⟩ : Fin 512) = col ⟨h, hh⟩ d :=
  Fin.ext (by simp only [col]; omega)

theorem gate01 (h : ℕ) (hh : h < 4) (H : 4 + h < 16) : (⟨4 + h, H⟩ : Fin 16) = gate 0 1 ⟨h, hh⟩ :=
  Fin.ext (by simp [gate])

theorem gate00 (h : ℕ) (hh : h < 4) (H : h < 16) : (⟨h, H⟩ : Fin 16) = gate 0 0 ⟨h, hh⟩ :=
  Fin.ext (by simp [gate])

theorem gate11 (h : ℕ) (hh : h < 4) (H : 12 + h < 16) : (⟨12 + h, H⟩ : Fin 16) = gate 1 1 ⟨h, hh⟩ :=
  Fin.ext (by simp [gate])

theorem gate10 (h : ℕ) (hh : h < 4) (H : 8 + h < 16) : (⟨8 + h, H⟩ : Fin 16) = gate 1 0 ⟨h, hh⟩ :=
  Fin.ext (by simp [gate])

/-- Against the order, a chunk's token is the mirror's. -/
theorem pos_rev (t : Fin 32) (p : Fin 128) : (pos t p.rev).rev = pos t.rev p := by rw [rev_pos, Fin.rev_rev]

section
variable {A : Args} {t : Fin 32} {I : Inp} (H : Reads A t I) (b : ℕ) (hb : b < 8) (h : ℕ) (hh : h < 4) (z : Mem)
include H

/-- The step of a slot forwards, -/
theorem fstep_eq : kstep SF (lfOf (I.gf b hb) (4 + h) (h8 hh)) (liOf (I.gf b hb) h (h4 hh)) (kOf (I.kf b hb) (128 * h) (hd hh))
    (vOf (I.vf b hb) (128 * h) (hd hh)) (ofMem z) = ofMem (rstep (A.fwd ⟨b, hb⟩ ⟨h, hh⟩ t) z) :=
  kstep_eq SF (Equiv.refl _) sf_iff _ z _ _
    (fun c => by unfold lfOf; rw [H.gf, gate01 h hh]; rfl) (fun c => by unfold liOf; rw [H.gf, gate00 h hh]; rfl) _ _
    (fun d p => by unfold kOf; rw [H.kf, colK h hh]; rfl) (fun p e => by unfold vOf; rw [H.vf, colK h hh]; rfl)

/-- and backwards. -/
theorem bstep_eq : kstep SB (lfOf (I.gb b hb) (12 + h) (h16 hh)) (liOf (I.gb b hb) (8 + h) (h12 hh)) (kOf (I.kb b hb) (128 * h) (hd hh))
    (vOf (I.vb b hb) (128 * h) (hd hh)) (ofMem z) = ofMem (rstep (A.bwd ⟨b, hb⟩ ⟨h, hh⟩ t) z) :=
  kstep_eq SB Fin.revPerm sb_iff _ z _ _
    (fun c => by unfold lfOf; rw [H.gb, gate11 h hh, ← pos_rev]; rfl) (fun c => by unfold liOf; rw [H.gb, gate10 h hh, ← pos_rev]; rfl) _ _
    (fun d p => by unfold kOf; rw [H.kb, colK h hh, ← pos_rev]; rfl) (fun p e => by unfold vOf; rw [H.vb, colK h hh, ← pos_rev]; rfl)

/-- The output of a position forwards, -/
theorem fOut_eq (Z : ℕ → Slot) (hz : Z (8 * b + h) = ofMem z) (p e : Fin 128) : fOut I Z b hb h hh p e
    = tok (A.fwd ⟨b, hb⟩ ⟨h, hh⟩ t) z (fun d => A.qs ⟨b, hb⟩ ⟨h, hh⟩ (pos t p) d) p e := by
  unfold fOut
  rw [hz]
  exact kH_tok SF (Equiv.refl _) sf_iff _ z _ _
    (fun c => by unfold lfOf; rw [H.gf, gate01 h hh]; rfl) (fun c => by unfold liOf; rw [H.gf, gate00 h hh]; rfl) _ _
    (fun d p => by unfold kOf; rw [H.kf, colK h hh]; rfl) (fun p e => by unfold vOf; rw [H.vf, colK h hh]; rfl)
    _ _ (fun d => by unfold qOf; rw [H.qf, colK h hh]; rfl) p e

/-- and backwards. -/
theorem bOut_eq (Z : ℕ → Slot) (hz : Z (8 * b + 4 + h) = ofMem z) (p e : Fin 128) : bOut I Z b hb h hh p e
    = tok (A.bwd ⟨b, hb⟩ ⟨h, hh⟩ t) z (fun d => A.qs ⟨b, hb⟩ ⟨h, hh⟩ (pos t p.rev).rev d) p.rev e := by
  unfold bOut
  rw [hz]
  exact kH_tok SB Fin.revPerm sb_iff _ z _ _
    (fun c => by unfold lfOf; rw [H.gb, gate11 h hh, ← pos_rev]; rfl) (fun c => by unfold liOf; rw [H.gb, gate10 h hh, ← pos_rev]; rfl) _ _
    (fun d p => by unfold kOf; rw [H.kb, colK h hh, ← pos_rev]; rfl) (fun p e => by unfold vOf; rw [H.vb, colK h hh, ← pos_rev]; rfl)
    _ _ (fun d => by unfold qOf; rw [H.qb, colK h hh, ← pos_rev]; rfl) p e
end

theorem cpos_fst (p : Fin 128) (ho : 0 ≤ 128) : cpos 0 ho p = Fin.castAdd 128 p := Fin.ext (by simp [cpos])

theorem cpos_snd (p : Fin 128) (ho : 128 ≤ 128) : cpos 128 ho p = Fin.natAdd 128 p := rfl

theorem cpos_fst_rev (p : Fin 128) (ho : 128 ≤ 128) : cpos 128 ho p = (Fin.castAdd 128 p.rev : Fin 256).rev :=
  Fin.ext (by simp only [cpos, Fin.val_rev, Fin.val_castAdd]; omega)

theorem cpos_snd_rev (p : Fin 128) (ho : 0 ≤ 128) : cpos 0 ho p = (Fin.natAdd 128 p.rev : Fin 256).rev :=
  Fin.ext (by simp only [cpos, Fin.val_rev, Fin.val_natAdd]; omega)

section
variable {A : Args} {I : Ctx} (H : CtxReads A I) (b : ℕ) (hb : b < 8) (h : ℕ) (hh : h < 4) (z : Mem)
include H

theorem fCtx_fst (ho : 0 ≤ 128) : fCtx I b hb 0 ho h hh (ofMem z) = ofMem (rstep (fstT (A.fctx ⟨b, hb⟩ ⟨h, hh⟩)) z) :=
  kstep_eq SF (Equiv.refl _) sf_iff _ z _ _
    (fun c => by unfold lfOf; rw [H.g, gate01 h hh, cpos_fst]; rfl) (fun c => by unfold liOf; rw [H.g, gate00 h hh, cpos_fst]; rfl) _ _
    (fun d p => by unfold kOf; rw [H.k, colK h hh, cpos_fst]; rfl) (fun p e => by unfold vOf; rw [H.v, colK h hh, cpos_fst]; rfl)

theorem fCtx_snd (ho : 128 ≤ 128) : fCtx I b hb 128 ho h hh (ofMem z) = ofMem (rstep (sndT (A.fctx ⟨b, hb⟩ ⟨h, hh⟩)) z) :=
  kstep_eq SF (Equiv.refl _) sf_iff _ z _ _
    (fun c => by unfold lfOf; rw [H.g, gate01 h hh, cpos_snd]; rfl) (fun c => by unfold liOf; rw [H.g, gate00 h hh, cpos_snd]; rfl) _ _
    (fun d p => by unfold kOf; rw [H.k, colK h hh, cpos_snd]; rfl) (fun p e => by unfold vOf; rw [H.v, colK h hh, cpos_snd]; rfl)

theorem bCtx_fst (ho : 128 ≤ 128) : bCtx I b hb 128 ho h hh (ofMem z) = ofMem (rstep (fstT (A.bctx ⟨b, hb⟩ ⟨h, hh⟩)) z) :=
  kstep_eq SB Fin.revPerm sb_iff _ z _ _
    (fun c => by unfold lfOf; rw [H.g, gate11 h hh, cpos_fst_rev]; rfl) (fun c => by unfold liOf; rw [H.g, gate10 h hh, cpos_fst_rev]; rfl) _ _
    (fun d p => by unfold kOf; rw [H.k, colK h hh, cpos_fst_rev]; rfl) (fun p e => by unfold vOf; rw [H.v, colK h hh, cpos_fst_rev]; rfl)

theorem bCtx_snd (ho : 0 ≤ 128) : bCtx I b hb 0 ho h hh (ofMem z) = ofMem (rstep (sndT (A.bctx ⟨b, hb⟩ ⟨h, hh⟩)) z) :=
  kstep_eq SB Fin.revPerm sb_iff _ z _ _
    (fun c => by unfold lfOf; rw [H.g, gate11 h hh, cpos_snd_rev]; rfl) (fun c => by unfold liOf; rw [H.g, gate10 h hh, cpos_snd_rev]; rfl) _ _
    (fun d p => by unfold kOf; rw [H.k, colK h hh, cpos_snd_rev]; rfl) (fun p e => by unfold vOf; rw [H.v, colK h hh, cpos_snd_rev]; rfl)
end

/-! ## All slots -/

/-- The slots before a chunk. -/
def slots (A : Args) (n : ℕ) (hn : n ≤ 32) (r : ℕ) : Slot :=
  if r % 8 < 4 then ofMem (A.fmem (Fin.ofNat 8 (r / 8)) (Fin.ofNat 4 (r % 4)) n hn)
  else ofMem (A.bmem (Fin.ofNat 8 (r / 8)) (Fin.ofNat 4 (r % 4)) n hn)

theorem slots_f (A : Args) (n : ℕ) (hn : n ≤ 32) (b : ℕ) (hb : b < 8) (h : ℕ) (hh : h < 4) :
    slots A n hn (8 * b + h) = ofMem (A.fmem ⟨b, hb⟩ ⟨h, hh⟩ n hn) := by
  have e1 : Fin.ofNat 8 ((8 * b + h) / 8) = ⟨b, hb⟩ := Fin.ext (by simp only [Fin.val_ofNat]; omega)
  have e2 : Fin.ofNat 4 ((8 * b + h) % 4) = ⟨h, hh⟩ := Fin.ext (by simp only [Fin.val_ofNat]; omega)
  unfold slots
  rw [if_pos (by omega), e1, e2]

theorem slots_b (A : Args) (n : ℕ) (hn : n ≤ 32) (b : ℕ) (hb : b < 8) (h : ℕ) (hh : h < 4) :
    slots A n hn (8 * b + 4 + h) = ofMem (A.bmem ⟨b, hb⟩ ⟨h, hh⟩ n hn) := by
  have e1 : Fin.ofNat 8 ((8 * b + 4 + h) / 8) = ⟨b, hb⟩ := Fin.ext (by simp only [Fin.val_ofNat]; omega)
  have e2 : Fin.ofNat 4 ((8 * b + 4 + h) % 4) = ⟨h, hh⟩ := Fin.ext (by simp only [Fin.val_ofNat]; omega)
  unfold slots
  rw [if_neg (by omega), e1, e2]

/-- The slots agree on the sixty-four rows. -/
structure Same (Z Z' : ℕ → Slot) : Prop where
  f : ∀ (b : ℕ) (_ : b < 8) (h : ℕ) (_ : h < 4), Z (8 * b + h) = Z' (8 * b + h)
  b : ∀ (b : ℕ) (_ : b < 8) (h : ℕ) (_ : h < 4), Z (8 * b + 4 + h) = Z' (8 * b + 4 + h)

/-- A point's chunk moves the slots on. -/
theorem moved_of {A : Args} {n : ℕ} (hn : n < 32) {I : Inp} (H : Reads A ⟨n, hn⟩ I) (Z : ℕ → Slot) (hZ : Same Z (slots A n hn.le)) :
    Moved I Z (slots A (n + 1) hn) := by
  refine ⟨fun b hb h hh => ?_, fun b hb h hh => ?_⟩
  · rw [hZ.f b hb h hh, slots_f A _ _ b hb h hh, slots_f A _ _ b hb h hh]
    exact (fstep_eq H b hb h hh _).symm
  · rw [hZ.b b hb h hh, slots_b A _ _ b hb h hh, slots_b A _ _ b hb h hh]
    exact (bstep_eq H b hb h hh _).symm

/-- The context's forget gates are not minus infinity. -/
def Above (A : Args) : Prop := ∀ (b : Fin 8) (s : Fin 2) (h : Fin 4) (i : Fin 256), A.gc b (gate s 1 h) i ≠ ⊥

/-- The context gives the first slots. -/
theorem ctx_slots {A : Args} (hA : Above A) {I : Ctx} (H : CtxReads A I) (Z : ℕ → Slot) (hZ : FromCtx I Z) : Same Z (slots A 0 (by omega)) := by
  refine ⟨fun b hb h hh => ?_, fun b hb h hh => ?_⟩
  · rw [hZ.f b hb h hh, slots_f A _ _ b hb h hh, zero_eq, fCtx_fst H, fCtx_snd H, rstep_halves _ fun i => lsig_real _ (hA _ _ _ _)]
    rfl
  · rw [hZ.b b hb h hh, slots_b A _ _ b hb h hh, zero_eq, bCtx_fst H, bCtx_snd H, rstep_halves _ fun i => lsig_real _ (hA _ _ _ _)]
    rfl

/-- What a point leaves, of the arrays. -/
structure Done (A : Args) (n : ℕ) (hn : n < 32)
    (r : Vec Ideal S8x128x512 .bf16 × Vec Ideal S8x128x512 .bf16 × Vec Ideal S64x128x256 .f32 × Vec Ideal S64x8x128 .f32) : Prop where
  s : ∀ (k : ℕ) (h : k < 64), Holds r.2.2.1 r.2.2.2 k h (slots A (n + 1) hn k)
  f : ∀ (b : Fin 8) (h : Fin 4) (p e : Fin 128), r.1 (ix3 b p (col h e)) = A.fout b h ⟨n, hn⟩ p e
  b : ∀ (b : Fin 8) (h : Fin 4) (p e : Fin 128), r.2.1 (ix3 b p (col h e)) = A.bout b h ⟨n, hn⟩ p.rev e

theorem done_of {A : Args} {n : ℕ} (hn : n < 32) {I : Inp} (H : Reads A ⟨n, hn⟩ I) (Z : ℕ → Slot) (hZ : Same Z (slots A n hn.le)) {r}
    (R : After I Z (slots A (n + 1) hn) r) : Done A n hn r := by
  refine ⟨R.s, fun b h p e => ?_, fun b h p e => ?_⟩
  · rw [← colK h h.isLt e (by omega)]
    refine (R.f b b.isLt h h.isLt p e).trans ?_
    exact fOut_eq H b b.isLt h h.isLt _ Z ((hZ.f b b.isLt h h.isLt).trans (slots_f A n hn.le b b.isLt h h.isLt)) p e
  · rw [← colK h h.isLt e (by omega)]
    refine (R.b b b.isLt h h.isLt p e).trans ?_
    exact bOut_eq H b b.isLt h h.isLt _ Z ((hZ.b b b.isLt h h.isLt).trans (slots_b A n hn.le b b.isLt h h.isLt)) p e

end Cert.KernelIdeal.Pair
end
-- ==== Proof.Cumsum.lean ====
module

public import proofs.«01_k».proof.Proof.Gen.ReferenceIdeal.Step
public import proofs.«01_k».proof.Proof.Math

@[expose] public section

set_option maxRecDepth 16384

/-! The host's running sum along the last of three axes, read at an index. -/

noncomputable section

namespace Cert.Scan

open Idealize.ShloMosaic

theorem foldl_add {M : ℕ} (g : Fin M → EReal) : (List.finRange M).foldl (fun r n => r + g n) 0 = ∑ n, g n := by
  have h : ∀ (l : List (Fin M)) (v : EReal), l.foldl (fun r n => r + g n) v = v + (l.map g).sum := by
    intro l
    induction l with
    | nil => intro v; simp
    | cons a l ih => intro v; rw [List.foldl_cons, ih, List.map_cons, List.sum_cons, add_assoc]
  rw [h, zero_add, Fin.sum_univ_def]

/-- The places of a window that lies along the last axis. -/
def lastAxis (N : ℕ) : Fin N ≃ (⟨3, ![1, 1, N]⟩ : Shape).Idx where
  toFun n := ix3 (0 : Fin 1) (0 : Fin 1) n
  invFun i := i 2
  left_inv n := rfl
  right_inv i := by
    funext a
    match a with
    | ⟨0, _⟩ => exact Subsingleton.elim (α := Fin 1) _ _
    | ⟨1, _⟩ => exact Subsingleton.elim (α := Fin 1) _ _
    | ⟨2, _⟩ => rfl

/-- A window that ends at `j` covers the places up to and with `j`. -/
theorem window_sum {N M : ℕ} (hN : M + 1 = N) (f : Fin N → EReal) (j : Fin N) :
    (∑ n : Fin N, if h : M ≤ j.val + n.val then f ⟨j.val + n.val - M, by omega⟩ else 0) = ∑ i, if i ≤ j then f i else 0 := by
  rw [← Finset.sum_filter]
  have e : ∀ n : Fin N, (if h : M ≤ j.val + n.val then f ⟨j.val + n.val - M, by omega⟩ else 0)
      = if M ≤ j.val + n.val then f ⟨j.val + n.val - M, by omega⟩ else 0 := fun n => by
    by_cases h : M ≤ j.val + n.val
    · rw [dif_pos h, if_pos h]
    · rw [dif_neg h, if_neg h]
  rw [Finset.sum_congr rfl fun n _ => e n, ← Finset.sum_filter]
  refine Finset.sum_bij' (fun n _ => ⟨j.val + n.val - M, by omega⟩) (fun i _ => ⟨(i.val + M - j.val) % N, Nat.mod_lt _ (by omega)⟩)
    (fun n hn => ?_) (fun i hi => ?_) (fun n hn => ?_) (fun i hi => ?_) (fun n hn => rfl)
  · have := (Finset.mem_filter.mp hn).2
    exact Finset.mem_filter.mpr ⟨Finset.mem_univ _, Fin.le_def.mpr (by show j.val + n.val - M ≤ j.val; omega)⟩
  · have hi := Fin.le_def.mp (Finset.mem_filter.mp hi).2
    have hm : (i.val + M - j.val) % N = i.val + M - j.val := Nat.mod_eq_of_lt (by omega)
    exact Finset.mem_filter.mpr ⟨Finset.mem_univ _, by show M ≤ j.val + (i.val + M - j.val) % N; omega⟩
  · have := (Finset.mem_filter.mp hn).2
    apply Fin.ext
    show (j.val + n.val - M + M - j.val) % N = n.val
    rw [Nat.mod_eq_of_lt (by omega)]
    omega
  · have hi := Fin.le_def.mp (Finset.mem_filter.mp hi).2
    apply Fin.ext
    show j.val + (i.val + M - j.val) % N - M = i.val
    rw [Nat.mod_eq_of_lt (by omega)]
    omega

/-- The running sum. -/
theorem cumsum_at {A B N M : ℕ} (hN : M + 1 = N) (x : FVec Ideal ⟨3, ![A, B, N]⟩ .f32) {u : Shape} (init : u.Idx → EReal)
    (hinit : ∀ i, init i = 0)
    (h : (⟨3, ![A, B, N]⟩ : Shape).ReduceWindows (![1, 1, N] : Fin 3 → ℕ) ![1, 1, 1] ![0, 0, M] ![0, 0, 0] ⟨3, ![A, B, N]⟩)
    (hu : 0 < u.numel) (a : Fin A) (b : Fin B) (j : Fin N) :
    Host.reduceWindowAdd (F := Ideal) (φ := .f32) ![1, 1, N] ![1, 1, 1] ![0, 0, M] ![0, 0, 0] x init h hu (ix3 a b j)
      = cum (fun i => x (ix3 a b i)) j := by
  have hv : init (Shape.Idx.first hu) = 0 := hinit _
  show Host.reduceWindow (fun x y : EReal => x + y) ![1, 1, N] ![1, 1, 1] ![0, 0, M] ![0, 0, 0] x
    (fun _ : (⟨0, ![]⟩ : Shape).Idx => init (Shape.Idx.first hu)) h (by decide) (ix3 a b j) = _
  rw [hv]
  unfold Host.reduceWindow
  dsimp only
  rw [foldl_add]
  rw [← Equiv.sum_comp (⟨3, ![1, 1, N]⟩ : Shape).rowMajor]
  rw [← Equiv.sum_comp (lastAxis N)]
  unfold cum
  rw [← window_sum hN]
  refine Finset.sum_congr rfl fun n _ => ?_
  simp only [Equiv.symm_apply_apply]
  by_cases hn : M ≤ j.val + n.val
  · rw [dif_pos hn, dif_pos fun c => by
      match c with
      | ⟨0, _⟩ => exact ⟨Nat.zero_le _, by show a.val * 1 + 0 - 0 < A; omega⟩
      | ⟨1, _⟩ => exact ⟨Nat.zero_le _, by show b.val * 1 + 0 - 0 < B; omega⟩
      | ⟨2, _⟩ => exact ⟨by show M ≤ j.val * 1 + n.val; omega, by show j.val * 1 + n.val - M < N; omega⟩]
    refine congrArg x (funext fun c => Fin.ext ?_)
    match c with
    | ⟨0, _⟩ => show a.val * 1 + 0 - 0 = a.val; omega
    | ⟨1, _⟩ => show b.val * 1 + 0 - 0 = b.val; omega
    | ⟨2, _⟩ => show j.val * 1 + n.val - M = j.val + n.val - M; omega
  · rw [dif_neg hn, dif_neg fun hall => hn (by
      have h2 : M ≤ j.val * 1 + n.val := (hall 2).1
      omega)]

end Cert.Scan

end
-- ==== Proof.RefStep.lean ====
module

public import proofs.«01_k».proof.Proof.Cumsum
public import Idealize.ShloMosaic.Lib.WordCmp

@[expose] public section

set_option maxRecDepth 16384

/-! One chunk of the reference, read at an index. -/

noncomputable section

namespace Cert.ReferenceIdeal.Step

open Idealize.ShloMosaic Cert.ReferenceIdeal Cert.Scan

/-- The word of minus infinity. -/
theorem neg_inf : Ideal.ofBits FTy.f32 4286578688#32 = ⊥ := by
  simp [Ideal.ofBits, Ideal.ieee]

/-- A loop's counter below thirty-two, read back from its word. -/
theorem counter (j : ℕ) (hj : j < 32) : (BitVec.ofNat 32 j).toInt = (j : ℤ) :=
  WordCmp.toInt_ofNat_of_lt (lt_trans hj (by decide))

/-- One chunk taken out of the stacked ones. -/
theorem take5 {α : Type} (x : S32x8x4x128x128.Idx → α) (st : Fin 5 → ℤ) (hs) (j : ℕ) (hj : j < 32)
    (h0 : st 0 = j) (h1 : st 1 = 0) (h2 : st 2 = 0) (h3 : st 3 = 0) (h4 : st 4 = 0)
    (b : Fin 8) (h : Fin 4) (l d : Fin 128) :
    Host.dynamicSlice S1x8x4x128x128 x st hs (ix5 0 b h l d) = x (ix5 ⟨j, hj⟩ b h l d) := by
  have hk : S32x8x4x128x128.Slices ![j, 0, 0, 0, 0] S1x8x4x128x128 := by
    refine ⟨rfl, fun a => ?_⟩
    fin_cases a <;> simp <;> omega
  rw [WordCmp.dynamicSlice_eq_extract S1x8x4x128x128 x st hs ![j, 0, 0, 0, 0] hk
    (fun a => by fin_cases a <;> simp [h0, h1, h2, h3, h4])]
  pointwise

theorem take4 {α : Type} (x : S32x8x4x128.Idx → α) (st : Fin 4 → ℤ) (hs) (j : ℕ) (hj : j < 32)
    (h0 : st 0 = j) (h1 : st 1 = 0) (h2 : st 2 = 0) (h3 : st 3 = 0)
    (b : Fin 8) (h : Fin 4) (l : Fin 128) :
    Host.dynamicSlice S1x8x4x128 x st hs (ix4 0 b h l) = x (ix4 ⟨j, hj⟩ b h l) := by
  have hk : S32x8x4x128.Slices ![j, 0, 0, 0] S1x8x4x128 := by
    refine ⟨rfl, fun a => ?_⟩
    fin_cases a <;> simp <;> omega
  rw [WordCmp.dynamicSlice_eq_extract S1x8x4x128 x st hs ![j, 0, 0, 0] hk
    (fun a => by fin_cases a <;> simp [h0, h1, h2, h3])]
  pointwise

/-- One chunk put into the stacked ones. -/
theorem put5 {α : Type} (x : S32x8x4x128x128.Idx → α) (u : S1x8x4x128x128.Idx → α) (st : Fin 5 → ℤ) (hs) (j : ℕ) (hj : j < 32)
    (h0 : st 0 = j) (h1 : st 1 = 0) (h2 : st 2 = 0) (h3 : st 3 = 0) (h4 : st 4 = 0)
    (t : Fin 32) (b : Fin 8) (h : Fin 4) (l d : Fin 128) :
    Host.dynamicUpdateSlice x u st hs (ix5 t b h l d) = if t = ⟨j, hj⟩ then u (ix5 0 b h l d) else x (ix5 t b h l d) := by
  have hk : S32x8x4x128x128.Slices ![j, 0, 0, 0, 0] S1x8x4x128x128 := by
    refine ⟨rfl, fun a => ?_⟩
    fin_cases a <;> simp <;> omega
  rw [WordCmp.dynamicUpdateSlice_eq_update x u st hs ![j, 0, 0, 0, 0] hk
    (fun a => by fin_cases a <;> simp [h0, h1, h2, h3, h4])]
  by_cases ht : t = ⟨j, hj⟩
  · subst ht
    rw [if_pos rfl]
    unfold updateSlice
    rw [dif_pos (fun a => by fin_cases a <;> simp <;> first | omega | (exact Fin.isLt _))]
    refine congrArg u (funext fun a => ?_)
    fin_cases a <;> apply Fin.ext <;> simp
  · rw [if_neg ht]
    unfold updateSlice
    refine dif_neg fun hin => ht (Fin.ext ?_)
    obtain ⟨a1, a2⟩ := hin 0
    change j ≤ t.val at a1
    change t.val < j + 1 at a2
    change t.val = j
    omega

section
variable (j : ℕ) (hj : j < 32) (s : State Ideal)
include hj

/-- The chunk's queries. -/
theorem b5_at (b : Fin 8) (h : Fin 4) (l d : Fin 128) : b5 j s (ix4 b h l d) = s.main_v165_0 (ix5 ⟨j, hj⟩ b h l d) := by
  pointwise [b5]
  unfold b4
  exact take5 _ _ _ j hj (counter j hj) rfl rfl rfl rfl b h l d

/-- The chunk's keys. -/
theorem b11_at (b : Fin 8) (h : Fin 4) (l d : Fin 128) : b11 j s (ix4 b h l d) = s.main_v165_1 (ix5 ⟨j, hj⟩ b h l d) := by
  pointwise [b11]
  unfold b10
  exact take5 _ _ _ j hj (counter j hj) rfl rfl rfl rfl b h l d

/-- The chunk's values. -/
theorem b17_at (b : Fin 8) (h : Fin 4) (l d : Fin 128) : b17 j s (ix4 b h l d) = s.main_v165_2 (ix5 ⟨j, hj⟩ b h l d) := by
  pointwise [b17]
  unfold b16
  exact take5 _ _ _ j hj (counter j hj) rfl rfl rfl rfl b h l d

/-- The chunk's input gates. -/
theorem b22_at (b : Fin 8) (h : Fin 4) (l : Fin 128) : b22 j s (ix3 b h l) = s.main_v165_3 (ix4 ⟨j, hj⟩ b h l) := by
  pointwise [b22]
  unfold b21
  exact take4 _ _ _ j hj (counter j hj) rfl rfl rfl b h l

/-- The logarithms of the chunk's forget gates. -/
theorem b27_at (b : Fin 8) (h : Fin 4) (l : Fin 128) : b27 j s (ix3 b h l) = s.main_v165_4 (ix4 ⟨j, hj⟩ b h l) := by
  pointwise [b27]
  unfold b26
  exact take4 _ _ _ j hj (counter j hj) rfl rfl rfl b h l

variable (b : Fin 8) (h : Fin 4)

/-- The logarithms of the forget gates' running sum. -/
theorem b58_at (l : Fin 128) : b58 j s (ix3 b h l) = cum (fun i => s.main_v165_4 (ix4 ⟨j, hj⟩ b h i)) l := by
  unfold b58
  rw [cumsum_at (M := 127) rfl (b27 j s) (b57 j s) (fun i => by pointwise [b57, b56]) _ _ b h l]
  exact congrArg (fun f => cum f l) (funext fun i => b27_at j hj s b h i)

/-- The same, computed a second time for the state's update. -/
theorem b117_at (l : Fin 128) : b117 j s (ix3 b h l) = cum (fun i => s.main_v165_4 (ix4 ⟨j, hj⟩ b h i)) l := by
  unfold b117
  rw [cumsum_at (M := 127) rfl (b27 j s) (b116 j s) (fun i => by pointwise [b116, b115]) _ _ b h l]
  exact congrArg (fun f => cum f l) (funext fun i => b27_at j hj s b h i)

omit hj in
/-- The running sum at the last index is the whole sum. -/
theorem cum_last (lf : Fin 128 → EReal) : cum lf 127 = ∑ i, lf i :=
  Finset.sum_congr rfl fun i _ => if_pos (Fin.le_last i)

/-- The whole chunk's sum. -/
theorem b119_at : b119 j s (ix2 b h) = ∑ i, s.main_v165_4 (ix4 ⟨j, hj⟩ b h i) := by
  have e : b119 j s (ix2 b h) = b117 j s (ix3 b h 127) := by pointwise [b119, b118]
  rw [e, b117_at j hj s b h 127, cum_last]

/-- The causal mask. -/
theorem b69_at (l c : Fin 128) : b69 j s (ix2 l c) = if c ≤ l then 1#1 else 0#1 := by
  pointwise [b69, b66, b60, b68, b64, b65, b61, b63, b62, b59, b67]
  rw [show IntOp.addi (BitVec.ofNat 32 (l : ℕ)) 0#32 = BitVec.ofNat 32 (l : ℕ) from BitVec.add_zero _,
    WordCmp.cmpi_sge_ofNat (by have := l.isLt; omega) (by have := c.isLt; omega)]
  by_cases h : c ≤ l
  · rw [if_pos h, decide_eq_true (Fin.le_def.mp h)]; rfl
  · rw [if_neg h, decide_eq_false (fun e => h (Fin.le_def.mpr e))]; rfl

theorem b82_at (l c : Fin 128) : b82 j s (ix4 b h l c)
    = dmat (fun i => s.main_v165_4 (ix4 ⟨j, hj⟩ b h i)) (fun i => s.main_v165_3 (ix4 ⟨j, hj⟩ b h i)) l c := by
  have e : b82 j s (ix4 b h l c) = Scalar.select (b69 j s (ix2 l c))
      (b58 j s (ix3 b h l) - b58 j s (ix3 b h c) + b22 j s (ix3 b h c)) (Ideal.ofBits .f32 0xFF800000#32) := by
    pointwise [b82, b80, b77, b81, b79, b78, b74, b76, b75, b72, b73, b70, b71]
  rw [e, b69_at j hj s l c, b58_at j hj, b58_at j hj, b22_at j hj, neg_inf]
  unfold dmat
  by_cases hc : c ≤ l
  · rw [if_pos hc, if_pos hc]; rfl
  · rw [if_neg hc, if_neg hc]; rfl

theorem b88_at (l : Fin 128) : b88 j s (ix3 b h l)
    = mTok (s.main_v165_13 (ix2 b h)) (fun i => s.main_v165_4 (ix4 ⟨j, hj⟩ b h i))
      (fun i => s.main_v165_3 (ix4 ⟨j, hj⟩ b h i)) l := by
  have e : b88 j s (ix3 b h l) = max (b58 j s (ix3 b h l) + s.main_v165_13 (ix2 b h))
      (Finset.univ.fold max (Ideal.ofBits .f32 0xFF800000#32) fun x => b82 j s (ix4 b h l x)) := by
    pointwise [b88, b85, b84, b83, b87, b86]
  rw [e, b58_at j hj, neg_inf]
  unfold mTok
  exact congrArg (max _) (congrArg (Finset.univ.fold max ⊥) (funext fun x => b82_at j hj s b h l x))

theorem b90_at (l : Fin 128) : b90 j s (ix3 b h l)
    = wInter (s.main_v165_13 (ix2 b h)) (fun i => s.main_v165_4 (ix4 ⟨j, hj⟩ b h i))
      (fun i => s.main_v165_3 (ix4 ⟨j, hj⟩ b h i)) l := by
  have e : b90 j s (ix3 b h l) = Ideal.exp (b58 j s (ix3 b h l) + s.main_v165_13 (ix2 b h) - b88 j s (ix3 b h l)) := by
    pointwise [b90, b89, b85, b84, b83]
  rw [e, b58_at j hj, b88_at j hj]
  rfl

theorem b96_at (l c : Fin 128) : b96 j s (ix4 b h l c)
    = score (s.main_v165_13 (ix2 b h)) (fun i => s.main_v165_4 (ix4 ⟨j, hj⟩ b h i))
      (fun i => s.main_v165_3 (ix4 ⟨j, hj⟩ b h i)) (fun d => s.main_v165_0 (ix5 ⟨j, hj⟩ b h l d))
      (fun i d => s.main_v165_1 (ix5 ⟨j, hj⟩ b h i d)) l c := by
  have e : b96 j s (ix4 b h l c) = (∑ x, b5 j s (ix4 b h l x) * b11 j s (ix4 b h c x))
      * Ideal.exp (b82 j s (ix4 b h l c) - b88 j s (ix3 b h l)) := by
    pointwise [b96, b95, b94, b93, b92, b91]
  rw [e, b82_at j hj, b88_at j hj]
  unfold score
  exact congrArg (· * _) (Finset.sum_congr rfl fun x _ => congr_arg₂ (· * ·) (b5_at j hj s b h l x) (b11_at j hj s b h c x))

/-- The chunk's output. -/
theorem b114_at (l c : Fin 128) : b114 j s (ix4 b h l c)
    = hOut (s.main_v165_13 (ix2 b h)) (fun d => s.main_v165_11 (ix4 b h d c)) (fun d => s.main_v165_12 (ix3 b h d))
      (fun i => s.main_v165_4 (ix4 ⟨j, hj⟩ b h i)) (fun i => s.main_v165_3 (ix4 ⟨j, hj⟩ b h i))
      (fun d => s.main_v165_0 (ix5 ⟨j, hj⟩ b h l d)) (fun i d => s.main_v165_1 (ix5 ⟨j, hj⟩ b h i d))
      (fun i => s.main_v165_2 (ix5 ⟨j, hj⟩ b h i c)) l := by
  have e1 : b102 j s (ix4 b h l c) = b90 j s (ix3 b h l) * (∑ x, b5 j s (ix4 b h l x) * s.main_v165_11 (ix4 b h x c))
      + ∑ x, b96 j s (ix4 b h l x) * b17 j s (ix4 b h x c) := by
    pointwise [b102, b101, b100, b99, b98, b97]
  have e2 : b107 j s (ix3 b h l) = b90 j s (ix3 b h l) * (∑ x, b5 j s (ix4 b h l x) * s.main_v165_12 (ix3 b h x))
      + ∑ x, b96 j s (ix4 b h l x) := by
    pointwise [b107, b104, b106, b103, b105]
  have e : b114 j s (ix4 b h l c) = Ideal.div (b102 j s (ix4 b h l c))
      (max (FloatOps.absf (F := Ideal) (φ := .f32) (b107 j s (ix3 b h l))) (Ideal.exp (-b88 j s (ix3 b h l)))) := by
    pointwise [b114, b113, b112, b111, b108, b109, b110]
  rw [e, e1, e2, b90_at j hj, b88_at j hj]
  simp only [b5_at j hj, b96_at j hj, b17_at j hj]
  rfl

theorem b123_at (l : Fin 128) : b123 j s (ix3 b h l)
    = gain (fun i => s.main_v165_4 (ix4 ⟨j, hj⟩ b h i)) (fun i => s.main_v165_3 (ix4 ⟨j, hj⟩ b h i)) l := by
  have e : b123 j s (ix3 b h l) = b119 j s (ix2 b h) - b117 j s (ix3 b h l) + b22 j s (ix3 b h l) := by
    pointwise [b123, b122, b121, b120]
  rw [e, b119_at j hj, b117_at j hj, b22_at j hj]
  rfl

/-- The new running maximum. -/
theorem b127_at : b127 j s (ix2 b h)
    = mNew (s.main_v165_13 (ix2 b h)) (fun i => s.main_v165_4 (ix4 ⟨j, hj⟩ b h i))
      (fun i => s.main_v165_3 (ix4 ⟨j, hj⟩ b h i)) := by
  have e : b127 j s (ix2 b h) = max (b119 j s (ix2 b h) + s.main_v165_13 (ix2 b h))
      (Finset.univ.fold max (Ideal.ofBits .f32 0xFF800000#32) fun x => b123 j s (ix3 b h x)) := by
    pointwise [b127, b124, b126, b125]
  rw [e, b119_at j hj, neg_inf]
  unfold mNew
  exact congrArg (max _) (congrArg (Finset.univ.fold max ⊥) (funext fun x => b123_at j hj s b h x))

theorem b130_at : b130 j s (ix2 b h)
    = wOld (s.main_v165_13 (ix2 b h)) (fun i => s.main_v165_4 (ix4 ⟨j, hj⟩ b h i))
      (fun i => s.main_v165_3 (ix4 ⟨j, hj⟩ b h i)) := by
  have e : b130 j s (ix2 b h) = Ideal.exp (b119 j s (ix2 b h) + s.main_v165_13 (ix2 b h) - b127 j s (ix2 b h)) := by
    pointwise [b130, b129, b128]
  rw [e, b119_at j hj, b127_at j hj]
  rfl

theorem b134_at (l : Fin 128) : b134 j s (ix3 b h l)
    = wTok (s.main_v165_13 (ix2 b h)) (fun i => s.main_v165_4 (ix4 ⟨j, hj⟩ b h i))
      (fun i => s.main_v165_3 (ix4 ⟨j, hj⟩ b h i)) l := by
  have e : b134 j s (ix3 b h l) = Ideal.exp (b123 j s (ix3 b h l) - b127 j s (ix2 b h)) := by
    pointwise [b134, b133, b132, b131]
  rw [e, b123_at j hj, b127_at j hj]
  rfl

/-- The new matrix memory. -/
theorem b142_at (d c : Fin 128) : b142 j s (ix4 b h d c)
    = cNew (s.main_v165_13 (ix2 b h)) (s.main_v165_11 (ix4 b h d c)) (fun i => s.main_v165_4 (ix4 ⟨j, hj⟩ b h i))
      (fun i => s.main_v165_3 (ix4 ⟨j, hj⟩ b h i)) (fun i => s.main_v165_1 (ix5 ⟨j, hj⟩ b h i d))
      (fun i => s.main_v165_2 (ix5 ⟨j, hj⟩ b h i c)) := by
  have e : b142 j s (ix4 b h d c) = b130 j s (ix2 b h) * s.main_v165_11 (ix4 b h d c)
      + ∑ x, b134 j s (ix3 b h x) * b11 j s (ix4 b h x d) * b17 j s (ix4 b h x c) := by
    pointwise [b142, b137, b136, b135, b141, b140, b139, b138]
  rw [e, b130_at j hj]
  simp only [b134_at j hj, b11_at j hj, b17_at j hj]
  rfl

/-- The new normaliser. -/
theorem b147_at (d : Fin 128) : b147 j s (ix3 b h d)
    = nNew (s.main_v165_13 (ix2 b h)) (s.main_v165_12 (ix3 b h d)) (fun i => s.main_v165_4 (ix4 ⟨j, hj⟩ b h i))
      (fun i => s.main_v165_3 (ix4 ⟨j, hj⟩ b h i)) (fun i => s.main_v165_1 (ix5 ⟨j, hj⟩ b h i d)) := by
  have e : b147 j s (ix3 b h d) = b130 j s (ix2 b h) * s.main_v165_12 (ix3 b h d)
      + ∑ x, b134 j s (ix3 b h x) * b11 j s (ix4 b h x d) := by
    pointwise [b147, b145, b144, b143, b146]
  rw [e, b130_at j hj]
  simp only [b134_at j hj, b11_at j hj]
  rfl

/-- The stacked outputs after the step. -/
theorem b245_at (t : Fin 32) (l c : Fin 128) : b245 j s (ix5 t b h l c)
    = if t = ⟨j, hj⟩ then b114 j s (ix4 b h l c) else s.main_v165_17 (ix5 t b h l c) := by
  have e : b240 j s (ix5 0 b h l c) = b114 j s (ix4 b h l c) := by pointwise [b240]
  rw [← e]
  unfold b245
  exact put5 _ _ _ _ j hj (counter j hj) rfl rfl rfl rfl t b h l c

end

/-- The state with the backward direction's values in the forward direction's places. -/
def flip (s : State Ideal) : State Ideal :=
  { s with
    main_v165_0 := s.main_v165_5, main_v165_1 := s.main_v165_6, main_v165_2 := s.main_v165_7, main_v165_3 := s.main_v165_8
    main_v165_4 := s.main_v165_9, main_v165_11 := s.main_v165_14, main_v165_12 := s.main_v165_15
    main_v165_13 := s.main_v165_16, main_v165_17 := s.main_v165_18 }

theorem flip_c (j : ℕ) (s : State Ideal) : b234 j s = b142 j (flip s) := rfl
theorem flip_n (j : ℕ) (s : State Ideal) : b239 j s = b147 j (flip s) := rfl
theorem flip_m (j : ℕ) (s : State Ideal) : b219 j s = b127 j (flip s) := rfl
theorem flip_o (j : ℕ) (s : State Ideal) : b251 j s = b245 j (flip s) := rfl

end Cert.ReferenceIdeal.Step
end
-- ==== Proof.RefInit.lean ====
module

public import proofs.«01_k».proof.Proof.RefStep
public import proofs.«01_k».proof.Proof.Spec

@[expose] public section

set_option maxRecDepth 16384

/-! What the reference computes before its loop, read at an index. -/

noncomputable section

namespace Cert.ReferenceIdeal.Step

open Idealize.ShloMosaic Cert.ReferenceIdeal Cert.Scan

section
variable (a0 : FVec Ideal S32768x512 .bf16) (a1 : FVec Ideal S8x512x4096 .bf16) (a2 : FVec Ideal S32768x512 .bf16)
  (a3 : FVec Ideal S8x16x4096 .f32) (a4 : FVec Ideal S8x512x256 .bf16) (a5 : FVec Ideal S2048x512 .bf16)
  (a6 : FVec Ideal S8x16x256 .f32)

/-- The arguments, by batch element. -/
def args : Args where
  q := fun b t c => a0 (ix2 (row b t) c)
  k := fun b c t => a1 (ix3 b c t)
  v := fun b t c => a2 (ix2 (row b t) c)
  g := fun b r t => a3 (ix3 b r t)
  kc := fun b c t => a4 (ix3 b c t)
  vc := fun b t c => a5 (ix2 (rowc b t) c)
  gc := fun b r t => a6 (ix3 b r t)

/-- The exponential's argument in the logistic's logarithm, as it is written. -/
theorem lsig_at (x : EReal) : (-if -x ≠ -x then -x else max (-x) 0 + Ideal.log1p (Ideal.exp (-FloatOps.absf (F := Ideal) (φ := .f32) (-x))))
    = lsig x := by
  rw [if_neg (fun h => h rfl), ← lsig_eq x, sub_zero]
  rfl

section tokens
variable (b : Fin 8) (s : Fin 2) (h : Fin 4) (t : Fin 4096) (d : Fin 128)

theorem v2_at : A_main_v2 (F := Ideal) a0 a1 a2 a3 a4 a5 a6 (ix4 b h t d) = (args a0 a1 a2 a3 a4 a5 a6).q b t (col h d) := by
  pointwise [A_main_v2, A_main_v1, A_main_v0]
  rfl

theorem v5_at : A_main_v5 (F := Ideal) a0 a1 a2 a3 a4 a5 a6 (ix4 b h t d) = (args a0 a1 a2 a3 a4 a5 a6).k b (col h d) t := by
  pointwise [A_main_v5, A_main_v4, A_main_v3]
  rfl

theorem v8_at : A_main_v8 (F := Ideal) a0 a1 a2 a3 a4 a5 a6 (ix4 b h t d) = (args a0 a1 a2 a3 a4 a5 a6).v b t (col h d) := by
  pointwise [A_main_v8, A_main_v7, A_main_v6]
  rfl

theorem v11_at : A_main_v11 (F := Ideal) a0 a1 a2 a3 a4 a5 a6 (ix4 b s h t) = (args a0 a1 a2 a3 a4 a5 a6).g b (gate s 0 h) t := by
  pointwise [A_main_v11, A_main_v10, A_main_v9]
  rfl

theorem v13_at : A_main_v13 (F := Ideal) a0 a1 a2 a3 a4 a5 a6 (ix4 b s h t) = (args a0 a1 a2 a3 a4 a5 a6).g b (gate s 1 h) t := by
  pointwise [A_main_v13, A_main_v12, A_main_v9]
  rfl

theorem v28_at : A_main_v28 (F := Ideal) a0 a1 a2 a3 a4 a5 a6 (ix4 b s h t) = lsig ((args a0 a1 a2 a3 a4 a5 a6).g b (gate s 1 h) t) := by
  pointwise [A_main_v28, A_main_v27, A_main_v26, A_main_v25, A_main_v24, A_main_v23, A_main_v22, A_main_v21, A_main_v19, A_main_v18,
    A_main_v16, A_main_v14, K_main_v15, K_main_v17, K_main_v20, K_main_cst]
  rw [v13_at]
  exact lsig_at _

theorem v131_at : A_main_v131 (F := Ideal) a0 a1 a2 a3 a4 a5 a6 (ix3 b h t) = (args a0 a1 a2 a3 a4 a5 a6).g b (gate 0 0 h) t := by
  pointwise [A_main_v131, A_main_v130]
  exact v11_at ..

theorem v133_at : A_main_v133 (F := Ideal) a0 a1 a2 a3 a4 a5 a6 (ix3 b h t) = lsig ((args a0 a1 a2 a3 a4 a5 a6).g b (gate 0 1 h) t) := by
  pointwise [A_main_v133, A_main_v132]
  exact v28_at ..

theorem v139_at : A_main_v139 (F := Ideal) a0 a1 a2 a3 a4 a5 a6 (ix3 b h t) = (args a0 a1 a2 a3 a4 a5 a6).g b (gate 1 0 h) t.rev := by
  pointwise [A_main_v139, A_main_v138, A_main_v137]
  exact v11_at ..

theorem v142_at : A_main_v142 (F := Ideal) a0 a1 a2 a3 a4 a5 a6 (ix3 b h t) = lsig ((args a0 a1 a2 a3 a4 a5 a6).g b (gate 1 1 h) t.rev) := by
  pointwise [A_main_v142, A_main_v141, A_main_v140]
  exact v28_at ..

theorem v134_at : A_main_v134 (F := Ideal) a0 a1 a2 a3 a4 a5 a6 (ix4 b h t d) = (args a0 a1 a2 a3 a4 a5 a6).q b t.rev (col h d) := by
  pointwise [A_main_v134]
  exact v2_at ..

theorem v135_at : A_main_v135 (F := Ideal) a0 a1 a2 a3 a4 a5 a6 (ix4 b h t d) = (args a0 a1 a2 a3 a4 a5 a6).k b (col h d) t.rev := by
  pointwise [A_main_v135]
  exact v5_at ..

theorem v136_at : A_main_v136 (F := Ideal) a0 a1 a2 a3 a4 a5 a6 (ix4 b h t d) = (args a0 a1 a2 a3 a4 a5 a6).v b t.rev (col h d) := by
  pointwise [A_main_v136]
  exact v8_at ..

end tokens

section chunks
variable (j : Fin 32) (b : Fin 8) (h : Fin 4) (l d : Fin 128)

theorem v144_at : A_main_v144 (F := Ideal) a0 a1 a2 a3 a4 a5 a6 (ix5 j b h l d) = (args a0 a1 a2 a3 a4 a5 a6).qs b h (pos j l) d := by
  pointwise [A_main_v144, A_main_v143]
  exact v2_at ..

theorem v146_at : A_main_v146 (F := Ideal) a0 a1 a2 a3 a4 a5 a6 (ix5 j b h l d) = ((args a0 a1 a2 a3 a4 a5 a6).fwd b h j).k l d := by
  pointwise [A_main_v146, A_main_v145]
  exact v5_at ..

theorem v148_at : A_main_v148 (F := Ideal) a0 a1 a2 a3 a4 a5 a6 (ix5 j b h l d) = ((args a0 a1 a2 a3 a4 a5 a6).fwd b h j).v l d := by
  pointwise [A_main_v148, A_main_v147]
  exact v8_at ..

theorem v150_at : A_main_v150 (F := Ideal) a0 a1 a2 a3 a4 a5 a6 (ix4 j b h l) = ((args a0 a1 a2 a3 a4 a5 a6).fwd b h j).li l := by
  pointwise [A_main_v150, A_main_v149]
  exact v131_at ..

theorem v152_at : A_main_v152 (F := Ideal) a0 a1 a2 a3 a4 a5 a6 (ix4 j b h l) = ((args a0 a1 a2 a3 a4 a5 a6).fwd b h j).lf l := by
  pointwise [A_main_v152, A_main_v151]
  exact v133_at ..

theorem v154_at : A_main_v154 (F := Ideal) a0 a1 a2 a3 a4 a5 a6 (ix5 j b h l d) = (args a0 a1 a2 a3 a4 a5 a6).qs b h (pos j l).rev d := by
  pointwise [A_main_v154, A_main_v153]
  exact v134_at ..

theorem v156_at : A_main_v156 (F := Ideal) a0 a1 a2 a3 a4 a5 a6 (ix5 j b h l d) = ((args a0 a1 a2 a3 a4 a5 a6).bwd b h j).k l d := by
  pointwise [A_main_v156, A_main_v155]
  exact v135_at ..

theorem v158_at : A_main_v158 (F := Ideal) a0 a1 a2 a3 a4 a5 a6 (ix5 j b h l d) = ((args a0 a1 a2 a3 a4 a5 a6).bwd b h j).v l d := by
  pointwise [A_main_v158, A_main_v157]
  exact v136_at ..

theorem v160_at : A_main_v160 (F := Ideal) a0 a1 a2 a3 a4 a5 a6 (ix4 j b h l) = ((args a0 a1 a2 a3 a4 a5 a6).bwd b h j).li l := by
  pointwise [A_main_v160, A_main_v159]
  exact v139_at ..

theorem v162_at : A_main_v162 (F := Ideal) a0 a1 a2 a3 a4 a5 a6 (ix4 j b h l) = ((args a0 a1 a2 a3 a4 a5 a6).bwd b h j).lf l := by
  pointwise [A_main_v162, A_main_v161]
  exact v142_at ..

end chunks

section context
variable (b : Fin 8) (s : Fin 2) (h : Fin 4) (i : Fin 256) (d : Fin 128)

theorem v31_at : A_main_v31 (F := Ideal) a0 a1 a2 a3 a4 a5 a6 (ix4 b h i d) = (args a0 a1 a2 a3 a4 a5 a6).kc b (col h d) i := by
  pointwise [A_main_v31, A_main_v30, A_main_v29]
  rfl

theorem v34_at : A_main_v34 (F := Ideal) a0 a1 a2 a3 a4 a5 a6 (ix4 b h i d) = (args a0 a1 a2 a3 a4 a5 a6).vc b i (col h d) := by
  pointwise [A_main_v34, A_main_v33, A_main_v32]
  rfl

theorem v37_at : A_main_v37 (F := Ideal) a0 a1 a2 a3 a4 a5 a6 (ix4 b s h i) = (args a0 a1 a2 a3 a4 a5 a6).gc b (gate s 0 h) i := by
  pointwise [A_main_v37, A_main_v36, A_main_v35]
  rfl

theorem v39_at : A_main_v39 (F := Ideal) a0 a1 a2 a3 a4 a5 a6 (ix4 b s h i) = (args a0 a1 a2 a3 a4 a5 a6).gc b (gate s 1 h) i := by
  pointwise [A_main_v39, A_main_v38, A_main_v35]
  rfl

theorem v54_at : A_main_v54 (F := Ideal) a0 a1 a2 a3 a4 a5 a6 (ix4 b s h i) = lsig ((args a0 a1 a2 a3 a4 a5 a6).gc b (gate s 1 h) i) := by
  pointwise [A_main_v54, A_main_v53, A_main_v52, A_main_v51, A_main_v50, A_main_v49, A_main_v48, A_main_v47, A_main_v45, A_main_v44,
    A_main_v42, A_main_v40, K_main_v41, K_main_v43, K_main_v46, K_main_cst_0]
  rw [v39_at]
  exact lsig_at _

theorem v59_at : A_main_v59 (F := Ideal) a0 a1 a2 a3 a4 a5 a6 (ix3 b h i) = ((args a0 a1 a2 a3 a4 a5 a6).fctx b h).li i := by
  pointwise [A_main_v59, A_main_v58]
  exact v37_at ..

theorem v61_at : A_main_v61 (F := Ideal) a0 a1 a2 a3 a4 a5 a6 (ix3 b h i) = ((args a0 a1 a2 a3 a4 a5 a6).fctx b h).lf i := by
  pointwise [A_main_v61, A_main_v60]
  exact v54_at ..

theorem v92_at : A_main_v92 (F := Ideal) a0 a1 a2 a3 a4 a5 a6 (ix4 b h i d) = ((args a0 a1 a2 a3 a4 a5 a6).bctx b h).k i d := by
  pointwise [A_main_v92]
  exact v31_at ..

theorem v93_at : A_main_v93 (F := Ideal) a0 a1 a2 a3 a4 a5 a6 (ix4 b h i d) = ((args a0 a1 a2 a3 a4 a5 a6).bctx b h).v i d := by
  pointwise [A_main_v93]
  exact v34_at ..

theorem v96_at : A_main_v96 (F := Ideal) a0 a1 a2 a3 a4 a5 a6 (ix3 b h i) = ((args a0 a1 a2 a3 a4 a5 a6).bctx b h).li i := by
  pointwise [A_main_v96, A_main_v95, A_main_v94]
  exact v37_at ..

theorem v99_at : A_main_v99 (F := Ideal) a0 a1 a2 a3 a4 a5 a6 (ix3 b h i) = ((args a0 a1 a2 a3 a4 a5 a6).bctx b h).lf i := by
  pointwise [A_main_v99, A_main_v98, A_main_v97]
  exact v54_at ..

end context

section ctxf
variable (b : Fin 8) (h : Fin 4)

theorem v62_at (i : Fin 256) : A_main_v62 (F := Ideal) a0 a1 a2 a3 a4 a5 a6 (ix3 b h i) = cum ((args a0 a1 a2 a3 a4 a5 a6).fctx b h).lf i := by
  unfold A_main_v62
  rw [cumsum_at (M := 255) rfl _ _ (fun i => by pointwise [K_main_call0_call0_v0, K_main_call0_call0_cst]) _ _ b h i]
  exact congrArg (fun f => cum f i) (funext fun x => v61_at a0 a1 a2 a3 a4 a5 a6 b h x)

theorem v64_at : A_main_v64 (F := Ideal) a0 a1 a2 a3 a4 a5 a6 (ix2 b h) = ∑ i, ((args a0 a1 a2 a3 a4 a5 a6).fctx b h).lf i := by
  have e : A_main_v64 (F := Ideal) a0 a1 a2 a3 a4 a5 a6 (ix2 b h) = A_main_v62 (F := Ideal) a0 a1 a2 a3 a4 a5 a6 (ix3 b h 255) := by pointwise [A_main_v64, A_main_v63]
  rw [e, v62_at]
  exact Finset.sum_congr rfl fun i _ => if_pos (Fin.le_last i)

theorem v68_at (i : Fin 256) : A_main_v68 (F := Ideal) a0 a1 a2 a3 a4 a5 a6 (ix3 b h i) = gain ((args a0 a1 a2 a3 a4 a5 a6).fctx b h).lf ((args a0 a1 a2 a3 a4 a5 a6).fctx b h).li i := by
  have e : A_main_v68 (F := Ideal) a0 a1 a2 a3 a4 a5 a6 (ix3 b h i) = A_main_v64 (F := Ideal) a0 a1 a2 a3 a4 a5 a6 (ix2 b h) - A_main_v62 (F := Ideal) a0 a1 a2 a3 a4 a5 a6 (ix3 b h i)
      + A_main_v59 (F := Ideal) a0 a1 a2 a3 a4 a5 a6 (ix3 b h i) := by
    pointwise [A_main_v68, A_main_v67, A_main_v66, A_main_v65]
  rw [e, v64_at, v62_at, v59_at]
  rfl

theorem v71_at : A_main_v71 (F := Ideal) a0 a1 a2 a3 a4 a5 a6 (ix2 b h) = (rstep ((args a0 a1 a2 a3 a4 a5 a6).fctx b h) mem0).m := by
  have e : A_main_v71 (F := Ideal) a0 a1 a2 a3 a4 a5 a6 (ix2 b h) = max (A_main_v64 (F := Ideal) a0 a1 a2 a3 a4 a5 a6 (ix2 b h) + 0)
      (Finset.univ.fold max (Ideal.ofBits .f32 0xFF800000#32) fun x => A_main_v68 (F := Ideal) a0 a1 a2 a3 a4 a5 a6 (ix3 b h x)) := by
    pointwise [A_main_v71, A_main_v70, A_main_v69, K_main_v57, K_main_cst_3, K_main_cst_4]
  rw [e, v64_at, neg_inf]
  exact congrArg (max _) (congrArg (Finset.univ.fold max ⊥) (funext fun x => v68_at a0 a1 a2 a3 a4 a5 a6 b h x))

theorem v74_at : A_main_v74 (F := Ideal) a0 a1 a2 a3 a4 a5 a6 (ix2 b h) = wOld 0 ((args a0 a1 a2 a3 a4 a5 a6).fctx b h).lf ((args a0 a1 a2 a3 a4 a5 a6).fctx b h).li := by
  have e : A_main_v74 (F := Ideal) a0 a1 a2 a3 a4 a5 a6 (ix2 b h) = Ideal.exp (A_main_v64 (F := Ideal) a0 a1 a2 a3 a4 a5 a6 (ix2 b h) + 0 - A_main_v71 (F := Ideal) a0 a1 a2 a3 a4 a5 a6 (ix2 b h)) := by
    pointwise [A_main_v74, A_main_v73, A_main_v72, K_main_v57, K_main_cst_3]
  rw [e, v64_at, v71_at]
  rfl

theorem v78_at (i : Fin 256) : A_main_v78 (F := Ideal) a0 a1 a2 a3 a4 a5 a6 (ix3 b h i) = wTok 0 ((args a0 a1 a2 a3 a4 a5 a6).fctx b h).lf ((args a0 a1 a2 a3 a4 a5 a6).fctx b h).li i := by
  have e : A_main_v78 (F := Ideal) a0 a1 a2 a3 a4 a5 a6 (ix3 b h i) = Ideal.exp (A_main_v68 (F := Ideal) a0 a1 a2 a3 a4 a5 a6 (ix3 b h i) - A_main_v71 (F := Ideal) a0 a1 a2 a3 a4 a5 a6 (ix2 b h)) := by
    pointwise [A_main_v78, A_main_v77, A_main_v76, A_main_v75]
  rw [e, v68_at, v71_at]
  rfl

theorem v86_at (d c : Fin 128) : A_main_v86 (F := Ideal) a0 a1 a2 a3 a4 a5 a6 (ix4 b h d c) = (rstep ((args a0 a1 a2 a3 a4 a5 a6).fctx b h) mem0).c d c := by
  have e : A_main_v86 (F := Ideal) a0 a1 a2 a3 a4 a5 a6 (ix4 b h d c) = A_main_v74 (F := Ideal) a0 a1 a2 a3 a4 a5 a6 (ix2 b h) * 0
      + ∑ x, A_main_v78 (F := Ideal) a0 a1 a2 a3 a4 a5 a6 (ix3 b h x) * A_main_v31 (F := Ideal) a0 a1 a2 a3 a4 a5 a6 (ix4 b h x d) * A_main_v34 (F := Ideal) a0 a1 a2 a3 a4 a5 a6 (ix4 b h x c) := by
    pointwise [A_main_v86, A_main_v85, A_main_v84, A_main_v83, A_main_v82, A_main_v81, A_main_v80,
      A_main_v79, K_main_v55, K_main_cst_1]
  rw [e, v74_at]
  simp only [v78_at, v31_at, v34_at]
  rfl

theorem v91_at (d : Fin 128) : A_main_v91 (F := Ideal) a0 a1 a2 a3 a4 a5 a6 (ix3 b h d) = (rstep ((args a0 a1 a2 a3 a4 a5 a6).fctx b h) mem0).n d := by
  have e : A_main_v91 (F := Ideal) a0 a1 a2 a3 a4 a5 a6 (ix3 b h d) = A_main_v74 (F := Ideal) a0 a1 a2 a3 a4 a5 a6 (ix2 b h) * 0
      + ∑ x, A_main_v78 (F := Ideal) a0 a1 a2 a3 a4 a5 a6 (ix3 b h x) * A_main_v31 (F := Ideal) a0 a1 a2 a3 a4 a5 a6 (ix4 b h x d) := by
    pointwise [A_main_v91, A_main_v90, A_main_v89, A_main_v88, A_main_v87, K_main_v56, K_main_cst_2]
  rw [e, v74_at]
  simp only [v78_at, v31_at]
  rfl

end ctxf

section ctxb
variable (b : Fin 8) (h : Fin 4)

theorem v100_at (i : Fin 256) : A_main_v100 (F := Ideal) a0 a1 a2 a3 a4 a5 a6 (ix3 b h i) = cum ((args a0 a1 a2 a3 a4 a5 a6).bctx b h).lf i := by
  unfold A_main_v100
  rw [cumsum_at (M := 255) rfl _ _ (fun i => by pointwise [K_main_call5_call0_v0, K_main_call5_call0_cst]) _ _ b h i]
  exact congrArg (fun f => cum f i) (funext fun x => v99_at a0 a1 a2 a3 a4 a5 a6 b h x)

theorem v102_at : A_main_v102 (F := Ideal) a0 a1 a2 a3 a4 a5 a6 (ix2 b h) = ∑ i, ((args a0 a1 a2 a3 a4 a5 a6).bctx b h).lf i := by
  have e : A_main_v102 (F := Ideal) a0 a1 a2 a3 a4 a5 a6 (ix2 b h) = A_main_v100 (F := Ideal) a0 a1 a2 a3 a4 a5 a6 (ix3 b h 255) := by pointwise [A_main_v102, A_main_v101]
  rw [e, v100_at]
  exact Finset.sum_congr rfl fun i _ => if_pos (Fin.le_last i)

theorem v106_at (i : Fin 256) : A_main_v106 (F := Ideal) a0 a1 a2 a3 a4 a5 a6 (ix3 b h i) = gain ((args a0 a1 a2 a3 a4 a5 a6).bctx b h).lf ((args a0 a1 a2 a3 a4 a5 a6).bctx b h).li i := by
  have e : A_main_v106 (F := Ideal) a0 a1 a2 a3 a4 a5 a6 (ix3 b h i) = A_main_v102 (F := Ideal) a0 a1 a2 a3 a4 a5 a6 (ix2 b h) - A_main_v100 (F := Ideal) a0 a1 a2 a3 a4 a5 a6 (ix3 b h i)
      + A_main_v96 (F := Ideal) a0 a1 a2 a3 a4 a5 a6 (ix3 b h i) := by
    pointwise [A_main_v106, A_main_v105, A_main_v104, A_main_v103]
  rw [e, v102_at, v100_at, v96_at]
  rfl

theorem v109_at : A_main_v109 (F := Ideal) a0 a1 a2 a3 a4 a5 a6 (ix2 b h) = (rstep ((args a0 a1 a2 a3 a4 a5 a6).bctx b h) mem0).m := by
  have e : A_main_v109 (F := Ideal) a0 a1 a2 a3 a4 a5 a6 (ix2 b h) = max (A_main_v102 (F := Ideal) a0 a1 a2 a3 a4 a5 a6 (ix2 b h) + 0)
      (Finset.univ.fold max (Ideal.ofBits .f32 0xFF800000#32) fun x => A_main_v106 (F := Ideal) a0 a1 a2 a3 a4 a5 a6 (ix3 b h x)) := by
    pointwise [A_main_v109, A_main_v108, A_main_v107, K_main_v57, K_main_cst_3, K_main_cst_5]
  rw [e, v102_at, neg_inf]
  exact congrArg (max _) (congrArg (Finset.univ.fold max ⊥) (funext fun x => v106_at a0 a1 a2 a3 a4 a5 a6 b h x))

theorem v112_at : A_main_v112 (F := Ideal) a0 a1 a2 a3 a4 a5 a6 (ix2 b h) = wOld 0 ((args a0 a1 a2 a3 a4 a5 a6).bctx b h).lf ((args a0 a1 a2 a3 a4 a5 a6).bctx b h).li := by
  have e : A_main_v112 (F := Ideal) a0 a1 a2 a3 a4 a5 a6 (ix2 b h) = Ideal.exp (A_main_v102 (F := Ideal) a0 a1 a2 a3 a4 a5 a6 (ix2 b h) + 0 - A_main_v109 (F := Ideal) a0 a1 a2 a3 a4 a5 a6 (ix2 b h)) := by
    pointwise [A_main_v112, A_main_v111, A_main_v110, K_main_v57, K_main_cst_3]
  rw [e, v102_at, v109_at]
  rfl

theorem v116_at (i : Fin 256) : A_main_v116 (F := Ideal) a0 a1 a2 a3 a4 a5 a6 (ix3 b h i) = wTok 0 ((args a0 a1 a2 a3 a4 a5 a6).bctx b h).lf ((args a0 a1 a2 a3 a4 a5 a6).bctx b h).li i := by
  have e : A_main_v116 (F := Ideal) a0 a1 a2 a3 a4 a5 a6 (ix3 b h i) = Ideal.exp (A_main_v106 (F := Ideal) a0 a1 a2 a3 a4 a5 a6 (ix3 b h i) - A_main_v109 (F := Ideal) a0 a1 a2 a3 a4 a5 a6 (ix2 b h)) := by
    pointwise [A_main_v116, A_main_v115, A_main_v114, A_main_v113]
  rw [e, v106_at, v109_at]
  rfl

theorem v124_at (d c : Fin 128) : A_main_v124 (F := Ideal) a0 a1 a2 a3 a4 a5 a6 (ix4 b h d c) = (rstep ((args a0 a1 a2 a3 a4 a5 a6).bctx b h) mem0).c d c := by
  have e : A_main_v124 (F := Ideal) a0 a1 a2 a3 a4 a5 a6 (ix4 b h d c) = A_main_v112 (F := Ideal) a0 a1 a2 a3 a4 a5 a6 (ix2 b h) * 0
      + ∑ x, A_main_v116 (F := Ideal) a0 a1 a2 a3 a4 a5 a6 (ix3 b h x) * A_main_v92 (F := Ideal) a0 a1 a2 a3 a4 a5 a6 (ix4 b h x d) * A_main_v93 (F := Ideal) a0 a1 a2 a3 a4 a5 a6 (ix4 b h x c) := by
    pointwise [A_main_v124, A_main_v123, A_main_v122, A_main_v121, A_main_v120, A_main_v119, A_main_v118,
      A_main_v117, K_main_v55, K_main_cst_1]
  rw [e, v112_at]
  simp only [v116_at, v92_at, v93_at]
  rfl

theorem v129_at (d : Fin 128) : A_main_v129 (F := Ideal) a0 a1 a2 a3 a4 a5 a6 (ix3 b h d) = (rstep ((args a0 a1 a2 a3 a4 a5 a6).bctx b h) mem0).n d := by
  have e : A_main_v129 (F := Ideal) a0 a1 a2 a3 a4 a5 a6 (ix3 b h d) = A_main_v112 (F := Ideal) a0 a1 a2 a3 a4 a5 a6 (ix2 b h) * 0
      + ∑ x, A_main_v116 (F := Ideal) a0 a1 a2 a3 a4 a5 a6 (ix3 b h x) * A_main_v92 (F := Ideal) a0 a1 a2 a3 a4 a5 a6 (ix4 b h x d) := by
    pointwise [A_main_v129, A_main_v128, A_main_v127, A_main_v126, A_main_v125, K_main_v56, K_main_cst_2]
  rw [e, v112_at]
  simp only [v116_at, v92_at]
  rfl

end ctxb

end
end Cert.ReferenceIdeal.Step
end
-- ==== Proof.KerBlocks.lean ====
module

public import proofs.«01_k».proof.Proof.KerMath
public import proofs.«01_k».proof.Proof.RefInit
public import Idealize.ShloMosaic.Lib.Pipeline.ValueKit
public import Idealize.ShloMosaic.Lib.Pointwise
public import proofs.«01_k».proof.Proof.Gen.KernelIdeal.Value

@[expose] public section

set_option maxRecDepth 16384

/-! The blocks that a point of the kernel reads are the chunks of the arrays. -/

noncomputable section

namespace Cert.KernelIdeal.Pair

open Idealize.ShloMosaic.TcCoe Idealize.ShloMosaic Idealize.ShloMosaic.Pipeline Idealize.SL.Sem Cert.KernelIdeal Cert.KernelIdeal.Gen Cert.Scan

variable (m : (ℓ : Loc nD τ sig) → Buf (Elt Ideal) ℓ) (c : Dev nD)

/-! ## Where the windows lie -/

theorem idx0 : ∀ t : Fin cfg0.N, win0_0.index t = ![0, t.val, 0] := (by decide +kernel : ∀ t : Fin grid0.N, _)
theorem idx1 : ∀ t : Fin cfg0.N, win0_1.index t = ![0, 0, t.val] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, 0, t.val] := (by decide +kernel : ∀ t : Fin grid0.N, _)
theorem idx4 : ∀ t : Fin cfg0.N, win0_4.index t = ![0, 31 - t.val, 0] := (by decide +kernel : ∀ t : Fin grid0.N, _)
theorem idx5 : ∀ t : Fin cfg0.N, win0_5.index t = ![0, 0, 31 - t.val] := (by decide +kernel : ∀ t : Fin grid0.N, _)
theorem idx6 : ∀ t : Fin cfg0.N, win0_6.index t = ![0, 31 - t.val, 0] := (by decide +kernel : ∀ t : Fin grid0.N, _)
theorem idx7 : ∀ t : Fin cfg0.N, win0_7.index t = ![0, 0, 31 - t.val] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)

/-- The mirror's token. -/
theorem pos_mirror (t : Fin cfg0.N) (p : Fin 128) : ((pos (t.cast N_0).rev p : Fin 4096) : ℕ) = (31 - t.val) * 128 + p := by
  simp only [pos, Fin.val_rev, Fin.val_cast]
  omega

/-! ## What they read -/

section
variable (t : Fin cfg0.N) (b : Fin 8)

theorem blk0 (p : Fin 128) (x : Fin 512) : (iblk m c 0 t : Vec Ideal S8x128x512 .bf16) (ix3 b p x)
    = (V m c main_v0 : Vec Ideal S8x4096x512 .bf16) (ix3 b (pos (t.cast N_0) p) x) := by
  blk_ext [iblk, idx0 t]
  rfl

theorem blk1 (x : Fin 512) (p : Fin 128) : (iblk m c 1 t : Vec Ideal S8x512x128 .bf16) (ix3 b x p)
    = (V m c main_arg1 : Vec Ideal S8x512x4096 .bf16) (ix3 b x (pos (t.cast N_0) p)) := by
  blk_ext [iblk, idx1 t]
  rfl

theorem blk2 (p : Fin 128) (x : Fin 512) : (iblk m c 2 t : Vec Ideal S8x128x512 .bf16) (ix3 b p x)
    = (V m c main_v1 : Vec Ideal S8x4096x512 .bf16) (ix3 b (pos (t.cast N_0) p) x) := by
  blk_ext [iblk, idx2 t]
  rfl

theorem blk3 (x : Fin 16) (p : Fin 128) : (iblk m c 3 t : Vec Ideal S8x16x128 .f32) (ix3 b x p)
    = (V m c main_arg3 : Vec Ideal S8x16x4096 .f32) (ix3 b x (pos (t.cast N_0) p)) := by
  blk_ext [iblk, idx3 t]
  rfl

theorem blk4 (p : Fin 128) (x : Fin 512) : (iblk m c 4 t : Vec Ideal S8x128x512 .bf16) (ix3 b p x)
    = (V m c main_v0 : Vec Ideal S8x4096x512 .bf16) (ix3 b (pos (t.cast N_0).rev p) x) := by
  blk_ext [iblk, idx4 t]
  exact (pos_mirror t p).symm

theorem blk5 (x : Fin 512) (p : Fin 128) : (iblk m c 5 t : Vec Ideal S8x512x128 .bf16) (ix3 b x p)
    = (V m c main_arg1 : Vec Ideal S8x512x4096 .bf16) (ix3 b x (pos (t.cast N_0).rev p)) := by
  blk_ext [iblk, idx5 t]
  exact (pos_mirror t p).symm

theorem blk6 (p : Fin 128) (x : Fin 512) : (iblk m c 6 t : Vec Ideal S8x128x512 .bf16) (ix3 b p x)
    = (V m c main_v1 : Vec Ideal S8x4096x512 .bf16) (ix3 b (pos (t.cast N_0).rev p) x) := by
  blk_ext [iblk, idx6 t]
  exact (pos_mirror t p).symm

theorem blk7 (x : Fin 16) (p : Fin 128) : (iblk m c 7 t : Vec Ideal S8x16x128 .f32) (ix3 b x p)
    = (V m c main_arg3 : Vec Ideal S8x16x4096 .f32) (ix3 b x (pos (t.cast N_0).rev p)) := by
  blk_ext [iblk, idx7 t]
  exact (pos_mirror t p).symm

theorem blk8 (x : Fin 512) (p : Fin 256) : (iblk m c 8 t : Vec Ideal S8x512x256 .bf16) (ix3 b x p)
    = (V m c main_arg4 : Vec Ideal S8x512x256 .bf16) (ix3 b x p) := by
  blk_ext [iblk, idx8 t]

theorem blk9 (p : Fin 256) (x : Fin 512) : (iblk m c 9 t : Vec Ideal S8x256x512 .bf16) (ix3 b p x)
    = (V m c main_v2 : Vec Ideal S8x256x512 .bf16) (ix3 b p x) := by
  blk_ext [iblk, idx9 t]

theorem blk10 (x : Fin 16) (p : Fin 256) : (iblk m c 10 t : Vec Ideal S8x16x256 .f32) (ix3 b x p)
    = (V m c main_arg6 : Vec Ideal S8x16x256 .f32) (ix3 b x p) := by
  blk_ext [iblk, idx10 t]

end

/-- The kernel's arrays. -/
def argsK : Args := Cert.ReferenceIdeal.Step.args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## The arrays that the host reshapes -/

theorem v0_at (b : Fin 8) (t : Fin 4096) (x : Fin 512) : (V m c main_v0 : Vec Ideal S8x4096x512 .bf16) (ix3 b t x) = (argsK m c).q b t x := by
  entry_read
  show _ = (m ((c : Thread nD τ).loc main_arg0) : Vec Ideal S32768x512 .bf16) (ix2 (row b t) x)
  pointwise []
  rfl

theorem v1_at (b : Fin 8) (t : Fin 4096) (x : Fin 512) : (V m c main_v1 : Vec Ideal S8x4096x512 .bf16) (ix3 b t x) = (argsK m c).v b t x := by
  entry_read
  show _ = (m ((c : Thread nD τ).loc main_arg2) : Vec Ideal S32768x512 .bf16) (ix2 (row b t) x)
  pointwise []
  rfl

theorem v2_at (b : Fin 8) (t : Fin 256) (x : Fin 512) : (V m c main_v2 : Vec Ideal S8x256x512 .bf16) (ix3 b t x) = (argsK m c).vc b t x := by
  entry_read
  show _ = (m ((c : Thread nD τ).loc main_arg5) : Vec Ideal S2048x512 .bf16) (ix2 (rowc b t) x)
  pointwise []
  rfl

/-! ## An element of a block -/

/-- A load of a whole memory, at an index. -/
theorem load_at {s : Shape} {e : EltTy} (a : Memref sig .tc .vmem s e) (ha : a.IsWhole) (x : Vec Ideal s e) (R : Rect s) :
    View.readAt (Elt Ideal) a.view R.toLoadRect (ha.unread x) = fun j => x (R.emb j) := by
  funext j
  exact congrFun (Memref.IsWhole.read_unread ha x) (R.emb j)

theorem asX_at (f : FVec Ideal S1x128x512 .bf16) (p : Fin 128) (k : Fin 512) :
    shapeCast S128x512 f shapeCasts_S1x128x512_S128x512 (ix2 p k) = f (ix3 0 p k) := by
  pointwise []

theorem asK_at (f : FVec Ideal S1x512x128 .bf16) (k : Fin 512) (p : Fin 128) :
    shapeCast S512x128 f shapeCasts_S1x512x128_S512x128 (ix2 k p) = f (ix3 0 k p) := by
  pointwise []

theorem asG_at (f : FVec Ideal S1x16x128 .f32) (k : Fin 16) (p : Fin 128) :
    shapeCast S16x128 f shapeCasts_S1x16x128_S16x128 (ix2 k p) = f (ix3 0 k p) := by
  pointwise []

theorem ldX_at (a : Memref sig .tc .vmem S8x128x512 .bf16) (ha : a.IsWhole) (x : Vec Ideal S8x128x512 .bf16) (b : ℕ) (h : b < 8)
    (p : Fin 128) (k : Fin 512) : ldX a ha x b h (ix2 p k) = x (ix3 ⟨b, h⟩ p k) := by
  unfold ldX
  rw [load_at, asX_at]
  refine congrArg _ (funext fun i => Fin.ext ?_)
  match i with
  | ⟨0, _⟩ => show b + 1 * 0 = b; omega
  | ⟨1, _⟩ => show 0 + 1 * p.val = p.val; omega
  | ⟨2, _⟩ => show 0 + 1 * k.val = k.val; omega

theorem ldK_at (a : Memref sig .tc .vmem S8x512x128 .bf16) (ha : a.IsWhole) (x : Vec Ideal S8x512x128 .bf16) (b : ℕ) (h : b < 8)
    (k : Fin 512) (p : Fin 128) : ldK a ha x b h (ix2 k p) = x (ix3 ⟨b, h⟩ k p) := by
  unfold ldK
  rw [load_at, asK_at]
  refine congrArg _ (funext fun i => Fin.ext ?_)
  match i with
  | ⟨0, _⟩ => show b + 1 * 0 = b; omega
  | ⟨1, _⟩ => show 0 + 1 * k.val = k.val; omega
  | ⟨2, _⟩ => show 0 + 1 * p.val = p.val; omega

theorem ldG_at (a : Memref sig .tc .vmem S8x16x128 .f32) (ha : a.IsWhole) (x : Vec Ideal S8x16x128 .f32) (b : ℕ) (h : b < 8)
    (k : Fin 16) (p : Fin 128) : ldG a ha x b h (ix2 k p) = x (ix3 ⟨b, h⟩ k p) := by
  unfold ldG
  rw [load_at, asG_at]
  refine congrArg _ (funext fun i => Fin.ext ?_)
  match i with
  | ⟨0, _⟩ => show b + 1 * 0 = b; omega
  | ⟨1, _⟩ => show 0 + 1 * k.val = k.val; omega
  | ⟨2, _⟩ => show 0 + 1 * p.val = p.val; omega

section
variable (t : Fin cfg0.N)

/-- A point's blocks are its chunks of the arrays. -/
theorem reads_at : Reads (argsK m c) (t.cast N_0) (inpOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t)) where
  qf b hb p x := (ldX_at _ _ _ b hb p x).trans ((blk0 m c t ⟨b, hb⟩ p x).trans (v0_at m c _ _ _))
  kf b hb x p := (ldK_at _ _ _ b hb x p).trans ((blk1 m c t ⟨b, hb⟩ x p).trans (congrFun (V_main_arg1 m c) _))
  vf b hb p x := (ldX_at _ _ _ b hb p x).trans ((blk2 m c t ⟨b, hb⟩ p x).trans (v1_at m c _ _ _))
  gf b hb x p := (ldG_at _ _ _ b hb x p).trans ((blk3 m c t ⟨b, hb⟩ x p).trans (congrFun (V_main_arg3 m c) _))
  qb b hb p x := (ldX_at _ _ _ b hb p x).trans ((blk4 m c t ⟨b, hb⟩ p x).trans (v0_at m c _ _ _))
  kb b hb x p := (ldK_at _ _ _ b hb x p).trans ((blk5 m c t ⟨b, hb⟩ x p).trans (congrFun (V_main_arg1 m c) _))
  vb b hb p x := (ldX_at _ _ _ b hb p x).trans ((blk6 m c t ⟨b, hb⟩ p x).trans (v1_at m c _ _ _))
  gb b hb x p := (ldG_at _ _ _ b hb x p).trans ((blk7 m c t ⟨b, hb⟩ x p).trans (congrFun (V_main_arg3 m c) _))

theorem ctx_k (b : ℕ) (hb : b < 8) (o : ℕ) (ho : o ≤ 128) (x : Fin 512) (p : Fin 128) :
    (ctxOf (ms0_8 t) (hs0_8 t) (ms0_9 t) (hs0_9 t) (ms0_10 t) (hs0_10 t) (iblk m c 8 t) (iblk m c 9 t) (iblk m c 10 t)).k b hb o ho (ix2 x p) = (iblk m c 8 t : Vec Ideal S8x512x256 .bf16) (ix3 ⟨b, hb⟩ x (cpos o ho p)) := by
  unfold ctxOf
  dsimp only
  rw [load_at, asK_at]
  refine congrArg _ (funext fun i => Fin.ext ?_)
  match i with
  | ⟨0, _⟩ => show b + 1 * 0 = b; omega
  | ⟨1, _⟩ => show 0 + 1 * x.val = x.val; omega
  | ⟨2, _⟩ => show o + 1 * p.val = o + p.val; omega

theorem ctx_v (b : ℕ) (hb : b < 8) (o : ℕ) (ho : o ≤ 128) (p : Fin 128) (x : Fin 512) :
    (ctxOf (ms0_8 t) (hs0_8 t) (ms0_9 t) (hs0_9 t) (ms0_10 t) (hs0_10 t) (iblk m c 8 t) (iblk m c 9 t) (iblk m c 10 t)).v b hb o ho (ix2 p x) = (iblk m c 9 t : Vec Ideal S8x256x512 .bf16) (ix3 ⟨b, hb⟩ (cpos o ho p) x) := by
  unfold ctxOf
  dsimp only
  rw [load_at, asX_at]
  refine congrArg _ (funext fun i => Fin.ext ?_)
  match i with
  | ⟨0, _⟩ => show b + 1 * 0 = b; omega
  | ⟨1, _⟩ => show o + 1 * p.val = o + p.val; omega
  | ⟨2, _⟩ => show 0 + 1 * x.val = x.val; omega

theorem ctx_g (b : ℕ) (hb : b < 8) (o : ℕ) (ho : o ≤ 128) (x : Fin 16) (p : Fin 128) :
    (ctxOf (ms0_8 t) (hs0_8 t) (ms0_9 t) (hs0_9 t) (ms0_10 t) (hs0_10 t) (iblk m c 8 t) (iblk m c 9 t) (iblk m c 10 t)).g b hb o ho (ix2 x p) = (iblk m c 10 t : Vec Ideal S8x16x256 .f32) (ix3 ⟨b, hb⟩ x (cpos o ho p)) := by
  unfold ctxOf
  dsimp only
  rw [load_at, asG_at]
  refine congrArg _ (funext fun i => Fin.ext ?_)
  match i with
  | ⟨0, _⟩ => show b + 1 * 0 = b; omega
  | ⟨1, _⟩ => show 0 + 1 * x.val = x.val; omega
  | ⟨2, _⟩ => show o + 1 * p.val = o + p.val; omega

/-- The context's blocks are the arrays'. -/
theorem ctx_at : CtxReads (argsK m c) (ctxOf (ms0_8 t) (hs0_8 t) (ms0_9 t) (hs0_9 t) (ms0_10 t) (hs0_10 t) (iblk m c 8 t) (iblk m c 9 t) (iblk m c 10 t)) where
  k b hb o ho x p := (ctx_k m c t b hb o ho x p).trans ((blk8 m c t ⟨b, hb⟩ x _).trans (congrFun (V_main_arg4 m c) _))
  v b hb o ho p x := (ctx_v m c t b hb o ho p x).trans ((blk9 m c t ⟨b, hb⟩ _ x).trans (v2_at m c _ _ _))
  g b hb o ho x p := (ctx_g m c t b hb o ho x p).trans ((blk10 m c t ⟨b, hb⟩ x _).trans (congrFun (V_main_arg6 m c) _))
end

end Cert.KernelIdeal.Pair
end
-- ==== Proof.Points.lean ====
module

public import proofs.«01_k».proof.Proof.KerBlocks

@[expose] public section

set_option maxRecDepth 16384

/-! The kernel's run, point after point, and the two arrays that it leaves. -/

noncomputable section

namespace Cert.KernelIdeal.Pair

open Idealize.ShloMosaic.TcCoe Idealize.ShloMosaic Idealize.ShloMosaic.Pipeline Idealize.SL.Sem Cert.KernelIdeal Cert.KernelIdeal.Gen Cert.Scan

variable (m : (ℓ : Loc nD τ sig) → Buf (Elt Ideal) ℓ) (c : Dev nD)

theorem same_refl (Z : ℕ → Slot) : Same Z Z := ⟨fun _ _ _ _ => rfl, fun _ _ _ _ => rfl⟩

/-- After the first point, -/
theorem done_first (hA : Above (argsK m c)) (t : Fin cfg0.N) (h0 : t.val % 32 = 0) (hn : t.val < 32) (hz : t.val = 0) :
    Done (argsK m c) t.val hn (outsAt0 m c t.val t.isLt) := by
  obtain ⟨Z, hZ, H⟩ := afterA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  rw [outsAt0_A m c t h0]
  have hS : ∀ (n : ℕ) (hn : n ≤ 32), n = 0 → Same Z (slots (argsK m c) n hn) := by
    rintro n hn rfl
    exact ctx_slots hA (ctx_at m c t) Z hZ
  have hS := hS t.val hn.le hz
  exact done_of hn (reads_at m c t) Z hS (H _ (moved_of hn (reads_at m c t) Z hS))

/-- after a later one, -/
theorem done_later (t : Fin cfg0.N) (h0 : ¬t.val % 32 = 0) (hn : t.val < 32)
    (hs : ∀ (k : ℕ) (h : k < 64), Holds (outsAt0 m c (t.val - 1) (Nat.lt_of_le_of_lt (Nat.sub_le _ _) t.isLt)).2.2.1
      (outsAt0 m c (t.val - 1) (Nat.lt_of_le_of_lt (Nat.sub_le _ _) t.isLt)).2.2.2 k h (slots (argsK m c) t.val hn.le k)) :
    Done (argsK m c) t.val hn (outsAt0 m c t.val t.isLt) := by
  rw [outsAt0_B m c t h0]
  exact done_of hn (reads_at m c t) _ (same_refl _) (afterB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ hs
    (moved_of hn (reads_at m c t) _ (same_refl _)))

/-- and so after each. -/
theorem done_at (hA : Above (argsK m c)) : ∀ (n : ℕ) (h : n < cfg0.N) (hn : n < 32), Done (argsK m c) n hn (outsAt0 m c n h)
  | 0, h, hn => done_first m c hA ⟨0, h⟩ rfl hn rfl
  | n + 1, h, hn => done_later m c ⟨n + 1, h⟩ (fun h0 => by dsimp only at h0; omega) hn
      (done_at hA n (Nat.lt_of_succ_lt h) (Nat.lt_of_succ_lt hn)).s

/-! ## The arrays -/

theorem idx11 : ∀ t : Fin cfg0.N, win0_11.index t = ![0, t.val, 0] := (by decide +kernel : ∀ t : Fin grid0.N, _)
theorem idx12 : ∀ t : Fin cfg0.N, win0_12.index t = ![0, 31 - t.val, 0] := (by decide +kernel : ∀ t : Fin grid0.N, _)

theorem flush11 : ∀ t : Fin cfg0.N, (cfg0.win 11).flush t = true := (by decide +kernel : ∀ t : Fin grid0.N, _)
theorem flush12 : ∀ t : Fin cfg0.N, (cfg0.win 12).flush t = true := (by decide +kernel : ∀ t : Fin grid0.N, _)

section
variable (X : Vec Ideal S8x4096x512 .bf16) (t : Fin cfg0.N) (b : Fin 8) (p : Fin 128) (x : Fin 512)

theorem read11 : (((cfg0.win 11).blk t).view.read (Elt Ideal) X : Vec Ideal S8x128x512 .bf16) (ix3 b p x) = X (ix3 b (pos (t.cast N_0) p) x) := by
  blk_ext [idx11 t]
  rfl

theorem read12 : (((cfg0.win 12).blk t).view.read (Elt Ideal) X : Vec Ideal S8x128x512 .bf16) (ix3 b p x) = X (ix3 b (pos (t.cast N_0).rev p) x) := by
  blk_ext [idx12 t]
  exact (pos_mirror t p).symm
end

section
variable (hA : Above (argsK m c)) (j : Fin 32) (b : Fin 8) (h : Fin 4) (p e : Fin 128)
include hA

/-- The first array holds the outputs forwards, -/
theorem arr11_at : ((dats m 0 c).arrAt 11 cfg0.N : Vec Ideal S8x4096x512 .bf16) (ix3 b (pos j p) (col h e)) = (argsK m c).fout b h j p e := by
  obtain ⟨t, rfl⟩ : ∃ t : Fin cfg0.N, t.cast N_0 = j := ⟨j.cast N_0.symm, rfl⟩
  refine (read11 _ t b p (col h e)).symm.trans ?_
  refine (congrFun ((Value.blocks11 m c t (flush11 t)).trans (Value.flushed11 m c t)) (ix3 b p (col h e))).trans ?_
  exact (done_at m c hA t.val t.isLt (t.cast N_0).isLt).f b h p e

/-- and the second those backwards. -/
theorem arr12_at : ((dats m 0 c).arrAt 12 cfg0.N : Vec Ideal S8x4096x512 .bf16) (ix3 b (pos j p).rev (col h e)) = (argsK m c).bout b h j p e := by
  obtain ⟨t, rfl⟩ : ∃ t : Fin cfg0.N, t.cast N_0 = j := ⟨j.cast N_0.symm, rfl⟩
  rw [rev_pos]
  refine (read12 _ t b p.rev (col h e)).symm.trans ?_
  refine (congrFun ((Value.blocks12 m c t (flush12 t)).trans (Value.flushed12 m c t)) (ix3 b p.rev (col h e))).trans ?_
  refine ((done_at m c hA t.val t.isLt (t.cast N_0).isLt).b b h p.rev e).trans ?_
  rw [Fin.rev_rev]
  rfl
end

/-- Arrays that agree at every chunk's tokens are the same, -/
theorem ext_pos (X Y : Vec Ideal S8x4096x512 .bf16)
    (H : ∀ (b : Fin 8) (j : Fin 32) (p : Fin 128) (h : Fin 4) (e : Fin 128), X (ix3 b (pos j p) (col h e)) = Y (ix3 b (pos j p) (col h e))) : X = Y := by
  funext i
  have e1 : i = ix3 (i 0) (i 1) (i 2) := by
    funext a
    match a with
    | ⟨0, _⟩ => rfl
    | ⟨1, _⟩ => rfl
    | ⟨2, _⟩ => rfl
  have l1 : (i 1).val < 4096 := (i 1).isLt
  have l2 : (i 2).val < 512 := (i 2).isLt
  have e2 : i 1 = pos ⟨(i 1).val / 128, by omega⟩ ⟨(i 1).val % 128, by omega⟩ := Fin.ext (by simp only [pos]; omega)
  have e3 : i 2 = col ⟨(i 2).val / 128, by omega⟩ ⟨(i 2).val % 128, by omega⟩ := Fin.ext (by simp only [col]; omega)
  have e4 := congr (congrArg (ix3 (i 0)) e2) e3
  rw [e1.trans e4]
  exact H _ _ _ _ _

/-- also where they agree counted from the end. -/
theorem ext_pos_rev (X Y : Vec Ideal S8x4096x512 .bf16)
    (H : ∀ (b : Fin 8) (j : Fin 32) (p : Fin 128) (h : Fin 4) (e : Fin 128), X (ix3 b (pos j p).rev (col h e)) = Y (ix3 b (pos j p).rev (col h e))) :
    X = Y :=
  ext_pos X Y fun b j p h e => by
    have E := H b j.rev p.rev h e
    rw [rev_pos, Fin.rev_rev, Fin.rev_rev] at E
    exact E

end Cert.KernelIdeal.Pair
end
-- ==== Proof.RefLoop.lean ====
module

public import proofs.«01_k».proof.Proof.RefInit

@[expose] public section

set_option maxRecDepth 16384

/-! The reference's loop: what its state holds before each chunk, and what its results are. -/

noncomputable section

namespace Cert.ReferenceIdeal.Step

open Idealize.ShloMosaic Cert.ReferenceIdeal Cert.Scan

/-- A direction of the state before chunk `n`: the chunks, the memory after those already seen, their outputs. -/
structure Dir (D : Fin 8 → Fin 4 → Fin 32 → Toks 128) (Q : Fin 8 → Fin 4 → Fin 32 → Fin 128 → Fin 128 → EReal)
    (z : Fin 8 → Fin 4 → Mem) (n : ℕ) (hn : n ≤ 32) (s : State Ideal) : Prop where
  q : ∀ j b h l d, s.main_v165_0 (ix5 j b h l d) = Q b h j l d
  k : ∀ j b h l d, s.main_v165_1 (ix5 j b h l d) = (D b h j).k l d
  v : ∀ j b h l d, s.main_v165_2 (ix5 j b h l d) = (D b h j).v l d
  li : ∀ j b h l, s.main_v165_3 (ix4 j b h l) = (D b h j).li l
  lf : ∀ j b h l, s.main_v165_4 (ix4 j b h l) = (D b h j).lf l
  hc : ∀ b h d e, s.main_v165_11 (ix4 b h d e) = (iter (D b h) (z b h) n hn).c d e
  hnn : ∀ b h d, s.main_v165_12 (ix3 b h d) = (iter (D b h) (z b h) n hn).n d
  hm : ∀ b h, s.main_v165_13 (ix2 b h) = (iter (D b h) (z b h) n hn).m
  o : ∀ t : Fin 32, t.val < n → ∀ b h l e, s.main_v165_17 (ix5 t b h l e)
    = tok (D b h t) (iter (D b h) (z b h) t t.isLt.le) (Q b h t l) l e

section
variable {D : Fin 8 → Fin 4 → Fin 32 → Toks 128} {Q : Fin 8 → Fin 4 → Fin 32 → Fin 128 → Fin 128 → EReal}
  {z : Fin 8 → Fin 4 → Mem}

/-- A trip takes a direction from one chunk to the next. -/
theorem dir_step (n : ℕ) (hn : n < 32) (s s' : State Ideal) (H : Dir D Q z n hn.le s)
    (e0 : s'.main_v165_0 = s.main_v165_0) (e1 : s'.main_v165_1 = s.main_v165_1) (e2 : s'.main_v165_2 = s.main_v165_2)
    (e3 : s'.main_v165_3 = s.main_v165_3) (e4 : s'.main_v165_4 = s.main_v165_4)
    (e11 : s'.main_v165_11 = b142 n s) (e12 : s'.main_v165_12 = b147 n s) (e13 : s'.main_v165_13 = b127 n s)
    (e17 : s'.main_v165_17 = b245 n s) : Dir D Q z (n + 1) hn s' := by
  have hlf : ∀ b h, (fun i => s.main_v165_4 (ix4 ⟨n, hn⟩ b h i)) = (D b h ⟨n, hn⟩).lf := fun b h => funext fun i => H.lf ..
  have hli : ∀ b h, (fun i => s.main_v165_3 (ix4 ⟨n, hn⟩ b h i)) = (D b h ⟨n, hn⟩).li := fun b h => funext fun i => H.li ..
  have hk : ∀ b h d, (fun i => s.main_v165_1 (ix5 ⟨n, hn⟩ b h i d)) = fun i => (D b h ⟨n, hn⟩).k i d :=
    fun b h d => funext fun i => H.k ..
  have hv : ∀ b h d, (fun i => s.main_v165_2 (ix5 ⟨n, hn⟩ b h i d)) = fun i => (D b h ⟨n, hn⟩).v i d :=
    fun b h d => funext fun i => H.v ..
  refine ⟨by rw [e0]; exact H.q, by rw [e1]; exact H.k, by rw [e2]; exact H.v, by rw [e3]; exact H.li, by rw [e4]; exact H.lf,
    fun b h d e => ?_, fun b h d => ?_, fun b h => ?_, fun t ht b h l e => ?_⟩
  · rw [e11, b142_at n hn, H.hm, H.hc, hlf, hli, hk, hv]; rfl
  · rw [e12, b147_at n hn, H.hm, H.hnn, hlf, hli, hk]; rfl
  · rw [e13, b127_at n hn, H.hm, hlf, hli]; rfl
  · rw [e17, b245_at n hn]
    by_cases h' : t = ⟨n, hn⟩
    · subst h'
      rw [if_pos rfl, b114_at n hn, H.hm, hlf, hli, hv]
      rw [show (fun d => s.main_v165_11 (ix4 b h d e)) = fun d => (iter (D b h) (z b h) n hn.le).c d e from funext fun d => H.hc ..,
        show (fun d => s.main_v165_12 (ix3 b h d)) = (iter (D b h) (z b h) n hn.le).n from funext fun d => H.hnn ..,
        show (fun d => s.main_v165_0 (ix5 ⟨n, hn⟩ b h l d)) = Q b h ⟨n, hn⟩ l from funext fun d => H.q ..,
        show (fun i d => s.main_v165_1 (ix5 ⟨n, hn⟩ b h i d)) = (D b h ⟨n, hn⟩).k from funext fun i => funext fun d => H.k ..]
      rfl
    · rw [if_neg h']
      exact H.o t (by have h1 : t.val ≠ n := fun e => h' (Fin.ext e); omega) b h l e
end

section
variable (a0 : FVec Ideal S32768x512 .bf16) (a1 : FVec Ideal S8x512x4096 .bf16) (a2 : FVec Ideal S32768x512 .bf16)
  (a3 : FVec Ideal S8x16x4096 .f32) (a4 : FVec Ideal S8x512x256 .bf16) (a5 : FVec Ideal S2048x512 .bf16)
  (a6 : FVec Ideal S8x16x256 .f32)

/-- The forward direction before the chunks. -/
theorem dir_fwd : Dir (fun b h => (args a0 a1 a2 a3 a4 a5 a6).fwd b h) (fun b h j l d => (args a0 a1 a2 a3 a4 a5 a6).qs b h (pos j l) d)
    (fun b h => rstep ((args a0 a1 a2 a3 a4 a5 a6).fctx b h) mem0) 0 (Nat.zero_le _) (init (F := Ideal) a0 a1 a2 a3 a4 a5 a6) :=
  ⟨v144_at a0 a1 a2 a3 a4 a5 a6, v146_at a0 a1 a2 a3 a4 a5 a6, v148_at a0 a1 a2 a3 a4 a5 a6, v150_at a0 a1 a2 a3 a4 a5 a6, v152_at a0 a1 a2 a3 a4 a5 a6, v86_at a0 a1 a2 a3 a4 a5 a6, v91_at a0 a1 a2 a3 a4 a5 a6, v71_at a0 a1 a2 a3 a4 a5 a6, fun _ h => absurd h (Nat.not_lt_zero _)⟩

/-- The backward direction before the chunks. -/
theorem dir_bwd : Dir (fun b h => (args a0 a1 a2 a3 a4 a5 a6).bwd b h)
    (fun b h j l d => (args a0 a1 a2 a3 a4 a5 a6).qs b h (pos j l).rev d)
    (fun b h => rstep ((args a0 a1 a2 a3 a4 a5 a6).bctx b h) mem0) 0 (Nat.zero_le _) (flip (init (F := Ideal) a0 a1 a2 a3 a4 a5 a6)) :=
  ⟨v154_at a0 a1 a2 a3 a4 a5 a6, v156_at a0 a1 a2 a3 a4 a5 a6, v158_at a0 a1 a2 a3 a4 a5 a6, v160_at a0 a1 a2 a3 a4 a5 a6, v162_at a0 a1 a2 a3 a4 a5 a6, v124_at a0 a1 a2 a3 a4 a5 a6, v129_at a0 a1 a2 a3 a4 a5 a6, v109_at a0 a1 a2 a3 a4 a5 a6, fun _ h => absurd h (Nat.not_lt_zero _)⟩

/-- The state before each trip. -/
def it : ℕ → State Ideal
  | 0 => init (F := Ideal) a0 a1 a2 a3 a4 a5 a6
  | n + 1 => step n (it n)

theorem it_fwd (n : ℕ) (hn : n ≤ 32) : Dir (fun b h => (args a0 a1 a2 a3 a4 a5 a6).fwd b h)
    (fun b h j l d => (args a0 a1 a2 a3 a4 a5 a6).qs b h (pos j l) d)
    (fun b h => rstep ((args a0 a1 a2 a3 a4 a5 a6).fctx b h) mem0) n hn (it a0 a1 a2 a3 a4 a5 a6 n) := by
  induction n with
  | zero => exact dir_fwd ..
  | succ n ih => exact dir_step n hn _ _ (ih (Nat.le_of_succ_le hn)) rfl rfl rfl rfl rfl rfl rfl rfl rfl

theorem it_bwd (n : ℕ) (hn : n ≤ 32) : Dir (fun b h => (args a0 a1 a2 a3 a4 a5 a6).bwd b h)
    (fun b h j l d => (args a0 a1 a2 a3 a4 a5 a6).qs b h (pos j l).rev d)
    (fun b h => rstep ((args a0 a1 a2 a3 a4 a5 a6).bctx b h) mem0) n hn (flip (it a0 a1 a2 a3 a4 a5 a6 n)) := by
  induction n with
  | zero => exact dir_bwd ..
  | succ n ih =>
    exact dir_step n hn _ _ (ih (Nat.le_of_succ_le hn)) rfl rfl rfl rfl rfl (flip_c n _) (flip_n n _) (flip_m n _) (flip_o n _)

omit a0 a1 a2 a3 a4 a5 a6 in
theorem pos_div (j : Fin 32) (l : Fin 128) (hp) : (⟨(pos j l).val / 128, hp⟩ : Fin 32) = j :=
  Fin.ext (by simp only [pos]; omega)

omit a0 a1 a2 a3 a4 a5 a6 in
theorem pos_mod (j : Fin 32) (l : Fin 128) (hp) : (⟨(pos j l).val % 128, hp⟩ : Fin 128) = l :=
  Fin.ext (by simp only [pos]; omega)

omit a0 a1 a2 a3 a4 a5 a6 in
theorem col_div (h : Fin 4) (e : Fin 128) (hp) : (⟨(col h e).val / 128, hp⟩ : Fin 4) = h :=
  Fin.ext (by simp only [col]; omega)

omit a0 a1 a2 a3 a4 a5 a6 in
theorem col_mod (h : Fin 4) (e : Fin 128) (hp) : (⟨(col h e).val % 128, hp⟩ : Fin 128) = e :=
  Fin.ext (by simp only [col]; omega)

/-- The first result, at a chunk's token and a head's coordinate. -/
theorem v170_at (b : Fin 8) (j : Fin 32) (l : Fin 128) (h : Fin 4) (e : Fin 128) :
    R_main_v170 (it a0 a1 a2 a3 a4 a5 a6 32) (ix3 b (pos j l) (col h e)) = (args a0 a1 a2 a3 a4 a5 a6).fout b h j l e := by
  refine Eq.trans ?_ ((it_fwd a0 a1 a2 a3 a4 a5 a6 32 le_rfl).o j j.isLt b h l e)
  pointwise [R_main_v170]
  simp only [pos_div, pos_mod, col_div, col_mod]

/-- The second result. -/
theorem v176_at (b : Fin 8) (j : Fin 32) (l : Fin 128) (h : Fin 4) (e : Fin 128) :
    R_main_v176 (it a0 a1 a2 a3 a4 a5 a6 32) (ix3 b (pos j l).rev (col h e)) = (args a0 a1 a2 a3 a4 a5 a6).bout b h j l e := by
  refine Eq.trans ?_ ((it_bwd a0 a1 a2 a3 a4 a5 a6 32 le_rfl).o j j.isLt b h l e)
  pointwise [R_main_v176]
  have hd : ∀ t : Fin 4096, t.val / 128 < 32 := fun t => by omega
  change (it a0 a1 a2 a3 a4 a5 a6 32).main_v165_18 (ix5 ⟨(pos j l).rev.rev.val / 128, hd _⟩ b ⟨(col h e).val / 128, by omega⟩
    ⟨(pos j l).rev.rev.val % 128, Nat.mod_lt _ (by decide)⟩ ⟨(col h e).val % 128, Nat.mod_lt _ (by decide)⟩) = _
  simp only [Fin.rev_rev, pos_div, pos_mod, col_div, col_mod]
  rfl

end
end Cert.ReferenceIdeal.Step
end
-- ==== Proof.RefRun.lean ====
module

public import proofs.«01_k».proof.Proof.Gen.ReferenceIdeal.Run
public import proofs.«01_k».proof.Proof.Gen.ReferenceIdeal.Step

@[expose] public section

/-! The reference's loop. At a valuation that holds a state, every value of one trip is the step's value, one lemma for each;
    so one trip holds the next state, and the results are the fields of the step iterated. -/

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v165_11) = s.main_v165_11
  f_12 : V0 (Proc.devRef .tc main_v165_12) = s.main_v165_12
  f_13 : V0 (Proc.devRef .tc main_v165_13) = s.main_v165_13
  f_14 : V0 (Proc.devRef .tc main_v165_14) = s.main_v165_14
  f_15 : V0 (Proc.devRef .tc main_v165_15) = s.main_v165_15
  f_16 : V0 (Proc.devRef .tc main_v165_16) = s.main_v165_16
  f_17 : V0 (Proc.devRef .tc main_v165_17) = s.main_v165_17
  f_18 : V0 (Proc.devRef .tc main_v165_18) = s.main_v165_18
  f_0 : V0 (Proc.devRef .tc main_v165_0) = s.main_v165_0
  f_1 : V0 (Proc.devRef .tc main_v165_1) = s.main_v165_1
  f_2 : V0 (Proc.devRef .tc main_v165_2) = s.main_v165_2
  f_3 : V0 (Proc.devRef .tc main_v165_3) = s.main_v165_3
  f_4 : V0 (Proc.devRef .tc main_v165_4) = s.main_v165_4
  f_5 : V0 (Proc.devRef .tc main_v165_5) = s.main_v165_5
  f_6 : V0 (Proc.devRef .tc main_v165_6) = s.main_v165_6
  f_7 : V0 (Proc.devRef .tc main_v165_7) = s.main_v165_7
  f_8 : V0 (Proc.devRef .tc main_v165_8) = s.main_v165_8
  f_9 : V0 (Proc.devRef .tc main_v165_9) = s.main_v165_9
  n_10 : V0 (Proc.devRef .tc main_v165_10) = constantI S_ 32 (BitVec.ofNat 32 j)

variable {V0 s j}

set_option maxRecDepth 8192 in
theorem al_0 (h : Holds V0 s j) : (constantI S_ 32 0#32 : (Proc.devRef .tc main_while0b_call11_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call11_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call11_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call11_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x8x4x128x128 (V0 (Proc.devRef .tc main_v165_0)) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x128x128_S1x8x4x128x128 : (Proc.devRef .tc main_while0b_call11_v0 : DevRef τ sig).ty.Contents (Elt F)) = Cert.ReferenceIdeal.Step.b4 j s := by
  unfold Cert.ReferenceIdeal.Step.b4
  rw [← al_0 h, ← al_1 h, ← al_2 h, ← al_3 h, h.f_0, h.n_10]
  try rfl
set_option maxRecDepth 8192 in
theorem al_5 (h : Holds V0 s j) : (res_main_while0b_v177 V0 : (Proc.devRef .tc main_while0b_v177 : DevRef τ sig).ty.Contents (Elt F)) = Cert.ReferenceIdeal.Step.b5 j s := by
  unfold res_main_while0b_v177 Cert.ReferenceIdeal.Step.b5
  rw [← al_4 h]
  try rfl
set_option maxRecDepth 8192 in
theorem al_6 (h : Holds V0 s j) : (constantI S_ 32 0#32 : (Proc.devRef .tc main_while0b_call12_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call12_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call12_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call12_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x4x128x128 (V0 (Proc.devRef .tc main_v165_1)) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x128x128_S1x8x4x128x128 : (Proc.devRef .tc main_while0b_call12_v0 : DevRef τ sig).ty.Contents (Elt F)) = Cert.ReferenceIdeal.Step.b10 j s := by
  unfold Cert.ReferenceIdeal.Step.b10
  rw [← al_6 h, ← al_7 h, ← al_8 h, ← al_9 h, h.f_1, h.n_10]
  try rfl
set_option maxRecDepth 8192 in
theorem al_11 (h : Holds V0 s j) : (res_main_while0b_v178 V0 : (Proc.devRef .tc main_while0b_v178 : DevRef τ sig).ty.Contents (Elt F)) = Cert.ReferenceIdeal.Step.b11 j s := by
  unfold res_main_while0b_v178 Cert.ReferenceIdeal.Step.b11
  rw [← al_10 h]
  try rfl
set_option maxRecDepth 8192 in
theorem al_12 (h : Holds V0 s j) : (constantI S_ 32 0#32 : (Proc.devRef .tc main_while0b_call13_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call13_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call13_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call13_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x8x4x128x128 (V0 (Proc.devRef .tc main_v165_2)) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x128x128_S1x8x4x128x128 : (Proc.devRef .tc main_while0b_call13_v0 : DevRef τ sig).ty.Contents (Elt F)) = Cert.ReferenceIdeal.Step.b16 j s := by
  unfold Cert.ReferenceIdeal.Step.b16
  rw [← al_12 h, ← al_13 h, ← al_14 h, ← al_15 h, h.f_2, h.n_10]
  try rfl
set_option maxRecDepth 8192 in
theorem al_17 (h : Holds V0 s j) : (res_main_while0b_v179 V0 : (Proc.devRef .tc main_while0b_v179 : DevRef τ sig).ty.Contents (Elt F)) = Cert.ReferenceIdeal.Step.b17 j s := by
  unfold res_main_while0b_v179 Cert.ReferenceIdeal.Step.b17
  rw [← al_16 h]
  try rfl
set_option maxRecDepth 8192 in
theorem al_18 (h : Holds V0 s j) : (constantI S_ 32 0#32 : (Proc.devRef .tc main_while0b_call14_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call14_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call14_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x8x4x128 (V0 (Proc.devRef .tc main_v165_3)) (fun k => (((![V0 (Proc.devRef .tc main_v165_10), constantI S_ 32 0#32, constantI S_ 32 0#32, constantI S_ 32 0#32] : Fin 4 → (⟨S_, .i32⟩ : BufTy).Contents (Elt F))) k (Shape.Idx.first h_S_)).toInt) sliceFits_S32x8x4x128_S1x8x4x128 : (Proc.devRef .tc main_while0b_call14_v0 : DevRef τ sig).ty.Contents (Elt F)) = Cert.ReferenceIdeal.Step.b21 j s := by
  unfold Cert.ReferenceIdeal.Step.b21
  rw [← al_18 h, ← al_19 h, ← al_20 h, h.f_3, h.n_10]
  try rfl
set_option maxRecDepth 8192 in
theorem al_22 (h : Holds V0 s j) : (res_main_while0b_v180 V0 : (Proc.devRef .tc main_while0b_v180 : DevRef τ sig).ty.Contents (Elt F)) = Cert.ReferenceIdeal.Step.b22 j s := by
  unfold res_main_while0b_v180 Cert.ReferenceIdeal.Step.b22
  rw [← al_21 h]
  try rfl
set_option maxRecDepth 8192 in
theorem al_23 (h : Holds V0 s j) : (constantI S_ 32 0#32 : (Proc.devRef .tc main_while0b_call15_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call15_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call15_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x8x4x128 (V0 (Proc.devRef .tc main_v165_4)) (fun k => (((![V0 (Proc.devRef .tc main_v165_10), constantI S_ 32 0#32, constantI S_ 32 0#32, constantI S_ 32 0#32] : Fin 4 → (⟨S_, .i32⟩ : BufTy).Contents (Elt F))) k (Shape.Idx.first h_S_)).toInt) sliceFits_S32x8x4x128_S1x8x4x128 : (Proc.devRef .tc main_while0b_call15_v0 : DevRef τ sig).ty.Contents (Elt F)) = Cert.ReferenceIdeal.Step.b26 j s := by
  unfold Cert.ReferenceIdeal.Step.b26
  rw [← al_23 h, ← al_24 h, ← al_25 h, h.f_4, h.n_10]
  try rfl
set_option maxRecDepth 8192 in
theorem al_27 (h : Holds V0 s j) : (res_main_while0b_v181 V0 : (Proc.devRef .tc main_while0b_v181 : DevRef τ sig).ty.Contents (Elt F)) = Cert.ReferenceIdeal.Step.b27 j s := by
  unfold res_main_while0b_v181 Cert.ReferenceIdeal.Step.b27
  rw [← al_26 h]
  try rfl
set_option maxRecDepth 8192 in
theorem al_28 (h : Holds V0 s j) : (constantI S_ 32 0#32 : (Proc.devRef .tc main_while0b_call16_c : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call16_c_0 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call16_c_1 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call16_c_2 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x8x4x128x128 (V0 (Proc.devRef .tc main_v165_5)) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x128x128_S1x8x4x128x128 : (Proc.devRef .tc main_while0b_call16_v0 : DevRef τ sig).ty.Contents (Elt F)) = Cert.ReferenceIdeal.Step.b32 j s := by
  unfold Cert.ReferenceIdeal.Step.b32
  rw [← al_28 h, ← al_29 h, ← al_30 h, ← al_31 h, h.f_5, h.n_10]
  try rfl
set_option maxRecDepth 8192 in
theorem al_33 (h : Holds V0 s j) : (res_main_while0b_v182 V0 : (Proc.devRef .tc main_while0b_v182 : DevRef τ sig).ty.Contents (Elt F)) = Cert.ReferenceIdeal.Step.b33 j s := by
  unfold res_main_while0b_v182 Cert.ReferenceIdeal.Step.b33
  rw [← al_32 h]
  try rfl
set_option maxRecDepth 8192 in
theorem al_34 (h : Holds V0 s j) : (constantI S_ 32 0#32 : (Proc.devRef .tc main_while0b_call17_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call17_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call17_c_1 : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call17_c_2 : DevRef τ sig).ty.Contents (Elt F)) = Cert.ReferenceIdeal.Step.b37 j s := by
  unfold Cert.ReferenceIdeal.Step.b37
  rfl
set_option maxRecDepth 8192 in
theorem al_38 (h : Holds V0 s j) : (Host.dynamicSlice S1x8x4x128x128 (V0 (Proc.devRef .tc main_v165_6)) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x128x128_S1x8x4x128x128 : (Proc.devRef .tc main_while0b_call17_v0 : DevRef τ sig).ty.Contents (Elt F)) = Cert.ReferenceIdeal.Step.b38 j s := by
  unfold Cert.ReferenceIdeal.Step.b38
  rw [← al_34 h, ← al_35 h, ← al_36 h, ← al_37 h, h.f_6, h.n_10]
  try rfl
set_option maxRecDepth 8192 in
theorem al_39 (h : Holds V0 s j) : (res_main_while0b_v183 V0 : (Proc.devRef .tc main_while0b_v183 : DevRef τ sig).ty.Contents (Elt F)) = Cert.ReferenceIdeal.Step.b39 j s := by
  unfold res_main_while0b_v183 Cert.ReferenceIdeal.Step.b39
  rw [← al_38 h]
  try rfl
set_option maxRecDepth 8192 in
theorem al_40 (h : Holds V0 s j) : (constantI S_ 32 0#32 : (Proc.devRef .tc main_while0b_call18_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call18_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call18_c_1 : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_call18_c_2 : DevRef τ sig).ty.Contents (Elt F)) = Cert.ReferenceIdeal.Step.b43 j s := by
  unfold Cert.ReferenceIdeal.Step.b43
  rfl
set_option maxRecDepth 8192 in
theorem al_44 (h : Holds V0 s j) : (Host.dynamicSlice S1x8x4x128x128 (V0 (Proc.devRef .tc main_v165_7)) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) sliceFits_S32x8x4x128x128_S1x8x4x128x128 : (Proc.devRef .tc main_while0b_call18_v0 : DevRef τ sig).ty.Contents (Elt F)) = Cert.ReferenceIdeal.Step.b44 j s := by
  unfold Cert.ReferenceIdeal.Step.b44
  rw [← al_40 h, ← al_41 h, ← al_42 h, ← al_43 h, h.f_7, h.n_10]
  try rfl
set_option maxRecDepth 8192 in
theorem al_45 (h : Holds V0 s j) : (res_main_while0b_v184 V0 : (Proc.devRef .tc main_while0b_v184 : DevRef τ sig).ty.Contents (Elt F)) = Cert.ReferenceIdeal.Step.b45 j s := by
  unfold res_main_while0b_v184 Cert.ReferenceIdeal.Step.b45
  rw [← al_44 h]
  try rfl
set_option maxRecDepth 8192 in
theorem al_46 (h : Holds V0 s j) : (constantI S_ 32 0#32 : (Proc.devRef .tc main_while0b_call19_c : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call19_c_0 : DevRef τ sig).ty.Contents (Elt F)) = Cert.ReferenceIdeal.Step.b47 j s := by
  unfold Cert.ReferenceIdeal.Step.b47
  rfl
set_option maxRecDepth 8192 in
theorem al_48 (h : Holds V0 s j) : (constantI S_ 32 0#32 : (Proc.devRef .tc main_while0b_call19_c_1 : DevRef τ sig).ty.Contents (Elt F)) = Cert.ReferenceIdeal.Step.b48 j s := by
  unfold Cert.ReferenceIdeal.Step.b48
  rfl
set_option maxRecDepth 8192 in
theorem al_49 (h : Holds V0 s j) : (Host.dynamicSlice S1x8x4x128 (V0 (Proc.devRef .tc main_v165_8)) (fun k => (((![V0 (Proc.devRef .tc main_v165_10), constantI S_ 32 0#32, constantI S_ 32 0#32, constantI S_ 32 0#32] : Fin 4 → (⟨S_, .i32⟩ : BufTy).Contents (Elt F))) k (Shape.Idx.first h_S_)).toInt) sliceFits_S32x8x4x128_S1x8x4x128 : (Proc.devRef .tc main_while0b_call19_v0 : DevRef τ sig).ty.Contents (Elt F)) = Cert.ReferenceIdeal.Step.b49 j s := by
  unfold Cert.ReferenceIdeal.Step.b49
  rw [← al_46 h, ← al_47 h, ← al_48 h, h.f_8, h.n_10]
  try rfl
set_option maxRecDepth 8192 in
theorem al_50 (h : Holds V0 s j) : (res_main_while0b_v185 V0 : (Proc.devRef .tc main_while0b_v185 : DevRef τ sig).ty.Contents (Elt F)) = Cert.ReferenceIdeal.Step.b50 j s := by
  unfold res_main_while0b_v185 Cert.ReferenceIdeal.Step.b50
  rw [← al_49 h]
  try rfl
set_option maxRecDepth 8192 in
theorem al_51 (h : Holds V0 s j) : (constantI S_ 32 0#32 : (Proc.devRef .tc main_while0b_call20_c : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call20_c_0 : DevRef τ sig).ty.Contents (Elt F)) = Cert.ReferenceIdeal.Step.b52 j s := by
  unfold Cert.ReferenceIdeal.Step.b52
  rfl
set_option maxRecDepth 8192 in
theorem al_53 (h : Holds V0 s j) : (constantI S_ 32 0#32 : (Proc.devRef .tc main_while0b_call20_c_1 : DevRef τ sig).ty.Contents (Elt F)) = Cert.ReferenceIdeal.Step.b53 j s := by
  unfold Cert.ReferenceIdeal.Step.b53
  rfl
set_option maxRecDepth 8192 in
theorem al_54 (h : Holds V0 s j) : (Host.dynamicSlice S1x8x4x128 (V0 (Proc.devRef .tc main_v165_9)) (fun k => (((![V0 (Proc.devRef .tc main_v165_10), constantI S_ 32 0#32, constantI S_ 32 0#32, constantI S_ 32 0#32] : Fin 4 → (⟨S_, .i32⟩ : BufTy).Contents (Elt F))) k (Shape.Idx.first h_S_)).toInt) sliceFits_S32x8x4x128_S1x8x4x128 : (Proc.devRef .tc main_while0b_call20_v0 : DevRef τ sig).ty.Contents (Elt F)) = Cert.ReferenceIdeal.Step.b54 j s := by
  unfold Cert.ReferenceIdeal.Step.b54
  rw [← al_51 h, ← al_52 h, ← al_53 h, h.f_9, h.n_10]
  try rfl
set_option maxRecDepth 8192 in
theorem al_55 (h : Holds V0 s j) : (res_main_while0b_v186 V0 : (Proc.devRef .tc main_while0b_v186 : DevRef τ sig).ty.Contents (Elt F)) = Cert.ReferenceIdeal.Step.b55 j s := by
  unfold res_main_while0b_v186 Cert.ReferenceIdeal.Step.b55
  rw [← al_54 h]
  try rfl
set_option maxRecDepth 8192 in
theorem al_56 (h : Holds V0 s j) : (constant S_ .f32 0x00000000#32 : (Proc.devRef .tc main_while0b_call21_call0_cst : DevRef τ sig).ty.Contents (Elt F)) = Cert.ReferenceIdeal.Step.b56 j s := by
  unfold Cert.ReferenceIdeal.Step.b56
  rfl
set_option maxRecDepth 8192 in
theorem al_57 (h : Holds V0 s j) : (broadcastInDim S_ ![] bcast_S_S_ (constant S_ .f32 0x00000000#32) : (Proc.devRef .tc main_while0b_call21_call0_v0 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (res_main_while0b_v187 V0 : (Proc.devRef .tc main_while0b_v187 : DevRef τ sig).ty.Contents (Elt F)) = Cert.ReferenceIdeal.Step.b58 j s := by
  unfold res_main_while0b_v187 Cert.ReferenceIdeal.Step.b58
  rw [← al_27 h, ← al_57 h]
  try rfl
set_option maxRecDepth 8192 in
theorem al_59 (h : Holds V0 s j) : (constantI S_ 1 1#1 : (Proc.devRef .tc main_while0b_c_26 : DevRef τ sig).ty.Contents (Elt F)) = Cert.ReferenceIdeal.Step.b59 j s := by
  unfold Cert.ReferenceIdeal.Step.b59
  rfl
set_option maxRecDepth 8192 in
theorem al_60 (h : Holds V0 s j) : (broadcastInDim S128x128 ![] bcast_S_S128x128 (constantI S_ 1 1#1) : (Proc.devRef .tc main_while0b_v188 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (iotaInDim S128x128 32 0 : (Proc.devRef .tc main_while0b_call22_v0 : DevRef τ sig).ty.Contents (Elt F)) = Cert.ReferenceIdeal.Step.b61 j s := by
  unfold Cert.ReferenceIdeal.Step.b61
  rfl
set_option maxRecDepth 8192 in
theorem al_62 (h : Holds V0 s j) : (constantI S_ 32 0#32 : (Proc.devRef .tc main_while0b_call22_c : DevRef τ sig).ty.Contents (Elt F)) = Cert.ReferenceIdeal.Step.b62 j s := by
  unfold Cert.ReferenceIdeal.Step.b62
  rfl
set_option maxRecDepth 8192 in
theorem al_63 (h : Holds V0 s j) : (broadcastInDim S128x128 ![] bcast_S_S128x128 (constantI S_ 32 0#32) : (Proc.devRef .tc main_while0b_call22_v1 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (addi (iotaInDim S128x128 32 0) (broadcastInDim S128x128 ![] bcast_S_S128x128 (constantI S_ 32 0#32)) : (Proc.devRef .tc main_while0b_call22_v2 : DevRef τ sig).ty.Contents (Elt F)) = Cert.ReferenceIdeal.Step.b64 j s := by
  unfold Cert.ReferenceIdeal.Step.b64
  rw [← al_61 h, ← al_63 h]
  try rfl
set_option maxRecDepth 8192 in
theorem al_65 (h : Holds V0 s j) : (iotaInDim S128x128 32 1 : (Proc.devRef .tc main_while0b_call22_v3 : DevRef τ sig).ty.Contents (Elt F)) = Cert.ReferenceIdeal.Step.b65 j s := by
  unfold Cert.ReferenceIdeal.Step.b65
  rfl
set_option maxRecDepth 8192 in
theorem al_66 (h : Holds V0 s j) : (cmpi .sge (addi (iotaInDim S128x128 32 0) (broadcastInDim S128x128 ![] bcast_S_S128x128 (constantI S_ 32 0#32))) (iotaInDim S128x128 32 1) : (Proc.devRef .tc main_while0b_call22_v4 : DevRef τ sig).ty.Contents (Elt F)) = Cert.ReferenceIdeal.Step.b66 j s := by
  unfold Cert.ReferenceIdeal.Step.b66
  rw [← al_64 h, ← al_65 h]
  try rfl
set_option maxRecDepth 8192 in
theorem al_67 (h : Holds V0 s j) : (constantI S_ 1 0#1 : (Proc.devRef .tc main_while0b_call22_c_0 : DevRef τ sig).ty.Contents (Elt F)) = Cert.ReferenceIdeal.Step.b67 j s := by
  unfold Cert.ReferenceIdeal.Step.b67
  rfl
set_option maxRecDepth 8192 in
theorem al_68 (h : Holds V0 s j) : (broadcastInDim S128x128 ![] bcast_S_S128x128 (constantI S_ 1 0#1) : (Proc.devRef .tc main_while0b_call22_v5 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : (Proc.devRef .tc main_while0b_v189 : DevRef τ sig).ty.Contents (Elt F)) = Cert.ReferenceIdeal.Step.b69 j s := by
  unfold Cert.ReferenceIdeal.Step.b69
  rw [← al_66 h, ← al_60 h, ← al_68 h]
  try rfl
set_option maxRecDepth 8192 in
theorem al_70 (h : Holds V0 s j) : (broadcastInDim S8x4x128x1 ![0, 1, 2] bcast_S8x4x128_S8x4x128x1_0_1_2 (res_main_while0b_v187 V0) : (Proc.devRef .tc main_while0b_v190 : DevRef τ sig).ty.Contents (Elt F)) = Cert.ReferenceIdeal.Step.b70 j s := by
  unfold Cert.ReferenceIdeal.Step.b70
  rw [← al_58 h]
  try rfl
set_option maxRecDepth 8192 in
theorem al_71 (h : Holds V0 s j) : (broadcastInDim S8x4x1x128 ![0, 1, 3] bcast_S8x4x128_S8x4x1x128_0_1_3 (res_main_while0b_v187 V0) : (Proc.devRef .tc main_while0b_v191 : DevRef τ sig).ty.Contents (Elt F)) = Cert.ReferenceIdeal.Step.b71 j s := by
  unfold Cert.ReferenceIdeal.Step.b71
  rw [← al_58 h]
  try rfl
set_option maxRecDepth 8192 in
theorem al_72 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v187 V0)) : (Proc.devRef .tc main_while0b_v192 : DevRef τ sig).ty.Contents (Elt F)) = Cert.ReferenceIdeal.Step.b72 j s := by
  unfold Cert.ReferenceIdeal.Step.b72
  rw [← al_70 h]
  try rfl
set_option maxRecDepth 8192 in
theorem al_73 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v187 V0)) : (Proc.devRef .tc main_while0b_v193 : DevRef τ sig).ty.Contents (Elt F)) = Cert.ReferenceIdeal.Step.b73 j s := by
  unfold Cert.ReferenceIdeal.Step.b73
  rw [← al_71 h]
  try rfl
set_option maxRecDepth 8192 in
theorem al_74 (h : Holds V0 s j) : (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v187 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v187 V0))) : (Proc.devRef .tc main_while0b_v194 : DevRef τ sig).ty.Contents (Elt F)) = Cert.ReferenceIdeal.Step.b74 j s := by
  unfold Cert.ReferenceIdeal.Step.b74
  rw [← al_72 h, ← al_73 h]
  try rfl
set_option maxRecDepth 8192 in
theorem al_75 (h : Holds V0 s j) : (broadcastInDim S8x4x1x128 ![0, 1, 3] bcast_S8x4x128_S8x4x1x128_0_1_3 (res_main_while0b_v180 V0) : (Proc.devRef .tc main_while0b_v195 : DevRef τ sig).ty.Contents (Elt F)) = Cert.ReferenceIdeal.Step.b75 j s := by
  unfold Cert.ReferenceIdeal.Step.b75
  rw [← al_22 h]
  try rfl
set_option maxRecDepth 8192 in
theorem al_76 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v180 V0)) : (Proc.devRef .tc main_while0b_v196 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (addf (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v187 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v187 V0)))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v180 V0))) : (Proc.devRef .tc main_while0b_v197 : DevRef τ sig).ty.Contents (Elt F)) = Cert.ReferenceIdeal.Step.b77 j s := by
  unfold Cert.ReferenceIdeal.Step.b77
  rw [← al_74 h, ← al_76 h]
  try rfl
set_option maxRecDepth 8192 in
theorem al_78 (h : Holds V0 s j) : (constant S_ .f32 0xFF800000#32 : (Proc.devRef .tc main_while0b_cst_27 : DevRef τ sig).ty.Contents (Elt F)) = Cert.ReferenceIdeal.Step.b78 j s := by
  unfold Cert.ReferenceIdeal.Step.b78
  rfl
set_option maxRecDepth 8192 in
theorem al_79 (h : Holds V0 s j) : (id (constant S_ .f32 0xFF800000#32) : (Proc.devRef .tc main_while0b_call23_v0 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (broadcastInDim S8x4x128x128 ![2, 3] bcast_S128x128_S8x4x128x128_2_3 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))) : (Proc.devRef .tc main_while0b_call23_v1 : DevRef τ sig).ty.Contents (Elt F)) = Cert.ReferenceIdeal.Step.b80 j s := by
  unfold Cert.ReferenceIdeal.Step.b80
  rw [← al_69 h]
  try rfl
set_option maxRecDepth 8192 in
theorem al_81 (h : Holds V0 s j) : (broadcastInDim S8x4x128x128 ![] bcast_S_S8x4x128x128 (id (constant S_ .f32 0xFF800000#32)) : (Proc.devRef .tc main_while0b_call23_v2 : DevRef τ sig).ty.Contents (Elt F)) = Cert.ReferenceIdeal.Step.b81 j s := by
  unfold Cert.ReferenceIdeal.Step.b81
  rw [← al_79 h]
  try rfl
set_option maxRecDepth 8192 in
theorem al_82 (h : Holds V0 s j) : (res_main_while0b_v198 V0 : (Proc.devRef .tc main_while0b_v198 : DevRef τ sig).ty.Contents (Elt F)) = Cert.ReferenceIdeal.Step.b82 j s := by
  unfold res_main_while0b_v198 Cert.ReferenceIdeal.Step.b82
  rw [← al_80 h, ← al_77 h, ← al_81 h]
  try rfl
set_option maxRecDepth 8192 in
theorem al_83 (h : Holds V0 s j) : (broadcastInDim S8x4x1 ![0, 1] bcast_S8x4_S8x4x1_0_1 (V0 (Proc.devRef .tc main_v165_13)) : (Proc.devRef .tc main_while0b_v199 : DevRef τ sig).ty.Contents (Elt F)) = Cert.ReferenceIdeal.Step.b83 j s := by
  unfold Cert.ReferenceIdeal.Step.b83
  rw [h.f_13]
  try rfl
set_option maxRecDepth 8192 in
theorem al_84 (h : Holds V0 s j) : (broadcastInDim S8x4x128 ![0, 1, 2] bcast_S8x4x1_S8x4x128_0_1_2 (broadcastInDim S8x4x1 ![0, 1] bcast_S8x4_S8x4x1_0_1 (V0 (Proc.devRef .tc main_v165_13))) : (Proc.devRef .tc main_while0b_v200 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (res_main_while0b_v201 V0 : (Proc.devRef .tc main_while0b_v201 : DevRef τ sig).ty.Contents (Elt F)) = Cert.ReferenceIdeal.Step.b85 j s := by
  unfold res_main_while0b_v201 Cert.ReferenceIdeal.Step.b85
  rw [← al_58 h, ← al_84 h]
  try rfl
set_option maxRecDepth 8192 in
theorem al_86 (h : Holds V0 s j) : (constant S_ .f32 0xFF800000#32 : (Proc.devRef .tc main_while0b_cst_28 : DevRef τ sig).ty.Contents (Elt F)) = Cert.ReferenceIdeal.Step.b86 j s := by
  unfold Cert.ReferenceIdeal.Step.b86
  rfl
set_option maxRecDepth 8192 in
theorem al_87 (h : Holds V0 s j) : (Host.reduce FloatOps.maximumf (res_main_while0b_v198 V0) (constant S_ .f32 0xFF800000#32) reducesTo_S8x4x128x128_S8x4x128_d3 h_S_ : (Proc.devRef .tc main_while0b_v202 : DevRef τ sig).ty.Contents (Elt F)) = Cert.ReferenceIdeal.Step.b87 j s := by
  unfold Cert.ReferenceIdeal.Step.b87
  rw [← al_82 h, ← al_86 h]
  try rfl
set_option maxRecDepth 8192 in
theorem al_88 (h : Holds V0 s j) : (res_main_while0b_v203 V0 : (Proc.devRef .tc main_while0b_v203 : DevRef τ sig).ty.Contents (Elt F)) = Cert.ReferenceIdeal.Step.b88 j s := by
  unfold res_main_while0b_v203 Cert.ReferenceIdeal.Step.b88
  rw [← al_85 h, ← al_87 h]
  try rfl
set_option maxRecDepth 8192 in
theorem al_89 (h : Holds V0 s j) : (subf (res_main_while0b_v201 V0) (res_main_while0b_v203 V0) : (Proc.devRef .tc main_while0b_v204 : DevRef τ sig).ty.Contents (Elt F)) = Cert.ReferenceIdeal.Step.b89 j s := by
  unfold Cert.ReferenceIdeal.Step.b89
  rw [← al_85 h, ← al_88 h]
  try rfl
set_option maxRecDepth 8192 in
theorem al_90 (h : Holds V0 s j) : (res_main_while0b_v205 V0 : (Proc.devRef .tc main_while0b_v205 : DevRef τ sig).ty.Contents (Elt F)) = Cert.ReferenceIdeal.Step.b90 j s := by
  unfold res_main_while0b_v205 Cert.ReferenceIdeal.Step.b90
  rw [← al_89 h]
  try rfl
set_option maxRecDepth 8192 in
theorem al_91 (h : Holds V0 s j) : (Host.dotGeneral dot_S8x4x128x128_S8x4x128x128_S8x4x128x128_3_3_2_2_01_01 none (res_main_while0b_v177 V0) (res_main_while0b_v178 V0) : (Proc.devRef .tc main_while0b_v206 : DevRef τ sig).ty.Contents (Elt F)) = Cert.ReferenceIdeal.Step.b91 j s := by
  unfold Cert.ReferenceIdeal.Step.b91
  rw [← al_5 h, ← al_11 h]
  try rfl
set_option maxRecDepth 8192 in
theorem al_92 (h : Holds V0 s j) : (broadcastInDim S8x4x128x1 ![0, 1, 2] bcast_S8x4x128_S8x4x128x1_0_1_2 (res_main_while0b_v203 V0) : (Proc.devRef .tc main_while0b_v207 : DevRef τ sig).ty.Contents (Elt F)) = Cert.ReferenceIdeal.Step.b92 j s := by
  unfold Cert.ReferenceIdeal.Step.b92
  rw [← al_88 h]
  try rfl
set_option maxRecDepth 8192 in
theorem al_93 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v203 V0)) : (Proc.devRef .tc main_while0b_v208 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (subf (res_main_while0b_v198 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v203 V0))) : (Proc.devRef .tc main_while0b_v209 : DevRef τ sig).ty.Contents (Elt F)) = Cert.ReferenceIdeal.Step.b94 j s := by
  unfold Cert.ReferenceIdeal.Step.b94
  rw [← al_82 h, ← al_93 h]
  try rfl
set_option maxRecDepth 8192 in
theorem al_95 (h : Holds V0 s j) : (Host.exp (subf (res_main_while0b_v198 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v203 V0)))) : (Proc.devRef .tc main_while0b_v210 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (res_main_while0b_v211 V0 : (Proc.devRef .tc main_while0b_v211 : DevRef τ sig).ty.Contents (Elt F)) = Cert.ReferenceIdeal.Step.b96 j s := by
  unfold res_main_while0b_v211 Cert.ReferenceIdeal.Step.b96
  rw [← al_91 h, ← al_95 h]
  try rfl
set_option maxRecDepth 8192 in
theorem al_97 (h : Holds V0 s j) : (broadcastInDim S8x4x128x1 ![0, 1, 2] bcast_S8x4x128_S8x4x128x1_0_1_2 (res_main_while0b_v205 V0) : (Proc.devRef .tc main_while0b_v212 : DevRef τ sig).ty.Contents (Elt F)) = Cert.ReferenceIdeal.Step.b97 j s := by
  unfold Cert.ReferenceIdeal.Step.b97
  rw [← al_90 h]
  try rfl
set_option maxRecDepth 8192 in
theorem al_98 (h : Holds V0 s j) : (Host.dotGeneral dot_S8x4x128x128_S8x4x128x128_S8x4x128x128_3_2_2_3_01_01 none (res_main_while0b_v177 V0) (V0 (Proc.devRef .tc main_v165_11)) : (Proc.devRef .tc main_while0b_v213 : DevRef τ sig).ty.Contents (Elt F)) = Cert.ReferenceIdeal.Step.b98 j s := by
  unfold Cert.ReferenceIdeal.Step.b98
  rw [← al_5 h, h.f_11]
  try rfl
set_option maxRecDepth 8192 in
theorem al_99 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v205 V0)) : (Proc.devRef .tc main_while0b_v214 : DevRef τ sig).ty.Contents (Elt F)) = Cert.ReferenceIdeal.Step.b99 j s := by
  unfold Cert.ReferenceIdeal.Step.b99
  rw [← al_97 h]
  try rfl
set_option maxRecDepth 8192 in
theorem al_100 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v205 V0))) (Host.dotGeneral dot_S8x4x128x128_S8x4x128x128_S8x4x128x128_3_2_2_3_01_01 none (res_main_while0b_v177 V0) (V0 (Proc.devRef .tc main_v165_11))) : (Proc.devRef .tc main_while0b_v215 : DevRef τ sig).ty.Contents (Elt F)) = Cert.ReferenceIdeal.Step.b100 j s := by
  unfold Cert.ReferenceIdeal.Step.b100
  rw [← al_99 h, ← al_98 h]
  try rfl
set_option maxRecDepth 8192 in
theorem al_101 (h : Holds V0 s j) : (Host.dotGeneral dot_S8x4x128x128_S8x4x128x128_S8x4x128x128_3_2_2_3_01_01 none (res_main_while0b_v211 V0) (res_main_while0b_v179 V0) : (Proc.devRef .tc main_while0b_v216 : DevRef τ sig).ty.Contents (Elt F)) = Cert.ReferenceIdeal.Step.b101 j s := by
  unfold Cert.ReferenceIdeal.Step.b101
  rw [← al_96 h, ← al_17 h]
  try rfl
set_option maxRecDepth 8192 in
theorem al_102 (h : Holds V0 s j) : (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v205 V0))) (Host.dotGeneral dot_S8x4x128x128_S8x4x128x128_S8x4x128x128_3_2_2_3_01_01 none (res_main_while0b_v177 V0) (V0 (Proc.devRef .tc main_v165_11)))) (Host.dotGeneral dot_S8x4x128x128_S8x4x128x128_S8x4x128x128_3_2_2_3_01_01 none (res_main_while0b_v211 V0) (res_main_while0b_v179 V0)) : (Proc.devRef .tc main_while0b_v217 : DevRef τ sig).ty.Contents (Elt F)) = Cert.ReferenceIdeal.Step.b102 j s := by
  unfold Cert.ReferenceIdeal.Step.b102
  rw [← al_100 h, ← al_101 h]
  try rfl
set_option maxRecDepth 8192 in
theorem al_103 (h : Holds V0 s j) : (Host.dotGeneral dot_S8x4x128x128_S8x4x128_S8x4x128_3_2_2_n_01_01 none (res_main_while0b_v177 V0) (V0 (Proc.devRef .tc main_v165_12)) : (Proc.devRef .tc main_while0b_v218 : DevRef τ sig).ty.Contents (Elt F)) = Cert.ReferenceIdeal.Step.b103 j s := by
  unfold Cert.ReferenceIdeal.Step.b103
  rw [← al_5 h, h.f_12]
  try rfl
set_option maxRecDepth 8192 in
theorem al_104 (h : Holds V0 s j) : (mulf (res_main_while0b_v205 V0) (Host.dotGeneral dot_S8x4x128x128_S8x4x128_S8x4x128_3_2_2_n_01_01 none (res_main_while0b_v177 V0) (V0 (Proc.devRef .tc main_v165_12))) : (Proc.devRef .tc main_while0b_v219 : DevRef τ sig).ty.Contents (Elt F)) = Cert.ReferenceIdeal.Step.b104 j s := by
  unfold Cert.ReferenceIdeal.Step.b104
  rw [← al_90 h, ← al_103 h]
  try rfl
set_option maxRecDepth 8192 in
theorem al_105 (h : Holds V0 s j) : (constant S_ .f32 0x00000000#32 : (Proc.devRef .tc main_while0b_cst_29 : DevRef τ sig).ty.Contents (Elt F)) = Cert.ReferenceIdeal.Step.b105 j s := by
  unfold Cert.ReferenceIdeal.Step.b105
  rfl
set_option maxRecDepth 8192 in
theorem al_106 (h : Holds V0 s j) : (Host.reduceAdd (res_main_while0b_v211 V0) (constant S_ .f32 0x00000000#32) reducesTo_S8x4x128x128_S8x4x128_d3 h_S_ : (Proc.devRef .tc main_while0b_v220 : DevRef τ sig).ty.Contents (Elt F)) = Cert.ReferenceIdeal.Step.b106 j s := by
  unfold Cert.ReferenceIdeal.Step.b106
  rw [← al_96 h, ← al_105 h]
  try rfl
set_option maxRecDepth 8192 in
theorem al_107 (h : Holds V0 s j) : (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_) : (Proc.devRef .tc main_while0b_v221 : DevRef τ sig).ty.Contents (Elt F)) = Cert.ReferenceIdeal.Step.b107 j s := by
  unfold Cert.ReferenceIdeal.Step.b107
  rw [← al_104 h, ← al_106 h]
  try rfl
set_option maxRecDepth 8192 in
theorem al_108 (h : Holds V0 s j) : (Host.absf (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_)) : (Proc.devRef .tc main_while0b_v222 : DevRef τ sig).ty.Contents (Elt F)) = Cert.ReferenceIdeal.Step.b108 j s := by
  unfold Cert.ReferenceIdeal.Step.b108
  rw [← al_107 h]
  try rfl
set_option maxRecDepth 8192 in
theorem al_109 (h : Holds V0 s j) : (Host.negf (res_main_while0b_v203 V0) : (Proc.devRef .tc main_while0b_v223 : DevRef τ sig).ty.Contents (Elt F)) = Cert.ReferenceIdeal.Step.b109 j s := by
  unfold Cert.ReferenceIdeal.Step.b109
  rw [← al_88 h]
  try rfl
set_option maxRecDepth 8192 in
theorem al_110 (h : Holds V0 s j) : (Host.exp (Host.negf (res_main_while0b_v203 V0)) : (Proc.devRef .tc main_while0b_v224 : DevRef τ sig).ty.Contents (Elt F)) = Cert.ReferenceIdeal.Step.b110 j s := by
  unfold Cert.ReferenceIdeal.Step.b110
  rw [← al_109 h]
  try rfl
set_option maxRecDepth 8192 in
theorem al_111 (h : Holds V0 s j) : (maximumf (Host.absf (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_))) (Host.exp (Host.negf (res_main_while0b_v203 V0))) : (Proc.devRef .tc main_while0b_v225 : DevRef τ sig).ty.Contents (Elt F)) = Cert.ReferenceIdeal.Step.b111 j s := by
  unfold Cert.ReferenceIdeal.Step.b111
  rw [← al_108 h, ← al_110 h]
  try rfl
set_option maxRecDepth 8192 in
theorem al_112 (h : Holds V0 s j) : (broadcastInDim S8x4x128x1 ![0, 1, 2] bcast_S8x4x128_S8x4x128x1_0_1_2 (maximumf (Host.absf (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_))) (Host.exp (Host.negf (res_main_while0b_v203 V0)))) : (Proc.devRef .tc main_while0b_v226 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_))) (Host.exp (Host.negf (res_main_while0b_v203 V0))))) : (Proc.devRef .tc main_while0b_v227 : DevRef τ sig).ty.Contents (Elt F)) = Cert.ReferenceIdeal.Step.b113 j s := by
  unfold Cert.ReferenceIdeal.Step.b113
  rw [← al_112 h]
  try rfl
set_option maxRecDepth 8192 in
theorem al_114 (h : Holds V0 s j) : (Host.divf (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v205 V0))) (Host.dotGeneral dot_S8x4x128x128_S8x4x128x128_S8x4x128x128_3_2_2_3_01_01 none (res_main_while0b_v177 V0) (V0 (Proc.devRef .tc main_v165_11)))) (Host.dotGeneral dot_S8x4x128x128_S8x4x128x128_S8x4x128x128_3_2_2_3_01_01 none (res_main_while0b_v211 V0) (res_main_while0b_v179 V0))) (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_))) (Host.exp (Host.negf (res_main_while0b_v203 V0)))))) : (Proc.devRef .tc main_while0b_v228 : DevRef τ sig).ty.Contents (Elt F)) = Cert.ReferenceIdeal.Step.b114 j s := by
  unfold Cert.ReferenceIdeal.Step.b114
  rw [← al_102 h, ← al_113 h]
  try rfl
set_option maxRecDepth 8192 in
theorem al_115 (h : Holds V0 s j) : (constant S_ .f32 0x00000000#32 : (Proc.devRef .tc main_while0b_call24_call0_cst : DevRef τ sig).ty.Contents (Elt F)) = Cert.ReferenceIdeal.Step.b115 j s := by
  unfold Cert.ReferenceIdeal.Step.b115
  rfl
set_option maxRecDepth 8192 in
theorem al_116 (h : Holds V0 s j) : (broadcastInDim S_ ![] bcast_S_S_ (constant S_ .f32 0x00000000#32) : (Proc.devRef .tc main_while0b_call24_call0_v0 : DevRef τ sig).ty.Contents (Elt F)) = Cert.ReferenceIdeal.Step.b116 j s := by
  unfold Cert.ReferenceIdeal.Step.b116
  rw [← al_115 h]
  try rfl
set_option maxRecDepth 8192 in
theorem al_117 (h : Holds V0 s j) : (res_main_while0b_v229 V0 : (Proc.devRef .tc main_while0b_v229 : DevRef τ sig).ty.Contents (Elt F)) = Cert.ReferenceIdeal.Step.b117 j s := by
  unfold res_main_while0b_v229 Cert.ReferenceIdeal.Step.b117
  rw [← al_27 h, ← al_116 h]
  try rfl
set_option maxRecDepth 8192 in
theorem al_118 (h : Holds V0 s j) : (extractStridedSlice S8x4x1 ![0, 0, 127] (res_main_while0b_v229 V0) slices_S8x4x128_S8x4x1_0_0_127 : (Proc.devRef .tc main_while0b_v230 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (res_main_while0b_v231 V0 : (Proc.devRef .tc main_while0b_v231 : DevRef τ sig).ty.Contents (Elt F)) = Cert.ReferenceIdeal.Step.b119 j s := by
  unfold res_main_while0b_v231 Cert.ReferenceIdeal.Step.b119
  rw [← al_118 h]
  try rfl
set_option maxRecDepth 8192 in
theorem al_120 (h : Holds V0 s j) : (broadcastInDim S8x4x1 ![0, 1] bcast_S8x4_S8x4x1_0_1 (res_main_while0b_v231 V0) : (Proc.devRef .tc main_while0b_v232 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (broadcastInDim S8x4x128 ![0, 1, 2] bcast_S8x4x1_S8x4x128_0_1_2 (broadcastInDim S8x4x1 ![0, 1] bcast_S8x4_S8x4x1_0_1 (res_main_while0b_v231 V0)) : (Proc.devRef .tc main_while0b_v233 : DevRef τ sig).ty.Contents (Elt F)) = Cert.ReferenceIdeal.Step.b121 j s := by
  unfold Cert.ReferenceIdeal.Step.b121
  rw [← al_120 h]
  try rfl
set_option maxRecDepth 8192 in
theorem al_122 (h : Holds V0 s j) : (subf (broadcastInDim S8x4x128 ![0, 1, 2] bcast_S8x4x1_S8x4x128_0_1_2 (broadcastInDim S8x4x1 ![0, 1] bcast_S8x4_S8x4x1_0_1 (res_main_while0b_v231 V0))) (res_main_while0b_v229 V0) : (Proc.devRef .tc main_while0b_v234 : DevRef τ sig).ty.Contents (Elt F)) = Cert.ReferenceIdeal.Step.b122 j s := by
  unfold Cert.ReferenceIdeal.Step.b122
  rw [← al_121 h, ← al_117 h]
  try rfl
set_option maxRecDepth 8192 in
theorem al_123 (h : Holds V0 s j) : (res_main_while0b_v235 V0 : (Proc.devRef .tc main_while0b_v235 : DevRef τ sig).ty.Contents (Elt F)) = Cert.ReferenceIdeal.Step.b123 j s := by
  unfold res_main_while0b_v235 Cert.ReferenceIdeal.Step.b123
  rw [← al_122 h, ← al_22 h]
  try rfl
set_option maxRecDepth 8192 in
theorem al_124 (h : Holds V0 s j) : (addf (res_main_while0b_v231 V0) (V0 (Proc.devRef .tc main_v165_13)) : (Proc.devRef .tc main_while0b_v236 : DevRef τ sig).ty.Contents (Elt F)) = Cert.ReferenceIdeal.Step.b124 j s := by
  unfold Cert.ReferenceIdeal.Step.b124
  rw [← al_119 h, h.f_13]
  try rfl
set_option maxRecDepth 8192 in
theorem al_125 (h : Holds V0 s j) : (constant S_ .f32 0xFF800000#32 : (Proc.devRef .tc main_while0b_cst_30 : DevRef τ sig).ty.Contents (Elt F)) = Cert.ReferenceIdeal.Step.b125 j s := by
  unfold Cert.ReferenceIdeal.Step.b125
  rfl
set_option maxRecDepth 8192 in
theorem al_126 (h : Holds V0 s j) : (Host.reduce FloatOps.maximumf (res_main_while0b_v235 V0) (constant S_ .f32 0xFF800000#32) reducesTo_S8x4x128_S8x4_d2 h_S_ : (Proc.devRef .tc main_while0b_v237 : DevRef τ sig).ty.Contents (Elt F)) = Cert.ReferenceIdeal.Step.b126 j s := by
  unfold Cert.ReferenceIdeal.Step.b126
  rw [← al_123 h, ← al_125 h]
  try rfl
set_option maxRecDepth 8192 in
theorem al_127 (h : Holds V0 s j) : (res_main_while0b_v238 V0 : (Proc.devRef .tc main_while0b_v238 : DevRef τ sig).ty.Contents (Elt F)) = Cert.ReferenceIdeal.Step.b127 j s := by
  unfold res_main_while0b_v238 Cert.ReferenceIdeal.Step.b127
  rw [← al_124 h, ← al_126 h]
  try rfl
set_option maxRecDepth 8192 in
theorem al_128 (h : Holds V0 s j) : (addf (res_main_while0b_v231 V0) (V0 (Proc.devRef .tc main_v165_13)) : (Proc.devRef .tc main_while0b_v239 : DevRef τ sig).ty.Contents (Elt F)) = Cert.ReferenceIdeal.Step.b128 j s := by
  unfold Cert.ReferenceIdeal.Step.b128
  rw [← al_119 h, h.f_13]
  try rfl
set_option maxRecDepth 8192 in
theorem al_129 (h : Holds V0 s j) : (subf (addf (res_main_while0b_v231 V0) (V0 (Proc.devRef .tc main_v165_13))) (res_main_while0b_v238 V0) : (Proc.devRef .tc main_while0b_v240 : DevRef τ sig).ty.Contents (Elt F)) = Cert.ReferenceIdeal.Step.b129 j s := by
  unfold Cert.ReferenceIdeal.Step.b129
  rw [← al_128 h, ← al_127 h]
  try rfl
set_option maxRecDepth 8192 in
theorem al_130 (h : Holds V0 s j) : (res_main_while0b_v241 V0 : (Proc.devRef .tc main_while0b_v241 : DevRef τ sig).ty.Contents (Elt F)) = Cert.ReferenceIdeal.Step.b130 j s := by
  unfold res_main_while0b_v241 Cert.ReferenceIdeal.Step.b130
  rw [← al_129 h]
  try rfl
set_option maxRecDepth 8192 in
theorem al_131 (h : Holds V0 s j) : (broadcastInDim S8x4x1 ![0, 1] bcast_S8x4_S8x4x1_0_1 (res_main_while0b_v238 V0) : (Proc.devRef .tc main_while0b_v242 : DevRef τ sig).ty.Contents (Elt F)) = Cert.ReferenceIdeal.Step.b131 j s := by
  unfold Cert.ReferenceIdeal.Step.b131
  rw [← al_127 h]
  try rfl
set_option maxRecDepth 8192 in
theorem al_132 (h : Holds V0 s j) : (broadcastInDim S8x4x128 ![0, 1, 2] bcast_S8x4x1_S8x4x128_0_1_2 (broadcastInDim S8x4x1 ![0, 1] bcast_S8x4_S8x4x1_0_1 (res_main_while0b_v238 V0)) : (Proc.devRef .tc main_while0b_v243 : DevRef τ sig).ty.Contents (Elt F)) = Cert.ReferenceIdeal.Step.b132 j s := by
  unfold Cert.ReferenceIdeal.Step.b132
  rw [← al_131 h]
  try rfl
set_option maxRecDepth 8192 in
theorem al_133 (h : Holds V0 s j) : (subf (res_main_while0b_v235 V0) (broadcastInDim S8x4x128 ![0, 1, 2] bcast_S8x4x1_S8x4x128_0_1_2 (broadcastInDim S8x4x1 ![0, 1] bcast_S8x4_S8x4x1_0_1 (res_main_while0b_v238 V0))) : (Proc.devRef .tc main_while0b_v244 : DevRef τ sig).ty.Contents (Elt F)) = Cert.ReferenceIdeal.Step.b133 j s := by
  unfold Cert.ReferenceIdeal.Step.b133
  rw [← al_123 h, ← al_132 h]
  try rfl
set_option maxRecDepth 8192 in
theorem al_134 (h : Holds V0 s j) : (res_main_while0b_v245 V0 : (Proc.devRef .tc main_while0b_v245 : DevRef τ sig).ty.Contents (Elt F)) = Cert.ReferenceIdeal.Step.b134 j s := by
  unfold res_main_while0b_v245 Cert.ReferenceIdeal.Step.b134
  rw [← al_133 h]
  try rfl
set_option maxRecDepth 8192 in
theorem al_135 (h : Holds V0 s j) : (broadcastInDim S8x4x1x1 ![0, 1] bcast_S8x4_S8x4x1x1_0_1 (res_main_while0b_v241 V0) : (Proc.devRef .tc main_while0b_v246 : DevRef τ sig).ty.Contents (Elt F)) = Cert.ReferenceIdeal.Step.b135 j s := by
  unfold Cert.ReferenceIdeal.Step.b135
  rw [← al_130 h]
  try rfl
set_option maxRecDepth 8192 in
theorem al_136 (h : Holds V0 s j) : (broadcastInDim S8x4x128x128 ![0, 1, 2, 3] bcast_S8x4x1x1_S8x4x128x128_0_1_2_3 (broadcastInDim S8x4x1x1 ![0, 1] bcast_S8x4_S8x4x1x1_0_1 (res_main_while0b_v241 V0)) : (Proc.devRef .tc main_while0b_v247 : DevRef τ sig).ty.Contents (Elt F)) = Cert.ReferenceIdeal.Step.b136 j s := by
  unfold Cert.ReferenceIdeal.Step.b136
  rw [← al_135 h]
  try rfl
set_option maxRecDepth 8192 in
theorem al_137 (h : Holds V0 s j) : (mulf (broadcastInDim S8x4x128x128 ![0, 1, 2, 3] bcast_S8x4x1x1_S8x4x128x128_0_1_2_3 (broadcastInDim S8x4x1x1 ![0, 1] bcast_S8x4_S8x4x1x1_0_1 (res_main_while0b_v241 V0))) (V0 (Proc.devRef .tc main_v165_11)) : (Proc.devRef .tc main_while0b_v248 : DevRef τ sig).ty.Contents (Elt F)) = Cert.ReferenceIdeal.Step.b137 j s := by
  unfold Cert.ReferenceIdeal.Step.b137
  rw [← al_136 h, h.f_11]
  try rfl
set_option maxRecDepth 8192 in
theorem al_138 (h : Holds V0 s j) : (broadcastInDim S8x4x128x1 ![0, 1, 2] bcast_S8x4x128_S8x4x128x1_0_1_2 (res_main_while0b_v245 V0) : (Proc.devRef .tc main_while0b_v249 : DevRef τ sig).ty.Contents (Elt F)) = Cert.ReferenceIdeal.Step.b138 j s := by
  unfold Cert.ReferenceIdeal.Step.b138
  rw [← al_134 h]
  try rfl
set_option maxRecDepth 8192 in
theorem al_139 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v245 V0)) : (Proc.devRef .tc main_while0b_v250 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v245 V0))) (res_main_while0b_v178 V0) : (Proc.devRef .tc main_while0b_v251 : DevRef τ sig).ty.Contents (Elt F)) = Cert.ReferenceIdeal.Step.b140 j s := by
  unfold Cert.ReferenceIdeal.Step.b140
  rw [← al_139 h, ← al_11 h]
  try rfl
set_option maxRecDepth 8192 in
theorem al_141 (h : Holds V0 s j) : (Host.dotGeneral dot_S8x4x128x128_S8x4x128x128_S8x4x128x128_2_2_3_3_01_01 none (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v245 V0))) (res_main_while0b_v178 V0)) (res_main_while0b_v179 V0) : (Proc.devRef .tc main_while0b_v252 : DevRef τ sig).ty.Contents (Elt F)) = Cert.ReferenceIdeal.Step.b141 j s := by
  unfold Cert.ReferenceIdeal.Step.b141
  rw [← al_140 h, ← al_17 h]
  try rfl
set_option maxRecDepth 8192 in
theorem al_142 (h : Holds V0 s j) : (addf (mulf (broadcastInDim S8x4x128x128 ![0, 1, 2, 3] bcast_S8x4x1x1_S8x4x128x128_0_1_2_3 (broadcastInDim S8x4x1x1 ![0, 1] bcast_S8x4_S8x4x1x1_0_1 (res_main_while0b_v241 V0))) (V0 (Proc.devRef .tc main_v165_11))) (Host.dotGeneral dot_S8x4x128x128_S8x4x128x128_S8x4x128x128_2_2_3_3_01_01 none (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v245 V0))) (res_main_while0b_v178 V0)) (res_main_while0b_v179 V0)) : (Proc.devRef .tc main_while0b_v253 : DevRef τ sig).ty.Contents (Elt F)) = Cert.ReferenceIdeal.Step.b142 j s := by
  unfold Cert.ReferenceIdeal.Step.b142
  rw [← al_137 h, ← al_141 h]
  try rfl
set_option maxRecDepth 8192 in
theorem al_143 (h : Holds V0 s j) : (broadcastInDim S8x4x1 ![0, 1] bcast_S8x4_S8x4x1_0_1 (res_main_while0b_v241 V0) : (Proc.devRef .tc main_while0b_v254 : DevRef τ sig).ty.Contents (Elt F)) = Cert.ReferenceIdeal.Step.b143 j s := by
  unfold Cert.ReferenceIdeal.Step.b143
  rw [← al_130 h]
  try rfl
set_option maxRecDepth 8192 in
theorem al_144 (h : Holds V0 s j) : (broadcastInDim S8x4x128 ![0, 1, 2] bcast_S8x4x1_S8x4x128_0_1_2 (broadcastInDim S8x4x1 ![0, 1] bcast_S8x4_S8x4x1_0_1 (res_main_while0b_v241 V0)) : (Proc.devRef .tc main_while0b_v255 : DevRef τ sig).ty.Contents (Elt F)) = Cert.ReferenceIdeal.Step.b144 j s := by
  unfold Cert.ReferenceIdeal.Step.b144
  rw [← al_143 h]
  try rfl
set_option maxRecDepth 8192 in
theorem al_145 (h : Holds V0 s j) : (mulf (broadcastInDim S8x4x128 ![0, 1, 2] bcast_S8x4x1_S8x4x128_0_1_2 (broadcastInDim S8x4x1 ![0, 1] bcast_S8x4_S8x4x1_0_1 (res_main_while0b_v241 V0))) (V0 (Proc.devRef .tc main_v165_12)) : (Proc.devRef .tc main_while0b_v256 : DevRef τ sig).ty.Contents (Elt F)) = Cert.ReferenceIdeal.Step.b145 j s := by
  unfold Cert.ReferenceIdeal.Step.b145
  rw [← al_144 h, h.f_12]
  try rfl
set_option maxRecDepth 8192 in
theorem al_146 (h : Holds V0 s j) : (Host.dotGeneral dot_S8x4x128_S8x4x128x128_S8x4x128_2_2_n_3_01_01 none (res_main_while0b_v245 V0) (res_main_while0b_v178 V0) : (Proc.devRef .tc main_while0b_v257 : DevRef τ sig).ty.Contents (Elt F)) = Cert.ReferenceIdeal.Step.b146 j s := by
  unfold Cert.ReferenceIdeal.Step.b146
  rw [← al_134 h, ← al_11 h]
  try rfl
set_option maxRecDepth 8192 in
theorem al_147 (h : Holds V0 s j) : (addf (mulf (broadcastInDim S8x4x128 ![0, 1, 2] bcast_S8x4x1_S8x4x128_0_1_2 (broadcastInDim S8x4x1 ![0, 1] bcast_S8x4_S8x4x1_0_1 (res_main_while0b_v241 V0))) (V0 (Proc.devRef .tc main_v165_12))) (Host.dotGeneral dot_S8x4x128_S8x4x128x128_S8x4x128_2_2_n_3_01_01 none (res_main_while0b_v245 V0) (res_main_while0b_v178 V0)) : (Proc.devRef .tc main_while0b_v258 : DevRef τ sig).ty.Contents (Elt F)) = Cert.ReferenceIdeal.Step.b147 j s := by
  unfold Cert.ReferenceIdeal.Step.b147
  rw [← al_145 h, ← al_146 h]
  try rfl
set_option maxRecDepth 8192 in
theorem al_148 (h : Holds V0 s j) : (constant S_ .f32 0x00000000#32 : (Proc.devRef .tc main_while0b_call25_call0_cst : DevRef τ sig).ty.Contents (Elt F)) = Cert.ReferenceIdeal.Step.b148 j s := by
  unfold Cert.ReferenceIdeal.Step.b148
  rfl
set_option maxRecDepth 8192 in
theorem al_149 (h : Holds V0 s j) : (broadcastInDim S_ ![] bcast_S_S_ (constant S_ .f32 0x00000000#32) : (Proc.devRef .tc main_while0b_call25_call0_v0 : DevRef τ sig).ty.Contents (Elt F)) = Cert.ReferenceIdeal.Step.b149 j s := by
  unfold Cert.ReferenceIdeal.Step.b149
  rw [← al_148 h]
  try rfl
set_option maxRecDepth 8192 in
theorem al_150 (h : Holds V0 s j) : (res_main_while0b_v259 V0 : (Proc.devRef .tc main_while0b_v259 : DevRef τ sig).ty.Contents (Elt F)) = Cert.ReferenceIdeal.Step.b150 j s := by
  unfold res_main_while0b_v259 Cert.ReferenceIdeal.Step.b150
  rw [← al_55 h, ← al_149 h]
  try rfl
set_option maxRecDepth 8192 in
theorem al_151 (h : Holds V0 s j) : (constantI S_ 1 1#1 : (Proc.devRef .tc main_while0b_c_31 : DevRef τ sig).ty.Contents (Elt F)) = Cert.ReferenceIdeal.Step.b151 j s := by
  unfold Cert.ReferenceIdeal.Step.b151
  rfl
set_option maxRecDepth 8192 in
theorem al_152 (h : Holds V0 s j) : (broadcastInDim S128x128 ![] bcast_S_S128x128 (constantI S_ 1 1#1) : (Proc.devRef .tc main_while0b_v260 : DevRef τ sig).ty.Contents (Elt F)) = Cert.ReferenceIdeal.Step.b152 j s := by
  unfold Cert.ReferenceIdeal.Step.b152
  rw [← al_151 h]
  try rfl
set_option maxRecDepth 8192 in
theorem al_153 (h : Holds V0 s j) : (iotaInDim S128x128 32 0 : (Proc.devRef .tc main_while0b_call26_v0 : DevRef τ sig).ty.Contents (Elt F)) = Cert.ReferenceIdeal.Step.b153 j s := by
  unfold Cert.ReferenceIdeal.Step.b153
  rfl
set_option maxRecDepth 8192 in
theorem al_154 (h : Holds V0 s j) : (constantI S_ 32 0#32 : (Proc.devRef .tc main_while0b_call26_c : DevRef τ sig).ty.Contents (Elt F)) = Cert.ReferenceIdeal.Step.b154 j s := by
  unfold Cert.ReferenceIdeal.Step.b154
  rfl
set_option maxRecDepth 8192 in
theorem al_155 (h : Holds V0 s j) : (broadcastInDim S128x128 ![] bcast_S_S128x128 (constantI S_ 32 0#32) : (Proc.devRef .tc main_while0b_call26_v1 : DevRef τ sig).ty.Contents (Elt F)) = Cert.ReferenceIdeal.Step.b155 j s := by
  unfold Cert.ReferenceIdeal.Step.b155
  rw [← al_154 h]
  try rfl
set_option maxRecDepth 8192 in
theorem al_156 (h : Holds V0 s j) : (addi (iotaInDim S128x128 32 0) (broadcastInDim S128x128 ![] bcast_S_S128x128 (constantI S_ 32 0#32)) : (Proc.devRef .tc main_while0b_call26_v2 : DevRef τ sig).ty.Contents (Elt F)) = Cert.ReferenceIdeal.Step.b156 j s := by
  unfold Cert.ReferenceIdeal.Step.b156
  rw [← al_153 h, ← al_155 h]
  try rfl
set_option maxRecDepth 8192 in
theorem al_157 (h : Holds V0 s j) : (iotaInDim S128x128 32 1 : (Proc.devRef .tc main_while0b_call26_v3 : DevRef τ sig).ty.Contents (Elt F)) = Cert.ReferenceIdeal.Step.b157 j s := by
  unfold Cert.ReferenceIdeal.Step.b157
  rfl
set_option maxRecDepth 8192 in
theorem al_158 (h : Holds V0 s j) : (cmpi .sge (addi (iotaInDim S128x128 32 0) (broadcastInDim S128x128 ![] bcast_S_S128x128 (constantI S_ 32 0#32))) (iotaInDim S128x128 32 1) : (Proc.devRef .tc main_while0b_call26_v4 : DevRef τ sig).ty.Contents (Elt F)) = Cert.ReferenceIdeal.Step.b158 j s := by
  unfold Cert.ReferenceIdeal.Step.b158
  rw [← al_156 h, ← al_157 h]
  try rfl
set_option maxRecDepth 8192 in
theorem al_159 (h : Holds V0 s j) : (constantI S_ 1 0#1 : (Proc.devRef .tc main_while0b_call26_c_0 : DevRef τ sig).ty.Contents (Elt F)) = Cert.ReferenceIdeal.Step.b159 j s := by
  unfold Cert.ReferenceIdeal.Step.b159
  rfl
set_option maxRecDepth 8192 in
theorem al_160 (h : Holds V0 s j) : (broadcastInDim S128x128 ![] bcast_S_S128x128 (constantI S_ 1 0#1) : (Proc.devRef .tc main_while0b_call26_v5 : DevRef τ sig).ty.Contents (Elt F)) = Cert.ReferenceIdeal.Step.b160 j s := by
  unfold Cert.ReferenceIdeal.Step.b160
  rw [← al_159 h]
  try rfl
set_option maxRecDepth 8192 in
theorem al_161 (h : Holds V0 s j) : (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : (Proc.devRef .tc main_while0b_v261 : DevRef τ sig).ty.Contents (Elt F)) = Cert.ReferenceIdeal.Step.b161 j s := by
  unfold Cert.ReferenceIdeal.Step.b161
  rw [← al_158 h, ← al_152 h, ← al_160 h]
  try rfl
set_option maxRecDepth 8192 in
theorem al_162 (h : Holds V0 s j) : (broadcastInDim S8x4x128x1 ![0, 1, 2] bcast_S8x4x128_S8x4x128x1_0_1_2 (res_main_while0b_v259 V0) : (Proc.devRef .tc main_while0b_v262 : DevRef τ sig).ty.Contents (Elt F)) = Cert.ReferenceIdeal.Step.b162 j s := by
  unfold Cert.ReferenceIdeal.Step.b162
  rw [← al_150 h]
  try rfl
set_option maxRecDepth 8192 in
theorem al_163 (h : Holds V0 s j) : (broadcastInDim S8x4x1x128 ![0, 1, 3] bcast_S8x4x128_S8x4x1x128_0_1_3 (res_main_while0b_v259 V0) : (Proc.devRef .tc main_while0b_v263 : DevRef τ sig).ty.Contents (Elt F)) = Cert.ReferenceIdeal.Step.b163 j s := by
  unfold Cert.ReferenceIdeal.Step.b163
  rw [← al_150 h]
  try rfl
set_option maxRecDepth 8192 in
theorem al_164 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v259 V0)) : (Proc.devRef .tc main_while0b_v264 : DevRef τ sig).ty.Contents (Elt F)) = Cert.ReferenceIdeal.Step.b164 j s := by
  unfold Cert.ReferenceIdeal.Step.b164
  rw [← al_162 h]
  try rfl
set_option maxRecDepth 8192 in
theorem al_165 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v259 V0)) : (Proc.devRef .tc main_while0b_v265 : DevRef τ sig).ty.Contents (Elt F)) = Cert.ReferenceIdeal.Step.b165 j s := by
  unfold Cert.ReferenceIdeal.Step.b165
  rw [← al_163 h]
  try rfl
set_option maxRecDepth 8192 in
theorem al_166 (h : Holds V0 s j) : (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v259 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v259 V0))) : (Proc.devRef .tc main_while0b_v266 : DevRef τ sig).ty.Contents (Elt F)) = Cert.ReferenceIdeal.Step.b166 j s := by
  unfold Cert.ReferenceIdeal.Step.b166
  rw [← al_164 h, ← al_165 h]
  try rfl
set_option maxRecDepth 8192 in
theorem al_167 (h : Holds V0 s j) : (broadcastInDim S8x4x1x128 ![0, 1, 3] bcast_S8x4x128_S8x4x1x128_0_1_3 (res_main_while0b_v185 V0) : (Proc.devRef .tc main_while0b_v267 : DevRef τ sig).ty.Contents (Elt F)) = Cert.ReferenceIdeal.Step.b167 j s := by
  unfold Cert.ReferenceIdeal.Step.b167
  rw [← al_50 h]
  try rfl
set_option maxRecDepth 8192 in
theorem al_168 (h : Holds V0 s j) : (broadcastInDim S8x4x128x128 ![0, 1, 2, 3] bcast_S8x4x1x128_S8x4x128x128_0_1_2_3 (broadcastInDim S8x4x1x128 ![0, 1, 3] bcast_S8x4x128_S8x4x1x128_0_1_3 (res_main_while0b_v185 V0)) : (Proc.devRef .tc main_while0b_v268 : DevRef τ sig).ty.Contents (Elt F)) = Cert.ReferenceIdeal.Step.b168 j s := by
  unfold Cert.ReferenceIdeal.Step.b168
  rw [← al_167 h]
  try rfl
set_option maxRecDepth 8192 in
theorem al_169 (h : Holds V0 s j) : (addf (subf (broadcastInDim S8x4x128x128 ![0, 1, 2, 3] bcast_S8x4x128x1_S8x4x128x128_0_1_2_3 (broadcastInDim S8x4x128x1 ![0, 1, 2] bcast_S8x4x128_S8x4x128x1_0_1_2 (res_main_while0b_v259 V0))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v259 V0)))) (broadcastInDim S8x4x128x128 ![0, 1, 2, 3] bcast_S8x4x1x128_S8x4x128x128_0_1_2_3 (broadcastInDim S8x4x1x128 ![0, 1, 3] bcast_S8x4x128_S8x4x1x128_0_1_3 (res_main_while0b_v185 V0))) : (Proc.devRef .tc main_while0b_v269 : DevRef τ sig).ty.Contents (Elt F)) = Cert.ReferenceIdeal.Step.b169 j s := by
  unfold Cert.ReferenceIdeal.Step.b169
  rw [← al_166 h, ← al_168 h]
  try rfl
set_option maxRecDepth 8192 in
theorem al_170 (h : Holds V0 s j) : (constant S_ .f32 0xFF800000#32 : (Proc.devRef .tc main_while0b_cst_32 : DevRef τ sig).ty.Contents (Elt F)) = Cert.ReferenceIdeal.Step.b170 j s := by
  unfold Cert.ReferenceIdeal.Step.b170
  rfl
set_option maxRecDepth 8192 in
theorem al_171 (h : Holds V0 s j) : (id (constant S_ .f32 0xFF800000#32) : (Proc.devRef .tc main_while0b_call27_v0 : DevRef τ sig).ty.Contents (Elt F)) = Cert.ReferenceIdeal.Step.b171 j s := by
  unfold Cert.ReferenceIdeal.Step.b171
  rw [← al_170 h]
  try rfl
set_option maxRecDepth 8192 in
theorem al_172 (h : Holds V0 s j) : (broadcastInDim S8x4x128x128 ![2, 3] bcast_S128x128_S8x4x128x128_2_3 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))) : (Proc.devRef .tc main_while0b_call27_v1 : DevRef τ sig).ty.Contents (Elt F)) = Cert.ReferenceIdeal.Step.b172 j s := by
  unfold Cert.ReferenceIdeal.Step.b172
  rw [← al_161 h]
  try rfl
set_option maxRecDepth 8192 in
theorem al_173 (h : Holds V0 s j) : (broadcastInDim S8x4x128x128 ![] bcast_S_S8x4x128x128 (id (constant S_ .f32 0xFF800000#32)) : (Proc.devRef .tc main_while0b_call27_v2 : DevRef τ sig).ty.Contents (Elt F)) = Cert.ReferenceIdeal.Step.b173 j s := by
  unfold Cert.ReferenceIdeal.Step.b173
  rw [← al_171 h]
  try rfl
set_option maxRecDepth 8192 in
theorem al_174 (h : Holds V0 s j) : (res_main_while0b_v270 V0 : (Proc.devRef .tc main_while0b_v270 : DevRef τ sig).ty.Contents (Elt F)) = Cert.ReferenceIdeal.Step.b174 j s := by
  unfold res_main_while0b_v270 Cert.ReferenceIdeal.Step.b174
  rw [← al_172 h, ← al_169 h, ← al_173 h]
  try rfl
set_option maxRecDepth 8192 in
theorem al_175 (h : Holds V0 s j) : (broadcastInDim S8x4x1 ![0, 1] bcast_S8x4_S8x4x1_0_1 (V0 (Proc.devRef .tc main_v165_16)) : (Proc.devRef .tc main_while0b_v271 : DevRef τ sig).ty.Contents (Elt F)) = Cert.ReferenceIdeal.Step.b175 j s := by
  unfold Cert.ReferenceIdeal.Step.b175
  rw [h.f_16]
  try rfl
set_option maxRecDepth 8192 in
theorem al_176 (h : Holds V0 s j) : (broadcastInDim S8x4x128 ![0, 1, 2] bcast_S8x4x1_S8x4x128_0_1_2 (broadcastInDim S8x4x1 ![0, 1] bcast_S8x4_S8x4x1_0_1 (V0 (Proc.devRef .tc main_v165_16))) : (Proc.devRef .tc main_while0b_v272 : DevRef τ sig).ty.Contents (Elt F)) = Cert.ReferenceIdeal.Step.b176 j s := by
  unfold Cert.ReferenceIdeal.Step.b176
  rw [← al_175 h]
  try rfl
set_option maxRecDepth 8192 in
theorem al_177 (h : Holds V0 s j) : (res_main_while0b_v273 V0 : (Proc.devRef .tc main_while0b_v273 : DevRef τ sig).ty.Contents (Elt F)) = Cert.ReferenceIdeal.Step.b177 j s := by
  unfold res_main_while0b_v273 Cert.ReferenceIdeal.Step.b177
  rw [← al_150 h, ← al_176 h]
  try rfl
set_option maxRecDepth 8192 in
theorem al_178 (h : Holds V0 s j) : (constant S_ .f32 0xFF800000#32 : (Proc.devRef .tc main_while0b_cst_33 : DevRef τ sig).ty.Contents (Elt F)) = Cert.ReferenceIdeal.Step.b178 j s := by
  unfold Cert.ReferenceIdeal.Step.b178
  rfl
set_option maxRecDepth 8192 in
theorem al_179 (h : Holds V0 s j) : (Host.reduce FloatOps.maximumf (res_main_while0b_v270 V0) (constant S_ .f32 0xFF800000#32) reducesTo_S8x4x128x128_S8x4x128_d3 h_S_ : (Proc.devRef .tc main_while0b_v274 : DevRef τ sig).ty.Contents (Elt F)) = Cert.ReferenceIdeal.Step.b179 j s := by
  unfold Cert.ReferenceIdeal.Step.b179
  rw [← al_174 h, ← al_178 h]
  try rfl
set_option maxRecDepth 8192 in
theorem al_180 (h : Holds V0 s j) : (res_main_while0b_v275 V0 : (Proc.devRef .tc main_while0b_v275 : DevRef τ sig).ty.Contents (Elt F)) = Cert.ReferenceIdeal.Step.b180 j s := by
  unfold res_main_while0b_v275 Cert.ReferenceIdeal.Step.b180
  rw [← al_177 h, ← al_179 h]
  try rfl
set_option maxRecDepth 8192 in
theorem al_181 (h : Holds V0 s j) : (subf (res_main_while0b_v273 V0) (res_main_while0b_v275 V0) : (Proc.devRef .tc main_while0b_v276 : DevRef τ sig).ty.Contents (Elt F)) = Cert.ReferenceIdeal.Step.b181 j s := by
  unfold Cert.ReferenceIdeal.Step.b181
  rw [← al_177 h, ← al_180 h]
  try rfl
set_option maxRecDepth 8192 in
theorem al_182 (h : Holds V0 s j) : (res_main_while0b_v277 V0 : (Proc.devRef .tc main_while0b_v277 : DevRef τ sig).ty.Contents (Elt F)) = Cert.ReferenceIdeal.Step.b182 j s := by
  unfold res_main_while0b_v277 Cert.ReferenceIdeal.Step.b182
  rw [← al_181 h]
  try rfl
set_option maxRecDepth 8192 in
theorem al_183 (h : Holds V0 s j) : (Host.dotGeneral dot_S8x4x128x128_S8x4x128x128_S8x4x128x128_3_3_2_2_01_01 none (res_main_while0b_v182 V0) (res_main_while0b_v183 V0) : (Proc.devRef .tc main_while0b_v278 : DevRef τ sig).ty.Contents (Elt F)) = Cert.ReferenceIdeal.Step.b183 j s := by
  unfold Cert.ReferenceIdeal.Step.b183
  rw [← al_33 h, ← al_39 h]
  try rfl
set_option maxRecDepth 8192 in
theorem al_184 (h : Holds V0 s j) : (broadcastInDim S8x4x128x1 ![0, 1, 2] bcast_S8x4x128_S8x4x128x1_0_1_2 (res_main_while0b_v275 V0) : (Proc.devRef .tc main_while0b_v279 : DevRef τ sig).ty.Contents (Elt F)) = Cert.ReferenceIdeal.Step.b184 j s := by
  unfold Cert.ReferenceIdeal.Step.b184
  rw [← al_180 h]
  try rfl
set_option maxRecDepth 8192 in
theorem al_185 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v275 V0)) : (Proc.devRef .tc main_while0b_v280 : DevRef τ sig).ty.Contents (Elt F)) = Cert.ReferenceIdeal.Step.b185 j s := by
  unfold Cert.ReferenceIdeal.Step.b185
  rw [← al_184 h]
  try rfl
set_option maxRecDepth 8192 in
theorem al_186 (h : Holds V0 s j) : (subf (res_main_while0b_v270 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v275 V0))) : (Proc.devRef .tc main_while0b_v281 : DevRef τ sig).ty.Contents (Elt F)) = Cert.ReferenceIdeal.Step.b186 j s := by
  unfold Cert.ReferenceIdeal.Step.b186
  rw [← al_174 h, ← al_185 h]
  try rfl
set_option maxRecDepth 8192 in
theorem al_187 (h : Holds V0 s j) : (Host.exp (subf (res_main_while0b_v270 V0) (broadcastInDim S8x4x128x128 ![0, 1, 2, 3] bcast_S8x4x128x1_S8x4x128x128_0_1_2_3 (broadcastInDim S8x4x128x1 ![0, 1, 2] bcast_S8x4x128_S8x4x128x1_0_1_2 (res_main_while0b_v275 V0)))) : (Proc.devRef .tc main_while0b_v282 : DevRef τ sig).ty.Contents (Elt F)) = Cert.ReferenceIdeal.Step.b187 j s := by
  unfold Cert.ReferenceIdeal.Step.b187
  rw [← al_186 h]
  try rfl
set_option maxRecDepth 8192 in
theorem al_188 (h : Holds V0 s j) : (res_main_while0b_v283 V0 : (Proc.devRef .tc main_while0b_v283 : DevRef τ sig).ty.Contents (Elt F)) = Cert.ReferenceIdeal.Step.b188 j s := by
  unfold res_main_while0b_v283 Cert.ReferenceIdeal.Step.b188
  rw [← al_183 h, ← al_187 h]
  try rfl
set_option maxRecDepth 8192 in
theorem al_189 (h : Holds V0 s j) : (broadcastInDim S8x4x128x1 ![0, 1, 2] bcast_S8x4x128_S8x4x128x1_0_1_2 (res_main_while0b_v277 V0) : (Proc.devRef .tc main_while0b_v284 : DevRef τ sig).ty.Contents (Elt F)) = Cert.ReferenceIdeal.Step.b189 j s := by
  unfold Cert.ReferenceIdeal.Step.b189
  rw [← al_182 h]
  try rfl
set_option maxRecDepth 8192 in
theorem al_190 (h : Holds V0 s j) : (Host.dotGeneral dot_S8x4x128x128_S8x4x128x128_S8x4x128x128_3_2_2_3_01_01 none (res_main_while0b_v182 V0) (V0 (Proc.devRef .tc main_v165_14)) : (Proc.devRef .tc main_while0b_v285 : DevRef τ sig).ty.Contents (Elt F)) = Cert.ReferenceIdeal.Step.b190 j s := by
  unfold Cert.ReferenceIdeal.Step.b190
  rw [← al_33 h, h.f_14]
  try rfl
set_option maxRecDepth 8192 in
theorem al_191 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v277 V0)) : (Proc.devRef .tc main_while0b_v286 : DevRef τ sig).ty.Contents (Elt F)) = Cert.ReferenceIdeal.Step.b191 j s := by
  unfold Cert.ReferenceIdeal.Step.b191
  rw [← al_189 h]
  try rfl
set_option maxRecDepth 8192 in
theorem al_192 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v277 V0))) (Host.dotGeneral dot_S8x4x128x128_S8x4x128x128_S8x4x128x128_3_2_2_3_01_01 none (res_main_while0b_v182 V0) (V0 (Proc.devRef .tc main_v165_14))) : (Proc.devRef .tc main_while0b_v287 : DevRef τ sig).ty.Contents (Elt F)) = Cert.ReferenceIdeal.Step.b192 j s := by
  unfold Cert.ReferenceIdeal.Step.b192
  rw [← al_191 h, ← al_190 h]
  try rfl
set_option maxRecDepth 8192 in
theorem al_193 (h : Holds V0 s j) : (Host.dotGeneral dot_S8x4x128x128_S8x4x128x128_S8x4x128x128_3_2_2_3_01_01 none (res_main_while0b_v283 V0) (res_main_while0b_v184 V0) : (Proc.devRef .tc main_while0b_v288 : DevRef τ sig).ty.Contents (Elt F)) = Cert.ReferenceIdeal.Step.b193 j s := by
  unfold Cert.ReferenceIdeal.Step.b193
  rw [← al_188 h, ← al_45 h]
  try rfl
set_option maxRecDepth 8192 in
theorem al_194 (h : Holds V0 s j) : (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v277 V0))) (Host.dotGeneral dot_S8x4x128x128_S8x4x128x128_S8x4x128x128_3_2_2_3_01_01 none (res_main_while0b_v182 V0) (V0 (Proc.devRef .tc main_v165_14)))) (Host.dotGeneral dot_S8x4x128x128_S8x4x128x128_S8x4x128x128_3_2_2_3_01_01 none (res_main_while0b_v283 V0) (res_main_while0b_v184 V0)) : (Proc.devRef .tc main_while0b_v289 : DevRef τ sig).ty.Contents (Elt F)) = Cert.ReferenceIdeal.Step.b194 j s := by
  unfold Cert.ReferenceIdeal.Step.b194
  rw [← al_192 h, ← al_193 h]
  try rfl
set_option maxRecDepth 8192 in
theorem al_195 (h : Holds V0 s j) : (Host.dotGeneral dot_S8x4x128x128_S8x4x128_S8x4x128_3_2_2_n_01_01 none (res_main_while0b_v182 V0) (V0 (Proc.devRef .tc main_v165_15)) : (Proc.devRef .tc main_while0b_v290 : DevRef τ sig).ty.Contents (Elt F)) = Cert.ReferenceIdeal.Step.b195 j s := by
  unfold Cert.ReferenceIdeal.Step.b195
  rw [← al_33 h, h.f_15]
  try rfl
set_option maxRecDepth 8192 in
theorem al_196 (h : Holds V0 s j) : (mulf (res_main_while0b_v277 V0) (Host.dotGeneral dot_S8x4x128x128_S8x4x128_S8x4x128_3_2_2_n_01_01 none (res_main_while0b_v182 V0) (V0 (Proc.devRef .tc main_v165_15))) : (Proc.devRef .tc main_while0b_v291 : DevRef τ sig).ty.Contents (Elt F)) = Cert.ReferenceIdeal.Step.b196 j s := by
  unfold Cert.ReferenceIdeal.Step.b196
  rw [← al_182 h, ← al_195 h]
  try rfl
set_option maxRecDepth 8192 in
theorem al_197 (h : Holds V0 s j) : (constant S_ .f32 0x00000000#32 : (Proc.devRef .tc main_while0b_cst_34 : DevRef τ sig).ty.Contents (Elt F)) = Cert.ReferenceIdeal.Step.b197 j s := by
  unfold Cert.ReferenceIdeal.Step.b197
  rfl
set_option maxRecDepth 8192 in
theorem al_198 (h : Holds V0 s j) : (Host.reduceAdd (res_main_while0b_v283 V0) (constant S_ .f32 0x00000000#32) reducesTo_S8x4x128x128_S8x4x128_d3 h_S_ : (Proc.devRef .tc main_while0b_v292 : DevRef τ sig).ty.Contents (Elt F)) = Cert.ReferenceIdeal.Step.b198 j s := by
  unfold Cert.ReferenceIdeal.Step.b198
  rw [← al_188 h, ← al_197 h]
  try rfl
set_option maxRecDepth 8192 in
theorem al_199 (h : Holds V0 s j) : (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_) : (Proc.devRef .tc main_while0b_v293 : DevRef τ sig).ty.Contents (Elt F)) = Cert.ReferenceIdeal.Step.b199 j s := by
  unfold Cert.ReferenceIdeal.Step.b199
  rw [← al_196 h, ← al_198 h]
  try rfl
set_option maxRecDepth 8192 in
theorem al_200 (h : Holds V0 s j) : (Host.absf (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_)) : (Proc.devRef .tc main_while0b_v294 : DevRef τ sig).ty.Contents (Elt F)) = Cert.ReferenceIdeal.Step.b200 j s := by
  unfold Cert.ReferenceIdeal.Step.b200
  rw [← al_199 h]
  try rfl
set_option maxRecDepth 8192 in
theorem al_201 (h : Holds V0 s j) : (Host.negf (res_main_while0b_v275 V0) : (Proc.devRef .tc main_while0b_v295 : DevRef τ sig).ty.Contents (Elt F)) = Cert.ReferenceIdeal.Step.b201 j s := by
  unfold Cert.ReferenceIdeal.Step.b201
  rw [← al_180 h]
  try rfl
set_option maxRecDepth 8192 in
theorem al_202 (h : Holds V0 s j) : (Host.exp (Host.negf (res_main_while0b_v275 V0)) : (Proc.devRef .tc main_while0b_v296 : DevRef τ sig).ty.Contents (Elt F)) = Cert.ReferenceIdeal.Step.b202 j s := by
  unfold Cert.ReferenceIdeal.Step.b202
  rw [← al_201 h]
  try rfl
set_option maxRecDepth 8192 in
theorem al_203 (h : Holds V0 s j) : (maximumf (Host.absf (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_))) (Host.exp (Host.negf (res_main_while0b_v275 V0))) : (Proc.devRef .tc main_while0b_v297 : DevRef τ sig).ty.Contents (Elt F)) = Cert.ReferenceIdeal.Step.b203 j s := by
  unfold Cert.ReferenceIdeal.Step.b203
  rw [← al_200 h, ← al_202 h]
  try rfl
set_option maxRecDepth 8192 in
theorem al_204 (h : Holds V0 s j) : (broadcastInDim S8x4x128x1 ![0, 1, 2] bcast_S8x4x128_S8x4x128x1_0_1_2 (maximumf (Host.absf (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_))) (Host.exp (Host.negf (res_main_while0b_v275 V0)))) : (Proc.devRef .tc main_while0b_v298 : DevRef τ sig).ty.Contents (Elt F)) = Cert.ReferenceIdeal.Step.b204 j s := by
  unfold Cert.ReferenceIdeal.Step.b204
  rw [← al_203 h]
  try rfl
set_option maxRecDepth 8192 in
theorem al_205 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_))) (Host.exp (Host.negf (res_main_while0b_v275 V0))))) : (Proc.devRef .tc main_while0b_v299 : DevRef τ sig).ty.Contents (Elt F)) = Cert.ReferenceIdeal.Step.b205 j s := by
  unfold Cert.ReferenceIdeal.Step.b205
  rw [← al_204 h]
  try rfl
set_option maxRecDepth 8192 in
theorem al_206 (h : Holds V0 s j) : (Host.divf (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v277 V0))) (Host.dotGeneral dot_S8x4x128x128_S8x4x128x128_S8x4x128x128_3_2_2_3_01_01 none (res_main_while0b_v182 V0) (V0 (Proc.devRef .tc main_v165_14)))) (Host.dotGeneral dot_S8x4x128x128_S8x4x128x128_S8x4x128x128_3_2_2_3_01_01 none (res_main_while0b_v283 V0) (res_main_while0b_v184 V0))) (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_))) (Host.exp (Host.negf (res_main_while0b_v275 V0)))))) : (Proc.devRef .tc main_while0b_v300 : DevRef τ sig).ty.Contents (Elt F)) = Cert.ReferenceIdeal.Step.b206 j s := by
  unfold Cert.ReferenceIdeal.Step.b206
  rw [← al_194 h, ← al_205 h]
  try rfl
set_option maxRecDepth 8192 in
theorem al_207 (h : Holds V0 s j) : (constant S_ .f32 0x00000000#32 : (Proc.devRef .tc main_while0b_call28_call0_cst : DevRef τ sig).ty.Contents (Elt F)) = Cert.ReferenceIdeal.Step.b207 j s := by
  unfold Cert.ReferenceIdeal.Step.b207
  rfl
set_option maxRecDepth 8192 in
theorem al_208 (h : Holds V0 s j) : (broadcastInDim S_ ![] bcast_S_S_ (constant S_ .f32 0x00000000#32) : (Proc.devRef .tc main_while0b_call28_call0_v0 : DevRef τ sig).ty.Contents (Elt F)) = Cert.ReferenceIdeal.Step.b208 j s := by
  unfold Cert.ReferenceIdeal.Step.b208
  rw [← al_207 h]
  try rfl
set_option maxRecDepth 8192 in
theorem al_209 (h : Holds V0 s j) : (res_main_while0b_v301 V0 : (Proc.devRef .tc main_while0b_v301 : DevRef τ sig).ty.Contents (Elt F)) = Cert.ReferenceIdeal.Step.b209 j s := by
  unfold res_main_while0b_v301 Cert.ReferenceIdeal.Step.b209
  rw [← al_55 h, ← al_208 h]
  try rfl
set_option maxRecDepth 8192 in
theorem al_210 (h : Holds V0 s j) : (extractStridedSlice S8x4x1 ![0, 0, 127] (res_main_while0b_v301 V0) slices_S8x4x128_S8x4x1_0_0_127 : (Proc.devRef .tc main_while0b_v302 : DevRef τ sig).ty.Contents (Elt F)) = Cert.ReferenceIdeal.Step.b210 j s := by
  unfold Cert.ReferenceIdeal.Step.b210
  rw [← al_209 h]
  try rfl
set_option maxRecDepth 8192 in
theorem al_211 (h : Holds V0 s j) : (res_main_while0b_v303 V0 : (Proc.devRef .tc main_while0b_v303 : DevRef τ sig).ty.Contents (Elt F)) = Cert.ReferenceIdeal.Step.b211 j s := by
  unfold res_main_while0b_v303 Cert.ReferenceIdeal.Step.b211
  rw [← al_210 h]
  try rfl
set_option maxRecDepth 8192 in
theorem al_212 (h : Holds V0 s j) : (broadcastInDim S8x4x1 ![0, 1] bcast_S8x4_S8x4x1_0_1 (res_main_while0b_v303 V0) : (Proc.devRef .tc main_while0b_v304 : DevRef τ sig).ty.Contents (Elt F)) = Cert.ReferenceIdeal.Step.b212 j s := by
  unfold Cert.ReferenceIdeal.Step.b212
  rw [← al_211 h]
  try rfl
set_option maxRecDepth 8192 in
theorem al_213 (h : Holds V0 s j) : (broadcastInDim S8x4x128 ![0, 1, 2] bcast_S8x4x1_S8x4x128_0_1_2 (broadcastInDim S8x4x1 ![0, 1] bcast_S8x4_S8x4x1_0_1 (res_main_while0b_v303 V0)) : (Proc.devRef .tc main_while0b_v305 : DevRef τ sig).ty.Contents (Elt F)) = Cert.ReferenceIdeal.Step.b213 j s := by
  unfold Cert.ReferenceIdeal.Step.b213
  rw [← al_212 h]
  try rfl
set_option maxRecDepth 8192 in
theorem al_214 (h : Holds V0 s j) : (subf (broadcastInDim S8x4x128 ![0, 1, 2] bcast_S8x4x1_S8x4x128_0_1_2 (broadcastInDim S8x4x1 ![0, 1] bcast_S8x4_S8x4x1_0_1 (res_main_while0b_v303 V0))) (res_main_while0b_v301 V0) : (Proc.devRef .tc main_while0b_v306 : DevRef τ sig).ty.Contents (Elt F)) = Cert.ReferenceIdeal.Step.b214 j s := by
  unfold Cert.ReferenceIdeal.Step.b214
  rw [← al_213 h, ← al_209 h]
  try rfl
set_option maxRecDepth 8192 in
theorem al_215 (h : Holds V0 s j) : (res_main_while0b_v307 V0 : (Proc.devRef .tc main_while0b_v307 : DevRef τ sig).ty.Contents (Elt F)) = Cert.ReferenceIdeal.Step.b215 j s := by
  unfold res_main_while0b_v307 Cert.ReferenceIdeal.Step.b215
  rw [← al_214 h, ← al_50 h]
  try rfl
set_option maxRecDepth 8192 in
theorem al_216 (h : Holds V0 s j) : (addf (res_main_while0b_v303 V0) (V0 (Proc.devRef .tc main_v165_16)) : (Proc.devRef .tc main_while0b_v308 : DevRef τ sig).ty.Contents (Elt F)) = Cert.ReferenceIdeal.Step.b216 j s := by
  unfold Cert.ReferenceIdeal.Step.b216
  rw [← al_211 h, h.f_16]
  try rfl
set_option maxRecDepth 8192 in
theorem al_217 (h : Holds V0 s j) : (constant S_ .f32 0xFF800000#32 : (Proc.devRef .tc main_while0b_cst_35 : DevRef τ sig).ty.Contents (Elt F)) = Cert.ReferenceIdeal.Step.b217 j s := by
  unfold Cert.ReferenceIdeal.Step.b217
  rfl
set_option maxRecDepth 8192 in
theorem al_218 (h : Holds V0 s j) : (Host.reduce FloatOps.maximumf (res_main_while0b_v307 V0) (constant S_ .f32 0xFF800000#32) reducesTo_S8x4x128_S8x4_d2 h_S_ : (Proc.devRef .tc main_while0b_v309 : DevRef τ sig).ty.Contents (Elt F)) = Cert.ReferenceIdeal.Step.b218 j s := by
  unfold Cert.ReferenceIdeal.Step.b218
  rw [← al_215 h, ← al_217 h]
  try rfl
set_option maxRecDepth 8192 in
theorem al_219 (h : Holds V0 s j) : (res_main_while0b_v310 V0 : (Proc.devRef .tc main_while0b_v310 : DevRef τ sig).ty.Contents (Elt F)) = Cert.ReferenceIdeal.Step.b219 j s := by
  unfold res_main_while0b_v310 Cert.ReferenceIdeal.Step.b219
  rw [← al_216 h, ← al_218 h]
  try rfl
set_option maxRecDepth 8192 in
theorem al_220 (h : Holds V0 s j) : (addf (res_main_while0b_v303 V0) (V0 (Proc.devRef .tc main_v165_16)) : (Proc.devRef .tc main_while0b_v311 : DevRef τ sig).ty.Contents (Elt F)) = Cert.ReferenceIdeal.Step.b220 j s := by
  unfold Cert.ReferenceIdeal.Step.b220
  rw [← al_211 h, h.f_16]
  try rfl
set_option maxRecDepth 8192 in
theorem al_221 (h : Holds V0 s j) : (subf (addf (res_main_while0b_v303 V0) (V0 (Proc.devRef .tc main_v165_16))) (res_main_while0b_v310 V0) : (Proc.devRef .tc main_while0b_v312 : DevRef τ sig).ty.Contents (Elt F)) = Cert.ReferenceIdeal.Step.b221 j s := by
  unfold Cert.ReferenceIdeal.Step.b221
  rw [← al_220 h, ← al_219 h]
  try rfl
set_option maxRecDepth 8192 in
theorem al_222 (h : Holds V0 s j) : (res_main_while0b_v313 V0 : (Proc.devRef .tc main_while0b_v313 : DevRef τ sig).ty.Contents (Elt F)) = Cert.ReferenceIdeal.Step.b222 j s := by
  unfold res_main_while0b_v313 Cert.ReferenceIdeal.Step.b222
  rw [← al_221 h]
  try rfl
set_option maxRecDepth 8192 in
theorem al_223 (h : Holds V0 s j) : (broadcastInDim S8x4x1 ![0, 1] bcast_S8x4_S8x4x1_0_1 (res_main_while0b_v310 V0) : (Proc.devRef .tc main_while0b_v314 : DevRef τ sig).ty.Contents (Elt F)) = Cert.ReferenceIdeal.Step.b223 j s := by
  unfold Cert.ReferenceIdeal.Step.b223
  rw [← al_219 h]
  try rfl
set_option maxRecDepth 8192 in
theorem al_224 (h : Holds V0 s j) : (broadcastInDim S8x4x128 ![0, 1, 2] bcast_S8x4x1_S8x4x128_0_1_2 (broadcastInDim S8x4x1 ![0, 1] bcast_S8x4_S8x4x1_0_1 (res_main_while0b_v310 V0)) : (Proc.devRef .tc main_while0b_v315 : DevRef τ sig).ty.Contents (Elt F)) = Cert.ReferenceIdeal.Step.b224 j s := by
  unfold Cert.ReferenceIdeal.Step.b224
  rw [← al_223 h]
  try rfl
set_option maxRecDepth 8192 in
theorem al_225 (h : Holds V0 s j) : (subf (res_main_while0b_v307 V0) (broadcastInDim S8x4x128 ![0, 1, 2] bcast_S8x4x1_S8x4x128_0_1_2 (broadcastInDim S8x4x1 ![0, 1] bcast_S8x4_S8x4x1_0_1 (res_main_while0b_v310 V0))) : (Proc.devRef .tc main_while0b_v316 : DevRef τ sig).ty.Contents (Elt F)) = Cert.ReferenceIdeal.Step.b225 j s := by
  unfold Cert.ReferenceIdeal.Step.b225
  rw [← al_215 h, ← al_224 h]
  try rfl
set_option maxRecDepth 8192 in
theorem al_226 (h : Holds V0 s j) : (res_main_while0b_v317 V0 : (Proc.devRef .tc main_while0b_v317 : DevRef τ sig).ty.Contents (Elt F)) = Cert.ReferenceIdeal.Step.b226 j s := by
  unfold res_main_while0b_v317 Cert.ReferenceIdeal.Step.b226
  rw [← al_225 h]
  try rfl
set_option maxRecDepth 8192 in
theorem al_227 (h : Holds V0 s j) : (broadcastInDim S8x4x1x1 ![0, 1] bcast_S8x4_S8x4x1x1_0_1 (res_main_while0b_v313 V0) : (Proc.devRef .tc main_while0b_v318 : DevRef τ sig).ty.Contents (Elt F)) = Cert.ReferenceIdeal.Step.b227 j s := by
  unfold Cert.ReferenceIdeal.Step.b227
  rw [← al_222 h]
  try rfl
set_option maxRecDepth 8192 in
theorem al_228 (h : Holds V0 s j) : (broadcastInDim S8x4x128x128 ![0, 1, 2, 3] bcast_S8x4x1x1_S8x4x128x128_0_1_2_3 (broadcastInDim S8x4x1x1 ![0, 1] bcast_S8x4_S8x4x1x1_0_1 (res_main_while0b_v313 V0)) : (Proc.devRef .tc main_while0b_v319 : DevRef τ sig).ty.Contents (Elt F)) = Cert.ReferenceIdeal.Step.b228 j s := by
  unfold Cert.ReferenceIdeal.Step.b228
  rw [← al_227 h]
  try rfl
set_option maxRecDepth 8192 in
theorem al_229 (h : Holds V0 s j) : (mulf (broadcastInDim S8x4x128x128 ![0, 1, 2, 3] bcast_S8x4x1x1_S8x4x128x128_0_1_2_3 (broadcastInDim S8x4x1x1 ![0, 1] bcast_S8x4_S8x4x1x1_0_1 (res_main_while0b_v313 V0))) (V0 (Proc.devRef .tc main_v165_14)) : (Proc.devRef .tc main_while0b_v320 : DevRef τ sig).ty.Contents (Elt F)) = Cert.ReferenceIdeal.Step.b229 j s := by
  unfold Cert.ReferenceIdeal.Step.b229
  rw [← al_228 h, h.f_14]
  try rfl
set_option maxRecDepth 8192 in
theorem al_230 (h : Holds V0 s j) : (broadcastInDim S8x4x128x1 ![0, 1, 2] bcast_S8x4x128_S8x4x128x1_0_1_2 (res_main_while0b_v317 V0) : (Proc.devRef .tc main_while0b_v321 : DevRef τ sig).ty.Contents (Elt F)) = Cert.ReferenceIdeal.Step.b230 j s := by
  unfold Cert.ReferenceIdeal.Step.b230
  rw [← al_226 h]
  try rfl
set_option maxRecDepth 8192 in
theorem al_231 (h : Holds V0 s j) : (broadcastInDim S8x4x128x128 ![0, 1, 2, 3] bcast_S8x4x128x1_S8x4x128x128_0_1_2_3 (broadcastInDim S8x4x128x1 ![0, 1, 2] bcast_S8x4x128_S8x4x128x1_0_1_2 (res_main_while0b_v317 V0)) : (Proc.devRef .tc main_while0b_v322 : DevRef τ sig).ty.Contents (Elt F)) = Cert.ReferenceIdeal.Step.b231 j s := by
  unfold Cert.ReferenceIdeal.Step.b231
  rw [← al_230 h]
  try rfl
set_option maxRecDepth 8192 in
theorem al_232 (h : Holds V0 s j) : (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v317 V0))) (res_main_while0b_v183 V0) : (Proc.devRef .tc main_while0b_v323 : DevRef τ sig).ty.Contents (Elt F)) = Cert.ReferenceIdeal.Step.b232 j s := by
  unfold Cert.ReferenceIdeal.Step.b232
  rw [← al_231 h, ← al_39 h]
  try rfl
set_option maxRecDepth 8192 in
theorem al_233 (h : Holds V0 s j) : (Host.dotGeneral dot_S8x4x128x128_S8x4x128x128_S8x4x128x128_2_2_3_3_01_01 none (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v317 V0))) (res_main_while0b_v183 V0)) (res_main_while0b_v184 V0) : (Proc.devRef .tc main_while0b_v324 : DevRef τ sig).ty.Contents (Elt F)) = Cert.ReferenceIdeal.Step.b233 j s := by
  unfold Cert.ReferenceIdeal.Step.b233
  rw [← al_232 h, ← al_45 h]
  try rfl
set_option maxRecDepth 8192 in
theorem al_234 (h : Holds V0 s j) : (addf (mulf (broadcastInDim S8x4x128x128 ![0, 1, 2, 3] bcast_S8x4x1x1_S8x4x128x128_0_1_2_3 (broadcastInDim S8x4x1x1 ![0, 1] bcast_S8x4_S8x4x1x1_0_1 (res_main_while0b_v313 V0))) (V0 (Proc.devRef .tc main_v165_14))) (Host.dotGeneral dot_S8x4x128x128_S8x4x128x128_S8x4x128x128_2_2_3_3_01_01 none (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v317 V0))) (res_main_while0b_v183 V0)) (res_main_while0b_v184 V0)) : (Proc.devRef .tc main_while0b_v325 : DevRef τ sig).ty.Contents (Elt F)) = Cert.ReferenceIdeal.Step.b234 j s := by
  unfold Cert.ReferenceIdeal.Step.b234
  rw [← al_229 h, ← al_233 h]
  try rfl
set_option maxRecDepth 8192 in
theorem al_235 (h : Holds V0 s j) : (broadcastInDim S8x4x1 ![0, 1] bcast_S8x4_S8x4x1_0_1 (res_main_while0b_v313 V0) : (Proc.devRef .tc main_while0b_v326 : DevRef τ sig).ty.Contents (Elt F)) = Cert.ReferenceIdeal.Step.b235 j s := by
  unfold Cert.ReferenceIdeal.Step.b235
  rw [← al_222 h]
  try rfl
set_option maxRecDepth 8192 in
theorem al_236 (h : Holds V0 s j) : (broadcastInDim S8x4x128 ![0, 1, 2] bcast_S8x4x1_S8x4x128_0_1_2 (broadcastInDim S8x4x1 ![0, 1] bcast_S8x4_S8x4x1_0_1 (res_main_while0b_v313 V0)) : (Proc.devRef .tc main_while0b_v327 : DevRef τ sig).ty.Contents (Elt F)) = Cert.ReferenceIdeal.Step.b236 j s := by
  unfold Cert.ReferenceIdeal.Step.b236
  rw [← al_235 h]
  try rfl
set_option maxRecDepth 8192 in
theorem al_237 (h : Holds V0 s j) : (mulf (broadcastInDim S8x4x128 ![0, 1, 2] bcast_S8x4x1_S8x4x128_0_1_2 (broadcastInDim S8x4x1 ![0, 1] bcast_S8x4_S8x4x1_0_1 (res_main_while0b_v313 V0))) (V0 (Proc.devRef .tc main_v165_15)) : (Proc.devRef .tc main_while0b_v328 : DevRef τ sig).ty.Contents (Elt F)) = Cert.ReferenceIdeal.Step.b237 j s := by
  unfold Cert.ReferenceIdeal.Step.b237
  rw [← al_236 h, h.f_15]
  try rfl
set_option maxRecDepth 8192 in
theorem al_238 (h : Holds V0 s j) : (Host.dotGeneral dot_S8x4x128_S8x4x128x128_S8x4x128_2_2_n_3_01_01 none (res_main_while0b_v317 V0) (res_main_while0b_v183 V0) : (Proc.devRef .tc main_while0b_v329 : DevRef τ sig).ty.Contents (Elt F)) = Cert.ReferenceIdeal.Step.b238 j s := by
  unfold Cert.ReferenceIdeal.Step.b238
  rw [← al_226 h, ← al_39 h]
  try rfl
set_option maxRecDepth 8192 in
theorem al_239 (h : Holds V0 s j) : (addf (mulf (broadcastInDim S8x4x128 ![0, 1, 2] bcast_S8x4x1_S8x4x128_0_1_2 (broadcastInDim S8x4x1 ![0, 1] bcast_S8x4_S8x4x1_0_1 (res_main_while0b_v313 V0))) (V0 (Proc.devRef .tc main_v165_15))) (Host.dotGeneral dot_S8x4x128_S8x4x128x128_S8x4x128_2_2_n_3_01_01 none (res_main_while0b_v317 V0) (res_main_while0b_v183 V0)) : (Proc.devRef .tc main_while0b_v330 : DevRef τ sig).ty.Contents (Elt F)) = Cert.ReferenceIdeal.Step.b239 j s := by
  unfold Cert.ReferenceIdeal.Step.b239
  rw [← al_237 h, ← al_238 h]
  try rfl
set_option maxRecDepth 8192 in
theorem al_240 (h : Holds V0 s j) : (broadcastInDim S1x8x4x128x128 ![1, 2, 3, 4] bcast_S8x4x128x128_S1x8x4x128x128_1_2_3_4 (Host.divf (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v205 V0))) (Host.dotGeneral dot_S8x4x128x128_S8x4x128x128_S8x4x128x128_3_2_2_3_01_01 none (res_main_while0b_v177 V0) (V0 (Proc.devRef .tc main_v165_11)))) (Host.dotGeneral dot_S8x4x128x128_S8x4x128x128_S8x4x128x128_3_2_2_3_01_01 none (res_main_while0b_v211 V0) (res_main_while0b_v179 V0))) (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_))) (Host.exp (Host.negf (res_main_while0b_v203 V0))))))) : (Proc.devRef .tc main_while0b_call29_v0 : DevRef τ sig).ty.Contents (Elt F)) = Cert.ReferenceIdeal.Step.b240 j s := by
  unfold Cert.ReferenceIdeal.Step.b240
  rw [← al_114 h]
  try rfl
set_option maxRecDepth 8192 in
theorem al_241 (h : Holds V0 s j) : (constantI S_ 32 0#32 : (Proc.devRef .tc main_while0b_call29_c : DevRef τ sig).ty.Contents (Elt F)) = Cert.ReferenceIdeal.Step.b241 j s := by
  unfold Cert.ReferenceIdeal.Step.b241
  rfl
set_option maxRecDepth 8192 in
theorem al_242 (h : Holds V0 s j) : (constantI S_ 32 0#32 : (Proc.devRef .tc main_while0b_call29_c_0 : DevRef τ sig).ty.Contents (Elt F)) = Cert.ReferenceIdeal.Step.b242 j s := by
  unfold Cert.ReferenceIdeal.Step.b242
  rfl
set_option maxRecDepth 8192 in
theorem al_243 (h : Holds V0 s j) : (constantI S_ 32 0#32 : (Proc.devRef .tc main_while0b_call29_c_1 : DevRef τ sig).ty.Contents (Elt F)) = Cert.ReferenceIdeal.Step.b243 j s := by
  unfold Cert.ReferenceIdeal.Step.b243
  rfl
set_option maxRecDepth 8192 in
theorem al_244 (h : Holds V0 s j) : (constantI S_ 32 0#32 : (Proc.devRef .tc main_while0b_call29_c_2 : DevRef τ sig).ty.Contents (Elt F)) = Cert.ReferenceIdeal.Step.b244 j s := by
  unfold Cert.ReferenceIdeal.Step.b244
  rfl
set_option maxRecDepth 8192 in
theorem al_245 (h : Holds V0 s j) : (Host.dynamicUpdateSlice (V0 (Proc.devRef .tc main_v165_17)) (broadcastInDim S1x8x4x128x128 ![1, 2, 3, 4] bcast_S8x4x128x128_S1x8x4x128x128_1_2_3_4 (Host.divf (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v205 V0))) (Host.dotGeneral dot_S8x4x128x128_S8x4x128x128_S8x4x128x128_3_2_2_3_01_01 none (res_main_while0b_v177 V0) (V0 (Proc.devRef .tc main_v165_11)))) (Host.dotGeneral dot_S8x4x128x128_S8x4x128x128_S8x4x128x128_3_2_2_3_01_01 none (res_main_while0b_v211 V0) (res_main_while0b_v179 V0))) (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v205 V0) (Host.dotGeneral dot_S8x4x128x128_S8x4x128_S8x4x128_3_2_2_n_01_01 none (res_main_while0b_v177 V0) (V0 (Proc.devRef .tc main_v165_12)))) (Host.reduceAdd (res_main_while0b_v211 V0) (constant S_ .f32 0x00000000#32) reducesTo_S8x4x128x128_S8x4x128_d3 h_S_))) (Host.exp (Host.negf (res_main_while0b_v203 V0)))))))) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) updateFits_S32x8x4x128x128_S1x8x4x128x128 : (Proc.devRef .tc main_while0b_v331 : DevRef τ sig).ty.Contents (Elt F)) = Cert.ReferenceIdeal.Step.b245 j s := by
  unfold Cert.ReferenceIdeal.Step.b245
  rw [← al_240 h, ← al_241 h, ← al_242 h, ← al_243 h, ← al_244 h, h.f_17, h.n_10]
  try rfl
set_option maxRecDepth 8192 in
theorem al_246 (h : Holds V0 s j) : (broadcastInDim S1x8x4x128x128 ![1, 2, 3, 4] bcast_S8x4x128x128_S1x8x4x128x128_1_2_3_4 (Host.divf (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v277 V0))) (Host.dotGeneral dot_S8x4x128x128_S8x4x128x128_S8x4x128x128_3_2_2_3_01_01 none (res_main_while0b_v182 V0) (V0 (Proc.devRef .tc main_v165_14)))) (Host.dotGeneral dot_S8x4x128x128_S8x4x128x128_S8x4x128x128_3_2_2_3_01_01 none (res_main_while0b_v283 V0) (res_main_while0b_v184 V0))) (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_))) (Host.exp (Host.negf (res_main_while0b_v275 V0))))))) : (Proc.devRef .tc main_while0b_call30_v0 : DevRef τ sig).ty.Contents (Elt F)) = Cert.ReferenceIdeal.Step.b246 j s := by
  unfold Cert.ReferenceIdeal.Step.b246
  rw [← al_206 h]
  try rfl
set_option maxRecDepth 8192 in
theorem al_247 (h : Holds V0 s j) : (constantI S_ 32 0#32 : (Proc.devRef .tc main_while0b_call30_c : DevRef τ sig).ty.Contents (Elt F)) = Cert.ReferenceIdeal.Step.b247 j s := by
  unfold Cert.ReferenceIdeal.Step.b247
  rfl
set_option maxRecDepth 8192 in
theorem al_248 (h : Holds V0 s j) : (constantI S_ 32 0#32 : (Proc.devRef .tc main_while0b_call30_c_0 : DevRef τ sig).ty.Contents (Elt F)) = Cert.ReferenceIdeal.Step.b248 j s := by
  unfold Cert.ReferenceIdeal.Step.b248
  rfl
set_option maxRecDepth 8192 in
theorem al_249 (h : Holds V0 s j) : (constantI S_ 32 0#32 : (Proc.devRef .tc main_while0b_call30_c_1 : DevRef τ sig).ty.Contents (Elt F)) = Cert.ReferenceIdeal.Step.b249 j s := by
  unfold Cert.ReferenceIdeal.Step.b249
  rfl
set_option maxRecDepth 8192 in
theorem al_250 (h : Holds V0 s j) : (constantI S_ 32 0#32 : (Proc.devRef .tc main_while0b_call30_c_2 : DevRef τ sig).ty.Contents (Elt F)) = Cert.ReferenceIdeal.Step.b250 j s := by
  unfold Cert.ReferenceIdeal.Step.b250
  rfl
set_option maxRecDepth 8192 in
theorem al_251 (h : Holds V0 s j) : (Host.dynamicUpdateSlice (V0 (Proc.devRef .tc main_v165_18)) (broadcastInDim S1x8x4x128x128 ![1, 2, 3, 4] bcast_S8x4x128x128_S1x8x4x128x128_1_2_3_4 (Host.divf (addf (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v277 V0))) (Host.dotGeneral dot_S8x4x128x128_S8x4x128x128_S8x4x128x128_3_2_2_3_01_01 none (res_main_while0b_v182 V0) (V0 (Proc.devRef .tc main_v165_14)))) (Host.dotGeneral dot_S8x4x128x128_S8x4x128x128_S8x4x128x128_3_2_2_3_01_01 none (res_main_while0b_v283 V0) (res_main_while0b_v184 V0))) (broadcastInDim S8x4x128x128 ![0, 1, 2, 3] bcast_S8x4x128x1_S8x4x128x128_0_1_2_3 (broadcastInDim S8x4x128x1 ![0, 1, 2] bcast_S8x4x128_S8x4x128x1_0_1_2 (maximumf (Host.absf (addf (mulf (res_main_while0b_v277 V0) (Host.dotGeneral dot_S8x4x128x128_S8x4x128_S8x4x128_3_2_2_n_01_01 none (res_main_while0b_v182 V0) (V0 (Proc.devRef .tc main_v165_15)))) (Host.reduceAdd (res_main_while0b_v283 V0) (constant S_ .f32 0x00000000#32) reducesTo_S8x4x128x128_S8x4x128_d3 h_S_))) (Host.exp (Host.negf (res_main_while0b_v275 V0)))))))) (fun k => (((![V0 (Proc.devRef .tc main_v165_10), constantI S_ 32 0#32, constantI S_ 32 0#32, constantI S_ 32 0#32, constantI S_ 32 0#32] : Fin 5 → (⟨S_, .i32⟩ : BufTy).Contents (Elt F))) k (Shape.Idx.first h_S_)).toInt) updateFits_S32x8x4x128x128_S1x8x4x128x128 : (Proc.devRef .tc main_while0b_v332 : DevRef τ sig).ty.Contents (Elt F)) = Cert.ReferenceIdeal.Step.b251 j s := by
  unfold Cert.ReferenceIdeal.Step.b251
  rw [← al_246 h, ← al_247 h, ← al_248 h, ← al_249 h, ← al_250 h, h.f_18, h.n_10]
  try rfl

/-! One trip's step of the carried values is `step`, field by field; a counter steps to the next number. -/

theorem step_11 (h : Holds V0 s j) : step_main_v165_11 V0 = (step j s).main_v165_11 := by
  unfold step_main_v165_11 Cert.ReferenceIdeal.Step.step
  show id (addf (mulf (broadcastInDim S8x4x128x128 ![0, 1, 2, 3] bcast_S8x4x1x1_S8x4x128x128_0_1_2_3 (broadcastInDim S8x4x1x1 ![0, 1] bcast_S8x4_S8x4x1x1_0_1 (res_main_while0b_v241 V0))) (V0 (Proc.devRef .tc main_v165_11))) (Host.dotGeneral dot_S8x4x128x128_S8x4x128x128_S8x4x128x128_2_2_3_3_01_01 none (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v245 V0))) (res_main_while0b_v178 V0)) (res_main_while0b_v179 V0))) = _
  rw [al_142 h]
  try rfl
theorem step_12 (h : Holds V0 s j) : step_main_v165_12 V0 = (step j s).main_v165_12 := by
  unfold step_main_v165_12 Cert.ReferenceIdeal.Step.step
  show id (addf (mulf (broadcastInDim S8x4x128 ![0, 1, 2] bcast_S8x4x1_S8x4x128_0_1_2 (broadcastInDim S8x4x1 ![0, 1] bcast_S8x4_S8x4x1_0_1 (res_main_while0b_v241 V0))) (V0 (Proc.devRef .tc main_v165_12))) (Host.dotGeneral dot_S8x4x128_S8x4x128x128_S8x4x128_2_2_n_3_01_01 none (res_main_while0b_v245 V0) (res_main_while0b_v178 V0))) = _
  rw [al_147 h]
  try rfl
theorem step_13 (h : Holds V0 s j) : step_main_v165_13 V0 = (step j s).main_v165_13 := by
  unfold step_main_v165_13 Cert.ReferenceIdeal.Step.step
  show id (res_main_while0b_v238 V0) = _
  rw [al_127 h]
  try rfl
theorem step_14 (h : Holds V0 s j) : step_main_v165_14 V0 = (step j s).main_v165_14 := by
  unfold step_main_v165_14 Cert.ReferenceIdeal.Step.step
  show id (addf (mulf (broadcastInDim S8x4x128x128 ![0, 1, 2, 3] bcast_S8x4x1x1_S8x4x128x128_0_1_2_3 (broadcastInDim S8x4x1x1 ![0, 1] bcast_S8x4_S8x4x1x1_0_1 (res_main_while0b_v313 V0))) (V0 (Proc.devRef .tc main_v165_14))) (Host.dotGeneral dot_S8x4x128x128_S8x4x128x128_S8x4x128x128_2_2_3_3_01_01 none (mulf (broadcastInDim S8x4x128x128 ![0, 1, 2, 3] bcast_S8x4x128x1_S8x4x128x128_0_1_2_3 (broadcastInDim S8x4x128x1 ![0, 1, 2] bcast_S8x4x128_S8x4x128x1_0_1_2 (res_main_while0b_v317 V0))) (res_main_while0b_v183 V0)) (res_main_while0b_v184 V0))) = _
  rw [al_234 h]
  try rfl
theorem step_15 (h : Holds V0 s j) : step_main_v165_15 V0 = (step j s).main_v165_15 := by
  unfold step_main_v165_15 Cert.ReferenceIdeal.Step.step
  show id (addf (mulf (broadcastInDim S8x4x128 ![0, 1, 2] bcast_S8x4x1_S8x4x128_0_1_2 (broadcastInDim S8x4x1 ![0, 1] bcast_S8x4_S8x4x1_0_1 (res_main_while0b_v313 V0))) (V0 (Proc.devRef .tc main_v165_15))) (Host.dotGeneral dot_S8x4x128_S8x4x128x128_S8x4x128_2_2_n_3_01_01 none (res_main_while0b_v317 V0) (res_main_while0b_v183 V0))) = _
  rw [al_239 h]
  try rfl
theorem step_16 (h : Holds V0 s j) : step_main_v165_16 V0 = (step j s).main_v165_16 := by
  unfold step_main_v165_16 Cert.ReferenceIdeal.Step.step
  show id (res_main_while0b_v310 V0) = _
  rw [al_219 h]
  try rfl
theorem step_17 (h : Holds V0 s j) : step_main_v165_17 V0 = (step j s).main_v165_17 := by
  unfold step_main_v165_17 Cert.ReferenceIdeal.Step.step
  exact al_245 h
theorem step_18 (h : Holds V0 s j) : step_main_v165_18 V0 = (step j s).main_v165_18 := by
  unfold step_main_v165_18 Cert.ReferenceIdeal.Step.step
  exact al_251 h
theorem step_10 (h : Holds V0 s j) : step_main_v165_10 V0 = constantI S_ 32 (BitVec.ofNat 32 (j + 1)) := by
  unfold step_main_v165_10
  rw [h.n_10]
  funext i
  show BitVec.ofNat 32 j + 1#32 = BitVec.ofNat 32 (j + 1)
  simp only [BitVec.ofNat_add]

set_option maxRecDepth 8192 in
theorem out_main_v170_holds (h : Holds V0 s j) : out_main_v170 V0 = Cert.ReferenceIdeal.Step.R_main_v170 s := by
  unfold out_main_v170 Cert.ReferenceIdeal.Step.R_main_v170
  rw [h.f_17]
  try rfl

set_option maxRecDepth 8192 in
theorem out_main_v176_holds (h : Holds V0 s j) : out_main_v176 V0 = Cert.ReferenceIdeal.Step.R_main_v176 s := by
  unfold out_main_v176 Cert.ReferenceIdeal.Step.R_main_v176
  rw [h.f_18]
  try rfl

/-- One trip keeps the valuation holding: `step` of the state, the same set-up values, the next number. -/
theorem holds_step (h : Holds V0 s j) : Holds (STEP V0) (step j s) (j + 1) where
  f_11 := (STEP_main_v165_11 V0).trans (step_11 h)
  f_12 := (STEP_main_v165_12 V0).trans (step_12 h)
  f_13 := (STEP_main_v165_13 V0).trans (step_13 h)
  f_14 := (STEP_main_v165_14 V0).trans (step_14 h)
  f_15 := (STEP_main_v165_15 V0).trans (step_15 h)
  f_16 := (STEP_main_v165_16 V0).trans (step_16 h)
  f_17 := (STEP_main_v165_17 V0).trans (step_17 h)
  f_18 := (STEP_main_v165_18 V0).trans (step_18 h)
  n_10 := (STEP_main_v165_10 V0).trans (step_10 h)
  f_0 := (STEP_main_v165_0 V0).trans h.f_0
  f_1 := (STEP_main_v165_1 V0).trans h.f_1
  f_2 := (STEP_main_v165_2 V0).trans h.f_2
  f_3 := (STEP_main_v165_3 V0).trans h.f_3
  f_4 := (STEP_main_v165_4 V0).trans h.f_4
  f_5 := (STEP_main_v165_5 V0).trans h.f_5
  f_6 := (STEP_main_v165_6 V0).trans h.f_6
  f_7 := (STEP_main_v165_7 V0).trans h.f_7
  f_8 := (STEP_main_v165_8 V0).trans h.f_8
  f_9 := (STEP_main_v165_9 V0).trans h.f_9

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 1900000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v170) = Cert.ReferenceIdeal.Step.R_main_v170 (it c 32)
      ∧ r.2.mem ((c.tc : Thread nD τ).loc main_v176) = Cert.ReferenceIdeal.Step.R_main_v176 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 32
    ⟨(h c).1.trans (out_main_v170_holds hk), (h c).2.1.trans (out_main_v176_holds hk), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.RefRun

end
-- ==== Proof.Claims.lean ====
module

public import proofs.«01_k».proof.Defs
public import proofs.«01_k».proof.Proof.Gen.Kernel.Frame
public import proofs.«01_k».proof.Proof.Points
public import proofs.«01_k».proof.Proof.RefLoop
public import proofs.«01_k».proof.Proof.RefRun
public import Idealize.ShloMosaic.Adequacy
public import Idealize.ShloMosaic.Init

@[expose] public section

set_option maxRecDepth 16384

/-! The certificate's claims, one theorem each. -/

noncomputable section

namespace Cert.Scan

open Idealize.ShloMosaic.TcCoe Idealize.ShloMosaic Idealize.SL.Sem

/-- The precondition's side conditions. -/
instance preFacts : Cert.Pre_forget_gates_above_minus_inf.Facts where
  slices_S8x16x256_S8x4x256_0_4_0 := by decide
  bcast_S_S8x4x256 := by decide
  slices_S8x16x256_S8x4x256_0_12_0 := by decide

/-- The kernel terminates and leaves its arguments. -/
theorem frame_p : Cert.quiescent_Kernel := fun m ρ _ => Cert.Kernel.Gen.frame m ρ

/-- So does its idealization, -/
theorem frame_pi : Cert.quiescent_KernelIdeal := fun m ρ _ => Cert.KernelIdeal.Gen.frame m ρ

/-- also under the precondition. -/
theorem frame_pi_pre : Cert.quiescent_KernelIdeal_pre_forget_gates_above_minus_inf := fun m ρ _ => Cert.KernelIdeal.Gen.frame m ρ

/-- The reference terminates and leaves its arguments. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Also under the precondition. -/
theorem frame_ri_pre : Cert.quiescent_ReferenceIdeal_pre_forget_gates_above_minus_inf := fun m ρ _ => frame_ri m ρ trivial

/-- The named constant is the reciprocal of the logarithm of two. -/
theorem preserves : Cert.preserves_Kernel_KernelIdeal :=
  IdealRules.named_const.statement Cert.KernelIdeal.κ "log2_e" .f32 0x3FB8AA3B#32 _ rfl

/-- What is above minus infinity is not minus infinity. -/
theorem ne_bot_of_above (x : EReal) (h : BitVec.ofBool (decide (Ideal.ofBits FTy.f32 4286578688#32 < x)) = 1#1) : x ≠ ⊥ := by
  rintro rfl
  simp at h

/-- The precondition says that the context's forget gates are not minus infinity. -/
theorem above_of_pre (m : (ℓ : Loc Cert.KernelIdeal.nD Cert.KernelIdeal.τ Cert.KernelIdeal.sig) → Buf (Elt Ideal) ℓ)
    (h : Cert.Pre_KernelIdeal_forget_gates_above_minus_inf m) (c : Dev Cert.KernelIdeal.nD) :
    Cert.KernelIdeal.Pair.Above (Cert.KernelIdeal.Pair.argsK m c) := by
  intro b s h' i
  obtain ⟨h0, h1⟩ := h c
  have e0 := congrFun h0 (ix3 b h' i)
  have e1 := congrFun h1 (ix3 b h' i)
  unfold Cert.Pre_forget_gates_above_minus_inf.fn at e0 e1
  dsimp only at e0 e1
  pointwise [] at e0
  pointwise [] at e1
  match s with
  | 0 =>
    rw [← Cert.KernelIdeal.Pair.gate01 h' h'.isLt (by omega)]
    exact ne_bot_of_above _ e0
  | 1 =>
    rw [← Cert.KernelIdeal.Pair.gate11 h' h'.isLt (by omega)]
    exact ne_bot_of_above _ e1

section
variable (m : (ℓ : Loc Cert.KernelIdeal.nD Cert.KernelIdeal.τ Cert.KernelIdeal.sig) → Buf (Elt Ideal) ℓ) (c : Dev Cert.KernelIdeal.nD)

/-- The reference's states, over the kernel's arguments. -/
def states : ℕ → Cert.ReferenceIdeal.Step.State Ideal := Cert.ReferenceIdeal.Step.it (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

variable (h : Cert.Pre_KernelIdeal_forget_gates_above_minus_inf m)
include h

/-- The kernel's first array is the reference's, -/
theorem out_f : (Cert.KernelIdeal.Gen.dats m 0 c).arrAt 11 Cert.KernelIdeal.cfg0.N = Cert.ReferenceIdeal.Step.R_main_v170 (states m c 32) :=
  Cert.KernelIdeal.Pair.ext_pos _ _ fun b j p h' e =>
    (Cert.KernelIdeal.Pair.arr11_at m c (above_of_pre m h c) j b h' p e).trans (Cert.ReferenceIdeal.Step.v170_at _ _ _ _ _ _ _ b j p h' e).symm

/-- and so is the second. -/
theorem out_b : (Cert.KernelIdeal.Gen.dats m 0 c).arrAt 12 Cert.KernelIdeal.cfg0.N = Cert.ReferenceIdeal.Step.R_main_v176 (states m c 32) :=
  Cert.KernelIdeal.Pair.ext_pos_rev _ _ fun b j p h' e =>
    (Cert.KernelIdeal.Pair.arr12_at m c (above_of_pre m h c) j b h' p e).trans (Cert.ReferenceIdeal.Step.v176_at _ _ _ _ _ _ _ b j p h' e).symm
end

/-- Of arguments that agree, the kernel and the reference leave the same results. -/
theorem algebraic : Cert.algebraic_KernelIdeal_ReferenceIdeal_pre_forget_gates_above_minus_inf := fun m ρ m' ρ' hpre ha =>
  ⟨fun c => Cert.ReferenceIdeal.Step.R_main_v170 (states m c 32), fun c => Cert.ReferenceIdeal.Step.R_main_v176 (states m c 32),
    (θ_run Cert.KernelIdeal.defs _ _).mono (fun r hr c => ⟨(hr c).1.trans (out_f m c hpre), (hr c).2.1.trans (out_b m c hpre), (hr c).2.2⟩)
      (Cert.KernelIdeal.Value.run_blocks m ρ),
    Cert.ReferenceIdeal.RefRun.run_iter m' ρ' (fun c => states m c)
      (fun c => by
        obtain ⟨h0, h1, h2, h3, h4, h5, h6⟩ := ha c
        unfold Cert.ReferenceIdeal.RefRun.initState
        rw [h0, h1, h2, h3, h4, h5, h6]
        rfl)
      (fun _ _ => rfl)⟩

end Cert.Scan
end
-- ==== Proof.FfnBody.lean ====
module

public import proofs.«01_k».proof.Proof.Gen.FfnIdeal
public import Idealize.ShloMosaic.Lib.Pipeline.ValueKit
public import Idealize.ShloMosaic.Lib.Pointwise

@[expose] public section

set_option maxRecDepth 16384

/-! The feed-forward kernel's body, in its own operations: what it stores in each of its buffers, one group of channels
after the other. -/

noncomputable section

namespace Cert.FfnIdeal.Body

open Idealize.ShloMosaic Idealize.SL.Sem Cert.FfnIdeal Cert.FfnIdeal.Gen

/-- Stores into the rows of tokens. -/
abbrev LH := List (View.Piece (Elt Ideal) S1152x1024 .bf16)
/-- Stores into a buffer of the up projection. -/
abbrev LU := List (View.Piece (Elt Ideal) S3x1152x512 .bf16)
/-- Stores into the activation. -/
abbrev LA := List (View.Piece (Elt Ideal) S1024x256 .bf16)
/-- Stores into the output. -/
abbrev LO := List (View.Piece (Elt Ideal) S1024x1024 .f32)

/-! ## The up projection and its three versions -/

/-- The up projection of one group of channels. -/
def upU (h : FVec Ideal S1152x1024 .bf16) (w : FVec Ideal S1x1024x512 .bf16) (b : FVec Ideal S1x1x512 .f32) :
    FVec Ideal S1152x512 .f32 :=
  addf (matmul dot_S1152x1024_S1024x512_S1152x512_1_0_0_1_n_n none h
      (shapeCast S1024x512 w shapeCasts_S1x1024x512_S1024x512) (constant S1152x512 .f32 0x00000000#32))
    (broadcastTo S1152x512 (shapeCast S1x512 b shapeCasts_S1x1x512_S1x512) broadcasts_S1x512_S1152x512)

/-- Row `p` of the grid lies in the up projection. -/
theorem slP (p : ℕ) (h : p < 18) : S1152x512.Slices ![64 * p, 0] S64x512 := by
  refine ⟨rfl, fun a => ?_⟩
  match a with
  | ⟨0, _⟩ => show 64 * p + 64 ≤ 1152; omega
  | ⟨1, _⟩ => show 0 + 512 ≤ 512; omega

/-- One row of the grid, of the up projection. -/
def rowOf (u : FVec Ideal S1152x512 .f32) (p : ℕ) (h : p < 18) : FVec Ideal S64x512 .f32 :=
  extractStridedSlice S64x512 ![64 * p, 0] u (slP p h)

/-- The row as it is stored: the rows above the first and below the last of the grid are zero. -/
def pieceOf (i : grid0.Coords) (u : FVec Ideal S1152x512 .f32) (p : ℕ) (h : p < 18) : FVec Ideal S64x512 .f32 :=
  if p = 0 then
    Scalar.select (Scalar.cmpi .sgt (BitVec.ofNat 32 (i 1).val) 0#32) (rowOf u p h)
      (broadcast S64x512 (Scalar.ofBits .f32 0x00000000#32 : Ideal .f32))
  else if p = 17 then
    Scalar.select (Scalar.cmpi .slt (BitVec.ofNat 32 (i 1).val) 3#32) (rowOf u p h)
      (broadcast S64x512 (Scalar.ofBits .f32 0x00000000#32 : Ideal .f32))
  else rowOf u p h

/-- The columns of the grid, of eight rows. -/
def row8 : IVec S8x1 32 := iota .tc S8x1 32 [0] iota_S8x1_d0_w32

/-- Eight rows, of which the one that is named is zero. -/
def mask8 (k : BitVec 32) (x : FVec Ideal S8x512 .f32) : FVec Ideal S8x512 .f32 :=
  select (broadcastTo S8x512 (shapeCast S8x1 (cmpi .eq row8 (broadcast S8x1 k)) shapeCasts_S8x1_S8x1) broadcasts_S8x1_S8x512)
    (broadcast S8x512 (Scalar.ofBits .f32 0x00000000#32 : Ideal .f32)) x

/-- The row moved by a column to the right. -/
def prevOf (x : FVec Ideal S64x512 .f32) : FVec Ideal S64x512 .f32 :=
  concatenate S64x512 0
    [⟨S8x512, mask8 0#32 (extractStridedSlice S8x512 ![0, 0] (dynamicRotate 0 1#32 none x rotates_S64x512_d0)
        slices_S64x512_o0_0_S8x512)⟩,
      ⟨S56x512, extractStridedSlice S56x512 ![8, 0] (dynamicRotate 0 1#32 none x rotates_S64x512_d0)
        slices_S64x512_o8_0_S56x512⟩] concatenates_S8x512_S56x512_S64x512_d0

/-- The row moved by a column to the left. -/
def nextOf (x : FVec Ideal S64x512 .f32) : FVec Ideal S64x512 .f32 :=
  concatenate S64x512 0
    [⟨S56x512, extractStridedSlice S56x512 ![0, 0] (dynamicRotate 0 63#32 none x rotates_S64x512_d0)
        slices_S64x512_o0_0_S56x512⟩,
      ⟨S8x512, mask8 7#32 (extractStridedSlice S8x512 ![56, 0] (dynamicRotate 0 63#32 none x rotates_S64x512_d0)
        slices_S64x512_o56_0_S8x512)⟩] concatenates_S56x512_S8x512_S64x512_d0

/-- A row as it is stored. -/
def asU (x : FVec Ideal S64x512 .f32) : FVec Ideal S1x64x512 .bf16 :=
  shapeCast S1x64x512 (truncf .bf16 x bitsLt_bf16_f32) shapeCasts_S64x512_S1x64x512

/-- Row `p` of copy `d` lies in the buffer. -/
theorem inbU (d p : ℕ) (hd : d < 3) (hp : p < 18) :
    ∀ a, (![d, 64 * p, 0] : Fin 3 → ℕ) a + S1x64x512.size a ≤ S3x1152x512.size a := fun a => by
  match a with
  | ⟨0, _⟩ => show d + 1 ≤ 3; omega
  | ⟨1, _⟩ => show 64 * p + 64 ≤ 1152; omega
  | ⟨2, _⟩ => show 0 + 512 ≤ 512; omega

/-- Where a row of one of the three versions lies. -/
abbrev rowU (d p : ℕ) (hd : d < 3) (hp : p < 18) : Rect S3x1152x512 :=
  Rect.unit (s := S3x1152x512) ![d, 64 * p, 0] S1x64x512.size (inbU d p hd hp)

/-- The rows of one group of channels, stored over what was there. -/
def upN (i : grid0.Coords) (u : FVec Ideal S1152x512 .f32) (L : LU) : (n : ℕ) → n ≤ 18 → LU
  | 0, _ => L
  | n + 1, h => ⟨rowU 2 n (by omega) h, asU (nextOf (pieceOf i u n h))⟩ ::
      ⟨rowU 1 n (by omega) h, asU (pieceOf i u n h)⟩ ::
      ⟨rowU 0 n (by omega) h, asU (prevOf (pieceOf i u n h))⟩ :: upN i u L n (Nat.le_of_succ_le h)

/-! ## The convolution, the gate and the down projection -/

/-- A tap of the convolution added on. -/
def tapOf (acc : FVec Ideal S4x16x512 .bf16) (w : FVec Ideal S1x1x16x512 .bf16) (u : FVec Ideal S1x64x512 .bf16) :
    FVec Ideal S4x16x512 .bf16 :=
  addf acc (mulf (broadcastTo S4x16x512 (shapeCast S1x16x512 (shapeCast S16x512 w shapeCasts_S1x1x16x512_S16x512)
      shapeCasts_S16x512_S1x16x512) broadcasts_S1x16x512_S4x16x512)
    (shapeCast S4x16x512 (shapeCast S64x512 u shapeCasts_S1x64x512_S64x512) shapeCasts_S64x512_S4x16x512))

/-- The convolution's bias. -/
def biasOf (b : FVec Ideal S1x16x512 .bf16) : FVec Ideal S4x16x512 .bf16 :=
  broadcastTo S4x16x512 (shapeCast S1x16x512 (shapeCast S16x512 b shapeCasts_S1x16x512_S16x512) shapeCasts_S16x512_S1x16x512)
    broadcasts_S1x16x512_S4x16x512

/-- The first half of the channels times the second half's gate. -/
def gateOf (x : FVec Ideal S4x16x512 .bf16) : FVec Ideal S64x256 .bf16 :=
  let y := shapeCast S64x512 x shapeCasts_S4x16x512_S64x512
  let g := extractStridedSlice S64x256 ![0, 256] y slices_S64x512_o0_256_S64x256
  shapeCast S64x256 (mulf (extractStridedSlice S64x256 ![0, 0] y slices_S64x512_o0_0_S64x256) (mulf g (logistic g)))
    shapeCasts_S64x256_S64x256

/-- The blocks a point loads, and for each group of channels its weights. -/
structure Inp where
  h : FVec Ideal S1152x1024 .bf16
  wu : (j : ℕ) → j < 10 → FVec Ideal S1x1024x512 .bf16
  bu : (j : ℕ) → j < 10 → FVec Ideal S1x1x512 .f32
  cw : (j k : ℕ) → j < 10 → k < 9 → FVec Ideal S1x1x16x512 .bf16
  cb : (j : ℕ) → j < 10 → FVec Ideal S1x16x512 .bf16
  wd : (j : ℕ) → j < 10 → FVec Ideal S1x256x1024 .bf16
  bd : FVec Ideal S1x1024 .f32
  x1 : FVec Ideal S1024x1024 .f32
  md : FVec Ideal S1x6x1024 .f32
  fw : FVec Ideal S1x1024 .f32

/-- Row `r` lies in the activation. -/
theorem inbA (r : ℕ) (h : r < 16) : ∀ a, (![64 * r, 0] : Fin 2 → ℕ) a + S64x256.size a ≤ S1024x256.size a := fun a => by
  match a with
  | ⟨0, _⟩ => show 64 * r + 64 ≤ 1024; omega
  | ⟨1, _⟩ => show 0 + 256 ≤ 256; omega

/-- Where a row of the gated channels lies. -/
abbrev rowA (r : ℕ) (h : r < 16) : Rect S1024x256 := Rect.unit (s := S1024x256) ![64 * r, 0] S64x256.size (inbA r h)

/-- All of the activation lies in it. -/
theorem inbAll : ∀ a, (![0, 0] : Fin 2 → ℕ) a + S1024x256.size a ≤ S1024x256.size a := fun a => by
  match a with
  | ⟨0, _⟩ => show 0 + 1024 ≤ 1024; omega
  | ⟨1, _⟩ => show 0 + 256 ≤ 256; omega

/-- All of the output lies in it. -/
theorem inbO : ∀ a, (![0, 0] : Fin 2 → ℕ) a + S1024x1024.size a ≤ S1024x1024.size a := fun a => by
  match a with
  | ⟨0, _⟩ => show 0 + 1024 ≤ 1024; omega
  | ⟨1, _⟩ => show 0 + 1024 ≤ 1024; omega

/-- All of the gated channels, -/
abbrev allA : Rect S1024x256 := Rect.unit (s := S1024x256) ![0, 0] S1024x256.size inbAll

/-- and all of the output. -/
abbrev allO : Rect S1024x1024 := Rect.unit (s := S1024x1024) ![0, 0] S1024x1024.size inbO

/-- How the scratch buffers are read, given what has been stored: the even groups' rows, the odd groups' rows, the gated
    channels and the sum of the down projections. -/
structure Rd where
  u0 : LU → (d p : ℕ) → d < 3 → p < 18 → FVec Ideal S1x64x512 .bf16
  u1 : LU → (d p : ℕ) → d < 3 → p < 18 → FVec Ideal S1x64x512 .bf16
  a : LA → FVec Ideal S1024x256 .bf16
  o : LO → FVec Ideal S1024x1024 .f32

section
variable (R : Rd) (I : Inp) (i : grid0.Coords)

/-- What is stored of the even groups, -/
def evN : (n : ℕ) → n ≤ 5 → LU
  | 0, _ => []
  | n + 1, h => upN i (upU I.h (I.wu (2 * n) (by omega)) (I.bu (2 * n) (by omega))) (evN n (Nat.le_of_succ_le h)) 18 le_rfl

/-- and of the odd ones. -/
def odN : (n : ℕ) → n ≤ 5 → LU
  | 0, _ => []
  | n + 1, h =>
    upN i (upU I.h (I.wu (2 * n + 1) (by omega)) (I.bu (2 * n + 1) (by omega))) (odN n (Nat.le_of_succ_le h)) 18 le_rfl

/-- The first taps of the convolution at one row. -/
def convN (u : (d p : ℕ) → d < 3 → p < 18 → FVec Ideal S1x64x512 .bf16) (j : ℕ) (hj : j < 10) (r : ℕ) (hr : r < 16) :
    (k : ℕ) → k ≤ 9 → FVec Ideal S4x16x512 .bf16
  | 0, _ => biasOf (I.cb j hj)
  | k + 1, h => tapOf (convN u j hj r hr k (Nat.le_of_succ_le h)) (I.cw j k hj h)
      (u (k % 3) (r + k / 3) (Nat.mod_lt _ (by decide)) (by omega))

/-- The rows of the gated channels of one group, stored over what was there. -/
def actN (u : (d p : ℕ) → d < 3 → p < 18 → FVec Ideal S1x64x512 .bf16) (j : ℕ) (hj : j < 10) (L : LA) : (n : ℕ) → n ≤ 16 → LA
  | 0, _ => L
  | n + 1, h => ⟨rowA n h, gateOf (convN I u j hj n h 9 le_rfl)⟩ :: actN u j hj L n (Nat.le_of_succ_le h)

/-- What is stored of the gated channels after two groups each. -/
def gaN : (n : ℕ) → n ≤ 5 → LA
  | 0, _ => []
  | n + 1, h =>
    actN I (R.u1 (odN I i (n + 1) h)) (2 * n + 1) (by omega)
      (actN I (R.u0 (evN I i (n + 1) h)) (2 * n) (by omega) (gaN n (Nat.le_of_succ_le h)) 16 le_rfl) 16 le_rfl

/-- The same, and the even group after them. -/
def geN (n : ℕ) (h : n + 1 ≤ 5) : LA :=
  actN I (R.u0 (evN I i (n + 1) h)) (2 * n) (by omega) (gaN R I i n (Nat.le_of_succ_le h)) 16 le_rfl

/-- A group's down projection added on. -/
def addO (o : FVec Ideal S1024x1024 .f32) (a : FVec Ideal S1024x256 .bf16) (w : FVec Ideal S1x256x1024 .bf16) :
    FVec Ideal S1024x1024 .f32 :=
  addf (shapeCast S1024x1024 o shapeCasts_S1024x1024_S1024x1024)
    (matmul dot_S1024x256_S256x1024_S1024x1024_1_0_0_1_n_n none a
      (shapeCast S256x1024 w shapeCasts_S1x256x1024_S256x1024) (constant S1024x1024 .f32 0x00000000#32))

/-- What is stored of the sum after two groups each. -/
def suN : (n : ℕ) → n ≤ 5 → LO
  | 0, _ => [⟨allO, broadcast S1024x1024 (Scalar.ofBits .f32 0x00000000#32 : Ideal .f32)⟩]
  | n + 1, h =>
    let L : LO := ⟨allO, addO (R.o (suN n (Nat.le_of_succ_le h))) (R.a (geN R I i n h)) (I.wd (2 * n) (by omega))⟩ ::
      suN n (Nat.le_of_succ_le h)
    ⟨allO, addO (R.o L) (R.a (gaN R I i (n + 1) h)) (I.wd (2 * n + 1) (by omega))⟩ :: L
end

/-- The gated residual and the norm. -/
def outOf (o : FVec Ideal S1024x1024 .f32) (bd : FVec Ideal S1x1024 .f32) (x1 : FVec Ideal S1024x1024 .f32)
    (md : FVec Ideal S1x6x1024 .f32) (fw : FVec Ideal S1x1024 .f32) : FVec Ideal S1024x1024 .f32 :=
  let y := addf (shapeCast S1024x1024 o shapeCasts_S1024x1024_S1024x1024)
    (broadcastTo S1024x1024 (shapeCast S1x1024 bd shapeCasts_S1x1024_S1x1024) broadcasts_S1x1024_S1024x1024)
  let x := addf x1 (mulf (broadcastTo S1024x1024 (extractStridedSlice S1x1024 ![5, 0]
    (shapeCast S6x1024 md shapeCasts_S1x6x1024_S6x1024) slices_S6x1024_o5_0_S1x1024) broadcasts_S1x1024_S1024x1024) y)
  let q := shapeCast S1024x1 (multiReduction .add [1] S1024 (mulf x x) 0x00000000#32 reduces_S1024x1024_S1024 (.inl rfl) rfl)
    shapeCasts_S1024_S1024x1
  let s := rsqrt (addf (divf q (broadcast S1024x1 (Scalar.ofBits .f32 0x44800000#32 : Ideal .f32)))
    (broadcast S1024x1 (Scalar.ofBits .f32 0x358637BD#32 : Ideal .f32)))
  mulf (mulf x (broadcastTo S1024x1024 s broadcasts_S1024x1_S1024x1024))
    (broadcastTo S1024x1024 (shapeCast S1x1024 fw shapeCasts_S1x1024_S1x1024) broadcasts_S1x1024_S1024x1024)

/-- What a point stores of its output, last first. -/
def outs (R : Rd) (I : Inp) (i : grid0.Coords) : LO :=
  ⟨allO, outOf (R.o (suN R I i 5 le_rfl)) I.bd I.x1 I.md I.fw⟩ :: suN R I i 5 le_rfl

end Cert.FfnIdeal.Body

end
-- ==== Proof.FfnSpec.lean ====
module

public import Idealize.ShloMosaic.Lib.Pointwise

@[expose] public section

/-! What the feed-forward layer computes, over the extended reals: the up projection, the convolution over the grid of
tokens, the gate, the down projection, the gated residual and the norm. -/

noncomputable section

namespace Cert.Conv

open Idealize.ShloMosaic

/-- A sequence's token among all the tokens. -/
def tok (b : Fin 8) (t : Fin 4096) : Fin 32768 := ⟨b * 4096 + t, by omega⟩

/-- The gated residual of one token. -/
def resid (o x1 md bd : Fin 1024 → EReal) (d : Fin 1024) : EReal := x1 d + md d * (o d + bd d)

/-- The norm of one token. -/
def rms (x fw : Fin 1024 → EReal) (d : Fin 1024) : EReal :=
  x d * Ideal.rsqrt (Ideal.div (∑ k, x k * x k) (Ideal.ofBits .f32 0x44800000#32) + Ideal.ofBits .f32 0x358637BD#32) * fw d

/-- The layer's arrays, at an index. -/
structure Args where
  h : Fin 8 → Fin 4096 → Fin 1024 → EReal
  x1 : Fin 8 → Fin 4096 → Fin 1024 → EReal
  md : Fin 8 → Fin 1024 → EReal
  wu : Fin 1024 → Fin 5120 → EReal
  bu : Fin 5120 → EReal
  cw : Fin 3 → Fin 3 → Fin 5120 → EReal
  cb : Fin 5120 → EReal
  wd : Fin 2560 → Fin 1024 → EReal
  bd : Fin 1024 → EReal
  fw : Fin 1024 → EReal

namespace Args
variable (A : Args) (b : Fin 8)

/-- The up projection of a token. -/
def up (t : Fin 4096) (c : Fin 5120) : EReal := (∑ k, A.h b t k * A.wu k c) + A.bu c

/-- The grid of up projections with a border of zeros. -/
def pad (y x : ℕ) (c : Fin 5120) : EReal :=
  if h : (1 ≤ y ∧ y ≤ 64) ∧ (1 ≤ x ∧ x ≤ 64) then A.up b ⟨64 * (y - 1) + (x - 1), by omega⟩ c else 0

/-- The first taps of the convolution at a place of the grid. -/
def taps (y x : ℕ) (c : Fin 5120) : (k : ℕ) → k ≤ 9 → EReal
  | 0, _ => 0
  | k + 1, h => taps y x c k (Nat.le_of_succ_le h)
      + A.pad b (y + k / 3) (x + k % 3) c * A.cw ⟨k / 3, by omega⟩ ⟨k % 3, by omega⟩ c

/-- The convolution. -/
def conv (y x : ℕ) (c : Fin 5120) : EReal := A.taps b y x c 9 le_rfl + A.cb c

/-- The first half of the channels times the second half's gate. -/
def gate (y x : ℕ) (e : Fin 2560) : EReal :=
  A.conv b y x ⟨e, by omega⟩ * (A.conv b y x ⟨2560 + e, by omega⟩ * Ideal.logistic (A.conv b y x ⟨2560 + e, by omega⟩))

/-- The down projection. -/
def down (y x : ℕ) (d : Fin 1024) : EReal := ∑ e, A.gate b y x e * A.wd e d

/-- The layer's output. -/
def out (t : Fin 4096) (d : Fin 1024) : EReal :=
  rms (resid (A.down b (t / 64) (t % 64)) (A.x1 b t) (A.md b) A.bd) A.fw d

end Args
end Cert.Conv

end
-- ==== Proof.FfnAt.lean ====
module

public import proofs.«01_k».proof.Proof.FfnBody
public import proofs.«01_k».proof.Proof.FfnSpec
public import Idealize.ShloMosaic.Lib.WordCmp

@[expose] public section

set_option maxRecDepth 16384

/-! The feed-forward kernel's operations, at an index. -/

noncomputable section

namespace Cert.FfnIdeal.Body

open Idealize.ShloMosaic Idealize.SL.Sem Cert.FfnIdeal Cert.FfnIdeal.Gen Cert.Conv

/-- The up projection at a row and a channel: a sum over 1024 products, and the bias. -/
theorem upU_at (h : FVec Ideal S1152x1024 .bf16) (w : FVec Ideal S1x1024x512 .bf16) (b : FVec Ideal S1x1x512 .f32)
    (n : Fin 1152) (c : Fin 512) :
    upU h w b (ix2 n c) = (∑ k : Fin 1024, h (ix2 n k) * w (ix3 0 k c)) + b (ix3 0 0 c) := by
  pointwise [upU]

/-- Row `p` of the grid, of 64 tokens. -/
theorem rowOf_at (u : FVec Ideal S1152x512 .f32) (p : ℕ) (h : p < 18) (x : Fin 64) (c : Fin 512) :
    rowOf u p h (ix2 x c) = u (ix2 ⟨64 * p + x, by omega⟩ c) := by
  pointwise [rowOf]

/-- A selection by an equality of two small words is a selection by the equality of the numbers. -/
theorem sel_eq {α : Type} (k n : ℕ) (hk : k < 2 ^ 32) (hn : n < 2 ^ 32) (x y : α) :
    Scalar.select (IntOp.cmpi .eq (BitVec.ofNat 32 k) (BitVec.ofNat 32 n)) x y = if k = n then x else y := by
  rw [WordCmp.cmpi_eq_eq, WordCmp.select_ofBool]
  simp only [decide_eq_true_eq, WordCmp.ofNat_eq_ofNat_iff hk hn]

/-- Eight rows with the one at `n` zero. -/
theorem mask8_at (n : ℕ) (hn : n < 8) (y : FVec Ideal S8x512 .f32) (x : Fin 8) (c : Fin 512) :
    mask8 (BitVec.ofNat 32 n) y (ix2 x c) = if x.val = n then 0 else y (ix2 x c) := by
  refine Eq.trans ?_ (sel_eq x.val n (by omega) (by omega) _ _)
  pointwise [mask8, row8]

/-- The tokens to the left: the one before, and zero in the first column. -/
theorem prevOf_at (y : FVec Ideal S64x512 .f32) (x : Fin 64) (c : Fin 512) :
    prevOf y (ix2 x c) = if x.val = 0 then 0 else y (ix2 ⟨x - 1, by omega⟩ c) := by
  have h : prevOf y (ix2 x c) = if h : x.val < 8 then
      mask8 (BitVec.ofNat 32 0) (extractStridedSlice S8x512 ![0, 0] (dynamicRotate 0 1#32 none y rotates_S64x512_d0)
        slices_S64x512_o0_0_S8x512) (ix2 ⟨x, h⟩ c)
      else y (ix2 ⟨(8 + (x - 8) + 64 - 1) % 64, Nat.mod_lt _ (by decide)⟩ c) := by
    pointwise [prevOf]
  rw [h]
  split
  · rw [mask8_at 0 (by omega)]
    show (if x.val = 0 then _ else _) = _
    split
    · rfl
    · pointwise
      exact congrArg (fun r => y (ix2 r c)) (Fin.ext (show (x.val + 64 - 1) % 64 = x.val - 1 by omega))
  · rw [if_neg (by omega)]
    exact congrArg (fun r => y (ix2 r c)) (Fin.ext (show (8 + (x.val - 8) + 64 - 1) % 64 = x.val - 1 by omega))

/-- The tokens to the right: the one after, and zero in the last column. -/
theorem nextOf_at (y : FVec Ideal S64x512 .f32) (x : Fin 64) (c : Fin 512) :
    nextOf y (ix2 x c) = if h : x.val = 63 then 0 else y (ix2 ⟨x + 1, by omega⟩ c) := by
  have h : nextOf y (ix2 x c) = if h : x.val < 56 then y (ix2 ⟨(x + 64 - 63) % 64, Nat.mod_lt _ (by decide)⟩ c)
      else mask8 (BitVec.ofNat 32 7) (extractStridedSlice S8x512 ![56, 0] (dynamicRotate 0 63#32 none y rotates_S64x512_d0)
        slices_S64x512_o56_0_S8x512) (ix2 ⟨x - 56, by omega⟩ c) := by
    pointwise [nextOf]
  rw [h]
  split
  · rw [dif_neg (by omega)]
    exact congrArg (fun r => y (ix2 r c)) (Fin.ext (show (x.val + 64 - 63) % 64 = x.val + 1 by omega))
  · rw [mask8_at 7 (by omega)]
    show (if x.val - 56 = 7 then _ else _) = _
    split
    · rw [dif_pos (by omega)]
    · rw [dif_neg (by omega)]
      pointwise
      exact congrArg (fun r => y (ix2 r c)) (Fin.ext (show (56 + (x.val - 56) + 64 - 63) % 64 = x.val + 1 by omega))

/-- A row of the up projection, zero where it lies outside the image. -/
theorem pieceOf_at (i : grid0.Coords) (u : FVec Ideal S1152x512 .f32) (p : ℕ) (h : p < 18) (x : Fin 64) (c : Fin 512) :
    pieceOf i u p h (ix2 x c) = if (p = 0 ∧ (i 1).val = 0) ∨ (p = 17 ∧ (i 1).val = 3) then 0
      else u (ix2 ⟨64 * p + x, by omega⟩ c) := by
  have hi : (i 1).val < 4 := (i 1).isLt
  unfold pieceOf
  split
  · next hp =>
    rw [show Scalar.cmpi .sgt (BitVec.ofNat 32 (i 1).val) 0#32 = BitVec.ofBool (decide (0 < (i 1).val)) from
      WordCmp.cmpi_sgt_ofNat (by omega) (by omega), WordCmp.select_ofBool]
    by_cases h0 : (i 1).val = 0
    · rw [if_pos (Or.inl ⟨hp, h0⟩), if_neg (by simp [h0])]
      pointwise
    · rw [decide_eq_true (by omega : 0 < (i 1).val), if_pos rfl, if_neg (by omega)]
      exact rowOf_at u p h x c
  · next hp =>
    split
    · next hq =>
      rw [show Scalar.cmpi .slt (BitVec.ofNat 32 (i 1).val) 3#32 = BitVec.ofBool (decide ((i 1).val < 3)) from
        WordCmp.cmpi_slt_ofNat (by omega) (by omega), WordCmp.select_ofBool]
      by_cases h0 : (i 1).val = 3
      · rw [if_pos (Or.inr ⟨hq, h0⟩), if_neg (by simp [h0])]
        pointwise
      · rw [decide_eq_true (by omega : (i 1).val < 3), if_pos rfl, if_neg (by omega)]
        exact rowOf_at u p h x c
    · rw [if_neg (by omega)]
      exact rowOf_at u p h x c

/-- A row with a leading axis of one is the row. -/
theorem asU_at (y : FVec Ideal S64x512 .f32) (x : Fin 64) (c : Fin 512) : asU y (ix3 0 x c) = y (ix2 x c) := by
  pointwise [asU]

/-- One product of the convolution, added to what came before. -/
theorem tapOf_at (acc : FVec Ideal S4x16x512 .bf16) (w : FVec Ideal S1x1x16x512 .bf16) (u : FVec Ideal S1x64x512 .bf16)
    (g : Fin 4) (l : Fin 16) (c : Fin 512) :
    tapOf acc w u (ix3 g l c) = acc (ix3 g l c) + w (ix4 0 0 l c) * u (ix3 0 ⟨g * 16 + l, by omega⟩ c) := by
  pointwise [tapOf]

/-- The bias that the convolution starts from. -/
theorem biasOf_at (b : FVec Ideal S1x16x512 .bf16) (g : Fin 4) (l : Fin 16) (c : Fin 512) :
    biasOf b (ix3 g l c) = b (ix3 0 l c) := by
  pointwise [biasOf]

/-- The gated activation: the value times the gate times its logistic. -/
theorem gateOf_at (x : FVec Ideal S4x16x512 .bf16) (g : Fin 4) (l : Fin 16) (c : Fin 256) :
    gateOf x (ix2 ⟨g * 16 + l, by omega⟩ c) = x (ix3 g l ⟨c, by omega⟩)
      * (x (ix3 g l ⟨256 + c, by omega⟩) * Ideal.logistic (x (ix3 g l ⟨256 + c, by omega⟩))) := by
  pointwise [gateOf]

/-- The down projection of one group of channels, added to the output. -/
theorem addO_at (o : FVec Ideal S1024x1024 .f32) (a : FVec Ideal S1024x256 .bf16) (w : FVec Ideal S1x256x1024 .bf16)
    (n d : Fin 1024) : addO o a w (ix2 n d) = o (ix2 n d) + ∑ c : Fin 256, a (ix2 n c) * w (ix3 0 c d) := by
  pointwise [addO]

/-- The output of a point: the gated residual, and the final norm. -/
theorem outOf_at (o : FVec Ideal S1024x1024 .f32) (bd : FVec Ideal S1x1024 .f32) (x1 : FVec Ideal S1024x1024 .f32)
    (md : FVec Ideal S1x6x1024 .f32) (fw : FVec Ideal S1x1024 .f32) (n d : Fin 1024) :
    outOf o bd x1 md fw (ix2 n d) = rms (resid (fun k => o (ix2 n k)) (fun k => x1 (ix2 n k)) (fun k => md (ix3 0 5 k))
      fun k => bd (ix2 0 k)) (fun k => fw (ix2 0 k)) d := by
  unfold rms resid
  pointwise [outOf]

end Cert.FfnIdeal.Body

end
-- ==== Proof.FfnRun.lean ====
module

public import proofs.«01_k».proof.Proof.FfnBody
public import proofs.«01_k».proof.Proof.Gen.FfnIdeal.Frame.RunA

@[expose] public section

set_option maxRecDepth 16384

/-! What a point of the feed-forward kernel stores in its output, as a list of pieces. -/

noncomputable section

namespace Cert.FfnIdeal.Body

open Idealize.ShloMosaic Idealize.SL.Sem Cert.FfnIdeal Cert.FfnIdeal.Gen

/-- A group's up projection lies in the packed weights. -/
theorem inbWu (j : ℕ) (h : j < 10) : ∀ a, (![j, 0, 0] : Fin 3 → ℕ) a + S1x1024x512.size a ≤ S10x1024x512.size a := fun a => by
  match a with
  | ⟨0, _⟩ => show j + 1 ≤ 10; omega
  | ⟨1, _⟩ => show 0 + 1024 ≤ 1024; omega
  | ⟨2, _⟩ => show 0 + 512 ≤ 512; omega

/-- A group's bias lies in the packed biases. -/
theorem inbBu (j : ℕ) (h : j < 10) : ∀ a, (![j, 0, 0] : Fin 3 → ℕ) a + S1x1x512.size a ≤ S10x1x512.size a := fun a => by
  match a with
  | ⟨0, _⟩ => show j + 1 ≤ 10; omega
  | ⟨1, _⟩ => show 0 + 1 ≤ 1; omega
  | ⟨2, _⟩ => show 0 + 512 ≤ 512; omega

/-- A group's convolution weights lie in the packed ones. -/
theorem inbCw (j k : ℕ) (h : j < 10) (hk : k < 9) :
    ∀ a, (![j, k, 0, 0] : Fin 4 → ℕ) a + S1x1x16x512.size a ≤ S10x9x16x512.size a := fun a => by
  match a with
  | ⟨0, _⟩ => show j + 1 ≤ 10; omega
  | ⟨1, _⟩ => show k + 1 ≤ 9; omega
  | ⟨2, _⟩ => show 0 + 16 ≤ 16; omega
  | ⟨3, _⟩ => show 0 + 512 ≤ 512; omega

/-- A group's convolution bias lies in the packed ones. -/
theorem inbCb (j : ℕ) (h : j < 10) : ∀ a, (![j, 0, 0] : Fin 3 → ℕ) a + S1x16x512.size a ≤ S10x16x512.size a := fun a => by
  match a with
  | ⟨0, _⟩ => show j + 1 ≤ 10; omega
  | ⟨1, _⟩ => show 0 + 16 ≤ 16; omega
  | ⟨2, _⟩ => show 0 + 512 ≤ 512; omega

/-- A group's down projection lies in the packed weights. -/
theorem inbWd (j : ℕ) (h : j < 10) : ∀ a, (![j, 0, 0] : Fin 3 → ℕ) a + S1x256x1024.size a ≤ S10x256x1024.size a := fun a => by
  match a with
  | ⟨0, _⟩ => show j + 1 ≤ 10; omega
  | ⟨1, _⟩ => show 0 + 256 ≤ 256; omega
  | ⟨2, _⟩ => show 0 + 1024 ≤ 1024; omega

/-- The rows of tokens: the row above, the point's own, the row below. -/
abbrev hcTop : Rect S1152x1024 := Rect.unit (s := S1152x1024) ![0, 0] S64x1024.size (fun a => by fin_cases a <;> decide)
/-- The rows of the point's own tokens. -/
abbrev hcMid : Rect S1152x1024 := Rect.unit (s := S1152x1024) ![64, 0] S1024x1024.size (fun a => by fin_cases a <;> decide)
/-- The row of tokens below them. -/
abbrev hcBot : Rect S1152x1024 := Rect.unit (s := S1152x1024) ![1088, 0] S64x1024.size (fun a => by fin_cases a <;> decide)
/-- All rows of tokens. -/
abbrev hcAll : Rect S1152x1024 := Rect.unit (s := S1152x1024) ![0, 0] S1152x1024.size (fun a => by fin_cases a <;> decide)

/-- The tokens as they are stored. -/
def hcL (h : FVec Ideal S1024x1024 .bf16) (hp hn : FVec Ideal S64x1024 .bf16) : LH :=
  [⟨hcBot, shapeCast S64x1024 hn shapeCasts_S64x1024_S64x1024⟩,
    ⟨hcMid, shapeCast S1024x1024 h shapeCasts_S1024x1024_S1024x1024⟩,
    ⟨hcTop, shapeCast S64x1024 hp shapeCasts_S64x1024_S64x1024⟩]

/-- The blocks of a point. -/
def inpOf (arg2 : Memref sig .tc .vmem S1024x1024 .bf16) (harg2 : arg2.IsWhole) (arg3 : Memref sig .tc .vmem S64x1024 .bf16) (harg3 : arg3.IsWhole) (arg4 : Memref sig .tc .vmem S64x1024 .bf16) (harg4 : arg4.IsWhole) (arg5 : Memref sig .tc .vmem S1024x1024 .f32) (harg5 : arg5.IsWhole) (arg6 : Memref sig .tc .vmem S1x6x1024 .f32) (harg6 : arg6.IsWhole) (arg7 : Memref sig .tc .vmem S10x1024x512 .bf16) (harg7 : arg7.IsWhole) (arg8 : Memref sig .tc .vmem S10x1x512 .f32) (harg8 : arg8.IsWhole) (arg9 : Memref sig .tc .vmem S10x9x16x512 .bf16) (harg9 : arg9.IsWhole) (arg10 : Memref sig .tc .vmem S10x16x512 .bf16) (harg10 : arg10.IsWhole) (arg11 : Memref sig .tc .vmem S10x256x1024 .bf16) (harg11 : arg11.IsWhole) (arg12 : Memref sig .tc .vmem S1x1024 .f32) (harg12 : arg12.IsWhole) (arg13 : Memref sig .tc .vmem S1x1024 .f32) (harg13 : arg13.IsWhole) (arg15 : Memref sig .tc .vmem S1152x1024 .bf16) (harg15 : arg15.IsWhole)
    (x0 : Vec Ideal S1024x1024 .bf16) (x1 : Vec Ideal S64x1024 .bf16) (x2 : Vec Ideal S64x1024 .bf16) (x3 : Vec Ideal S1024x1024 .f32) (x4 : Vec Ideal S1x6x1024 .f32) (x5 : Vec Ideal S10x1024x512 .bf16) (x6 : Vec Ideal S10x1x512 .f32) (x7 : Vec Ideal S10x9x16x512 .bf16) (x8 : Vec Ideal S10x16x512 .bf16) (x9 : Vec Ideal S10x256x1024 .bf16) (x10 : Vec Ideal S1x1024 .f32) (x11 : Vec Ideal S1x1024 .f32) : Inp where
  h := arg15.view.readCov (hcL (View.readAt (Elt Ideal) arg2.view (Rect.unit (s := S1024x1024) ![0, 0] S1024x1024.size inbO).toLoadRect (harg2.unread x0))
    (View.readAt (Elt Ideal) arg3.view (Rect.unit (s := S64x1024) ![0, 0] S64x1024.size (fun a => by fin_cases a <;> decide)).toLoadRect (harg3.unread x1))
    (View.readAt (Elt Ideal) arg4.view (Rect.unit (s := S64x1024) ![0, 0] S64x1024.size (fun a => by fin_cases a <;> decide)).toLoadRect (harg4.unread x2))) hcAll.toLoadRect
  wu := fun j h => View.readAt (Elt Ideal) arg7.view (Rect.unit (s := S10x1024x512) ![j, 0, 0] S1x1024x512.size (inbWu j h)).toLoadRect (harg7.unread x5)
  bu := fun j h => View.readAt (Elt Ideal) arg8.view (Rect.unit (s := S10x1x512) ![j, 0, 0] S1x1x512.size (inbBu j h)).toLoadRect (harg8.unread x6)
  cw := fun j k h hk => View.readAt (Elt Ideal) arg9.view (Rect.unit (s := S10x9x16x512) ![j, k, 0, 0] S1x1x16x512.size (inbCw j k h hk)).toLoadRect (harg9.unread x7)
  cb := fun j h => View.readAt (Elt Ideal) arg10.view (Rect.unit (s := S10x16x512) ![j, 0, 0] S1x16x512.size (inbCb j h)).toLoadRect (harg10.unread x8)
  wd := fun j h => View.readAt (Elt Ideal) arg11.view (Rect.unit (s := S10x256x1024) ![j, 0, 0] S1x256x1024.size (inbWd j h)).toLoadRect (harg11.unread x9)
  bd := View.readAt (Elt Ideal) arg12.view (Rect.unit (s := S1x1024) ![0, 0] S1x1024.size (fun a => by fin_cases a <;> decide)).toLoadRect (harg12.unread x10)
  x1 := View.readAt (Elt Ideal) arg5.view (Rect.unit (s := S1024x1024) ![0, 0] S1024x1024.size inbO).toLoadRect (harg5.unread x3)
  md := View.readAt (Elt Ideal) arg6.view (Rect.unit (s := S1x6x1024) ![0, 0, 0] S1x6x1024.size (fun a => by fin_cases a <;> decide)).toLoadRect (harg6.unread x4)
  fw := View.readAt (Elt Ideal) arg13.view (Rect.unit (s := S1x1024) ![0, 0] S1x1024.size (fun a => by fin_cases a <;> decide)).toLoadRect (harg13.unread x11)

/-- The scratch buffers, read where they have been stored. -/
def rdOf (arg14 : Memref sig .tc .vmem S1024x1024 .f32) (arg16 : Memref sig .tc .vmem S3x1152x512 .bf16)
    (arg17 : Memref sig .tc .vmem S3x1152x512 .bf16) (arg18 : Memref sig .tc .vmem S1024x256 .bf16) : Rd where
  u0 := fun L d p hd hp => arg16.view.readCov L (rowU d p hd hp).toLoadRect
  u1 := fun L d p hd hp => arg17.view.readCov L (rowU d p hd hp).toLoadRect
  a := fun L => arg18.view.readCov L allA.toLoadRect
  o := fun L => arg14.view.readCov L allO.toLoadRect

/-- What a point stores of its output. -/
theorem runA_o (c : Dev nD) (i : grid0.Coords) (arg2 : Memref sig .tc .vmem S1024x1024 .bf16) (harg2 : arg2.IsWhole) (arg3 : Memref sig .tc .vmem S64x1024 .bf16) (harg3 : arg3.IsWhole) (arg4 : Memref sig .tc .vmem S64x1024 .bf16) (harg4 : arg4.IsWhole) (arg5 : Memref sig .tc .vmem S1024x1024 .f32) (harg5 : arg5.IsWhole) (arg6 : Memref sig .tc .vmem S1x6x1024 .f32) (harg6 : arg6.IsWhole) (arg7 : Memref sig .tc .vmem S10x1024x512 .bf16) (harg7 : arg7.IsWhole) (arg8 : Memref sig .tc .vmem S10x1x512 .f32) (harg8 : arg8.IsWhole) (arg9 : Memref sig .tc .vmem S10x9x16x512 .bf16) (harg9 : arg9.IsWhole) (arg10 : Memref sig .tc .vmem S10x16x512 .bf16) (harg10 : arg10.IsWhole) (arg11 : Memref sig .tc .vmem S10x256x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1024x1024 .f32) (harg14 : arg14.IsWhole) (arg15 : Memref sig .tc .vmem S1152x1024 .bf16) (harg15 : arg15.IsWhole) (arg16 : Memref sig .tc .vmem S3x1152x512 .bf16) (harg16 : arg16.IsWhole) (arg17 : Memref sig .tc .vmem S3x1152x512 .bf16) (harg17 : arg17.IsWhole) (arg18 : Memref sig .tc .vmem S1024x256 .bf16) (harg18 : arg18.IsWhole)
    (x0 : Vec Ideal S1024x1024 .bf16) (x1 : Vec Ideal S64x1024 .bf16) (x2 : Vec Ideal S64x1024 .bf16) (x3 : Vec Ideal S1024x1024 .f32) (x4 : Vec Ideal S1x6x1024 .f32) (x5 : Vec Ideal S10x1024x512 .bf16) (x6 : Vec Ideal S10x1x512 .f32) (x7 : Vec Ideal S10x9x16x512 .bf16) (x8 : Vec Ideal S10x16x512 .bf16) (x9 : Vec Ideal S10x256x1024 .bf16) (x10 : Vec Ideal S1x1024 .f32) (x11 : Vec Ideal S1x1024 .f32) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1
      = outs (rdOf arg14 arg16 arg17 arg18)
        (inpOf arg2 harg2 arg3 harg3 arg4 harg4 arg5 harg5 arg6 harg6 arg7 harg7 arg8 harg8 arg9 harg9 arg10 harg10 arg11 harg11 arg12 harg12 arg13 harg13 arg15 harg15 x0 x1 x2 x3 x4 x5 x6 x7 x8 x9 x10 x11) i := by
  sl_kernel_rfl

end Cert.FfnIdeal.Body

end
-- ==== Proof.FfnCanon.lean ====
module

public import proofs.«01_k».proof.Proof.FfnAt
public import proofs.«01_k».proof.Proof.FfnRun

@[expose] public section

set_option maxRecDepth 16384

/-! What the pieces that a point of the feed-forward kernel stores leave in its scratch buffers and in its output, read at
an index. -/

noncomputable section

namespace Cert.FfnIdeal.Body

open Idealize.ShloMosaic Idealize.SL.Sem Cert.FfnIdeal Cert.FfnIdeal.Gen Cert.Conv

/-! ## Where the pieces lie -/

/-- A place of a buffer, by its copy and row. -/
theorem rowU_emb (d p : ℕ) (hd : d < 3) (hp : p < 18) (x : Fin 64) (c : Fin 512) :
    ix3 ⟨d, hd⟩ ⟨64 * p + x, by omega⟩ c = (rowU d p hd hp).emb (ix3 (0 : Fin 1) x c) := by
  funext a
  apply Fin.ext
  match a with
  | ⟨0, _⟩ => show d = d + 1 * 0; omega
  | ⟨1, _⟩ => show 64 * p + x.val = 64 * p + 1 * x.val; omega
  | ⟨2, _⟩ => show c.val = 0 + 1 * c.val; omega

/-- A token's place in the activation, by its row. -/
theorem rowA_emb (r : ℕ) (h : r < 16) (x : Fin 64) (c : Fin 256) :
    ix2 ⟨64 * r + x, by omega⟩ c = (rowA r h).emb (ix2 x c) := by
  funext a
  apply Fin.ext
  match a with
  | ⟨0, _⟩ => show 64 * r + x.val = 64 * r + 1 * x.val; omega
  | ⟨1, _⟩ => show c.val = 0 + 1 * c.val; omega

/-- The whole of the activation has its own indices. -/
theorem allA_emb (n : Fin 1024) (c : Fin 256) : ix2 n c = allA.emb (ix2 n c) := by
  funext a
  apply Fin.ext
  match a with
  | ⟨0, _⟩ => show n.val = 0 + 1 * n.val; omega
  | ⟨1, _⟩ => show c.val = 0 + 1 * c.val; omega

/-- The whole of the output has its own indices. -/
theorem allO_emb (n d : Fin 1024) : ix2 n d = allO.emb (ix2 n d) := by
  funext a
  apply Fin.ext
  match a with
  | ⟨0, _⟩ => show n.val = 0 + 1 * n.val; omega
  | ⟨1, _⟩ => show d.val = 0 + 1 * d.val; omega

/-! ## What a piece leaves -/

/-- The last store into a row of a copy is what it holds. -/
theorem canonU_hit (d p : ℕ) (hd : d < 3) (hp : p < 18) (y : FVec Ideal S64x512 .f32) (L : LU) (x : Fin 64) (c : Fin 512) :
    View.canon (⟨rowU d p hd hp, asU y⟩ :: L) (ix3 ⟨d, hd⟩ ⟨64 * p + x, by omega⟩ c) = y (ix2 x c) := by
  rw [rowU_emb d p hd hp, View.canon_cons_emb (rowU d p hd hp) (asU y) L (ix3 0 x c)]
  exact asU_at y x c

/-- A store into another row or another copy is not seen. -/
theorem canonU_miss (d p d' p' : ℕ) (hd : d < 3) (hp : p < 18) (hd' : d' < 3) (hp' : p' < 18) (hne : d' ≠ d ∨ p' ≠ p)
    (y : FVec Ideal S64x512 .f32) (L : LU) (x : Fin 64) (c : Fin 512) :
    View.canon (⟨rowU d p hd hp, asU y⟩ :: L) (ix3 ⟨d', hd'⟩ ⟨64 * p' + x, by omega⟩ c)
      = View.canon L (ix3 ⟨d', hd'⟩ ⟨64 * p' + x, by omega⟩ c) := by
  refine View.canon_cons_of_not_mem _ _ fun hm => ?_
  have h0 : d ≤ d' ∧ d' < d + 1 := (Rect.mem_set_unit (inb := inbU d p hd hp)).mp hm 0
  have h1 : 64 * p ≤ 64 * p' + x.val ∧ 64 * p' + x.val < 64 * p + 64 := (Rect.mem_set_unit (inb := inbU d p hd hp)).mp hm 1
  omega

/-- The last store into a row of the activation is what the row holds. -/
theorem canonA_hit (r : ℕ) (h : r < 16) (y : FVec Ideal S64x256 .bf16) (L : LA) (x : Fin 64) (c : Fin 256) :
    View.canon (⟨rowA r h, y⟩ :: L) (ix2 ⟨64 * r + x, by omega⟩ c) = y (ix2 x c) := by
  rw [rowA_emb r h, View.canon_cons_emb (rowA r h) y L (ix2 x c)]

/-- A store into another row of the activation is not seen. -/
theorem canonA_miss (r r' : ℕ) (h : r < 16) (h' : r' < 16) (hne : r' ≠ r) (y : FVec Ideal S64x256 .bf16) (L : LA) (x : Fin 64)
    (c : Fin 256) : View.canon (⟨rowA r h, y⟩ :: L) (ix2 ⟨64 * r' + x, by omega⟩ c)
      = View.canon L (ix2 ⟨64 * r' + x, by omega⟩ c) := by
  refine View.canon_cons_of_not_mem _ _ fun hm => ?_
  have h0 : 64 * r ≤ 64 * r' + x.val ∧ 64 * r' + x.val < 64 * r + 64 := (Rect.mem_set_unit (inb := inbA r h)).mp hm 0
  omega

/-- The last store of the output is what it holds. -/
theorem canonO_hit (y : FVec Ideal S1024x1024 .f32) (L : LO) (n d : Fin 1024) :
    View.canon (⟨allO, y⟩ :: L) (ix2 n d) = y (ix2 n d) := by
  rw [allO_emb n d, View.canon_cons_emb allO y L (ix2 n d), ← allO_emb n d]

/-! ## What the buffers hold -/

section
variable (I : Inp) (i : grid0.Coords)

/-- One of the three versions of a row. -/
def verOf (u : FVec Ideal S1152x512 .f32) (d p : ℕ) (h : p < 18) : FVec Ideal S64x512 .f32 :=
  if d = 0 then prevOf (pieceOf i u p h) else if d = 1 then pieceOf i u p h else nextOf (pieceOf i u p h)

/-- After a group has been projected, each row of each copy holds what was stored for it. -/
theorem canon_upN (u : FVec Ideal S1152x512 .f32) (L : LU) (x : Fin 64) (c : Fin 512) (d : ℕ) (hd : d < 3) (n : ℕ) (hn : n ≤ 18)
    (p : ℕ) (hp : p < n) : View.canon (upN i u L n hn) (ix3 ⟨d, hd⟩ ⟨64 * p + x, by omega⟩ c)
      = verOf i u d p (by omega) (ix2 x c) := by
  induction n with
  | zero => omega
  | succ n ih =>
    unfold upN
    by_cases hpn : p = n
    · subst hpn
      unfold verOf
      match d, hd with
      | 0, hd =>
        rw [canonU_miss 2 p 0 p (by omega) (by omega) (by omega) (by omega) (by omega),
          canonU_miss 1 p 0 p (by omega) (by omega) (by omega) (by omega) (by omega), canonU_hit 0 p (by omega) (by omega)]
        rfl
      | 1, hd =>
        rw [canonU_miss 2 p 1 p (by omega) (by omega) (by omega) (by omega) (by omega), canonU_hit 1 p (by omega) (by omega)]
        rfl
      | 2, hd =>
        rw [canonU_hit 2 p (by omega) (by omega)]
        rfl
    · rw [canonU_miss 2 n d p (by omega) (by omega) (by omega) (by omega) (by omega),
        canonU_miss 1 n d p (by omega) (by omega) (by omega) (by omega) (by omega),
        canonU_miss 0 n d p (by omega) (by omega) (by omega) (by omega) (by omega)]
      exact ih (by omega) (by omega)

/-- The up projection of a group. -/
def upG (j : ℕ) (hj : j < 10) : FVec Ideal S1152x512 .f32 := upU I.h (I.wu j hj) (I.bu j hj)

/-- The convolution of a group at a place: the bias and the taps so far. -/
def convAt (j : ℕ) (hj : j < 10) (r : ℕ) (hr : r < 16) (x : Fin 64) (c : Fin 512) : (k : ℕ) → k ≤ 9 → EReal
  | 0, _ => I.cb j hj (ix3 0 ⟨x % 16, by omega⟩ c)
  | k + 1, h => convAt j hj r hr x c k (Nat.le_of_succ_le h) + I.cw j k hj h (ix4 0 0 ⟨x % 16, by omega⟩ c)
      * verOf i (upG I j hj) (k % 3) (r + k / 3) (by omega) (ix2 x c)

/-- The convolution after `n` of its nine products. -/
theorem convN_at (u : (d p : ℕ) → d < 3 → p < 18 → FVec Ideal S1x64x512 .bf16) (j : ℕ) (hj : j < 10)
    (hu : ∀ (d p : ℕ) (hd : d < 3) (hp : p < 18) (x : Fin 64) (c : Fin 512),
      u d p hd hp (ix3 0 x c) = verOf i (upG I j hj) d p hp (ix2 x c))
    (r : ℕ) (hr : r < 16) (g : Fin 4) (l : Fin 16) (c : Fin 512) (k : ℕ) (hk : k ≤ 9) :
    convN I u j hj r hr k hk (ix3 g l c) = convAt I i j hj r hr ⟨g * 16 + l, by omega⟩ c k hk := by
  have e : (⟨(g.val * 16 + l.val) % 16, by omega⟩ : Fin 16) = l := Fin.ext (show (g.val * 16 + l.val) % 16 = l.val by omega)
  induction k with
  | zero =>
    unfold convN convAt
    rw [biasOf_at]
    show _ = I.cb j hj (ix3 0 ⟨(g.val * 16 + l.val) % 16, _⟩ c)
    rw [e]
  | succ k ih =>
    unfold convN convAt
    rw [tapOf_at, ih _ e, hu]
    show _ = _ + I.cw j k hj hk (ix4 0 0 ⟨(g.val * 16 + l.val) % 16, _⟩ c) * _
    rw [e]

/-- The gated channels of a group at a place. -/
def gateAt (j : ℕ) (hj : j < 10) (r : ℕ) (hr : r < 16) (x : Fin 64) (c : Fin 256) : EReal :=
  convAt I i j hj r hr x ⟨c, by omega⟩ 9 le_rfl
    * (convAt I i j hj r hr x ⟨256 + c, by omega⟩ 9 le_rfl
      * Ideal.logistic (convAt I i j hj r hr x ⟨256 + c, by omega⟩ 9 le_rfl))

/-- A row's activation, from its nine products. -/
theorem gateOf_conv (u : (d p : ℕ) → d < 3 → p < 18 → FVec Ideal S1x64x512 .bf16) (j : ℕ) (hj : j < 10)
    (hu : ∀ (d p : ℕ) (hd : d < 3) (hp : p < 18) (x : Fin 64) (c : Fin 512),
      u d p hd hp (ix3 0 x c) = verOf i (upG I j hj) d p hp (ix2 x c))
    (r : ℕ) (hr : r < 16) (x : Fin 64) (c : Fin 256) :
    gateOf (convN I u j hj r hr 9 le_rfl) (ix2 x c) = gateAt I i j hj r hr x c := by
  have e : x = ⟨(⟨x / 16, by omega⟩ : Fin 4).val * 16 + (⟨x % 16, by omega⟩ : Fin 16).val, by
      show x.val / 16 * 16 + x.val % 16 < 64; omega⟩ :=
    Fin.ext (show x.val = x.val / 16 * 16 + x.val % 16 by omega)
  unfold gateAt
  rw [e, gateOf_at, convN_at I i u j hj hu, convN_at I i u j hj hu]

/-- After a group has been convolved, each row of the activation holds what was stored for it. -/
theorem canon_actN (u : (d p : ℕ) → d < 3 → p < 18 → FVec Ideal S1x64x512 .bf16) (j : ℕ) (hj : j < 10)
    (hu : ∀ (d p : ℕ) (hd : d < 3) (hp : p < 18) (x : Fin 64) (c : Fin 512),
      u d p hd hp (ix3 0 x c) = verOf i (upG I j hj) d p hp (ix2 x c))
    (L : LA) (x : Fin 64) (c : Fin 256) (n : ℕ) (hn : n ≤ 16) (r : ℕ) (hr : r < n) :
    View.canon (actN I u j hj L n hn) (ix2 ⟨64 * r + x, by omega⟩ c) = gateAt I i j hj r (by omega) x c := by
  induction n with
  | zero => omega
  | succ n ih =>
    unfold actN
    by_cases hrn : r = n
    · subst hrn
      rw [canonA_hit r (by omega)]
      exact gateOf_conv I i u j hj hu r (by omega) x c
    · rw [canonA_miss n r (by omega) (by omega) hrn]
      exact ih (by omega) (by omega)

/-- The scratch buffers are read where they have been stored. -/
structure RdOk (R : Rd) : Prop where
  u0 : ∀ (L : LU) (d p : ℕ) (hd : d < 3) (hp : p < 18) (x : Fin 64) (c : Fin 512),
    R.u0 L d p hd hp (ix3 0 x c) = View.canon L (ix3 ⟨d, hd⟩ ⟨64 * p + x, by omega⟩ c)
  u1 : ∀ (L : LU) (d p : ℕ) (hd : d < 3) (hp : p < 18) (x : Fin 64) (c : Fin 512),
    R.u1 L d p hd hp (ix3 0 x c) = View.canon L (ix3 ⟨d, hd⟩ ⟨64 * p + x, by omega⟩ c)
  a : ∀ (L : LA) (n : Fin 1024) (c : Fin 256), R.a L (ix2 n c) = View.canon L (ix2 n c)
  o : ∀ (L : LO) (n d : Fin 1024), R.o L (ix2 n d) = View.canon L (ix2 n d)

variable (R : Rd) (hR : RdOk R)

include hR in
/-- What is read of the first buffer is the even group that was projected last. -/
theorem u0_at (n : ℕ) (h : n + 1 ≤ 5) (d p : ℕ) (hd : d < 3) (hp : p < 18) (x : Fin 64) (c : Fin 512) :
    R.u0 (evN I i (n + 1) h) d p hd hp (ix3 0 x c) = verOf i (upG I (2 * n) (by omega)) d p hp (ix2 x c) := by
  rw [hR.u0]
  exact canon_upN i _ _ x c d hd 18 le_rfl p hp

include hR in
/-- What is read of the second buffer is the odd group that was projected last. -/
theorem u1_at (n : ℕ) (h : n + 1 ≤ 5) (d p : ℕ) (hd : d < 3) (hp : p < 18) (x : Fin 64) (c : Fin 512) :
    R.u1 (odN I i (n + 1) h) d p hd hp (ix3 0 x c) = verOf i (upG I (2 * n + 1) (by omega)) d p hp (ix2 x c) := by
  rw [hR.u1]
  exact canon_upN i _ _ x c d hd 18 le_rfl p hp

/-- The gated channels of a group at a token of the point. -/
def gateTok (j : ℕ) (hj : j < 10) (n : Fin 1024) (c : Fin 256) : EReal :=
  gateAt I i j hj (n / 64) (by omega) ⟨n % 64, by omega⟩ c

/-- A token of a point is a row and a column of the grid. -/
theorem tok_eq (n : Fin 1024) : n = ⟨64 * (n.val / 64) + (⟨n % 64, by omega⟩ : Fin 64).val, by
    show 64 * (n.val / 64) + n.val % 64 < 1024; omega⟩ :=
  Fin.ext (show n.val = 64 * (n.val / 64) + n.val % 64 by omega)

/-- The activation of a group, token by token. -/
theorem canon_tok (L : LA) (j : ℕ) (hj : j < 10) (n : Fin 1024) (c : Fin 256)
    (h : ∀ (r : ℕ) (hr : r < 16) (x : Fin 64), View.canon L (ix2 ⟨64 * r + x, by omega⟩ c) = gateAt I i j hj r hr x c) :
    View.canon L (ix2 n c) = gateTok I i j hj n c := by
  unfold gateTok
  rw [← h]
  exact congrArg (fun r => View.canon L (ix2 r c)) (tok_eq n)

/-- The stores into the activation after an odd number of groups: those of the pairs before, and one group more. -/
theorem geN_eq (k : ℕ) (h : k + 1 ≤ 5) : geN R I i k h
    = actN I (R.u0 (evN I i (k + 1) h)) (2 * k) (by omega) (gaN R I i k (Nat.le_of_succ_le h)) 16 le_rfl := by
  rw [geN]

/-- The stores into the activation after an even number of groups: those of the pairs before, and two groups more. -/
theorem gaN_eq (k : ℕ) (h : k + 1 ≤ 5) : gaN R I i (k + 1) h
    = actN I (R.u1 (odN I i (k + 1) h)) (2 * k + 1) (by omega)
      (actN I (R.u0 (evN I i (k + 1) h)) (2 * k) (by omega) (gaN R I i k (Nat.le_of_succ_le h)) 16 le_rfl) 16 le_rfl := by
  rw [gaN]

include hR in
theorem geN_at (k : ℕ) (h : k + 1 ≤ 5) (n : Fin 1024) (c : Fin 256) :
    R.a (geN R I i k h) (ix2 n c) = gateTok I i (2 * k) (by omega) n c := by
  have hj : 2 * k < 10 := by omega
  have hu := u0_at I i R hR k h
  rw [hR.a, geN_eq]
  generalize R.u0 (evN I i (k + 1) h) = u at hu ⊢
  generalize gaN R I i k (Nat.le_of_succ_le h) = L
  exact canon_tok I i _ (2 * k) hj n c fun r hr x => canon_actN I i u (2 * k) hj hu L x c 16 le_rfl r hr

include hR in
theorem gaN_at (k : ℕ) (h : k + 1 ≤ 5) (n : Fin 1024) (c : Fin 256) :
    R.a (gaN R I i (k + 1) h) (ix2 n c) = gateTok I i (2 * k + 1) (by omega) n c := by
  have hj : 2 * k + 1 < 10 := by omega
  have hu := u1_at I i R hR k h
  rw [hR.a, gaN_eq]
  generalize R.u1 (odN I i (k + 1) h) = u at hu ⊢
  generalize actN I (R.u0 (evN I i (k + 1) h)) (2 * k) (by omega) (gaN R I i k (Nat.le_of_succ_le h)) 16 le_rfl = L
  exact canon_tok I i _ (2 * k + 1) hj n c fun r hr x => canon_actN I i u (2 * k + 1) hj hu L x c 16 le_rfl r hr

/-- The sum of the first groups' down projections. -/
def sumAt (n d : Fin 1024) : (j : ℕ) → j ≤ 10 → EReal
  | 0, _ => 0
  | j + 1, h => sumAt n d j (Nat.le_of_succ_le h) + ∑ c : Fin 256, gateTok I i j h n c * I.wd j h (ix3 0 c d)

include hR in
theorem suN_at (n d : Fin 1024) (k : ℕ) (h : k ≤ 5) :
    View.canon (suN R I i k h) (ix2 n d) = sumAt I i n d (2 * k) (by omega) := by
  induction k with
  | zero =>
    unfold suN
    rw [canonO_hit]
    unfold sumAt
    pointwise
  | succ k ih =>
    unfold suN
    rw [canonO_hit, addO_at, hR.o, canonO_hit, addO_at, hR.o, ih]
    simp only [geN_at I i R hR, gaN_at I i R hR]
    rfl

include hR in
/-- What a point stores of its output, at an index. -/
theorem outs_at (n d : Fin 1024) : View.canon (outs R I i) (ix2 n d)
    = rms (resid (fun k => sumAt I i n k 10 le_rfl) (fun k => I.x1 (ix2 n k)) (fun k => I.md (ix3 0 5 k))
      fun k => I.bd (ix2 0 k)) (fun k => I.fw (ix2 0 k)) d := by
  unfold outs
  rw [canonO_hit, outOf_at]
  simp only [hR.o, suN_at I i R hR]
end

/-- The kernel's own reads are such. -/
theorem rdOk (arg14 : Memref sig .tc .vmem S1024x1024 .f32) (arg16 : Memref sig .tc .vmem S3x1152x512 .bf16)
    (arg17 : Memref sig .tc .vmem S3x1152x512 .bf16) (arg18 : Memref sig .tc .vmem S1024x256 .bf16) :
    RdOk (rdOf arg14 arg16 arg17 arg18) where
  u0 L d p hd hp x c := by
    unfold rdOf
    simp only [View.readCov_eq_canon']
    exact congrArg (View.canon L) (rowU_emb d p hd hp x c).symm
  u1 L d p hd hp x c := by
    unfold rdOf
    simp only [View.readCov_eq_canon']
    exact congrArg (View.canon L) (rowU_emb d p hd hp x c).symm
  a L n c := by
    unfold rdOf
    simp only [View.readCov_eq_canon']
    exact congrArg (View.canon L) (allA_emb n c).symm
  o L n d := by
    unfold rdOf
    simp only [View.readCov_eq_canon']
    exact congrArg (View.canon L) (allO_emb n d).symm

end Cert.FfnIdeal.Body

end
-- ==== Proof.FfnMath.lean ====
module

public import proofs.«01_k».proof.Proof.FfnCanon

@[expose] public section

set_option maxRecDepth 16384

/-! A point of the feed-forward kernel computes the layer's output at its tokens, whenever its blocks are the arrays' at
these tokens. -/

noncomputable section

namespace Cert.FfnIdeal.Body

open Idealize.ShloMosaic Idealize.SL.Sem Cert.FfnIdeal Cert.FfnIdeal.Gen Cert.Conv

/-- The channel that a group's channel is: the first halves of the groups are the values', the second the gates'. -/
def chan (j : ℕ) (hj : j < 10) (c : Fin 512) : Fin 5120 :=
  if h : c.val < 256 then ⟨256 * j + c, by omega⟩ else ⟨2560 + (256 * j + (c - 256)), by omega⟩

/-- A point's blocks, in terms of the arrays: the tokens `1024 * q` and on of sequence `b`. -/
structure Reads (A : Args) (b : Fin 8) (q : ℕ) (hq : q < 4) (I : Inp) : Prop where
  h : ∀ (n : Fin 1152) (k : Fin 1024) (s : Fin 4096), s.val + 64 = 1024 * q + n → I.h (ix2 n k) = A.h b s k
  wu : ∀ (j : ℕ) (hj : j < 10) (k : Fin 1024) (c : Fin 512), I.wu j hj (ix3 0 k c) = A.wu k (chan j hj c)
  bu : ∀ (j : ℕ) (hj : j < 10) (c : Fin 512), I.bu j hj (ix3 0 0 c) = A.bu (chan j hj c)
  cw : ∀ (j k : ℕ) (hj : j < 10) (hk : k < 9) (l : Fin 16) (c : Fin 512), I.cw j k hj hk (ix4 0 0 l c)
    = A.cw ⟨k / 3, by omega⟩ ⟨k % 3, by omega⟩ (chan j hj c)
  cb : ∀ (j : ℕ) (hj : j < 10) (l : Fin 16) (c : Fin 512), I.cb j hj (ix3 0 l c) = A.cb (chan j hj c)
  wd : ∀ (j : ℕ) (hj : j < 10) (c : Fin 256) (d : Fin 1024), I.wd j hj (ix3 0 c d) = A.wd ⟨256 * j + c, by omega⟩ d
  bd : ∀ d : Fin 1024, I.bd (ix2 0 d) = A.bd d
  x1 : ∀ n d : Fin 1024, I.x1 (ix2 n d) = A.x1 b ⟨1024 * q + n, by omega⟩ d
  md : ∀ d : Fin 1024, I.md (ix3 0 5 d) = A.md b d
  fw : ∀ d : Fin 1024, I.fw (ix2 0 d) = A.fw d

section
variable (A : Args) (b : Fin 8) (q : ℕ) (hq : q < 4) (I : Inp) (i : grid0.Coords) (hi : (i 1).val = q) (H : Reads A b q hq I)

include H in
theorem upG_at (j : ℕ) (hj : j < 10) (n : Fin 1152) (c : Fin 512) (s : Fin 4096) (hs : s.val + 64 = 1024 * q + n) :
    upG I j hj (ix2 n c) = A.up b s (chan j hj c) := by
  unfold upG Args.up
  rw [upU_at, H.bu]
  simp only [H.h n _ s hs, H.wu]

include hi H in
theorem piece_at (j : ℕ) (hj : j < 10) (p : ℕ) (hp : p < 18) (x : Fin 64) (c : Fin 512) :
    pieceOf i (upG I j hj) p hp (ix2 x c) = A.pad b (16 * q + p) (x + 1) (chan j hj c) := by
  rw [pieceOf_at]
  unfold Args.pad
  split
  · rw [dif_neg (by omega)]
  · rw [dif_pos (by omega)]
    refine upG_at A b q hq I H j hj _ c _ ?_
    show 64 * (16 * q + p - 1) + (x.val + 1 - 1) + 64 = 1024 * q + (64 * p + x.val)
    omega

include hi H in
theorem ver_at (j : ℕ) (hj : j < 10) (d p : ℕ) (hd : d < 3) (hp : p < 18) (x : Fin 64) (c : Fin 512) :
    verOf i (upG I j hj) d p hp (ix2 x c) = A.pad b (16 * q + p) (x + d) (chan j hj c) := by
  unfold verOf
  match d, hd with
  | 0, _ =>
    rw [if_pos rfl, prevOf_at]
    split
    · next h0 => rw [Args.pad, dif_neg (by omega)]
    · next h0 =>
      rw [piece_at A b q hq I i hi H]
      show A.pad b _ (x.val - 1 + 1) _ = _
      rw [Nat.sub_add_cancel (by omega), Nat.add_zero]
  | 1, _ => exact piece_at A b q hq I i hi H j hj p hp x c
  | 2, _ =>
    rw [if_neg (by decide), if_neg (by decide), nextOf_at]
    split
    · next h0 => rw [Args.pad, dif_neg (by omega)]
    · next h0 => exact piece_at A b q hq I i hi H j hj p hp ⟨x + 1, by omega⟩ c

include hi H in
theorem convAt_eq (j : ℕ) (hj : j < 10) (r : ℕ) (hr : r < 16) (x : Fin 64) (c : Fin 512) (k : ℕ) (hk : k ≤ 9) :
    convAt I i j hj r hr x c k hk = A.cb (chan j hj c) + A.taps b (16 * q + r) x (chan j hj c) k hk := by
  induction k with
  | zero => rw [convAt, Args.taps, H.cb, add_zero]
  | succ k ih =>
    rw [convAt, Args.taps, ih, H.cw, ver_at A b q hq I i hi H j hj (k % 3) (r + k / 3) (Nat.mod_lt _ (by decide)) (by omega),
      add_assoc, Nat.add_assoc (16 * q) r, mul_comm (A.cw _ _ _)]

include hi H in
theorem conv_eq (j : ℕ) (hj : j < 10) (r : ℕ) (hr : r < 16) (x : Fin 64) (c : Fin 512) :
    convAt I i j hj r hr x c 9 le_rfl = A.conv b (16 * q + r) x (chan j hj c) := by
  rw [convAt_eq A b q hq I i hi H, Args.conv, add_comm]

include hi H in
theorem gateAt_eq (j : ℕ) (hj : j < 10) (r : ℕ) (hr : r < 16) (x : Fin 64) (c : Fin 256) :
    gateAt I i j hj r hr x c = A.gate b (16 * q + r) x ⟨256 * j + c, by omega⟩ := by
  have e1 : chan j hj ⟨c, by omega⟩ = ⟨256 * j + c, by omega⟩ := by
    unfold chan
    rw [dif_pos (show c.val < 256 from c.isLt)]
  have e2 : chan j hj ⟨256 + c, by omega⟩ = ⟨2560 + (256 * j + c), by omega⟩ := by
    unfold chan
    rw [dif_neg (show ¬ 256 + c.val < 256 by omega)]
    exact Fin.ext (show 2560 + (256 * j + (256 + c.val - 256)) = 2560 + (256 * j + c.val) by omega)
  unfold gateAt Args.gate
  rw [conv_eq A b q hq I i hi H, conv_eq A b q hq I i hi H, e1, e2]

/-- A term of the down projection. -/
def term (y x : ℕ) (d : Fin 1024) (e : ℕ) : EReal := if h : e < 2560 then A.gate b y x ⟨e, h⟩ * A.wd ⟨e, h⟩ d else 0

include hi H in
theorem sumAt_eq (n d : Fin 1024) (j : ℕ) (hj : j ≤ 10) :
    sumAt I i n d j hj = ∑ e ∈ Finset.range (256 * j), term A b (16 * q + n / 64) (n % 64) d e := by
  induction j with
  | zero => rw [sumAt]; rfl
  | succ j ih =>
    rw [sumAt, ih, Nat.mul_add, Nat.mul_one, Finset.sum_range_add, Finset.sum_range (n := 256)]
    refine congrArg _ (Finset.sum_congr rfl fun c _ => ?_)
    unfold gateTok term
    rw [gateAt_eq A b q hq I i hi H, H.wd, dif_pos (by omega)]

include hi H in
theorem down_eq (n d : Fin 1024) : sumAt I i n d 10 le_rfl = A.down b (16 * q + n / 64) (n % 64) d := by
  rw [sumAt_eq A b q hq I i hi H, Finset.sum_range]
  refine Finset.sum_congr rfl fun e _ => ?_
  unfold term
  rw [dif_pos e.isLt]

include hi H in
/-- A point's output. -/
theorem point_out (R : Rd) (hR : RdOk R) (n d : Fin 1024) :
    View.canon (outs R I i) (ix2 n d) = A.out b ⟨1024 * q + n, by omega⟩ d := by
  have e1 : (1024 * q + n.val) / 64 = 16 * q + n / 64 := by omega
  have e2 : (1024 * q + n.val) % 64 = n % 64 := by omega
  rw [outs_at I i R hR]
  unfold Args.out
  simp only [H.x1, H.md, H.bd, H.fw, down_eq A b q hq I i hi H, e1, e2]
end

end Cert.FfnIdeal.Body

end
-- ==== Proof.FfnRef.lean ====
module

public import proofs.«01_k».proof.Proof.FfnSpec
public import proofs.«01_k».proof.Proof.Gen.FfnReferenceIdeal.Run
public import Idealize.ShloMosaic.Lib.Pipeline.ValueKit
public import Idealize.ShloMosaic.Lib.Pointwise

@[expose] public section

set_option maxRecDepth 16384

/-! The feed-forward reference computes the layer's output. -/

noncomputable section

namespace Cert.FfnReferenceIdeal.Conv

open Idealize.ShloMosaic Idealize.ShloMosaic.TcCoe Idealize.SL.Sem Idealize.ShloMosaic.StableHlo Cert.FfnReferenceIdeal
  Cert.FfnReferenceIdeal.Gen Cert.FfnReferenceIdeal.Value Cert.Conv

/-- The layer's arrays. -/
def args (a0 : FVec Ideal S32768x1024 .bf16) (a1 : FVec Ideal S32768x1024 .f32) (a2 : FVec Ideal S16x6x1024 .f32)
    (a3 : FVec Ideal S1024x5120 .f32) (a4 : FVec Ideal S5120 .f32) (a5 : FVec Ideal S3x3x5120 .f32) (a6 : FVec Ideal S5120 .f32)
    (a7 : FVec Ideal S2560x1024 .f32) (a8 : FVec Ideal S1024 .f32) (a9 : FVec Ideal S1024 .f32) : Args where
  h b t k := a0 (ix2 (tok b t) k)
  x1 b t d := a1 (ix2 (tok b t) d)
  md b d := a2 (ix3 ⟨b, by omega⟩ 5 d)
  wu k c := a3 (ix2 k c)
  bu c := a4 (ix1 c)
  cw i j c := a5 (ix3 i j c)
  cb c := a6 (ix1 c)
  wd e d := a7 (ix2 e d)
  bd d := a8 (ix1 d)
  fw d := a9 (ix1 d)

/-- The integer zero as a float is zero. -/
theorem sitofp_zero : (FloatOps.sitofp .f32 0#32 : Ideal .f32) = 0 := by
  show (((0#32 : BitVec 32).toInt : ℝ) : EReal) = 0
  simp

/-! ## The parts -/

/-- The up projection over the grid. -/
def upR (a0 : FVec Ideal S32768x1024 .bf16) (a3 : FVec Ideal S1024x5120 .f32) (a4 : FVec Ideal S5120 .f32) :
    FVec Ideal S8x64x64x5120 .f32 :=
  shapeCast _ (addf (Host.dotGeneral dot_S8x4096x1024_S1024x5120_S8x4096x5120_2_0_01_1_n_n none
    (extf .f32 (shapeCast _ a0 shapeCasts_S32768x1024_S8x4096x1024) bitsLt_bf16_f32) a3)
    (broadcastInDim S8x4096x5120 ![0, 1, 2] bcast_S1x1x5120_S8x4096x5120_0_1_2
      (broadcastInDim S1x1x5120 ![2] bcast_S5120_S1x1x5120_2 a4))) shapeCasts_S8x4096x5120_S8x64x64x5120

/-- The border of zeros. -/
def padR (u : FVec Ideal S8x64x64x5120 .f32) : FVec Ideal S8x66x66x5120 .f32 :=
  pad S8x66x66x5120 ![0, 0, 1, 0] ![0, 0, 1, 0] ![0, 0, 0, 0]
    (pad S8x66x64x5120 ![0, 1, 0, 0] ![0, 1, 0, 0] ![0, 0, 0, 0] u (sitofp .f32 (constantI S_ 32 0#32))
      pads_S8x64x64x5120_S8x66x64x5120_000_110_000_000 h_S_)
    (sitofp .f32 (constantI S_ 32 0#32)) pads_S8x66x64x5120_S8x66x66x5120_000_000_110_000 h_S_

/-- A tap of the convolution. -/
def tapR (i j : ℕ) (p : FVec Ideal S8x66x66x5120 .f32) (w : FVec Ideal S3x3x5120 .f32)
    (hp : S8x66x66x5120.Slices ![0, i, j, 0] S8x64x64x5120) (hw : S3x3x5120.Slices ![i, j, 0] S1x1x5120) :
    FVec Ideal S8x64x64x5120 .f32 :=
  mulf (extractStridedSlice S8x64x64x5120 ![0, i, j, 0] p hp) (broadcastInDim S8x64x64x5120 ![0, 1, 2, 3]
    bcast_S1x1x1x5120_S8x64x64x5120_0_1_2_3 (broadcastInDim S1x1x1x5120 ![3] bcast_S5120_S1x1x1x5120_3
      (shapeCast _ (extractStridedSlice S1x1x5120 ![i, j, 0] w hw) shapeCasts_S1x1x5120_S5120)))

/-- The convolution's bias added on. -/
def biasR (s : FVec Ideal S8x64x64x5120 .f32) (a6 : FVec Ideal S5120 .f32) : FVec Ideal S8x4096x5120 .f32 :=
  addf (shapeCast _ s shapeCasts_S8x64x64x5120_S8x4096x5120) (broadcastInDim S8x4096x5120 ![0, 1, 2]
    bcast_S1x1x5120_S8x4096x5120_0_1_2 (broadcastInDim S1x1x5120 ![2] bcast_S5120_S1x1x5120_2 a6))

/-- The sum of nothing. -/
def zeroR : FVec Ideal S8x64x64x5120 .f32 :=
  broadcastInDim S8x64x64x5120 ![] bcast_S_S8x64x64x5120 (constant S_ .f32 0x00000000#32)

/-- The gated channels. -/
def gateR (v : FVec Ideal S8x4096x5120 .f32) : FVec Ideal S8x4096x2560 .f32 :=
  let g : FVec Ideal S8x4096x2560 .f32 := extractStridedSlice S8x4096x2560 ![0, 0, 2560] v slices_S8x4096x5120_S8x4096x2560_0_0_2560
  mulf (extractStridedSlice S8x4096x2560 ![0, 0, 0] v slices_S8x4096x5120_S8x4096x2560_0_0_0)
    (mulf g (Host.divf (broadcastInDim S8x4096x2560 ![] bcast_S_S8x4096x2560 (constant S_ .f32 0x3F800000#32))
      (addf (broadcastInDim S8x4096x2560 ![] bcast_S_S8x4096x2560 (constant S_ .f32 0x3F800000#32)) (Host.exp (Host.negf g)))))

/-- The down projection and the gated residual. -/
def residR (g : FVec Ideal S8x4096x2560 .f32) (a1 : FVec Ideal S32768x1024 .f32) (a2 : FVec Ideal S16x6x1024 .f32)
    (a7 : FVec Ideal S2560x1024 .f32) (a8 : FVec Ideal S1024 .f32) : FVec Ideal S8x4096x1024 .f32 :=
  addf (shapeCast _ a1 shapeCasts_S32768x1024_S8x4096x1024) (mulf (broadcastInDim S8x4096x1024 ![0, 1, 2]
    bcast_S8x1x1024_S8x4096x1024_0_1_2 (broadcastInDim S8x1x1024 ![0, 2] bcast_S8x1024_S8x1x1024_0_2
      (shapeCast _ (extractStridedSlice S8x1x1024 ![0, 5, 0] a2 slices_S16x6x1024_S8x1x1024_0_5_0) shapeCasts_S8x1x1024_S8x1024)))
    (addf (Host.dotGeneral dot_S8x4096x2560_S2560x1024_S8x4096x1024_2_0_01_1_n_n none g a7)
      (broadcastInDim S8x4096x1024 ![0, 1, 2] bcast_S1x1x1024_S8x4096x1024_0_1_2
        (broadcastInDim S1x1x1024 ![2] bcast_S1024_S1x1x1024_2 a8))))

/-- The norm. -/
def rmsR (x : FVec Ideal S8x4096x1024 .f32) (a9 : FVec Ideal S1024 .f32) : FVec Ideal S8x4096x1024 .f32 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 a9))

/-! ## The parts at an index -/

/-- The up projection, token by token. -/
theorem upR_at (a0 : FVec Ideal S32768x1024 .bf16) (a3 : FVec Ideal S1024x5120 .f32) (a4 : FVec Ideal S5120 .f32)
    (b : Fin 8) (y x : Fin 64) (c : Fin 5120) : upR a0 a3 a4 (ix4 b y x c)
      = (∑ k : Fin 1024, a0 (ix2 ⟨b * 4096 + (y * 64 + x), by omega⟩ k) * a3 (ix2 k c)) + a4 (ix1 c) := by
  pointwise [upR]

/-- The padded grid: zero in the first and last row and column, the up projection elsewhere. -/
theorem padR_at (u : FVec Ideal S8x64x64x5120 .f32) (b : Fin 8) (y x : Fin 66) (c : Fin 5120) :
    padR u (ix4 b y x c) = if h : (1 ≤ y.val ∧ y.val ≤ 64) ∧ (1 ≤ x.val ∧ x.val ≤ 64)
      then u (ix4 b ⟨y - 1, by omega⟩ ⟨x - 1, by omega⟩ c) else 0 := by
  pointwise [padR]
  rw [sitofp_zero]
  by_cases hx : 1 ≤ x.val ∧ x.val ≤ 64
  · by_cases hy : 1 ≤ y.val ∧ y.val ≤ 64
    · rw [dif_pos (by omega), dif_pos (by omega), dif_pos ⟨hy, hx⟩]
    · rw [dif_pos (by omega), dif_neg (by omega), dif_neg (by omega)]
  · rw [dif_neg (by omega), dif_neg (by omega)]

/-- One product of the convolution, at a place of the grid. -/
theorem tapR_at (i j : ℕ) (hi : i < 3) (hj : j < 3) (p : FVec Ideal S8x66x66x5120 .f32) (w : FVec Ideal S3x3x5120 .f32)
    (hp : S8x66x66x5120.Slices ![0, i, j, 0] S8x64x64x5120) (hw : S3x3x5120.Slices ![i, j, 0] S1x1x5120)
    (b : Fin 8) (y x : Fin 64) (c : Fin 5120) :
    tapR i j p w hp hw (ix4 b y x c) = p (ix4 b ⟨i + y, by omega⟩ ⟨j + x, by omega⟩ c) * w (ix3 ⟨i, hi⟩ ⟨j, hj⟩ c) := by
  pointwise [tapR]

/-- The convolution with its bias, token by token. -/
theorem biasR_at (s : FVec Ideal S8x64x64x5120 .f32) (a6 : FVec Ideal S5120 .f32) (b : Fin 8) (t : Fin 4096) (c : Fin 5120) :
    biasR s a6 (ix3 b t c) = s (ix4 b ⟨t / 64, by omega⟩ ⟨t % 64, by omega⟩ c) + a6 (ix1 c) := by
  pointwise [biasR]

/-- The sum of the products starts from zero. -/
theorem zeroR_at (i : S8x64x64x5120.Idx) : zeroR i = 0 := by
  pointwise [zeroR]

/-- The gated activation. -/
theorem gateR_at (v : FVec Ideal S8x4096x5120 .f32) (b : Fin 8) (t : Fin 4096) (e : Fin 2560) :
    gateR v (ix3 b t e) = v (ix3 b t ⟨e, by omega⟩)
      * (v (ix3 b t ⟨2560 + e, by omega⟩) * Ideal.logistic (v (ix3 b t ⟨2560 + e, by omega⟩))) := by
  unfold Ideal.logistic
  pointwise [gateR]

/-- The gated residual, after the down projection. -/
theorem residR_at (g : FVec Ideal S8x4096x2560 .f32) (a1 : FVec Ideal S32768x1024 .f32) (a2 : FVec Ideal S16x6x1024 .f32)
    (a7 : FVec Ideal S2560x1024 .f32) (a8 : FVec Ideal S1024 .f32) (b : Fin 8) (t : Fin 4096) (d : Fin 1024) :
    residR g a1 a2 a7 a8 (ix3 b t d) = resid (fun d => ∑ e : Fin 2560, g (ix3 b t e) * a7 (ix2 e d))
      (fun d => a1 (ix2 (tok b t) d)) (fun d => a2 (ix3 ⟨b, by omega⟩ 5 d)) (fun d => a8 (ix1 d)) d := by
  unfold resid tok
  pointwise [residR]

/-- The final norm. -/
theorem rmsR_at (x : FVec Ideal S8x4096x1024 .f32) (a9 : FVec Ideal S1024 .f32) (b : Fin 8) (t : Fin 4096) (d : Fin 1024) :
    rmsR x a9 (ix3 b t d) = rms (fun d => x (ix3 b t d)) (fun d => a9 (ix1 d)) d := by
  unfold rms
  pointwise [rmsR]

/-! ## All together -/

/-- The nine taps. -/
def convR (p : FVec Ideal S8x66x66x5120 .f32) (w : FVec Ideal S3x3x5120 .f32) : FVec Ideal S8x64x64x5120 .f32 :=
  addf (addf (addf (addf (addf (addf (addf (addf (addf zeroR
      (tapR 0 0 p w slices_S8x66x66x5120_S8x64x64x5120_0_0_0_0 slices_S3x3x5120_S1x1x5120_0_0_0))
      (tapR 0 1 p w slices_S8x66x66x5120_S8x64x64x5120_0_0_1_0 slices_S3x3x5120_S1x1x5120_0_1_0))
      (tapR 0 2 p w slices_S8x66x66x5120_S8x64x64x5120_0_0_2_0 slices_S3x3x5120_S1x1x5120_0_2_0))
      (tapR 1 0 p w slices_S8x66x66x5120_S8x64x64x5120_0_1_0_0 slices_S3x3x5120_S1x1x5120_1_0_0))
      (tapR 1 1 p w slices_S8x66x66x5120_S8x64x64x5120_0_1_1_0 slices_S3x3x5120_S1x1x5120_1_1_0))
      (tapR 1 2 p w slices_S8x66x66x5120_S8x64x64x5120_0_1_2_0 slices_S3x3x5120_S1x1x5120_1_2_0))
      (tapR 2 0 p w slices_S8x66x66x5120_S8x64x64x5120_0_2_0_0 slices_S3x3x5120_S1x1x5120_2_0_0))
      (tapR 2 1 p w slices_S8x66x66x5120_S8x64x64x5120_0_2_1_0 slices_S3x3x5120_S1x1x5120_2_1_0))
      (tapR 2 2 p w slices_S8x66x66x5120_S8x64x64x5120_0_2_2_0 slices_S3x3x5120_S1x1x5120_2_2_0)

section
variable (a0 : FVec Ideal S32768x1024 .bf16) (a1 : FVec Ideal S32768x1024 .f32) (a2 : FVec Ideal S16x6x1024 .f32)
  (a3 : FVec Ideal S1024x5120 .f32) (a4 : FVec Ideal S5120 .f32) (a5 : FVec Ideal S3x3x5120 .f32) (a6 : FVec Ideal S5120 .f32)
  (a7 : FVec Ideal S2560x1024 .f32) (a8 : FVec Ideal S1024 .f32) (a9 : FVec Ideal S1024 .f32)

/-- The padded grid is the layer's. -/
theorem pad_eq (b : Fin 8) (y x : Fin 66) (c : Fin 5120) :
    padR (upR a0 a3 a4) (ix4 b y x c) = (args a0 a1 a2 a3 a4 a5 a6 a7 a8 a9).pad b y x c := by
  rw [padR_at]
  unfold Args.pad
  split
  · rw [upR_at]
    have e : (⟨b.val * 4096 + ((y.val - 1) * 64 + (x.val - 1)), by omega⟩ : Fin 32768)
        = tok b ⟨64 * (y.val - 1) + (x.val - 1), by omega⟩ :=
      Fin.ext (show b.val * 4096 + ((y.val - 1) * 64 + (x.val - 1)) = b.val * 4096 + (64 * (y.val - 1) + (x.val - 1)) by omega)
    show (∑ k : Fin 1024, a0 (ix2 ⟨b.val * 4096 + ((y.val - 1) * 64 + (x.val - 1)), _⟩ k) * a3 (ix2 k c)) + a4 (ix1 c) = _
    rw [e]
    rfl
  · rfl

/-- A product of the convolution is the layer's. -/
theorem tap_eq (i j k : ℕ) (hk : k < 9) (hi : i < 3) (hj : j < 3) (hik : i = k / 3) (hjk : j = k % 3)
    (hp : S8x66x66x5120.Slices ![0, i, j, 0] S8x64x64x5120) (hw : S3x3x5120.Slices ![i, j, 0] S1x1x5120)
    (b : Fin 8) (y x : Fin 64) (c : Fin 5120) :
    tapR i j (padR (upR a0 a3 a4)) a5 hp hw (ix4 b y x c)
      = (args a0 a1 a2 a3 a4 a5 a6 a7 a8 a9).pad b (y + k / 3) (x + k % 3) c
        * (args a0 a1 a2 a3 a4 a5 a6 a7 a8 a9).cw ⟨k / 3, by omega⟩ ⟨k % 3, by omega⟩ c := by
  subst hik hjk
  rw [tapR_at (k / 3) (k % 3) hi hj, pad_eq a0 a1 a2 a3 a4 a5 a6 a7 a8 a9]
  show (args a0 a1 a2 a3 a4 a5 a6 a7 a8 a9).pad b (k / 3 + y.val) (k % 3 + x.val) c * _ = _
  rw [Nat.add_comm (k / 3), Nat.add_comm (k % 3)]
  rfl

/-- The convolution is the layer's. -/
theorem conv_eq (b : Fin 8) (t : Fin 4096) (c : Fin 5120) :
    biasR (convR (padR (upR a0 a3 a4)) a5) a6 (ix3 b t c)
      = (args a0 a1 a2 a3 a4 a5 a6 a7 a8 a9).conv b (t / 64) (t % 64) c := by
  have T := fun (i j k : ℕ) (hk : k < 9) (hi : i < 3) (hj : j < 3) (hik : i = k / 3) (hjk : j = k % 3) hp hw =>
    tap_eq a0 a1 a2 a3 a4 a5 a6 a7 a8 a9 i j k hk hi hj hik hjk hp hw b ⟨t / 64, by omega⟩ ⟨t % 64, by omega⟩ c
  rw [biasR_at]
  unfold convR
  simp only [addf_apply, zeroR_at]
  rw [T 0 0 0 (by decide) (by decide) (by decide) rfl rfl, T 0 1 1 (by decide) (by decide) (by decide) rfl rfl,
    T 0 2 2 (by decide) (by decide) (by decide) rfl rfl, T 1 0 3 (by decide) (by decide) (by decide) rfl rfl,
    T 1 1 4 (by decide) (by decide) (by decide) rfl rfl, T 1 2 5 (by decide) (by decide) (by decide) rfl rfl,
    T 2 0 6 (by decide) (by decide) (by decide) rfl rfl, T 2 1 7 (by decide) (by decide) (by decide) rfl rfl,
    T 2 2 8 (by decide) (by decide) (by decide) rfl rfl]
  rfl

/-- The layer's output, of all the parts. -/
def outR : FVec Ideal S8x4096x1024 .f32 :=
  rmsR (residR (gateR (biasR (convR (padR (upR a0 a3 a4)) a5) a6)) a1 a2 a7 a8) a9

/-- The reference's output is the layer's, token by token. -/
theorem outR_at (b : Fin 8) (t : Fin 4096) (d : Fin 1024) :
    outR a0 a1 a2 a3 a4 a5 a6 a7 a8 a9 (ix3 b t d) = (args a0 a1 a2 a3 a4 a5 a6 a7 a8 a9).out b t d := by
  unfold outR
  simp only [rmsR_at, residR_at, gateR_at, conv_eq a0 a1 a2 a3 a4 a5 a6 a7 a8 a9]
  rfl

/-- The output as rows of tokens. -/
theorem rows_at (x : FVec Ideal S8x4096x1024 .f32) (b : Fin 8) (t : Fin 4096) (d : Fin 1024) :
    shapeCast S32768x1024 x shapeCasts_S8x4096x1024_S32768x1024 (ix2 (tok b t) d) = x (ix3 b t d) := by
  have e : ∀ n : Fin 32768, shapeCast S32768x1024 x shapeCasts_S8x4096x1024_S32768x1024 (ix2 n d)
      = x (ix3 ⟨n / 4096, by omega⟩ ⟨n % 4096, by omega⟩ d) := fun n => by pointwise []
  rw [e]
  have e1 : (⟨(tok b t).val / 4096, by omega⟩ : Fin 8) = b :=
    Fin.ext (show (b.val * 4096 + t.val) / 4096 = b.val by omega)
  have e2 : (⟨(tok b t).val % 4096, by omega⟩ : Fin 4096) = t :=
    Fin.ext (show (b.val * 4096 + t.val) % 4096 = t.val by omega)
  rw [e1, e2]
end

section
variable (V0 : Valuation τ sig (Elt Ideal))

/-- The reference's arrays. -/
def argsV : Args := args (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5))
  (V0 (Proc.devRef .tc main_arg6)) (V0 (Proc.devRef .tc main_arg7)) (V0 (Proc.devRef .tc main_arg8))
  (V0 (Proc.devRef .tc main_arg9))

/-- The padded grid, as the program names it. -/
theorem v8_eq : res_main_v8 V0 = padR (upR (V0 (Proc.devRef .tc main_arg0)) (V0 (Proc.devRef .tc main_arg3))
    (V0 (Proc.devRef .tc main_arg4))) := rfl

/-- The convolution, as the program names it. -/
theorem v76_eq : res_main_v76 V0 = biasR (convR (res_main_v8 V0) (V0 (Proc.devRef .tc main_arg5)))
    (V0 (Proc.devRef .tc main_arg6)) := rfl

/-- The gated residual, as the program names it. -/
theorem v91_eq : res_main_v91 V0 = residR (gateR (res_main_v76 V0)) (V0 (Proc.devRef .tc main_arg1))
    (V0 (Proc.devRef .tc main_arg2)) (V0 (Proc.devRef .tc main_arg7)) (V0 (Proc.devRef .tc main_arg8)) := rfl

/-- The program's result is the layer's output, token by token. -/
theorem val2_at (b : Fin 8) (t : Fin 4096) (d : Fin 1024) :
    (val2 V0 (Proc.devRef .tc main_v105) : FVec Ideal S32768x1024 .f32) (ix2 (tok b t) d) = (argsV V0).out b t d := by
  have e : (val2 V0 (Proc.devRef .tc main_v105) : FVec Ideal S32768x1024 .f32)
      = shapeCast S32768x1024 (rmsR (res_main_v91 V0) (V0 (Proc.devRef .tc main_arg9))) shapeCasts_S8x4096x1024_S32768x1024 :=
    val2_main_v105 V0
  rw [e, rows_at, v91_eq, v76_eq, v8_eq]
  exact outR_at _ _ _ _ _ _ _ _ _ _ b t d
end

end Cert.FfnReferenceIdeal.Conv

end
-- ==== Proof.FfnBlocks.lean ====
module

public import proofs.«01_k».proof.Proof.FfnMath
public import proofs.«01_k».proof.Proof.FfnRef
public import proofs.«01_k».proof.Proof.Gen.FfnIdeal.Value

@[expose] public section

set_option maxRecDepth 16384

/-! The blocks that a point of the feed-forward kernel reads are the arrays' at its tokens. -/

noncomputable section

namespace Cert.FfnIdeal.Body

open Idealize.ShloMosaic.TcCoe Idealize.ShloMosaic Idealize.ShloMosaic.Pipeline Idealize.SL.Sem Cert.FfnIdeal Cert.FfnIdeal.Gen Cert.Conv

variable (m : (ℓ : Loc nD τ sig) → Buf (Elt Ideal) ℓ) (c : Dev nD)

/-! ## Where the windows lie -/

/-- Where window 0 lies at each point. -/
theorem idx0 : ∀ t : Fin cfg0.N, win0_0.index t = ![t.val, 0] := (by decide +kernel : ∀ t : Fin grid0.N, _)
/-- Where window 1 lies at each point. -/
theorem idx1 : ∀ t : Fin cfg0.N, win0_1.index t = ![16 * t.val - 1, 0] := (by decide +kernel : ∀ t : Fin grid0.N, _)
/-- Where window 2 lies at each point. -/
theorem idx2 : ∀ t : Fin cfg0.N, win0_2.index t = ![min (16 * t.val + 16) 511, 0] := (by decide +kernel : ∀ t : Fin grid0.N, _)
/-- Where window 3 lies at each point. -/
theorem idx3 : ∀ t : Fin cfg0.N, win0_3.index t = ![t.val, 0] := (by decide +kernel : ∀ t : Fin grid0.N, _)
/-- Where window 4 lies at each point. -/
theorem idx4 : ∀ t : Fin cfg0.N, win0_4.index t = ![t.val / 4, 0, 0] := (by decide +kernel : ∀ t : Fin grid0.N, _)
/-- Where window 5 lies at each point. -/
theorem idx5 : ∀ t : Fin cfg0.N, win0_5.index t = ![0, 0, 0] := (by decide +kernel : ∀ t : Fin grid0.N, _)
/-- Where window 6 lies at each point. -/
theorem idx6 : ∀ t : Fin cfg0.N, win0_6.index t = ![0, 0, 0] := (by decide +kernel : ∀ t : Fin grid0.N, _)
/-- Where window 7 lies at each point. -/
theorem idx7 : ∀ t : Fin cfg0.N, win0_7.index t = ![0, 0, 0, 0] := (by decide +kernel : ∀ t : Fin grid0.N, _)
/-- Where window 8 lies at each point. -/
theorem idx8 : ∀ t : Fin cfg0.N, win0_8.index t = ![0, 0, 0] := (by decide +kernel : ∀ t : Fin grid0.N, _)
/-- Where window 9 lies at each point. -/
theorem idx9 : ∀ t : Fin cfg0.N, win0_9.index t = ![0, 0, 0] := (by decide +kernel : ∀ t : Fin grid0.N, _)
/-- Where window 10 lies at each point. -/
theorem idx10 : ∀ t : Fin cfg0.N, win0_10.index t = ![0, 0] := (by decide +kernel : ∀ t : Fin grid0.N, _)
/-- Where window 11 lies at each point. -/
theorem idx11 : ∀ t : Fin cfg0.N, win0_11.index t = ![0, 0] := (by decide +kernel : ∀ t : Fin grid0.N, _)
/-- Where window 12 lies at each point. -/
theorem idx12 : ∀ t : Fin cfg0.N, win0_12.index t = ![t.val, 0] := (by decide +kernel : ∀ t : Fin grid0.N, _)
/-- The output is written back at every point. -/
theorem flush12 : ∀ t : Fin cfg0.N, (cfg0.win 12).flush t = true := (by decide +kernel : ∀ t : Fin grid0.N, _)
/-- A point is the quarter of an image that its number leaves over four. -/
theorem quarter : ∀ t : Fin cfg0.N, ((grid0.coords t) 1).val = t.val % 4 := (by decide +kernel : ∀ t : Fin grid0.N, _)

/-! ## What they read -/

section
variable (t : Fin cfg0.N)

/-- There are 32 points. -/
theorem lt32 : t.val < 32 := t.isLt

/-- The point's own tokens. -/
theorem blk0 (n k : Fin 1024) : (iblk m c 0 t : Vec Ideal S1024x1024 .bf16) (ix2 n k)
    = (V m c main_arg0 : Vec Ideal S32768x1024 .bf16) (ix2 ⟨t * 1024 + n, by have := lt32 t; omega⟩ k) := by
  blk_ext [iblk, idx0 t]

/-- The row of tokens above them (at the first point, the first row). -/
theorem blk1 (n : Fin 64) (k : Fin 1024) : (iblk m c 1 t : Vec Ideal S64x1024 .bf16) (ix2 n k)
    = (V m c main_arg0 : Vec Ideal S32768x1024 .bf16) (ix2 ⟨(16 * t - 1) * 64 + n, by have := lt32 t; omega⟩ k) := by
  blk_ext [iblk, idx1 t]

/-- The row of tokens below them (at the last point, the last row). -/
theorem blk2 (n : Fin 64) (k : Fin 1024) : (iblk m c 2 t : Vec Ideal S64x1024 .bf16) (ix2 n k)
    = (V m c main_arg0 : Vec Ideal S32768x1024 .bf16) (ix2 ⟨min (16 * t.val + 16) 511 * 64 + n, by omega⟩ k) := by
  blk_ext [iblk, idx2 t]

/-- The mixed stream at the point's tokens. -/
theorem blk3 (n k : Fin 1024) : (iblk m c 3 t : Vec Ideal S1024x1024 .f32) (ix2 n k)
    = (V m c main_arg1 : Vec Ideal S32768x1024 .f32) (ix2 ⟨t * 1024 + n, by have := lt32 t; omega⟩ k) := by
  blk_ext [iblk, idx3 t]

/-- The modulation of the point's batch element. -/
theorem blk4 (k : Fin 6) (d : Fin 1024) : (iblk m c 4 t : Vec Ideal S1x6x1024 .f32) (ix3 0 k d)
    = (V m c main_arg2 : Vec Ideal S16x6x1024 .f32) (ix3 ⟨t / 4, by have := lt32 t; omega⟩ k d) := by
  blk_ext [iblk, idx4 t]

/-- The packed array as a whole. -/
theorem blk5 (j : Fin 10) (k : Fin 1024) (x : Fin 512) : (iblk m c 5 t : Vec Ideal S10x1024x512 .bf16) (ix3 j k x)
    = (V m c main_v3 : Vec Ideal S10x1024x512 .bf16) (ix3 j k x) := by
  blk_ext [iblk, idx5 t]

/-- The packed array as a whole. -/
theorem blk6 (j : Fin 10) (x : Fin 512) : (iblk m c 6 t : Vec Ideal S10x1x512 .f32) (ix3 j 0 x)
    = (V m c main_v7 : Vec Ideal S10x1x512 .f32) (ix3 j 0 x) := by
  blk_ext [iblk, idx6 t]

/-- The packed array as a whole. -/
theorem blk7 (j : Fin 10) (k : Fin 9) (l : Fin 16) (x : Fin 512) : (iblk m c 7 t : Vec Ideal S10x9x16x512 .bf16) (ix4 j k l x)
    = (V m c main_v14 : Vec Ideal S10x9x16x512 .bf16) (ix4 j k l x) := by
  blk_ext [iblk, idx7 t]

/-- The packed array as a whole. -/
theorem blk8 (j : Fin 10) (l : Fin 16) (x : Fin 512) : (iblk m c 8 t : Vec Ideal S10x16x512 .bf16) (ix3 j l x)
    = (V m c main_v20 : Vec Ideal S10x16x512 .bf16) (ix3 j l x) := by
  blk_ext [iblk, idx8 t]

/-- The packed array as a whole. -/
theorem blk9 (j : Fin 10) (k : Fin 256) (d : Fin 1024) : (iblk m c 9 t : Vec Ideal S10x256x1024 .bf16) (ix3 j k d)
    = (V m c main_v22 : Vec Ideal S10x256x1024 .bf16) (ix3 j k d) := by
  blk_ext [iblk, idx9 t]

/-- The packed array as a whole. -/
theorem blk10 (d : Fin 1024) : (iblk m c 10 t : Vec Ideal S1x1024 .f32) (ix2 0 d)
    = (V m c main_v23 : Vec Ideal S1x1024 .f32) (ix2 0 d) := by
  blk_ext [iblk, idx10 t]

/-- The packed array as a whole. -/
theorem blk11 (d : Fin 1024) : (iblk m c 11 t : Vec Ideal S1x1024 .f32) (ix2 0 d)
    = (V m c main_v24 : Vec Ideal S1x1024 .f32) (ix2 0 d) := by
  blk_ext [iblk, idx11 t]

/-- A block of the output is the rows of its tokens. -/
theorem read12 (X : Vec Ideal S32768x1024 .f32) (n d : Fin 1024) :
    (((cfg0.win 12).blk t).view.read (Elt Ideal) X : Vec Ideal S1024x1024 .f32) (ix2 n d)
      = X (ix2 ⟨t * 1024 + n, by have := lt32 t; omega⟩ d) := by
  blk_ext [idx12 t]
end

/-! ## The arrays that the host packs -/

/-- A channel of a group, value or gate, as a column of the weights. -/
theorem chan_eq (j : ℕ) (hj : j < 10) (x : Fin 512) : chan j hj x = ⟨x / 256 * 2560 + j * 256 + x % 256, by omega⟩ := by
  unfold chan
  apply Fin.ext
  split
  · show 256 * j + x.val = x.val / 256 * 2560 + j * 256 + x.val % 256
    omega
  · show 2560 + (256 * j + (x.val - 256)) = x.val / 256 * 2560 + j * 256 + x.val % 256
    omega

/-- The packed up projection. -/
theorem v3_at (j : Fin 10) (k : Fin 1024) (x : Fin 512) : (V m c main_v3 : Vec Ideal S10x1024x512 .bf16) (ix3 j k x)
    = (m ((c : Thread nD τ).loc main_arg3) : Vec Ideal S1024x5120 .f32) (ix2 k (chan j j.isLt x)) := by
  rw [chan_eq]
  entry_read
  pointwise []

/-- The packed bias. -/
theorem v7_at (j : Fin 10) (x : Fin 512) : (V m c main_v7 : Vec Ideal S10x1x512 .f32) (ix3 j 0 x)
    = (m ((c : Thread nD τ).loc main_arg4) : Vec Ideal S5120 .f32) (ix1 (chan j j.isLt x)) := by
  rw [chan_eq]
  entry_read
  pointwise []

/-- The packed convolution weights, repeated over 16 rows. -/
theorem v14_at (j : Fin 10) (k : Fin 9) (l : Fin 16) (x : Fin 512) :
    (V m c main_v14 : Vec Ideal S10x9x16x512 .bf16) (ix4 j k l x)
    = (m ((c : Thread nD τ).loc main_arg5) : Vec Ideal S3x3x5120 .f32) (ix3 ⟨k / 3, by omega⟩ ⟨k % 3, by omega⟩ (chan j j.isLt x)) := by
  rw [chan_eq]
  entry_read
  pointwise []

/-- The packed convolution bias, repeated over 16 rows. -/
theorem v20_at (j : Fin 10) (l : Fin 16) (x : Fin 512) : (V m c main_v20 : Vec Ideal S10x16x512 .bf16) (ix3 j l x)
    = (m ((c : Thread nD τ).loc main_arg6) : Vec Ideal S5120 .f32) (ix1 (chan j j.isLt x)) := by
  rw [chan_eq]
  entry_read
  pointwise []

/-- The packed down projection. -/
theorem v22_at (j : Fin 10) (k : Fin 256) (d : Fin 1024) : (V m c main_v22 : Vec Ideal S10x256x1024 .bf16) (ix3 j k d)
    = (m ((c : Thread nD τ).loc main_arg7) : Vec Ideal S2560x1024 .f32) (ix2 ⟨256 * j + k, by omega⟩ d) := by
  entry_read
  pointwise []
  exact congrArg (fun r => (m ((c : Thread nD τ).loc main_arg7) : Vec Ideal S2560x1024 .f32) (ix2 r d))
    (Fin.ext (show j.val * 256 + k.val = 256 * j.val + k.val by omega))

/-- The down projection's bias. -/
theorem v23_at (d : Fin 1024) : (V m c main_v23 : Vec Ideal S1x1024 .f32) (ix2 0 d)
    = (m ((c : Thread nD τ).loc main_arg8) : Vec Ideal S1024 .f32) (ix1 d) := by
  entry_read
  pointwise []

/-- The final norm's weights. -/
theorem v24_at (d : Fin 1024) : (V m c main_v24 : Vec Ideal S1x1024 .f32) (ix2 0 d)
    = (m ((c : Thread nD τ).loc main_arg9) : Vec Ideal S1024 .f32) (ix1 d) := by
  entry_read
  pointwise []

end Cert.FfnIdeal.Body

end
-- ==== Proof.FfnPoints.lean ====
module

public import proofs.«01_k».proof.Proof.FfnBlocks

@[expose] public section

set_option maxRecDepth 16384

/-! What a point of the feed-forward kernel loads and leaves, and the array that the points leave together. -/

noncomputable section

namespace Cert.FfnIdeal.Body

open Idealize.ShloMosaic.TcCoe Idealize.ShloMosaic Idealize.ShloMosaic.Pipeline Idealize.SL.Sem Cert.FfnIdeal Cert.FfnIdeal.Gen Cert.Conv

variable (m : (ℓ : Loc nD τ sig) → Buf (Elt Ideal) ℓ) (c : Dev nD)

/-! ## A point's blocks -/

/-- The kernel's arrays. -/
def argsK : Args := Cert.FfnReferenceIdeal.Conv.args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The blocks of a point, as it loads them. -/
def inpT (t : Fin cfg0.N) : Inp := inpOf (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- A load of a whole memory, at an index. -/
theorem load_at {s : Shape} {e : EltTy} (a : Memref sig .tc .vmem s e) (ha : a.IsWhole) (x : Vec Ideal s e) (R : Rect s) :
    View.readAt (Elt Ideal) a.view R.toLoadRect (ha.unread x) = fun j => x (R.emb j) := by
  funext j
  exact congrFun (Memref.IsWhole.read_unread ha x) (R.emb j)

/-! ### The rows of tokens -/

/-- The indices of the row above. -/
theorem hcTop_emb (n : Fin 64) (k : Fin 1024) : ix2 ⟨n, by omega⟩ k = hcTop.emb (ix2 n k) := by
  funext a
  apply Fin.ext
  match a with
  | ⟨0, _⟩ => show n.val = 0 + 1 * n.val; omega
  | ⟨1, _⟩ => show k.val = 0 + 1 * k.val; omega

/-- The indices of the point's own rows. -/
theorem hcMid_emb (n : Fin 1024) (k : Fin 1024) : ix2 ⟨64 + n, by omega⟩ k = hcMid.emb (ix2 n k) := by
  funext a
  apply Fin.ext
  match a with
  | ⟨0, _⟩ => show 64 + n.val = 64 + 1 * n.val; omega
  | ⟨1, _⟩ => show k.val = 0 + 1 * k.val; omega

/-- The indices of the row below. -/
theorem hcBot_emb (n : Fin 64) (k : Fin 1024) : ix2 ⟨1088 + n, by omega⟩ k = hcBot.emb (ix2 n k) := by
  funext a
  apply Fin.ext
  match a with
  | ⟨0, _⟩ => show 1088 + n.val = 1088 + 1 * n.val; omega
  | ⟨1, _⟩ => show k.val = 0 + 1 * k.val; omega

/-- The indices of all rows. -/
theorem hcAll_emb (n : Fin 1152) (k : Fin 1024) : hcAll.emb (ix2 n k) = ix2 n k := by
  funext a
  apply Fin.ext
  match a with
  | ⟨0, _⟩ => show 0 + 1 * n.val = n.val; omega
  | ⟨1, _⟩ => show 0 + 1 * k.val = k.val; omega

section
variable (h : FVec Ideal S1024x1024 .bf16) (hp hn : FVec Ideal S64x1024 .bf16)

/-- The last 64 rows of tokens are the block below. -/
theorem canon_bot (n : Fin 64) (k : Fin 1024) : View.canon (hcL h hp hn) (ix2 ⟨1088 + n, by omega⟩ k) = hn (ix2 n k) := by
  unfold hcL
  rw [hcBot_emb, View.canon_cons_emb hcBot _ _ (ix2 n k)]
  pointwise []

/-- The rows between are the point's own block. -/
theorem canon_mid (n k : Fin 1024) : View.canon (hcL h hp hn) (ix2 ⟨64 + n, by omega⟩ k) = h (ix2 n k) := by
  unfold hcL
  rw [View.canon_cons_of_not_mem _ _ fun hm => by
    have h0 : 1088 ≤ 64 + n.val ∧ 64 + n.val < 1088 + 64 := (Rect.mem_set_unit (inb := fun a => by fin_cases a <;> decide)).mp hm 0
    omega]
  rw [hcMid_emb, View.canon_cons_emb hcMid _ _ (ix2 n k)]
  pointwise []

/-- The first 64 rows are the block above. -/
theorem canon_top (n : Fin 64) (k : Fin 1024) : View.canon (hcL h hp hn) (ix2 ⟨n, by omega⟩ k) = hp (ix2 n k) := by
  unfold hcL
  rw [View.canon_cons_of_not_mem _ _ fun hm => by
    have h0 : 1088 ≤ n.val ∧ n.val < 1088 + 64 := (Rect.mem_set_unit (inb := fun a => by fin_cases a <;> decide)).mp hm 0
    omega]
  rw [View.canon_cons_of_not_mem _ _ fun hm => by
    have h0 : 64 ≤ n.val ∧ n.val < 64 + 1024 := (Rect.mem_set_unit (inb := fun a => by fin_cases a <;> decide)).mp hm 0
    omega]
  rw [hcTop_emb, View.canon_cons_emb hcTop _ _ (ix2 n k)]
  pointwise []
end

section
variable (t : Fin cfg0.N)

/-- A load of all of a two-axis block is the block. -/
theorem whole2 {A B : ℕ} {e : EltTy} (x : Vec Ideal ⟨2, ![A, B]⟩ e) (inb) :
    (fun j => x ((Rect.unit (s := ⟨2, ![A, B]⟩) ![0, 0] (⟨2, ![A, B]⟩ : Shape).size inb).emb j)) = x := by
  funext j
  refine congrArg _ (funext fun a => Fin.ext ?_)
  match a with
  | ⟨0, _⟩ => show 0 + 1 * (j 0).val = (j 0).val; omega
  | ⟨1, _⟩ => show 0 + 1 * (j 1).val = (j 1).val; omega

/-- The rows of tokens as the point loads them. -/
theorem inp_h (n : Fin 1152) (k : Fin 1024) : (inpT m c t).h (ix2 n k)
    = View.canon (hcL (iblk m c 0 t) (iblk m c 1 t) (iblk m c 2 t)) (ix2 n k) := by
  unfold inpT inpOf
  dsimp only
  rw [View.readCov_eq_canon', load_at, load_at, load_at]
  refine (congrArg _ (hcAll_emb n k)).trans ?_
  exact congrFun (congrArg View.canon (congr (congr (congrArg hcL (whole2 (A := 1024) (B := 1024) (iblk m c 0 t) _)) (whole2 (A := 64) (B := 1024) (iblk m c 1 t) _)) (whole2 (A := 64) (B := 1024) (iblk m c 2 t) _))) (ix2 n k)

/-! ### The packed weights and the rest -/

/-- A group's up projection is a block of the packed weights. -/
theorem inp_wu (j : ℕ) (hj : j < 10) (k : Fin 1024) (x : Fin 512) : (inpT m c t).wu j hj (ix3 0 k x) = (iblk m c 5 t : Vec Ideal S10x1024x512 .bf16) (ix3 ⟨j, hj⟩ k x) := by
  unfold inpT inpOf
  dsimp only
  rw [load_at]
  refine congrArg _ (funext fun a => Fin.ext ?_)
  match a with
  | ⟨0, _⟩ => show j + 1 * 0 = j; omega
  | ⟨1, _⟩ => show 0 + 1 * k.val = k.val; omega
  | ⟨2, _⟩ => show 0 + 1 * x.val = x.val; omega

/-- A group's bias. -/
theorem inp_bu (j : ℕ) (hj : j < 10) (x : Fin 512) : (inpT m c t).bu j hj (ix3 0 0 x) = (iblk m c 6 t : Vec Ideal S10x1x512 .f32) (ix3 ⟨j, hj⟩ 0 x) := by
  unfold inpT inpOf
  dsimp only
  rw [load_at]
  refine congrArg _ (funext fun a => Fin.ext ?_)
  match a with
  | ⟨0, _⟩ => show j + 1 * 0 = j; omega
  | ⟨1, _⟩ => show 0 + 1 * 0 = 0; omega
  | ⟨2, _⟩ => show 0 + 1 * x.val = x.val; omega

/-- A group's convolution weights. -/
theorem inp_cw (j k : ℕ) (hj : j < 10) (hk : k < 9) (l : Fin 16) (x : Fin 512) : (inpT m c t).cw j k hj hk (ix4 0 0 l x) = (iblk m c 7 t : Vec Ideal S10x9x16x512 .bf16) (ix4 ⟨j, hj⟩ ⟨k, hk⟩ l x) := by
  unfold inpT inpOf
  dsimp only
  rw [load_at]
  refine congrArg _ (funext fun a => Fin.ext ?_)
  match a with
  | ⟨0, _⟩ => show j + 1 * 0 = j; omega
  | ⟨1, _⟩ => show k + 1 * 0 = k; omega
  | ⟨2, _⟩ => show 0 + 1 * l.val = l.val; omega
  | ⟨3, _⟩ => show 0 + 1 * x.val = x.val; omega

/-- A group's convolution bias. -/
theorem inp_cb (j : ℕ) (hj : j < 10) (l : Fin 16) (x : Fin 512) : (inpT m c t).cb j hj (ix3 0 l x) = (iblk m c 8 t : Vec Ideal S10x16x512 .bf16) (ix3 ⟨j, hj⟩ l x) := by
  unfold inpT inpOf
  dsimp only
  rw [load_at]
  refine congrArg _ (funext fun a => Fin.ext ?_)
  match a with
  | ⟨0, _⟩ => show j + 1 * 0 = j; omega
  | ⟨1, _⟩ => show 0 + 1 * l.val = l.val; omega
  | ⟨2, _⟩ => show 0 + 1 * x.val = x.val; omega

/-- A group's down projection. -/
theorem inp_wd (j : ℕ) (hj : j < 10) (e : Fin 256) (d : Fin 1024) : (inpT m c t).wd j hj (ix3 0 e d) = (iblk m c 9 t : Vec Ideal S10x256x1024 .bf16) (ix3 ⟨j, hj⟩ e d) := by
  unfold inpT inpOf
  dsimp only
  rw [load_at]
  refine congrArg _ (funext fun a => Fin.ext ?_)
  match a with
  | ⟨0, _⟩ => show j + 1 * 0 = j; omega
  | ⟨1, _⟩ => show 0 + 1 * e.val = e.val; omega
  | ⟨2, _⟩ => show 0 + 1 * d.val = d.val; omega

/-- The down projection's bias. -/
theorem inp_bd (d : Fin 1024) : (inpT m c t).bd (ix2 0 d) = (iblk m c 10 t : Vec Ideal S1x1024 .f32) (ix2 0 d) := by
  unfold inpT inpOf
  dsimp only
  rw [load_at]
  refine congrArg _ (funext fun a => Fin.ext ?_)
  match a with
  | ⟨0, _⟩ => show 0 + 1 * 0 = 0; omega
  | ⟨1, _⟩ => show 0 + 1 * d.val = d.val; omega

/-- The mixed stream. -/
theorem inp_x1 (n d : Fin 1024) : (inpT m c t).x1 (ix2 n d) = (iblk m c 3 t : Vec Ideal S1024x1024 .f32) (ix2 n d) := by
  unfold inpT inpOf
  dsimp only
  rw [load_at]
  refine congrArg _ (funext fun a => Fin.ext ?_)
  match a with
  | ⟨0, _⟩ => show 0 + 1 * n.val = n.val; omega
  | ⟨1, _⟩ => show 0 + 1 * d.val = d.val; omega

/-- The modulation's gate. -/
theorem inp_md (d : Fin 1024) : (inpT m c t).md (ix3 0 5 d) = (iblk m c 4 t : Vec Ideal S1x6x1024 .f32) (ix3 0 5 d) := by
  unfold inpT inpOf
  dsimp only
  rw [load_at]
  refine congrArg _ (funext fun a => Fin.ext ?_)
  match a with
  | ⟨0, _⟩ => show 0 + 1 * 0 = 0; omega
  | ⟨1, _⟩ => show 0 + 1 * 5 = 5; omega
  | ⟨2, _⟩ => show 0 + 1 * d.val = d.val; omega

/-- The final norm's weights. -/
theorem inp_fw (d : Fin 1024) : (inpT m c t).fw (ix2 0 d) = (iblk m c 11 t : Vec Ideal S1x1024 .f32) (ix2 0 d) := by
  unfold inpT inpOf
  dsimp only
  rw [load_at]
  refine congrArg _ (funext fun a => Fin.ext ?_)
  match a with
  | ⟨0, _⟩ => show 0 + 1 * 0 = 0; omega
  | ⟨1, _⟩ => show 0 + 1 * d.val = d.val; omega

/-! ### Together -/

/-- Rows with equal numbers are equal. -/
theorem row_eq (X : Vec Ideal S32768x1024 .bf16) (a b : Fin 32768) (h : a.val = b.val) (k : Fin 1024) : X (ix2 a k) = X (ix2 b k) := by
  rw [Fin.ext h]

/-- The rows of tokens that a point holds, where they are of its image. -/
theorem reads_h (n : Fin 1152) (k : Fin 1024) (s : Fin 4096) (hs : s.val + 64 = 1024 * (t.val % 4) + n) :
    (inpT m c t).h (ix2 n k) = (argsK m c).h ⟨t / 4, by have := lt32 t; omega⟩ s k := by
  have ht := lt32 t
  rw [inp_h]
  by_cases h1 : n.val < 64
  · rw [show n = ⟨(⟨n, h1⟩ : Fin 64).val, by omega⟩ from rfl, canon_top, blk1, V_main_arg0]
    refine row_eq _ _ _ ?_ k
    show (16 * t.val - 1) * 64 + n.val = t.val / 4 * 4096 + s.val
    omega
  · by_cases h2 : n.val < 1088
    · rw [show n = ⟨64 + (⟨n - 64, by omega⟩ : Fin 1024).val, by show 64 + (n.val - 64) < 1152; omega⟩ from Fin.ext (show n.val = 64 + (n.val - 64) by omega),
        canon_mid, blk0, V_main_arg0]
      refine row_eq _ _ _ ?_ k
      show t.val * 1024 + (n.val - 64) = t.val / 4 * 4096 + s.val
      omega
    · rw [show n = ⟨1088 + (⟨n - 1088, by omega⟩ : Fin 64).val, by show 1088 + (n.val - 1088) < 1152; omega⟩ from Fin.ext (show n.val = 1088 + (n.val - 1088) by omega),
        canon_bot, blk2, V_main_arg0]
      refine row_eq _ _ _ ?_ k
      show min (16 * t.val + 16) 511 * 64 + (n.val - 1088) = t.val / 4 * 4096 + s.val
      omega

/-- What a point loads is the arrays' at its rows. -/
theorem reads_at : Reads (argsK m c) ⟨t / 4, by have := lt32 t; omega⟩ (t % 4) (by omega) (inpT m c t) where
  h := reads_h m c t
  wu j hj k x := by rw [inp_wu, blk5, v3_at]; rfl
  bu j hj x := by rw [inp_bu, blk6, v7_at]; rfl
  cw j k hj hk l x := by rw [inp_cw, blk7, v14_at]; rfl
  cb j hj l x := by rw [inp_cb, blk8, v20_at]; rfl
  wd j hj e d := by rw [inp_wd, blk9, v22_at]; rfl
  bd d := by rw [inp_bd, blk10, v23_at]; rfl
  x1 n d := by
    have ht := lt32 t
    rw [inp_x1, blk3, V_main_arg1]
    refine congrArg (fun r => (m ((c : Thread nD τ).loc main_arg1) : Vec Ideal S32768x1024 .f32) (ix2 r d)) (Fin.ext ?_)
    show t.val * 1024 + n.val = t.val / 4 * 4096 + (1024 * (t.val % 4) + n.val)
    omega
  md d := by rw [inp_md, blk4, V_main_arg2]; rfl
  fw d := by rw [inp_fw, blk11, v24_at]; rfl

/-- A point's block. -/
theorem block_at (n d : Fin 1024) : ((dats m 0 c).flushed 12 t : Vec Ideal S1024x1024 .f32) (ix2 n d)
    = (argsK m c).out ⟨t / 4, by have := lt32 t; omega⟩ ⟨1024 * (t % 4) + n, by omega⟩ d := by
  have e0 : out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = View.canon _ :=
    View.read_writes_junk_eq_canon _ _
  rw [runA_o] at e0
  refine (congrFun (Value.flushed12_A m c t) (ix2 n d)).trans ?_
  refine (congrFun e0 (ix2 n d)).trans ?_
  exact point_out (argsK m c) _ (t % 4) (by omega) (inpT m c t) (grid0.coords t) (quarter t) (reads_at m c t) _ (rdOk _ _ _ _) n d
end

/-- The kernel's array, token by token. -/
theorem arr12_at (b : Fin 8) (s : Fin 4096) (d : Fin 1024) :
    ((dats m 0 c).arrAt 12 cfg0.N : Vec Ideal S32768x1024 .f32) (ix2 (tok b s) d) = (argsK m c).out b s d := by
  obtain ⟨t, ht⟩ : ∃ t : Fin cfg0.N, t.val = 4 * b + s / 1024 := ⟨⟨4 * b + s / 1024, by show _ < 32; omega⟩, rfl⟩
  obtain ⟨n, hn⟩ : ∃ n : Fin 1024, n.val = s % 1024 := ⟨⟨s % 1024, by omega⟩, rfl⟩
  have e : tok b s = ⟨t * 1024 + n, by have := lt32 t; omega⟩ := Fin.ext (show b.val * 4096 + s.val = t.val * 1024 + n.val by omega)
  have eb : (⟨t / 4, by have := lt32 t; omega⟩ : Fin 8) = b := Fin.ext (show t.val / 4 = b.val by omega)
  have es : (⟨1024 * (t % 4) + n, by omega⟩ : Fin 4096) = s := Fin.ext (show 1024 * (t.val % 4) + n.val = s.val by omega)
  rw [e]
  refine (read12 t _ n d).symm.trans ?_
  refine (congrFun (Value.blocks12 m c t (flush12 t)) (ix2 n d)).trans ?_
  rw [block_at, eb, es]

end Cert.FfnIdeal.Body

end
-- ==== Proof.FfnClaims.lean ====
module

public import proofs.«01_k».proof.Defs
public import proofs.«01_k».proof.Proof.FfnPoints
public import proofs.«01_k».proof.Proof.Gen.Ffn.Frame
public import proofs.«01_k».proof.Proof.Gen.FfnIdeal.Frame
public import Idealize.ShloMosaic.Adequacy
public import Idealize.ShloMosaic.Init

@[expose] public section

set_option maxRecDepth 16384

/-! The certificate's claims of the feed-forward call, one theorem each. -/

noncomputable section

namespace Cert.Conv

open Idealize.ShloMosaic.TcCoe Idealize.ShloMosaic Idealize.SL.Sem

/-- The feed-forward kernel terminates and leaves its arguments. -/
theorem frame_p : Cert.quiescent_Ffn := fun m ρ _ => Cert.Ffn.Gen.frame m ρ

/-- So does its idealization. -/
theorem frame_pi : Cert.quiescent_FfnIdeal := fun m ρ _ => Cert.FfnIdeal.Gen.frame m ρ

/-- The reference terminates and leaves its arguments. -/
theorem frame_ri : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The idealization replaces no operation. -/
theorem preserves : Cert.preserves_Ffn_FfnIdeal := trivial

/-- Arrays over all tokens are equal when they agree token by token. -/
theorem ext_tok (X Y : FVec Ideal ⟨2, ![32768, 1024]⟩ .f32) (h : ∀ (b : Fin 8) (s : Fin 4096) (d : Fin 1024), X (ix2 (tok b s) d) = Y (ix2 (tok b s) d)) :
    X = Y := by
  have key : ∀ (r : Fin 32768) (d : Fin 1024), X (ix2 r d) = Y (ix2 r d) := by
    intro r d
    have e : r = tok ⟨r / 4096, by omega⟩ ⟨r % 4096, by omega⟩ := Fin.ext (show r.val = r.val / 4096 * 4096 + r.val % 4096 by omega)
    rw [e]
    exact h _ _ _
  funext i
  have e : i = ix2 (i 0) (i 1) := by
    funext a
    match a with
    | ⟨0, _⟩ => rfl
    | ⟨1, _⟩ => rfl
  rw [e]
  exact key _ _

section
variable (m : (ℓ : Loc Cert.FfnIdeal.nD Cert.FfnIdeal.τ Cert.FfnIdeal.sig) → Buf (Elt Ideal) ℓ) (c : Dev Cert.FfnIdeal.nD)

/-- The reference's result is what the kernel leaves, of arguments that agree. -/
theorem out_eq (V0 : Valuation Cert.FfnReferenceIdeal.τ Cert.FfnReferenceIdeal.sig (Elt Ideal))
    (h : Cert.FfnReferenceIdeal.Conv.argsV V0 = Cert.FfnIdeal.Body.argsK m c) :
    (Cert.FfnReferenceIdeal.Value.val2 V0 (Proc.devRef .tc Cert.FfnReferenceIdeal.main_v105) : FVec Ideal ⟨2, ![32768, 1024]⟩ .f32)
      = (Cert.FfnIdeal.Gen.dats m 0 c).arrAt 12 Cert.FfnIdeal.cfg0.N :=
  ext_tok _ _ fun b s d => (Cert.FfnReferenceIdeal.Conv.val2_at V0 b s d).trans
    ((congrArg (fun A : Args => A.out b s d) h).trans (Cert.FfnIdeal.Body.arr12_at m c b s d).symm)
end

/-- Of arguments that agree, the kernel and the reference leave the same result. -/
theorem algebraic : Cert.algebraic_FfnIdeal_FfnReferenceIdeal := fun m ρ m' ρ' _ ha =>
  ⟨fun c => (Cert.FfnIdeal.Gen.dats m 0 c).arrAt 12 Cert.FfnIdeal.cfg0.N, Cert.FfnIdeal.Value.run_blocks m ρ,
    (θ_run Cert.FfnReferenceIdeal.defs _ _).mono
      (fun r hr c => ⟨(hr c).1.trans ((Cert.FfnReferenceIdeal.Value.val2_main_v105 _).symm.trans (out_eq m c _ (by
        obtain ⟨h0, h1, h2, h3, h4, h5, h6, h7, h8, h9⟩ := ha c
        unfold Cert.FfnReferenceIdeal.Conv.argsV Cert.FfnIdeal.Body.argsK
        rw [← h0, ← h1, ← h2, ← h3, ← h4, ← h5, ← h6, ← h7, ← h8, ← h9]))), (hr c).2⟩)
      (Cert.FfnReferenceIdeal.Value.run (F := Ideal) m' ρ')⟩

end Cert.Conv

end
-- ==== Proof.MixSpec.lean ====
module

public import proofs.«01_k».proof.Proof.FfnSpec

@[expose] public section

/-! What the join of the two mixers computes for one token, over the extended reals: the norm of each head, the skip and
the output gate, the transform along the channels, the output projection, the gated residual and the modulated norm. -/

noncomputable section

namespace Cert.Join

open Idealize.ShloMosaic

/-- The mean of a head's channels. -/
def mean (g : Fin 128 → EReal) : EReal := Ideal.div (∑ k, g k) (Ideal.ofBits .f32 0x43000000#32)

/-- A head's channels less their mean, over the root of their variance. -/
def hnorm (g : Fin 128 → EReal) (d : Fin 128) : EReal :=
  (g d - mean g) * Ideal.rsqrt (mean (fun k => (g k - mean g) * (g k - mean g)) + Ideal.ofBits .f32 0x358637BD#32)

/-- What is read for one token. -/
@[ext] structure Row where
  x : Fin 1024 → EReal
  gate : Fin 1024 → EReal
  shift : Fin 1024 → EReal
  scale : Fin 1024 → EReal
  p : Fin 512 → EReal
  q : Fin 512 → EReal
  hf : Fin 512 → EReal
  hb : Fin 512 → EReal
  a : Fin 512 → EReal
  z : Fin 512 → EReal
  nw : Fin 512 → EReal
  sk : Fin 512 → EReal
  wc : Fin 2 → Fin 512 → Fin 512 → EReal
  wo : Fin 1024 → Fin 1024 → EReal
  fw : Fin 1024 → EReal

namespace Row
variable (R : Row)

/-- The transform along the channels, of the two parts of the sequence's transform. -/
def yf (c : Fin 512) : EReal := (∑ k, R.p k * R.wc 0 k c) + ∑ k, R.q k * R.wc 1 k c

/-- The two directions together, normed head by head. -/
def hn (c : Fin 512) : EReal :=
  hnorm (fun k => R.hf ⟨c / 128 * 128 + k, by omega⟩ + R.hb ⟨c / 128 * 128 + k, by omega⟩) ⟨c % 128, by omega⟩

/-- The skip and the output gate. -/
def ym (c : Fin 512) : EReal := (R.hn c * R.nw c + R.sk c * R.a c) * (R.z c * Ideal.logistic (R.z c))

/-- The mixed stream: the token and the gated output projection of both mixers. -/
def out (d : Fin 1024) : EReal :=
  R.x d + R.gate d * ((∑ k : Fin 512, R.yf k * R.wo ⟨k, by omega⟩ d) + ∑ k : Fin 512, R.ym k * R.wo ⟨512 + k, by omega⟩ d)

/-- What the feed-forward part reads: the modulated norm. -/
def next (d : Fin 1024) : EReal :=
  Conv.rms R.out R.fw d * (Ideal.ofBits .f32 0x3F800000#32 + R.scale d) + R.shift d

end Row

/-- What is read for one token, of the arrays. -/
def rowA (a0 : FVec Ideal ⟨2, ![32768, 1024]⟩ .f32) (a1 : FVec Ideal ⟨3, ![16, 6, 1024]⟩ .f32)
    (a2 a3 a4 a5 a6 a7 : FVec Ideal ⟨2, ![32768, 512]⟩ .bf16) (a8 a9 : FVec Ideal ⟨1, ![512]⟩ .f32)
    (a10 : FVec Ideal ⟨3, ![2, 512, 512]⟩ .bf16) (a11 : FVec Ideal ⟨2, ![1024, 1024]⟩ .f32) (a12 : FVec Ideal ⟨1, ![1024]⟩ .f32)
    (b : Fin 8) (t : Fin 4096) : Row where
  x d := a0 (ix2 (Conv.tok b t) d)
  gate d := a1 (ix3 ⟨b, by omega⟩ 2 d)
  shift d := a1 (ix3 ⟨b, by omega⟩ 3 d)
  scale d := a1 (ix3 ⟨b, by omega⟩ 4 d)
  p c := a2 (ix2 (Conv.tok b t) c)
  q c := a3 (ix2 (Conv.tok b t) c)
  hf c := a4 (ix2 (Conv.tok b t) c)
  hb c := a5 (ix2 (Conv.tok b t) c)
  a c := a6 (ix2 (Conv.tok b t) c)
  z c := a7 (ix2 (Conv.tok b t) c)
  nw c := a8 (ix1 c)
  sk c := a9 (ix1 c)
  wc i k c := a10 (ix3 i k c)
  wo k d := a11 (ix2 k d)
  fw d := a12 (ix1 d)

end Cert.Join

end
-- ==== Proof.MixAt.lean ====
module

public import proofs.«01_k».proof.Proof.MixSpec
public import proofs.«01_k».proof.Proof.Gen.MixIdeal.Frame
public import Idealize.ShloMosaic.Lib.Pipeline.ValueKit
public import Idealize.ShloMosaic.Lib.Pointwise

@[expose] public section

set_option maxRecDepth 16384

/-! What a point of the joining kernel stores, row by row. -/

noncomputable section

namespace Cert.MixIdeal.Body

open Idealize.ShloMosaic Idealize.SL.Sem Cert.MixIdeal Cert.MixIdeal.Gen Cert.Join

/-! ## The body's parts -/

/-- A head's channels of every row. -/
def headK (o : ℕ) (h : S1024x512.Slices ![0, o] S1024x128) (v : FVec Ideal S1024x512 .f32) : FVec Ideal S1024x128 .f32 :=
  extractStridedSlice S1024x128 ![0, o] v h

/-- The head less its mean. -/
def devK (g : FVec Ideal S1024x128 .f32) : FVec Ideal S1024x128 .f32 :=
  subf g (broadcastTo S1024x128 (divf (shapeCast S1024x1
    (multiReduction .add [1] S1024 g 0x00000000#32 reduces_S1024x128_S1024 (.inl rfl) rfl) shapeCasts_S1024_S1024x1)
    (broadcast S1024x1 (Scalar.ofBits .f32 0x43000000#32 : Ideal .f32))) broadcasts_S1024x1_S1024x128)

/-- The head's norm, of the head less its mean. -/
def normK (g : FVec Ideal S1024x128 .f32) : FVec Ideal S1024x128 .f32 :=
  mulf g (broadcastTo S1024x128 (rsqrt (addf (divf (shapeCast S1024x1
    (multiReduction .add [1] S1024 (mulf g g) 0x00000000#32 reduces_S1024x128_S1024 (.inl rfl) rfl) shapeCasts_S1024_S1024x1)
    (broadcast S1024x1 (Scalar.ofBits .f32 0x43000000#32 : Ideal .f32)))
    (broadcast S1024x1 (Scalar.ofBits .f32 0x358637BD#32 : Ideal .f32)))) broadcasts_S1024x1_S1024x128)

/-- The four heads side by side. -/
def catK (h0 h1 h2 h3 : FVec Ideal S1024x128 .f32) : FVec Ideal S1024x512 .f32 :=
  concatenate S1024x512 1 [⟨S1024x128, h0⟩, ⟨S1024x128, h1⟩, ⟨S1024x128, h2⟩, ⟨S1024x128, h3⟩]
    concatenates_S1024x128_S1024x128_S1024x128_S1024x128_S1024x512_d1

/-- The heads' norms. -/
def headsK (v : FVec Ideal S1024x512 .f32) : FVec Ideal S1024x512 .f32 :=
  catK (normK (devK (headK 0 slices_S1024x512_o0_0_S1024x128 v))) (normK (devK (headK 128 slices_S1024x512_o0_128_S1024x128 v)))
    (normK (devK (headK 256 slices_S1024x512_o0_256_S1024x128 v))) (normK (devK (headK 384 slices_S1024x512_o0_384_S1024x128 v)))

/-- The skip and the output gate. -/
def ymK (h : FVec Ideal S1024x512 .f32) (nw sk : FVec Ideal S1x512 .f32) (a z : FVec Ideal S1024x512 .bf16) :
    FVec Ideal S1024x512 .f32 :=
  mulf (addf (mulf h (broadcastTo S1024x512 (shapeCast S1x512 nw shapeCasts_S1x512_S1x512) broadcasts_S1x512_S1024x512))
      (mulf (broadcastTo S1024x512 (shapeCast S1x512 sk shapeCasts_S1x512_S1x512) broadcasts_S1x512_S1024x512)
        (extf .f32 a bitsLt_bf16_f32)))
    (mulf (extf .f32 z bitsLt_bf16_f32) (logistic (extf .f32 z bitsLt_bf16_f32)))

/-- The output projection and the gated residual. -/
def resK (f y : FVec Ideal S1024x512 .f32) (g : FVec Ideal S1x1024 .f32) (w0 w1 : FVec Ideal S1x512x1024 .bf16)
    (x : FVec Ideal S1024x1024 .f32) : FVec Ideal S1024x1024 .f32 :=
  addf x (mulf (broadcastTo S1024x1024 g broadcasts_S1x1024_S1024x1024)
    (addf (matmul dot_S1024x512_S512x1024_S1024x1024_1_0_0_1_n_n none (truncf .bf16 f bitsLt_bf16_f32)
        (shapeCast S512x1024 w0 shapeCasts_S1x512x1024_S512x1024) (constant S1024x1024 .f32 0x00000000#32))
      (matmul dot_S1024x512_S512x1024_S1024x1024_1_0_0_1_n_n none (truncf .bf16 y bitsLt_bf16_f32)
        (shapeCast S512x1024 w1 shapeCasts_S1x512x1024_S512x1024) (constant S1024x1024 .f32 0x00000000#32))))

/-! ## The parts at an index -/

/-- A head's channel. -/
theorem headK_at (o : ℕ) (ho : o ≤ 384) (h : S1024x512.Slices ![0, o] S1024x128) (v : FVec Ideal S1024x512 .f32)
    (n : Fin 1024) (d : Fin 128) : headK o h v (ix2 n d) = v (ix2 n ⟨o + d, by omega⟩) := by
  pointwise [headK]

/-- A head's channel less the head's mean. -/
theorem devK_at (g : FVec Ideal S1024x128 .f32) (n : Fin 1024) (d : Fin 128) :
    devK g (ix2 n d) = g (ix2 n d) - mean fun k => g (ix2 n k) := by
  unfold mean
  pointwise [devK]

/-- A head's norm, of the head less its mean. -/
theorem normK_at (g : FVec Ideal S1024x128 .f32) (n : Fin 1024) (d : Fin 128) :
    normK g (ix2 n d) = g (ix2 n d) * Ideal.rsqrt (mean (fun k => g (ix2 n k) * g (ix2 n k)) + Ideal.ofBits .f32 0x358637BD#32) := by
  unfold mean
  pointwise [normK]

/-- The four heads side by side, each with its own channels. -/
theorem catK_at (h0 h1 h2 h3 : FVec Ideal S1024x128 .f32) (n : Fin 1024) (c : Fin 512) :
    catK h0 h1 h2 h3 (ix2 n c) = if h : c.val < 128 then h0 (ix2 n ⟨c, h⟩)
      else if h : c.val - 128 < 128 then h1 (ix2 n ⟨c - 128, h⟩)
      else if h : c.val - 128 - 128 < 128 then h2 (ix2 n ⟨c - 128 - 128, h⟩)
      else h3 (ix2 n ⟨c - 128 - 128 - 128, by omega⟩) := by
  pointwise [catK]

/-- One head's norm. -/
theorem normHead_at (o : ℕ) (ho : o ≤ 384) (h : S1024x512.Slices ![0, o] S1024x128) (v : FVec Ideal S1024x512 .f32)
    (n : Fin 1024) (d : Fin 128) : normK (devK (headK o h v)) (ix2 n d) = hnorm (fun k => v (ix2 n ⟨o + k, by omega⟩)) d := by
  unfold hnorm
  simp only [normK_at, devK_at, headK_at o ho]

/-- A head and a place in it, of a channel. -/
theorem hnorm_eq (v : Fin 512 → EReal) (c : Fin 512) (o : ℕ) (d : Fin 128) (ho : o ≤ 384) (e : o = c / 128 * 128)
    (ed : d.val = c.val % 128) : hnorm (fun k => v ⟨o + k, by omega⟩) d
      = hnorm (fun k => v ⟨c / 128 * 128 + k, by omega⟩) ⟨c % 128, by omega⟩ := by
  subst e
  exact congrArg _ (Fin.ext ed)

/-- The heads' norms, channel by channel. -/
theorem headsK_at (v : FVec Ideal S1024x512 .f32) (n : Fin 1024) (c : Fin 512) : headsK v (ix2 n c)
    = hnorm (fun k => v (ix2 n ⟨c / 128 * 128 + k, by omega⟩)) ⟨c % 128, by omega⟩ := by
  have hc := c.isLt
  unfold headsK
  rw [catK_at]
  split
  · rw [normHead_at 0 (by omega)]
    exact hnorm_eq (fun k => v (ix2 n k)) c 0 _ (by omega) (by omega) (show c.val = c.val % 128 by omega)
  · split
    · rw [normHead_at 128 (by omega)]
      exact hnorm_eq (fun k => v (ix2 n k)) c 128 _ (by omega) (by omega) (show c.val - 128 = c.val % 128 by omega)
    · split
      · rw [normHead_at 256 (by omega)]
        exact hnorm_eq (fun k => v (ix2 n k)) c 256 _ (by omega) (by omega) (show c.val - 128 - 128 = c.val % 128 by omega)
      · rw [normHead_at 384 (by omega)]
        exact hnorm_eq (fun k => v (ix2 n k)) c 384 _ (by omega) (by omega)
          (show c.val - 128 - 128 - 128 = c.val % 128 by omega)

/-- The skip and the output gate. -/
theorem ymK_at (h : FVec Ideal S1024x512 .f32) (nw sk : FVec Ideal S1x512 .f32) (a z : FVec Ideal S1024x512 .bf16)
    (n : Fin 1024) (c : Fin 512) : ymK h nw sk a z (ix2 n c)
      = (h (ix2 n c) * nw (ix2 0 c) + sk (ix2 0 c) * a (ix2 n c)) * (z (ix2 n c) * Ideal.logistic (z (ix2 n c))) := by
  pointwise [ymK]

/-- The output projection and the gated residual. -/
theorem resK_at (f y : FVec Ideal S1024x512 .f32) (g : FVec Ideal S1x1024 .f32) (w0 w1 : FVec Ideal S1x512x1024 .bf16)
    (x : FVec Ideal S1024x1024 .f32) (n d : Fin 1024) : resK f y g w0 w1 x (ix2 n d)
      = x (ix2 n d) + g (ix2 0 d) * ((∑ k : Fin 512, f (ix2 n k) * w0 (ix3 0 k d)) + ∑ k : Fin 512, y (ix2 n k) * w1 (ix3 0 k d)) := by
  pointwise [resK]

/-- The transform along the channels. -/
theorem pay6_at (p q : FVec Ideal S1024x512 .bf16) (w0 w1 : FVec Ideal S1x512x512 .bf16) (n : Fin 1024) (c : Fin 512) :
    k0_pay6 (F := Ideal) p w0 q w1 (ix2 n c) = (∑ k : Fin 512, p (ix2 n k) * w0 (ix3 0 k c)) + ∑ k : Fin 512, q (ix2 n k) * w1 (ix3 0 k c) := by
  pointwise [k0_pay6]

/-- The two directions together. -/
theorem pay7_at (a b : FVec Ideal S1024x512 .bf16) (n : Fin 1024) (c : Fin 512) :
    k0_pay7 (F := Ideal) a b (ix2 n c) = a (ix2 n c) + b (ix2 n c) := by
  pointwise [k0_pay7]

/-- The gate of the modulation, -/
theorem pay3_at (v : FVec Ideal S1x6x1024 .f32) (d : Fin 1024) : k0_pay3 v (ix2 0 d) = v (ix3 0 2 d) := by
  pointwise [k0_pay3, k0_pay2]

/-- its shift -/
theorem pay4_at (v : FVec Ideal S1x6x1024 .f32) (d : Fin 1024) : k0_pay4 v (ix2 0 d) = v (ix3 0 3 d) := by
  pointwise [k0_pay4, k0_pay2]

/-- and its scale. -/
theorem pay5_at (v : FVec Ideal S1x6x1024 .f32) (d : Fin 1024) : k0_pay5 v (ix2 0 d) = v (ix3 0 4 d) := by
  pointwise [k0_pay5, k0_pay2]

/-- The modulated norm. -/
theorem pay1_at (s c : FVec Ideal S1x1024 .f32) (x : FVec Ideal S1024x1024 .f32) (w : FVec Ideal S1x1024 .f32) (n d : Fin 1024) :
    k0_pay1 s c x w (ix2 n d) = Conv.rms (fun k => x (ix2 n k)) (fun k => w (ix2 0 k)) d
      * (Ideal.ofBits .f32 0x3F800000#32 + c (ix2 0 d)) + s (ix2 0 d) := by
  unfold Conv.rms
  pointwise [k0_pay1]

/-! ## What a point stores -/

/-- The indices of a whole block. -/
theorem r0_7_emb (n d : Fin 1024) : ix2 n d = r0_7.emb (ix2 n d) := by
  funext a
  apply Fin.ext
  match a with
  | ⟨0, _⟩ => show n.val = 0 + 1 * n.val; omega
  | ⟨1, _⟩ => show d.val = 0 + 1 * d.val; omega

/-- A load of all of a two-axis block is the block. -/
theorem whole2 {A B : ℕ} {e : EltTy} (x : Vec Ideal ⟨2, ![A, B]⟩ e) (inb) :
    (fun j => x ((Rect.unit (s := ⟨2, ![A, B]⟩) ![0, 0] (⟨2, ![A, B]⟩ : Shape).size inb).idx j)) = x := by
  funext j
  refine congrArg _ (funext fun a => Fin.ext ?_)
  match a with
  | ⟨0, _⟩ => show 0 + 1 * (j 0).val = (j 0).val; omega
  | ⟨1, _⟩ => show 0 + 1 * (j 1).val = (j 1).val; omega

section
variable (x0 : Vec Ideal S1024x1024 .f32) (x1 : Vec Ideal S1x6x1024 .f32) (x2 x3 x4 x5 x6 x7 : Vec Ideal S1024x512 .bf16)
  (x8 x9 : Vec Ideal S1x512 .f32) (x10 : Vec Ideal S2x512x512 .bf16) (x11 : Vec Ideal S2x512x1024 .bf16)
  (x12 : Vec Ideal S1x1024 .f32)

/-- What a point reads for one of its rows. -/
def rowK (n : Fin 1024) : Row where
  x d := x0 (ix2 n d)
  gate d := x1 (ix3 0 2 d)
  shift d := x1 (ix3 0 3 d)
  scale d := x1 (ix3 0 4 d)
  p c := x2 (ix2 n c)
  q c := x3 (ix2 n c)
  hf c := x4 (ix2 n c)
  hb c := x5 (ix2 n c)
  a c := x6 (ix2 n c)
  z c := x7 (ix2 n c)
  nw c := x8 (ix2 0 c)
  sk c := x9 (ix2 0 c)
  wc i k c := x10 (ix3 i k c)
  wo k d := x11 (ix3 ⟨k / 512, by omega⟩ ⟨k % 512, by omega⟩ d)
  fw d := x12 (ix2 0 d)

/-- The modulation as it is loaded. -/
theorem ld1 : View.ld x1 r0_0 = x1 := by
  funext j
  refine congrArg x1 (funext fun a => Fin.ext ?_)
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- The first half of the channels' tables, -/
theorem ld10a (k c : Fin 512) : (View.ld x10 r0_2 : Vec Ideal S1x512x512 .bf16) (ix3 0 k c) = x10 (ix3 0 k c) := by
  refine congrArg x10 (funext fun a => Fin.ext ?_)
  match a with
  | ⟨0, _⟩ => rfl
  | ⟨1, _⟩ => show 0 + 1 * k.val = k.val; omega
  | ⟨2, _⟩ => show 0 + 1 * c.val = c.val; omega

/-- and the second. -/
theorem ld10b (k c : Fin 512) : (View.ld x10 r0_3 : Vec Ideal S1x512x512 .bf16) (ix3 0 k c) = x10 (ix3 1 k c) := by
  refine congrArg x10 (funext fun a => Fin.ext ?_)
  match a with
  | ⟨0, _⟩ => rfl
  | ⟨1, _⟩ => show 0 + 1 * k.val = k.val; omega
  | ⟨2, _⟩ => show 0 + 1 * c.val = c.val; omega

/-- The first half of the output projection, -/
theorem ld11a (k : Fin 512) (d : Fin 1024) : (View.ld x11 r0_5 : Vec Ideal S1x512x1024 .bf16) (ix3 0 k d)
    = x11 (ix3 ⟨k / 512, by omega⟩ ⟨k % 512, by omega⟩ d) := by
  refine congrArg x11 (funext fun a => Fin.ext ?_)
  match a with
  | ⟨0, _⟩ => show 0 + 1 * 0 = k.val / 512; omega
  | ⟨1, _⟩ => show 0 + 1 * k.val = k.val % 512; omega
  | ⟨2, _⟩ => show 0 + 1 * d.val = d.val; omega

/-- and the second. -/
theorem ld11b (k : Fin 512) (d : Fin 1024) : (View.ld x11 r0_6 : Vec Ideal S1x512x1024 .bf16) (ix3 0 k d)
    = x11 (ix3 ⟨(512 + k) / 512, by omega⟩ ⟨(512 + k) % 512, by omega⟩ d) := by
  refine congrArg x11 (funext fun a => Fin.ext ?_)
  match a with
  | ⟨0, _⟩ => show 1 + 1 * 0 = (512 + k.val) / 512; omega
  | ⟨1, _⟩ => show 0 + 1 * k.val = (512 + k.val) % 512; omega
  | ⟨2, _⟩ => show 0 + 1 * d.val = d.val; omega

/-- The mixed stream of a point. -/
def xK : FVec Ideal S1024x1024 .f32 :=
  resK (k0_pay6 (View.ld x2 r0_1) (View.ld x10 r0_2) (View.ld x3 r0_1) (View.ld x10 r0_3))
    (ymK (headsK (k0_pay7 (View.ld x4 r0_1) (View.ld x5 r0_1))) (View.ld x8 r0_4) (View.ld x9 r0_4) (View.ld x6 r0_1)
      (View.ld x7 r0_1)) (k0_pay3 (View.ld x1 r0_0)) (View.ld x11 r0_5) (View.ld x11 r0_6) (View.ld x0 r0_7)

/-- The first store is of the mixed stream, -/
theorem out13_eq : out0_13 x0 x1 x2 x3 x4 x5 x6 x7 x8 x9 x10 x11 x12
    = View.canon [⟨r0_7, xK x0 x1 x2 x3 x4 x5 x6 x7 x8 x9 x10 x11⟩] := rfl

/-- the second of its modulated norm. -/
theorem out14_eq : out0_14 x0 x1 x2 x3 x4 x5 x6 x7 x8 x9 x10 x11 x12
    = View.canon [⟨r0_7, k0_pay1 (k0_pay4 (View.ld x1 r0_0)) (k0_pay5 (View.ld x1 r0_0))
      (xK x0 x1 x2 x3 x4 x5 x6 x7 x8 x9 x10 x11) (View.ld x12 r0_8)⟩] := rfl

/-- The mixed stream, row by row. -/
theorem xK_at (n d : Fin 1024) : xK x0 x1 x2 x3 x4 x5 x6 x7 x8 x9 x10 x11 (ix2 n d)
    = (rowK x0 x1 x2 x3 x4 x5 x6 x7 x8 x9 x10 x11 x12 n).out d := by
  have w5 := fun x : Vec Ideal S1024x512 .bf16 => whole2 x inb_S1024x512_S1024x512_0_0
  have w1 := fun x : Vec Ideal S1x512 .f32 => whole2 x inb_S1x512_S1x512_0_0
  unfold xK
  rw [show View.ld x2 r0_1 = x2 from w5 x2, show View.ld x3 r0_1 = x3 from w5 x3, show View.ld x4 r0_1 = x4 from w5 x4,
    show View.ld x5 r0_1 = x5 from w5 x5, show View.ld x6 r0_1 = x6 from w5 x6, show View.ld x7 r0_1 = x7 from w5 x7,
    show View.ld x8 r0_4 = x8 from w1 x8, show View.ld x9 r0_4 = x9 from w1 x9,
    show View.ld x0 r0_7 = x0 from whole2 x0 inb_S1024x1024_S1024x1024_0_0, ld1]
  have h1 := ld10a x10
  have h2 := ld10b x10
  have h3 := ld11a x11
  have h4 := ld11b x11
  generalize (View.ld x10 r0_2 : Vec Ideal S1x512x512 .bf16) = u1 at h1 ⊢
  generalize (View.ld x10 r0_3 : Vec Ideal S1x512x512 .bf16) = u2 at h2 ⊢
  generalize (View.ld x11 r0_5 : Vec Ideal S1x512x1024 .bf16) = u3 at h3 ⊢
  generalize (View.ld x11 r0_6 : Vec Ideal S1x512x1024 .bf16) = u4 at h4 ⊢
  rw [resK_at]
  simp only [pay6_at, ymK_at, headsK_at, pay7_at, pay3_at, h1, h2, h3, h4]
  rfl

/-- What is stored as the mixed stream, -/
theorem out13_at (n d : Fin 1024) : out0_13 x0 x1 x2 x3 x4 x5 x6 x7 x8 x9 x10 x11 x12 (ix2 n d)
    = (rowK x0 x1 x2 x3 x4 x5 x6 x7 x8 x9 x10 x11 x12 n).out d := by
  rw [out13_eq, r0_7_emb, View.canon_cons_emb r0_7 _ _ (ix2 n d)]
  exact xK_at x0 x1 x2 x3 x4 x5 x6 x7 x8 x9 x10 x11 x12 n d

/-- and as its modulated norm. -/
theorem out14_at (n d : Fin 1024) : out0_14 x0 x1 x2 x3 x4 x5 x6 x7 x8 x9 x10 x11 x12 (ix2 n d)
    = (rowK x0 x1 x2 x3 x4 x5 x6 x7 x8 x9 x10 x11 x12 n).next d := by
  rw [out14_eq, r0_7_emb, View.canon_cons_emb r0_7 _ _ (ix2 n d),
    show View.ld x12 r0_8 = x12 from whole2 x12 inb_S1x1024_S1x1024_0_0, ld1]
  refine (pay1_at _ _ _ _ n d).trans ?_
  simp only [xK_at x0 x1 x2 x3 x4 x5 x6 x7 x8 x9 x10 x11 x12, pay4_at, pay5_at]
  rfl
end

end Cert.MixIdeal.Body

end
-- ==== Proof.MixBlocks.lean ====
module

public import proofs.«01_k».proof.Proof.MixAt
public import Idealize.ShloMosaic.Lib.Pipeline.Value

@[expose] public section

set_option maxRecDepth 16384

/-! The blocks that a point of the joining kernel reads are the arrays' at its tokens, and the two arrays that the points
leave together. -/

noncomputable section

namespace Cert.MixIdeal.Body

open Idealize.ShloMosaic.TcCoe Idealize.ShloMosaic Idealize.ShloMosaic.Pipeline Idealize.SL.Sem Cert.MixIdeal Cert.MixIdeal.Gen Cert.Join

variable (m : (ℓ : Loc nD τ sig) → Buf (Elt Ideal) ℓ) (c : Dev nD)

/-! ## Where the windows lie -/

/-- Where window 0 lies at each point. -/
theorem idx0 : ∀ t : Fin cfg0.N, win0_0.index t = ![t.val, 0] := (by decide +kernel : ∀ t : Fin grid0.N, _)
/-- Where window 1 lies at each point. -/
theorem idx1 : ∀ t : Fin cfg0.N, win0_1.index t = ![t.val / 4, 0, 0] := (by decide +kernel : ∀ t : Fin grid0.N, _)
/-- Where window 2 lies at each point. -/
theorem idx2 : ∀ t : Fin cfg0.N, win0_2.index t = ![t.val, 0] := (by decide +kernel : ∀ t : Fin grid0.N, _)
/-- Where window 3 lies at each point. -/
theorem idx3 : ∀ t : Fin cfg0.N, win0_3.index t = ![t.val, 0] := (by decide +kernel : ∀ t : Fin grid0.N, _)
/-- Where window 4 lies at each point. -/
theorem idx4 : ∀ t : Fin cfg0.N, win0_4.index t = ![t.val, 0] := (by decide +kernel : ∀ t : Fin grid0.N, _)
/-- Where window 5 lies at each point. -/
theorem idx5 : ∀ t : Fin cfg0.N, win0_5.index t = ![t.val, 0] := (by decide +kernel : ∀ t : Fin grid0.N, _)
/-- Where window 6 lies at each point. -/
theorem idx6 : ∀ t : Fin cfg0.N, win0_6.index t = ![t.val, 0] := (by decide +kernel : ∀ t : Fin grid0.N, _)
/-- Where window 7 lies at each point. -/
theorem idx7 : ∀ t : Fin cfg0.N, win0_7.index t = ![t.val, 0] := (by decide +kernel : ∀ t : Fin grid0.N, _)
/-- Where window 8 lies at each point. -/
theorem idx8 : ∀ t : Fin cfg0.N, win0_8.index t = ![0, 0] := (by decide +kernel : ∀ t : Fin grid0.N, _)
/-- Where window 9 lies at each point. -/
theorem idx9 : ∀ t : Fin cfg0.N, win0_9.index t = ![0, 0] := (by decide +kernel : ∀ t : Fin grid0.N, _)
/-- Where window 10 lies at each point. -/
theorem idx10 : ∀ t : Fin cfg0.N, win0_10.index t = ![0, 0, 0] := (by decide +kernel : ∀ t : Fin grid0.N, _)
/-- Where window 11 lies at each point. -/
theorem idx11 : ∀ t : Fin cfg0.N, win0_11.index t = ![0, 0, 0] := (by decide +kernel : ∀ t : Fin grid0.N, _)
/-- Where window 12 lies at each point. -/
theorem idx12 : ∀ t : Fin cfg0.N, win0_12.index t = ![0, 0] := (by decide +kernel : ∀ t : Fin grid0.N, _)
/-- Where window 13 lies at each point. -/
theorem idx13 : ∀ t : Fin cfg0.N, win0_13.index t = ![t.val, 0] := (by decide +kernel : ∀ t : Fin grid0.N, _)
/-- Where window 14 lies at each point. -/
theorem idx14 : ∀ t : Fin cfg0.N, win0_14.index t = ![t.val, 0] := (by decide +kernel : ∀ t : Fin grid0.N, _)
/-- The mixed stream is written back at every point, -/
theorem flush13 : ∀ t : Fin cfg0.N, (cfg0.win 13).flush t = true := (by decide +kernel : ∀ t : Fin grid0.N, _)
/-- and so is its modulated norm. -/
theorem flush14 : ∀ t : Fin cfg0.N, (cfg0.win 14).flush t = true := (by decide +kernel : ∀ t : Fin grid0.N, _)

/-! ## What they read -/

section
variable (t : Fin cfg0.N)

/-- There are 32 points. -/
theorem lt32 : t.val < 32 := t.isLt

/-- The stream at the point's tokens. -/
theorem blk0 (n k : Fin 1024) : (iblk m c 0 t : Vec Ideal S1024x1024 .f32) (ix2 n k)
    = (V m c main_arg0 : Vec Ideal S32768x1024 .f32) (ix2 ⟨t * 1024 + n, by have := lt32 t; omega⟩ k) := by
  blk_ext [iblk, idx0 t]

/-- The modulation of the point's sequence. -/
theorem blk1 (k : Fin 6) (d : Fin 1024) : (iblk m c 1 t : Vec Ideal S1x6x1024 .f32) (ix3 0 k d)
    = (V m c main_arg1 : Vec Ideal S16x6x1024 .f32) (ix3 ⟨t / 4, by have := lt32 t; omega⟩ k d) := by
  blk_ext [iblk, idx1 t]

/-- The first part of the sequence's transform at the point's tokens, -/
theorem blk2 (n : Fin 1024) (k : Fin 512) : (iblk m c 2 t : Vec Ideal S1024x512 .bf16) (ix2 n k)
    = (V m c main_arg2 : Vec Ideal S32768x512 .bf16) (ix2 ⟨t * 1024 + n, by have := lt32 t; omega⟩ k) := by
  blk_ext [iblk, idx2 t]

/-- the second, -/
theorem blk3 (n : Fin 1024) (k : Fin 512) : (iblk m c 3 t : Vec Ideal S1024x512 .bf16) (ix2 n k)
    = (V m c main_arg3 : Vec Ideal S32768x512 .bf16) (ix2 ⟨t * 1024 + n, by have := lt32 t; omega⟩ k) := by
  blk_ext [iblk, idx3 t]

/-- the scan forwards, -/
theorem blk4 (n : Fin 1024) (k : Fin 512) : (iblk m c 4 t : Vec Ideal S1024x512 .bf16) (ix2 n k)
    = (V m c main_arg4 : Vec Ideal S32768x512 .bf16) (ix2 ⟨t * 1024 + n, by have := lt32 t; omega⟩ k) := by
  blk_ext [iblk, idx4 t]

/-- the scan backwards, -/
theorem blk5 (n : Fin 1024) (k : Fin 512) : (iblk m c 5 t : Vec Ideal S1024x512 .bf16) (ix2 n k)
    = (V m c main_arg5 : Vec Ideal S32768x512 .bf16) (ix2 ⟨t * 1024 + n, by have := lt32 t; omega⟩ k) := by
  blk_ext [iblk, idx5 t]

/-- what the skip adds -/
theorem blk6 (n : Fin 1024) (k : Fin 512) : (iblk m c 6 t : Vec Ideal S1024x512 .bf16) (ix2 n k)
    = (V m c main_arg6 : Vec Ideal S32768x512 .bf16) (ix2 ⟨t * 1024 + n, by have := lt32 t; omega⟩ k) := by
  blk_ext [iblk, idx6 t]

/-- and the output gate. -/
theorem blk7 (n : Fin 1024) (k : Fin 512) : (iblk m c 7 t : Vec Ideal S1024x512 .bf16) (ix2 n k)
    = (V m c main_arg7 : Vec Ideal S32768x512 .bf16) (ix2 ⟨t * 1024 + n, by have := lt32 t; omega⟩ k) := by
  blk_ext [iblk, idx7 t]

/-- The head norm's weights. -/
theorem blk8 (k : Fin 512) : (iblk m c 8 t : Vec Ideal S1x512 .f32) (ix2 0 k)
    = (V m c main_v0 : Vec Ideal S1x512 .f32) (ix2 0 k) := by
  blk_ext [iblk, idx8 t]

/-- The skip's weights. -/
theorem blk9 (k : Fin 512) : (iblk m c 9 t : Vec Ideal S1x512 .f32) (ix2 0 k)
    = (V m c main_v1 : Vec Ideal S1x512 .f32) (ix2 0 k) := by
  blk_ext [iblk, idx9 t]

/-- The channels' tables. -/
theorem blk10 (j : Fin 2) (k x : Fin 512) : (iblk m c 10 t : Vec Ideal S2x512x512 .bf16) (ix3 j k x)
    = (V m c main_arg10 : Vec Ideal S2x512x512 .bf16) (ix3 j k x) := by
  blk_ext [iblk, idx10 t]

/-- The output projection. -/
theorem blk11 (j : Fin 2) (k : Fin 512) (d : Fin 1024) : (iblk m c 11 t : Vec Ideal S2x512x1024 .bf16) (ix3 j k d)
    = (V m c main_v3 : Vec Ideal S2x512x1024 .bf16) (ix3 j k d) := by
  blk_ext [iblk, idx11 t]

/-- The norm's weights. -/
theorem blk12 (d : Fin 1024) : (iblk m c 12 t : Vec Ideal S1x1024 .f32) (ix2 0 d)
    = (V m c main_v4 : Vec Ideal S1x1024 .f32) (ix2 0 d) := by
  blk_ext [iblk, idx12 t]

/-- A block of the mixed stream is the rows of its tokens, -/
theorem read13 (X : Vec Ideal S32768x1024 .f32) (n d : Fin 1024) :
    (((cfg0.win 13).blk t).view.read (Elt Ideal) X : Vec Ideal S1024x1024 .f32) (ix2 n d)
      = X (ix2 ⟨t * 1024 + n, by have := lt32 t; omega⟩ d) := by
  blk_ext [idx13 t]

/-- and so is one of its modulated norm. -/
theorem read14 (X : Vec Ideal S32768x1024 .bf16) (n d : Fin 1024) :
    (((cfg0.win 14).blk t).view.read (Elt Ideal) X : Vec Ideal S1024x1024 .bf16) (ix2 n d)
      = X (ix2 ⟨t * 1024 + n, by have := lt32 t; omega⟩ d) := by
  blk_ext [idx14 t]
end

/-! ## The arrays that the host reshapes -/

/-- The head norm's weights. -/
theorem v0_at (k : Fin 512) : (V m c main_v0 : Vec Ideal S1x512 .f32) (ix2 0 k)
    = (m ((c : Thread nD τ).loc main_arg8) : Vec Ideal S512 .f32) (ix1 k) := by
  entry_read
  pointwise []

/-- The skip's weights. -/
theorem v1_at (k : Fin 512) : (V m c main_v1 : Vec Ideal S1x512 .f32) (ix2 0 k)
    = (m ((c : Thread nD τ).loc main_arg9) : Vec Ideal S512 .f32) (ix1 k) := by
  entry_read
  pointwise []

/-- The output projection in two halves. -/
theorem v3_at (j : Fin 2) (k : Fin 512) (d : Fin 1024) : (V m c main_v3 : Vec Ideal S2x512x1024 .bf16) (ix3 j k d)
    = (m ((c : Thread nD τ).loc main_arg11) : Vec Ideal S1024x1024 .f32) (ix2 ⟨j * 512 + k, by omega⟩ d) := by
  entry_read
  pointwise []

/-- The norm's weights. -/
theorem v4_at (d : Fin 1024) : (V m c main_v4 : Vec Ideal S1x1024 .f32) (ix2 0 d)
    = (m ((c : Thread nD τ).loc main_arg12) : Vec Ideal S1024 .f32) (ix1 d) := by
  entry_read
  pointwise []

/-! ## The arrays that the kernel leaves -/

/-- What is read for one token, of the kernel's arrays. -/
def argsK (b : Fin 8) (s : Fin 4096) : Row := rowA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b s

/-- A point's row. -/
abbrev rowT (t : Fin cfg0.N) (n : Fin 1024) : Row := rowK (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) n

/-- A point's row is its token's. -/
theorem rowT_eq (t : Fin cfg0.N) (n : Fin 1024) (b : Fin 8) (s : Fin 4096) (e : t.val * 1024 + n.val = b.val * 4096 + s.val) :
    rowT m c t n = argsK m c b s := by
  have ht := lt32 t
  have hn := n.isLt
  have et : (⟨t.val * 1024 + n.val, by omega⟩ : Fin 32768) = Conv.tok b s := Fin.ext e
  have eb : (⟨t.val / 4, by omega⟩ : Fin 16) = ⟨b.val, by omega⟩ := Fin.ext (show t.val / 4 = b.val by omega)
  have ek : ∀ k : Fin 1024, (⟨k.val / 512 * 512 + k.val % 512, by omega⟩ : Fin 1024) = k := fun k =>
    Fin.ext (show k.val / 512 * 512 + k.val % 512 = k.val by omega)
  refine Row.ext (funext fun d => ?_) (funext fun d => ?_) (funext fun d => ?_) (funext fun d => ?_) (funext fun d => ?_)
    (funext fun d => ?_) (funext fun d => ?_) (funext fun d => ?_) (funext fun d => ?_) (funext fun d => ?_)
    (funext fun d => ?_) (funext fun d => ?_) (funext fun i => funext fun k => funext fun x => ?_)
    (funext fun k => funext fun d => ?_) (funext fun d => ?_)
  · refine (blk0 m c t n d).trans ?_
    rw [V_main_arg0, et]; rfl
  · refine (blk1 m c t 2 d).trans ?_
    rw [V_main_arg1, eb]; rfl
  · refine (blk1 m c t 3 d).trans ?_
    rw [V_main_arg1, eb]; rfl
  · refine (blk1 m c t 4 d).trans ?_
    rw [V_main_arg1, eb]; rfl
  · refine (blk2 m c t n d).trans ?_
    rw [V_main_arg2, et]; rfl
  · refine (blk3 m c t n d).trans ?_
    rw [V_main_arg3, et]; rfl
  · refine (blk4 m c t n d).trans ?_
    rw [V_main_arg4, et]; rfl
  · refine (blk5 m c t n d).trans ?_
    rw [V_main_arg5, et]; rfl
  · refine (blk6 m c t n d).trans ?_
    rw [V_main_arg6, et]; rfl
  · refine (blk7 m c t n d).trans ?_
    rw [V_main_arg7, et]; rfl
  · exact (blk8 m c t d).trans (v0_at m c d)
  · exact (blk9 m c t d).trans (v1_at m c d)
  · refine (blk10 m c t i k x).trans ?_
    rw [V_main_arg10]; rfl
  · refine (blk11 m c t _ _ d).trans ((v3_at m c _ _ d).trans ?_)
    exact congrArg (fun r => (m ((c : Thread nD τ).loc main_arg11) : Vec Ideal S1024x1024 .f32) (ix2 r d)) (ek k)
  · exact (blk12 m c t d).trans (v4_at m c d)

/-- Two points' blocks of the mixed stream share nothing, -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h =>
    hne (Fin.ext (congrFun ((idx13 t).symm.trans (h.trans (idx13 t'))) 0))

/-- nor do two of its modulated norm. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h =>
    hne (Fin.ext (congrFun ((idx14 t).symm.trans (h.trans (idx14 t'))) 0))

/-- The mixed stream that a point leaves, -/
theorem block13 (t : Fin cfg0.N) (n d : Fin 1024) :
    ((dats m 0 c).flushed 13 t : Vec Ideal S1024x1024 .f32) (ix2 n d) = (rowT m c t n).out d := by
  have e : (dats m 0 c).after 13 t = _ := after0_13 m c t
  exact (congrFun e (ix2 n d)).trans (out13_at _ _ _ _ _ _ _ _ _ _ _ _ _ n d)

/-- and its modulated norm. -/
theorem block14 (t : Fin cfg0.N) (n d : Fin 1024) :
    ((dats m 0 c).flushed 14 t : Vec Ideal S1024x1024 .bf16) (ix2 n d) = (rowT m c t n).next d := by
  have e : (dats m 0 c).after 14 t = _ := after0_14 m c t
  exact (congrFun e (ix2 n d)).trans (out14_at _ _ _ _ _ _ _ _ _ _ _ _ _ n d)

/-- The mixed stream, token by token, -/
theorem arr13_at (b : Fin 8) (s : Fin 4096) (d : Fin 1024) :
    ((dats m 0 c).arrAt 13 cfg0.N : Vec Ideal S32768x1024 .f32) (ix2 (Conv.tok b s) d) = (argsK m c b s).out d := by
  obtain ⟨t, ht⟩ : ∃ t : Fin cfg0.N, t.val = 4 * b + s / 1024 := ⟨⟨4 * b + s / 1024, by show _ < 32; omega⟩, rfl⟩
  obtain ⟨n, hn⟩ : ∃ n : Fin 1024, n.val = s % 1024 := ⟨⟨s % 1024, by omega⟩, rfl⟩
  have e : Conv.tok b s = ⟨t * 1024 + n, by have := lt32 t; omega⟩ := Fin.ext (show b.val * 4096 + s.val = t.val * 1024 + n.val by omega)
  rw [e]
  refine (read13 t _ n d).symm.trans ?_
  refine (congrFun ((dats m 0 c).read_blk_arrAt_eq_flushed 13 disjoint13 cfg0.N t t.isLt (flush13 t)) (ix2 n d)).trans ?_
  rw [block13, rowT_eq m c t n b s (by omega)]

/-- and its modulated norm. -/
theorem arr14_at (b : Fin 8) (s : Fin 4096) (d : Fin 1024) :
    ((dats m 0 c).arrAt 14 cfg0.N : Vec Ideal S32768x1024 .bf16) (ix2 (Conv.tok b s) d) = (argsK m c b s).next d := by
  obtain ⟨t, ht⟩ : ∃ t : Fin cfg0.N, t.val = 4 * b + s / 1024 := ⟨⟨4 * b + s / 1024, by show _ < 32; omega⟩, rfl⟩
  obtain ⟨n, hn⟩ : ∃ n : Fin 1024, n.val = s % 1024 := ⟨⟨s % 1024, by omega⟩, rfl⟩
  have e : Conv.tok b s = ⟨t * 1024 + n, by have := lt32 t; omega⟩ := Fin.ext (show b.val * 4096 + s.val = t.val * 1024 + n.val by omega)
  rw [e]
  refine (read14 t _ n d).symm.trans ?_
  refine (congrFun ((dats m 0 c).read_blk_arrAt_eq_flushed 14 disjoint14 cfg0.N t t.isLt (flush14 t)) (ix2 n d)).trans ?_
  rw [block14, rowT_eq m c t n b s (by omega)]

end Cert.MixIdeal.Body

end
-- ==== Proof.MixParts.lean ====
module

public import proofs.«01_k».proof.Proof.MixSpec
public import proofs.«01_k».proof.Proof.Gen.MixReferenceIdeal
public import Idealize.ShloMosaic.Lib.Pipeline.ValueKit
public import Idealize.ShloMosaic.Lib.Pointwise

@[expose] public section

set_option maxRecDepth 16384

/-! The joining reference's parts, and what they compute for one token. -/

noncomputable section

namespace Cert.MixReferenceIdeal.Join

open Idealize.ShloMosaic Idealize.ShloMosaic.TcCoe Idealize.SL.Sem Idealize.ShloMosaic.StableHlo Cert.MixReferenceIdeal
  Cert.MixReferenceIdeal.Gen Cert.Join

/-! ## The parts -/

/-- Rows of tokens, sequence by sequence. -/
def rowsR (a : FVec Ideal S32768x512 .bf16) : FVec Ideal S8x4096x512 .f32 :=
  extf .f32 (shapeCast S8x4096x512 a shapeCasts_S32768x512_S8x4096x512) bitsLt_bf16_f32

/-- The two directions together, head by head. -/
def headsR (a4 a5 : FVec Ideal S32768x512 .bf16) : FVec Ideal S8x4096x4x128 .f32 :=
  shapeCast S8x4096x4x128 (addf (rowsR a4) (rowsR a5)) shapeCasts_S8x4096x512_S8x4096x4x128

/-- The mean over a head. -/
def meanR (h : FVec Ideal S8x4096x4x128 .f32) : FVec Ideal S8x4096x4x1 .f32 :=
  Host.divf (broadcastInDim S8x4096x4x1 ![0, 1, 2] bcast_S8x4096x4_S8x4096x4x1_0_1_2
    (Host.reduceAdd h (constant S_ .f32 0x00000000#32) reducesTo_S8x4096x4x128_S8x4096x4_d3 h_S_))
    (broadcastInDim S8x4096x4x1 ![] bcast_S_S8x4096x4x1 (constant S_ .f32 0x43000000#32))

/-- A head less its mean. -/
def devR (h : FVec Ideal S8x4096x4x128 .f32) : FVec Ideal S8x4096x4x128 .f32 :=
  subf h (broadcastInDim S8x4096x4x128 ![0, 1, 2, 3] bcast_S8x4096x4x1_S8x4096x4x128_0_1_2_3 (meanR h))

/-- A head's norm, of the head less its mean. -/
def normR (g : FVec Ideal S8x4096x4x128 .f32) : FVec Ideal S8x4096x4x128 .f32 :=
  mulf g (broadcastInDim S8x4096x4x128 ![0, 1, 2, 3] bcast_S8x4096x4x1_S8x4096x4x128_0_1_2_3
    (Host.rsqrt (addf (meanR (mulf g g)) (broadcastInDim S8x4096x4x1 ![] bcast_S_S8x4096x4x1 (constant S_ .f32 0x358637BD#32)))))

/-- A vector of channels at every token. -/
def chanR (a : FVec Ideal S512 .f32) : FVec Ideal S8x4096x512 .f32 :=
  broadcastInDim S8x4096x512 ![0, 1, 2] bcast_S1x1x512_S8x4096x512_0_1_2 (broadcastInDim S1x1x512 ![2] bcast_S512_S1x1x512_2 a)

/-- The skip and the output gate. -/
def ymR (n : FVec Ideal S8x4096x4x128 .f32) (a6 a7 : FVec Ideal S32768x512 .bf16) (a8 a9 : FVec Ideal S512 .f32) :
    FVec Ideal S8x4096x512 .f32 :=
  mulf (addf (mulf (shapeCast S8x4096x512 n shapeCasts_S8x4096x4x128_S8x4096x512) (chanR a8)) (mulf (chanR a9) (rowsR a6)))
    (mulf (rowsR a7) (Host.divf (broadcastInDim S8x4096x512 ![] bcast_S_S8x4096x512 (constant S_ .f32 0x3F800000#32))
      (addf (broadcastInDim S8x4096x512 ![] bcast_S_S8x4096x512 (constant S_ .f32 0x3F800000#32))
        (Host.exp (Host.negf (rowsR a7))))))

/-- The transform along the channels. -/
def yfR (a2 a3 : FVec Ideal S32768x512 .bf16) (a10 : FVec Ideal S2x512x512 .bf16) : FVec Ideal S8x4096x512 .f32 :=
  addf (Host.dotGeneral dot_S8x4096x512_S512x512_S8x4096x512_2_0_01_1_n_n none (rowsR a2)
      (shapeCast S512x512 (extractStridedSlice S1x512x512 ![0, 0, 0] (extf .f32 a10 bitsLt_bf16_f32)
        slices_S2x512x512_S1x512x512_0_0_0) shapeCasts_S1x512x512_S512x512))
    (Host.dotGeneral dot_S8x4096x512_S512x512_S8x4096x512_2_0_01_1_n_n none (rowsR a3)
      (shapeCast S512x512 (extractStridedSlice S1x512x512 ![1, 0, 0] (extf .f32 a10 bitsLt_bf16_f32)
        slices_S2x512x512_S1x512x512_1_0_0) shapeCasts_S1x512x512_S512x512))

/-- A row of the modulation, for each sequence. -/
def modR (i : ℕ) (a1 : FVec Ideal S16x6x1024 .f32) (h : S16x6x1024.Slices ![0, i, 0] S8x1x1024) : FVec Ideal S8x1x1024 .f32 :=
  broadcastInDim S8x1x1024 ![0, 2] bcast_S8x1024_S8x1x1024_0_2
    (shapeCast S8x1024 (extractStridedSlice S8x1x1024 ![0, i, 0] a1 h) shapeCasts_S8x1x1024_S8x1024)

/-- Both mixers' channels. -/
def catR (f y : FVec Ideal S8x4096x512 .f32) : FVec Ideal S8x4096x1024 .f32 :=
  concatenate S8x4096x1024 2 [⟨S8x4096x512, f⟩, ⟨S8x4096x512, y⟩] concatenates_S8x4096x512_S8x4096x512_S8x4096x1024_d2

/-- The output projection and the gated residual. -/
def resR (y : FVec Ideal S8x4096x1024 .f32) (g : FVec Ideal S8x1x1024 .f32) (a0 : FVec Ideal S32768x1024 .f32)
    (a11 : FVec Ideal S1024x1024 .f32) : FVec Ideal S8x4096x1024 .f32 :=
  addf (shapeCast S8x4096x1024 a0 shapeCasts_S32768x1024_S8x4096x1024)
    (mulf (broadcastInDim S8x4096x1024 ![0, 1, 2] bcast_S8x1x1024_S8x4096x1024_0_1_2 g)
      (Host.dotGeneral dot_S8x4096x1024_S1024x1024_S8x4096x1024_2_0_01_1_n_n none y a11))

/-- The modulated norm. -/
def nextR (x : FVec Ideal S8x4096x1024 .f32) (s c : FVec Ideal S8x1x1024 .f32) (a12 : FVec Ideal S1024 .f32) :
    FVec Ideal S8x4096x1024 .bf16 :=
  truncf .bf16 (addf (mulf (mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 a12)))
    (broadcastInDim S8x4096x1024 ![0, 1, 2] bcast_S8x1x1024_S8x4096x1024_0_1_2
      (addf (broadcastInDim S8x1x1024 ![] bcast_S_S8x1x1024 (constant S_ .f32 0x3F800000#32)) c)))
    (broadcastInDim S8x4096x1024 ![0, 1, 2] bcast_S8x1x1024_S8x4096x1024_0_1_2 s)) bitsLt_bf16_f32

/-! ## The parts at an index -/

/-- Rows of tokens. -/
theorem rowsR_at (a : FVec Ideal S32768x512 .bf16) (b : Fin 8) (t : Fin 4096) (c : Fin 512) :
    rowsR a (ix3 b t c) = a (ix2 (Conv.tok b t) c) := by
  unfold Conv.tok
  pointwise [rowsR]

/-- A head's channels. -/
theorem headsR_at (a4 a5 : FVec Ideal S32768x512 .bf16) (b : Fin 8) (t : Fin 4096) (h : Fin 4) (d : Fin 128) :
    headsR a4 a5 (ix4 b t h d) = rowsR a4 (ix3 b t ⟨h * 128 + d, by omega⟩) + rowsR a5 (ix3 b t ⟨h * 128 + d, by omega⟩) := by
  generalize ea : rowsR a4 = x
  generalize eb : rowsR a5 = y
  pointwise [headsR, ea, eb]

/-- A head's mean. -/
theorem meanR_at (h : FVec Ideal S8x4096x4x128 .f32) (b : Fin 8) (t : Fin 4096) (i : Fin 4) :
    meanR h (ix4 b t i 0) = mean fun k => h (ix4 b t i k) := by
  unfold mean
  pointwise [meanR]

/-- A head less its mean. -/
theorem devR_at (h : FVec Ideal S8x4096x4x128 .f32) (b : Fin 8) (t : Fin 4096) (i : Fin 4) (d : Fin 128) :
    devR h (ix4 b t i d) = h (ix4 b t i d) - mean fun k => h (ix4 b t i k) := by
  unfold mean
  pointwise [devR, meanR]

/-- A head's norm, of the head less its mean. -/
theorem normR_at (g : FVec Ideal S8x4096x4x128 .f32) (b : Fin 8) (t : Fin 4096) (i : Fin 4) (d : Fin 128) :
    normR g (ix4 b t i d) = g (ix4 b t i d) * Ideal.rsqrt (mean (fun k => g (ix4 b t i k) * g (ix4 b t i k))
      + Ideal.ofBits .f32 0x358637BD#32) := by
  unfold mean
  pointwise [normR, meanR]

/-- The skip and the output gate. -/
theorem ymR_at (n : FVec Ideal S8x4096x4x128 .f32) (a6 a7 : FVec Ideal S32768x512 .bf16) (a8 a9 : FVec Ideal S512 .f32)
    (b : Fin 8) (t : Fin 4096) (c : Fin 512) : ymR n a6 a7 a8 a9 (ix3 b t c)
      = (n (ix4 b t ⟨c / 128, by omega⟩ ⟨c % 128, by omega⟩) * a8 (ix1 c) + a9 (ix1 c) * a6 (ix2 (Conv.tok b t) c))
        * (a7 (ix2 (Conv.tok b t) c) * Ideal.logistic (a7 (ix2 (Conv.tok b t) c))) := by
  unfold Ideal.logistic Conv.tok
  pointwise [ymR, chanR, rowsR]

/-- The transform along the channels. -/
theorem yfR_at (a2 a3 : FVec Ideal S32768x512 .bf16) (a10 : FVec Ideal S2x512x512 .bf16) (b : Fin 8) (t : Fin 4096) (c : Fin 512) :
    yfR a2 a3 a10 (ix3 b t c) = (∑ k : Fin 512, a2 (ix2 (Conv.tok b t) k) * a10 (ix3 0 k c))
      + ∑ k : Fin 512, a3 (ix2 (Conv.tok b t) k) * a10 (ix3 1 k c) := by
  unfold Conv.tok
  pointwise [yfR, rowsR]

/-- A row of the modulation. -/
theorem modR_at (i : ℕ) (hi : i < 6) (a1 : FVec Ideal S16x6x1024 .f32) (h : S16x6x1024.Slices ![0, i, 0] S8x1x1024)
    (b : Fin 8) (d : Fin 1024) : modR i a1 h (ix3 b 0 d) = a1 (ix3 ⟨b, by omega⟩ ⟨i, hi⟩ d) := by
  pointwise [modR]

/-- The first mixer's channels, -/
theorem catR_left (f y : FVec Ideal S8x4096x512 .f32) (b : Fin 8) (t : Fin 4096) (k : Fin 512) :
    catR f y (ix3 b t (Fin.castAdd 512 k)) = f (ix3 b t k) := by
  have e : ∀ c : Fin 1024, catR f y (ix3 b t c) = if h : c.val < 512 then f (ix3 b t ⟨c, h⟩)
      else y (ix3 b t ⟨c - 512, by omega⟩) := fun c => by pointwise [catR]
  rw [e]
  exact dif_pos k.isLt

/-- and the second's. -/
theorem catR_right (f y : FVec Ideal S8x4096x512 .f32) (b : Fin 8) (t : Fin 4096) (k : Fin 512) :
    catR f y (ix3 b t (Fin.natAdd 512 k)) = y (ix3 b t k) := by
  have e : ∀ c : Fin 1024, catR f y (ix3 b t c) = if h : c.val < 512 then f (ix3 b t ⟨c, h⟩)
      else y (ix3 b t ⟨c - 512, by omega⟩) := fun c => by pointwise [catR]
  rw [e]
  refine (dif_neg (show ¬(512 + k.val < 512) by omega)).trans ?_
  exact congrArg (fun r => y (ix3 b t r)) (Fin.ext (show 512 + k.val - 512 = k.val by omega))

/-- The output projection and the gated residual. -/
theorem resR_at (y : FVec Ideal S8x4096x1024 .f32) (g : FVec Ideal S8x1x1024 .f32) (a0 : FVec Ideal S32768x1024 .f32)
    (a11 : FVec Ideal S1024x1024 .f32) (b : Fin 8) (t : Fin 4096) (d : Fin 1024) :
    resR y g a0 a11 (ix3 b t d) = a0 (ix2 (Conv.tok b t) d) + g (ix3 b 0 d) * ∑ k : Fin 1024, y (ix3 b t k) * a11 (ix2 k d) := by
  unfold Conv.tok
  pointwise [resR]

/-- The modulated norm. -/
theorem nextR_at (x : FVec Ideal S8x4096x1024 .f32) (s c : FVec Ideal S8x1x1024 .f32) (a12 : FVec Ideal S1024 .f32)
    (b : Fin 8) (t : Fin 4096) (d : Fin 1024) : nextR x s c a12 (ix3 b t d)
      = Conv.rms (fun k => x (ix3 b t k)) (fun k => a12 (ix1 k)) d * (Ideal.ofBits .f32 0x3F800000#32 + c (ix3 b 0 d))
        + s (ix3 b 0 d) := by
  unfold Conv.rms
  pointwise [nextR]

/-! ## All together -/

section
variable (a0 : FVec Ideal S32768x1024 .f32) (a1 : FVec Ideal S16x6x1024 .f32) (a2 a3 a4 a5 a6 a7 : FVec Ideal S32768x512 .bf16)
  (a8 a9 : FVec Ideal S512 .f32) (a10 : FVec Ideal S2x512x512 .bf16) (a11 : FVec Ideal S1024x1024 .f32)
  (a12 : FVec Ideal S1024 .f32)

/-- The mixed stream. -/
def xR : FVec Ideal S8x4096x1024 .f32 :=
  resR (catR (yfR a2 a3 a10) (ymR (normR (devR (headsR a4 a5))) a6 a7 a8 a9)) (modR 2 a1 slices_S16x6x1024_S8x1x1024_0_2_0) a0 a11

/-- A channel's head and its place in it. -/
theorem norm_eq (b : Fin 8) (t : Fin 4096) (c : Fin 512) :
    normR (devR (headsR a4 a5)) (ix4 b t ⟨c / 128, by omega⟩ ⟨c % 128, by omega⟩)
      = (rowA a0 a1 a2 a3 a4 a5 a6 a7 a8 a9 a10 a11 a12 b t).hn c := by
  rw [normR_at]
  simp only [devR_at, headsR_at, rowsR_at]
  rfl

/-- The mixed stream, token by token. -/
theorem xR_at (b : Fin 8) (t : Fin 4096) (d : Fin 1024) : xR a0 a1 a2 a3 a4 a5 a6 a7 a8 a9 a10 a11 (ix3 b t d)
    = (rowA a0 a1 a2 a3 a4 a5 a6 a7 a8 a9 a10 a11 a12 b t).out d := by
  unfold xR
  rw [resR_at, modR_at 2 (by decide)]
  have e := Fin.sum_univ_add (a := 512) (b := 512) fun k : Fin 1024 =>
    catR (yfR a2 a3 a10) (ymR (normR (devR (headsR a4 a5))) a6 a7 a8 a9) (ix3 b t k) * a11 (ix2 k d)
  refine (congrArg (fun s => a0 (ix2 (Conv.tok b t) d) + a1 (ix3 ⟨b, by omega⟩ ⟨2, by decide⟩ d) * s) e).trans ?_
  simp only [catR_left, catR_right, yfR_at, ymR_at, norm_eq a0 a1 a2 a3 a4 a5 a6 a7 a8 a9 a10 a11 a12]
  rfl

/-- The modulated norm, token by token. -/
theorem nextR_eq (b : Fin 8) (t : Fin 4096) (d : Fin 1024) :
    nextR (xR a0 a1 a2 a3 a4 a5 a6 a7 a8 a9 a10 a11) (modR 3 a1 slices_S16x6x1024_S8x1x1024_0_3_0)
      (modR 4 a1 slices_S16x6x1024_S8x1x1024_0_4_0) a12 (ix3 b t d)
      = (rowA a0 a1 a2 a3 a4 a5 a6 a7 a8 a9 a10 a11 a12 b t).next d := by
  rw [nextR_at, modR_at 3 (by decide), modR_at 4 (by decide)]
  simp only [xR_at a0 a1 a2 a3 a4 a5 a6 a7 a8 a9 a10 a11 a12]
  rfl

/-- An array of sequences as rows of tokens. -/
theorem flat_at {f : FTy} (x : FVec Ideal S8x4096x1024 f) (b : Fin 8) (t : Fin 4096) (d : Fin 1024) :
    shapeCast S32768x1024 x shapeCasts_S8x4096x1024_S32768x1024 (ix2 (Conv.tok b t) d) = x (ix3 b t d) := by
  have e : ∀ n : Fin 32768, shapeCast S32768x1024 x shapeCasts_S8x4096x1024_S32768x1024 (ix2 n d)
      = x (ix3 ⟨n / 4096, by omega⟩ ⟨n % 4096, by omega⟩ d) := fun n => by pointwise []
  rw [e]
  have e1 : (⟨(Conv.tok b t).val / 4096, by omega⟩ : Fin 8) = b :=
    Fin.ext (show (b.val * 4096 + t.val) / 4096 = b.val by omega)
  have e2 : (⟨(Conv.tok b t).val % 4096, by omega⟩ : Fin 4096) = t :=
    Fin.ext (show (b.val * 4096 + t.val) % 4096 = t.val by omega)
  rw [e1, e2]
end

end Cert.MixReferenceIdeal.Join

end
-- ==== Proof.MixRef.lean ====
module

public import proofs.«01_k».proof.Proof.MixParts
public import proofs.«01_k».proof.Proof.Gen.MixReferenceIdeal.Run

@[expose] public section

set_option maxRecDepth 16384

/-! The reference's two results, token by token. -/

noncomputable section

namespace Cert.MixReferenceIdeal.Join

open Idealize.ShloMosaic.TcCoe Idealize.ShloMosaic Idealize.SL.Sem Cert.MixReferenceIdeal Cert.MixReferenceIdeal.Gen Cert.MixReferenceIdeal.Value Cert.Join

variable (m : (ℓ : Loc nD τ sig) → Buf (Elt Ideal) ℓ) (c : Dev nD)

/-- What is read for one token, of the reference's arrays. -/
def argsR (b : Fin 8) (s : Fin 4096) : Row := rowA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) b s

/-- The mixed stream of the reference's arrays. -/
def xM : FVec Ideal S8x4096x1024 .f32 := xR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The first result is the mixed stream as rows of tokens. -/
theorem v87_eq : (res_main_v87 m c : FVec Ideal S32768x1024 .f32)
    = shapeCast S32768x1024 (xM m c) shapeCasts_S8x4096x1024_S32768x1024 := rfl

/-- The second is its modulated norm, in the narrower type. -/
theorem v88_eq : (res_main_v88 m c : FVec Ideal S32768x1024 .bf16)
    = shapeCast S32768x1024 (nextR (xM m c) (modR 3 (m ((c : Thread nD τ).loc main_arg1)) slices_S16x6x1024_S8x1x1024_0_3_0)
      (modR 4 (m ((c : Thread nD τ).loc main_arg1)) slices_S16x6x1024_S8x1x1024_0_4_0) (m ((c : Thread nD τ).loc main_arg12)))
        shapeCasts_S8x4096x1024_S32768x1024 := rfl

/-- The reference's mixed stream, token by token, -/
theorem v87_at (b : Fin 8) (s : Fin 4096) (d : Fin 1024) :
    (res_main_v87 m c : FVec Ideal S32768x1024 .f32) (ix2 (Conv.tok b s) d) = (argsR m c b s).out d := by
  rw [v87_eq, flat_at]
  exact xR_at _ _ _ _ _ _ _ _ _ _ _ _ (m ((c : Thread nD τ).loc main_arg12)) b s d

/-- and its modulated norm. -/
theorem v88_at (b : Fin 8) (s : Fin 4096) (d : Fin 1024) :
    (res_main_v88 m c : FVec Ideal S32768x1024 .bf16) (ix2 (Conv.tok b s) d) = (argsR m c b s).next d := by
  rw [v88_eq, flat_at]
  exact nextR_eq _ _ _ _ _ _ _ _ _ _ _ _ _ b s d

end Cert.MixReferenceIdeal.Join

end
-- ==== Proof.MixClaims.lean ====
module

public import proofs.«01_k».proof.Defs
public import proofs.«01_k».proof.Proof.MixBlocks
public import proofs.«01_k».proof.Proof.MixRef
public import proofs.«01_k».proof.Proof.Gen.Mix.Frame
public import proofs.«01_k».proof.Proof.Gen.MixIdeal.Frame
public import Idealize.ShloMosaic.Adequacy
public import Idealize.ShloMosaic.Init

@[expose] public section

set_option maxRecDepth 16384

/-! The certificate's claims of the joining call, one theorem each. -/

noncomputable section

namespace Cert.Join

open Idealize.ShloMosaic.TcCoe Idealize.ShloMosaic Idealize.SL.Sem

/-- The joining kernel terminates and leaves its arguments. -/
theorem frame_p : Cert.quiescent_Mix := fun m ρ _ => Cert.Mix.Gen.frame m ρ

/-- So does its idealization. -/
theorem frame_pi : Cert.quiescent_MixIdeal := fun m ρ _ => Cert.MixIdeal.Gen.frame m ρ

/-- The reference terminates and leaves its arguments. -/
theorem frame_ri : Cert.quiescent_MixReferenceIdeal := fun m ρ _ =>
  (θ_run Cert.MixReferenceIdeal.defs _ _).mono (fun r h => ⟨fun c => (h c).2.2, sem_eq_zero_of_no_sems (by decide) r.2⟩)
    (Cert.MixReferenceIdeal.Value.run (F := Ideal) m ρ)

/-- The idealization replaces no operation. -/
theorem preserves : Cert.preserves_Mix_MixIdeal := trivial

/-- Arrays over all tokens are equal when they agree token by token. -/
theorem ext_tok {f : FTy} (X Y : FVec Ideal ⟨2, ![32768, 1024]⟩ f)
    (h : ∀ (b : Fin 8) (s : Fin 4096) (d : Fin 1024), X (ix2 (Conv.tok b s) d) = Y (ix2 (Conv.tok b s) d)) : X = Y := by
  have key : ∀ (r : Fin 32768) (d : Fin 1024), X (ix2 r d) = Y (ix2 r d) := by
    intro r d
    have e : r = Conv.tok ⟨r / 4096, by omega⟩ ⟨r % 4096, by omega⟩ :=
      Fin.ext (show r.val = r.val / 4096 * 4096 + r.val % 4096 by omega)
    rw [e]
    exact h _ _ _
  funext i
  have e : i = ix2 (i 0) (i 1) := by
    funext a
    match a with
    | ⟨0, _⟩ => rfl
    | ⟨1, _⟩ => rfl
  rw [e]
  exact key _ _

section
variable (m : (ℓ : Loc Cert.MixIdeal.nD Cert.MixIdeal.τ Cert.MixIdeal.sig) → Buf (Elt Ideal) ℓ)
  (m' : (ℓ : Loc Cert.MixReferenceIdeal.nD Cert.MixReferenceIdeal.τ Cert.MixReferenceIdeal.sig) → Buf (Elt Ideal) ℓ)
  (c : Dev Cert.MixIdeal.nD)

/-- The reference's mixed stream is what the kernel leaves, of arguments that agree, -/
theorem out_eq (h : Cert.MixReferenceIdeal.Join.argsR m' c = Cert.MixIdeal.Body.argsK m c) :
    (Cert.MixReferenceIdeal.Value.res_main_v87 m' c : FVec Ideal ⟨2, ![32768, 1024]⟩ .f32)
      = (Cert.MixIdeal.Gen.dats m 0 c).arrAt 13 Cert.MixIdeal.cfg0.N :=
  ext_tok (f := .f32) _ _ fun b s d => (Cert.MixReferenceIdeal.Join.v87_at m' c b s d).trans
    ((congrArg (fun A : Fin 8 → Fin 4096 → Row => (A b s).out d) h).trans (Cert.MixIdeal.Body.arr13_at m c b s d).symm)

/-- and so is its modulated norm. -/
theorem next_eq (h : Cert.MixReferenceIdeal.Join.argsR m' c = Cert.MixIdeal.Body.argsK m c) :
    (Cert.MixReferenceIdeal.Value.res_main_v88 m' c : FVec Ideal ⟨2, ![32768, 1024]⟩ .bf16)
      = (Cert.MixIdeal.Gen.dats m 0 c).arrAt 14 Cert.MixIdeal.cfg0.N :=
  ext_tok (f := .bf16) _ _ fun b s d => (Cert.MixReferenceIdeal.Join.v88_at m' c b s d).trans
    ((congrArg (fun A : Fin 8 → Fin 4096 → Row => (A b s).next d) h).trans (Cert.MixIdeal.Body.arr14_at m c b s d).symm)
end

/-- Of arguments that agree, the kernel and the reference leave the same two results. -/
theorem algebraic : Cert.algebraic_MixIdeal_MixReferenceIdeal := fun m ρ m' ρ' _ ha =>
  have hc : ∀ c, Cert.MixReferenceIdeal.Join.argsR m' c = Cert.MixIdeal.Body.argsK m c := fun c => by
    obtain ⟨h0, h1, h2, h3, h4, h5, h6, h7, h8, h9, h10, h11, h12⟩ := ha c
    unfold Cert.MixReferenceIdeal.Join.argsR Cert.MixIdeal.Body.argsK
    rw [← h0, ← h1, ← h2, ← h3, ← h4, ← h5, ← h6, ← h7, ← h8, ← h9, ← h10, ← h11, ← h12]
  ⟨fun c => (Cert.MixIdeal.Gen.dats m 0 c).arrAt 13 Cert.MixIdeal.cfg0.N,
    fun c => (Cert.MixIdeal.Gen.dats m 0 c).arrAt 14 Cert.MixIdeal.cfg0.N,
    (θ_run Cert.MixIdeal.defs _ _).mono (fun _ h c => ⟨(h.2 c).1 13, (h.2 c).1 14, h.1 c⟩)
      (θ_run_and (Cert.MixIdeal.Gen.unchanged m ρ) (Cert.MixIdeal.Gen.run_main m ρ)),
    (θ_run Cert.MixReferenceIdeal.defs _ _).mono
      (fun r hr c => ⟨(hr c).1.trans (out_eq m m' c (hc c)), (hr c).2.1.trans (next_eq m m' c (hc c)), (hr c).2.2⟩)
      (Cert.MixReferenceIdeal.Value.run (F := Ideal) m' ρ')⟩

end Cert.Join

end
-- ==== Proof.lean ====
module

public import proofs.«01_k».proof.Defs
public import proofs.«01_k».proof.Proof.Claims
public import proofs.«01_k».proof.Proof.FfnClaims
public import proofs.«01_k».proof.Proof.MixClaims

@[expose] public section

noncomputable section

namespace Cert.Proof

open Idealize.ShloMosaic Idealize.SL.Sem

/-- The claims of the statement, in their order. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Mix.Gen.facts, Cert.MixIdeal.Gen.facts, Cert.MixReferenceIdeal.Gen.facts, Scan.preFacts,
    Scan.frame_p, Scan.frame_pi, Scan.frame_pi_pre, Scan.frame_ri, Scan.frame_ri_pre,
    Conv.frame_p, Conv.frame_pi, Conv.frame_ri, Join.frame_p, Join.frame_pi, Join.frame_ri,
    Scan.preserves, Scan.algebraic, Conv.preserves, Conv.algebraic, Join.preserves, Join.algebraic⟩

end Cert.Proof

end
